-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk2 [hPre_finite_qk2 : Cert.Pre_finite_qk2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk2 [hPre_finite_qk2 : Cert.Pre_finite_qk2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_qk2 [hKernel2Ideal : Cert.Kernel2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_qk2 [hReference2Ideal : Cert.Reference2Ideal.Facts] [hPre_finite_qk2 : Cert.Pre_finite_qk2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "eighth_log2e" .f32 0x3E38AA3B#32 ((8⁻¹ * (Real.log 2)⁻¹ : ℝ) : EReal)

def algebraic_Kernel2Ideal_Reference2Ideal_pre_finite_qk2 [hKernel2Ideal : Cert.Kernel2Ideal.Facts] [hReference2Ideal : Cert.Reference2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v131_0)) (v1 : (c : Dev Cert.Kernel4Ideal.nD) → Buf (Elt Ideal) ((c.tc : Thread Cert.Kernel4Ideal.nD Cert.Kernel4Ideal.τ).loc Cert.Kernel4Ideal.main_v131_1)) (v2 : (c : Dev Cert.Kernel4Ideal.nD) → Buf (Elt Ideal) ((c.tc : Thread Cert.Kernel4Ideal.nD Cert.Kernel4Ideal.τ).loc Cert.Kernel4Ideal.main_v131_2)) (v3 : (c : Dev Cert.Kernel4Ideal.nD) → Buf (Elt Ideal) ((c.tc : Thread Cert.Kernel4Ideal.nD Cert.Kernel4Ideal.τ).loc Cert.Kernel4Ideal.main_v131_3)) (v4 : (c : Dev Cert.Kernel4Ideal.nD) → Buf (Elt Ideal) ((c.tc : Thread Cert.Kernel4Ideal.nD Cert.Kernel4Ideal.τ).loc Cert.Kernel4Ideal.main_v131_4)) (v5 : (c : Dev Cert.Kernel4Ideal.nD) → Buf (Elt Ideal) ((c.tc : Thread Cert.Kernel4Ideal.nD Cert.Kernel4Ideal.τ).loc Cert.Kernel4Ideal.main_v131_5)) (v6 : (c : Dev Cert.Kernel4Ideal.nD) → Buf (Elt Ideal) ((c.tc : Thread Cert.Kernel4Ideal.nD Cert.Kernel4Ideal.τ).loc Cert.Kernel4Ideal.main_v131_6)) (v7 : (c : Dev Cert.Kernel4Ideal.nD) → Buf (Elt Ideal) ((c.tc : Thread Cert.Kernel4Ideal.nD Cert.Kernel4Ideal.τ).loc Cert.Kernel4Ideal.main_v131_7)) (v8 : (c : Dev Cert.Kernel4Ideal.nD) → Buf (Elt Ideal) ((c.tc : Thread Cert.Kernel4Ideal.nD Cert.Kernel4Ideal.τ).loc Cert.Kernel4Ideal.main_v131_8)) (v9 : (c : Dev Cert.Kernel4Ideal.nD) → Buf (Elt Ideal) ((c.tc : Thread Cert.Kernel4Ideal.nD Cert.Kernel4Ideal.τ).loc Cert.Kernel4Ideal.main_v131_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v131_0) = v0 c
          ∧ r.2.mem ((c.tc : Thread Cert.Kernel4Ideal.nD Cert.Kernel4Ideal.τ).loc Cert.Kernel4Ideal.main_v131_1) = v1 c
          ∧ r.2.mem ((c.tc : Thread Cert.Kernel4Ideal.nD Cert.Kernel4Ideal.τ).loc Cert.Kernel4Ideal.main_v131_2) = v2 c
          ∧ r.2.mem ((c.tc : Thread Cert.Kernel4Ideal.nD Cert.Kernel4Ideal.τ).loc Cert.Kernel4Ideal.main_v131_3) = v3 c
          ∧ r.2.mem ((c.tc : Thread Cert.Kernel4Ideal.nD Cert.Kernel4Ideal.τ).loc Cert.Kernel4Ideal.main_v131_4) = v4 c
          ∧ r.2.mem ((c.tc : Thread Cert.Kernel4Ideal.nD Cert.Kernel4Ideal.τ).loc Cert.Kernel4Ideal.main_v131_5) = v5 c
          ∧ r.2.mem ((c.tc : Thread Cert.Kernel4Ideal.nD Cert.Kernel4Ideal.τ).loc Cert.Kernel4Ideal.main_v131_6) = v6 c
          ∧ r.2.mem ((c.tc : Thread Cert.Kernel4Ideal.nD Cert.Kernel4Ideal.τ).loc Cert.Kernel4Ideal.main_v131_7) = v7 c
          ∧ r.2.mem ((c.tc : Thread Cert.Kernel4Ideal.nD Cert.Kernel4Ideal.τ).loc Cert.Kernel4Ideal.main_v131_8) = v8 c
          ∧ r.2.mem ((c.tc : Thread Cert.Kernel4Ideal.nD Cert.Kernel4Ideal.τ).loc Cert.Kernel4Ideal.main_v131_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v305) = v0 c
          ∧ r.2.mem ((c.tc : Thread Cert.Reference4Ideal.nD Cert.Reference4Ideal.τ).loc Cert.Reference4Ideal.main_v309) = v1 c
          ∧ r.2.mem ((c.tc : Thread Cert.Reference4Ideal.nD Cert.Reference4Ideal.τ).loc Cert.Reference4Ideal.main_v313) = v2 c
          ∧ r.2.mem ((c.tc : Thread Cert.Reference4Ideal.nD Cert.Reference4Ideal.τ).loc Cert.Reference4Ideal.main_v317) = v3 c
          ∧ r.2.mem ((c.tc : Thread Cert.Reference4Ideal.nD Cert.Reference4Ideal.τ).loc Cert.Reference4Ideal.main_v322) = v4 c
          ∧ r.2.mem ((c.tc : Thread Cert.Reference4Ideal.nD Cert.Reference4Ideal.τ).loc Cert.Reference4Ideal.main_v328) = v5 c
          ∧ r.2.mem ((c.tc : Thread Cert.Reference4Ideal.nD Cert.Reference4Ideal.τ).loc Cert.Reference4Ideal.main_v332) = v6 c
          ∧ r.2.mem ((c.tc : Thread Cert.Reference4Ideal.nD Cert.Reference4Ideal.τ).loc Cert.Reference4Ideal.main_v337) = v7 c
          ∧ r.2.mem ((c.tc : Thread Cert.Reference4Ideal.nD Cert.Reference4Ideal.τ).loc Cert.Reference4Ideal.main_v343) = v8 c
          ∧ r.2.mem ((c.tc : Thread Cert.Reference4Ideal.nD Cert.Reference4Ideal.τ).loc Cert.Reference4Ideal.main_v350) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_qk2 : Cert.Pre_finite_qk2.Facts) (hPre_finite_in : Cert.Pre_finite_in.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qk2 (hKernel2Ideal := hKernel2Ideal) (hPre_finite_qk2 := hPre_finite_qk2)
    ∧ quiescent_Reference2Ideal (hReference2Ideal := hReference2Ideal)
    ∧ quiescent_Reference2Ideal_pre_finite_qk2 (hReference2Ideal := hReference2Ideal) (hPre_finite_qk2 := hPre_finite_qk2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_qk2 (hKernel2Ideal := hKernel2Ideal) (hReference2Ideal := hReference2Ideal) (hPre_finite_qk2 := hPre_finite_qk2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_in (hKernel4Ideal := hKernel4Ideal) (hReference4Ideal := hReference4Ideal) (hPre_finite_in := hPre_finite_in)
-- ==== Pre_finite_in.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x5280 : Shape := ⟨2, ![1024, 5280]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  bcast_S_S4x256x1024 : S_.BroadcastsInDim S4x256x1024 (![] : Fin 0 → Fin S4x256x1024.rank)
  bcast_S_S4x6144 : S_.BroadcastsInDim S4x6144 (![] : Fin 0 → Fin S4x6144.rank)
  bcast_S_S6144 : S_.BroadcastsInDim S6144 (![] : Fin 0 → Fin S6144.rank)
  bcast_S_S1024 : S_.BroadcastsInDim S1024 (![] : Fin 0 → Fin S1024.rank)
  bcast_S_S1024x5280 : S_.BroadcastsInDim S1024x5280 (![] : Fin 0 → Fin S1024x5280.rank)

variable [Facts]

def fn {F : FTy → Type} [FloatOps F] (main_arg0 : FVec F S4x4096x1024 .f32) (main_arg1 : FVec F S4x256x1024 .f32) (main_arg2 : FVec F S4x6144 .f32) (main_arg3 : FVec F S6144 .f32) (main_arg4 : FVec F S1024 .f32) (main_arg5 : FVec F S1024x5280 .f32) (main_arg6 : FVec F S384 .f32) (main_arg7 : FVec F S256 .f32) (main_arg8 : FVec F S384x768 .f32) (main_arg9 : FVec F S256x1024 .f32) (main_arg10 : FVec F S64 .f32) (main_arg11 : FVec F S64 .f32) : IVec S4x4096x1024 1 × IVec S4x256x1024 1 × IVec S4x6144 1 × IVec S6144 1 × IVec S1024 1 × IVec S1024x5280 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x256x1024 .f32 := Host.absf main_arg1
  let main_cst_0 : FVec F S_ .f32 := constant S_ .f32 0x7F800000#32
  let main_v4 : FVec F S4x256x1024 .f32 := broadcastInDim S4x256x1024 ![] bcast_S_S4x256x1024 main_cst_0
  let main_v5 : IVec S4x256x1024 1 := cmpf .olt main_v3 main_v4
  let main_v6 : FVec F S4x6144 .f32 := Host.absf main_arg2
  let main_cst_1 : FVec F S_ .f32 := constant S_ .f32 0x7F800000#32
  let main_v7 : FVec F S4x6144 .f32 := broadcastInDim S4x6144 ![] bcast_S_S4x6144 main_cst_1
  let main_v8 : IVec S4x6144 1 := cmpf .olt main_v6 main_v7
  let main_v9 : FVec F S6144 .f32 := Host.absf main_arg3
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x5280 .f32 := Host.absf main_arg5
  let main_cst_4 : FVec F S_ .f32 := constant S_ .f32 0x7F800000#32
  let main_v16 : FVec F S1024x5280 .f32 := broadcastInDim S1024x5280 ![] bcast_S_S1024x5280 main_cst_4
  let main_v17 : IVec S1024x5280 1 := cmpf .olt main_v15 main_v16
  (main_v2, main_v5, main_v8, main_v11, main_v14, main_v17)
-- ==== Pre_finite_qk.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S_ : Shape := ⟨0, ![]⟩

class Facts : Prop where
  bcast_S_S4x4096x8x96 : S_.BroadcastsInDim S4x4096x8x96 (![] : Fin 0 → Fin S4x4096x8x96.rank)
  bcast_S_S4x256x8x96 : S_.BroadcastsInDim S4x256x8x96 (![] : Fin 0 → Fin S4x256x8x96.rank)

variable [Facts]

def fn {F : FTy → Type} [FloatOps F] (main_arg0 : FVec F S4x4096x8x96 .f32) (main_arg1 : FVec F S4x4096x8x96 .f32) (main_arg2 : FVec F S4x4096x8x64 .f32) (main_arg3 : FVec F S4x256x8x96 .f32) (main_arg4 : FVec F S4x256x8x64 .f32) : IVec S4x4096x8x96 1 × IVec S4x4096x8x96 1 × IVec S4x256x8x96 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_v3 : FVec F S4x4096x8x96 .f32 := Host.absf main_arg1
  let main_cst_0 : FVec F S_ .f32 := constant S_ .f32 0x7F800000#32
  let main_v4 : FVec F S4x4096x8x96 .f32 := broadcastInDim S4x4096x8x96 ![] bcast_S_S4x4096x8x96 main_cst_0
  let main_v5 : IVec S4x4096x8x96 1 := cmpf .olt main_v3 main_v4
  let main_v6 : FVec F S4x256x8x96 .f32 := Host.absf main_arg3
  let main_cst_1 : FVec F S_ .f32 := constant S_ .f32 0x7F800000#32
  let main_v7 : FVec F S4x256x8x96 .f32 := broadcastInDim S4x256x8x96 ![] bcast_S_S4x256x8x96 main_cst_1
  let main_v8 : IVec S4x256x8x96 1 := cmpf .olt main_v6 main_v7
  (main_v2, main_v5, main_v8)
-- ==== Pre_finite_qk2.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S_ : Shape := ⟨0, ![]⟩

class Facts : Prop where
  bcast_S_S4x4096x8x64 : S_.BroadcastsInDim S4x4096x8x64 (![] : Fin 0 → Fin S4x4096x8x64.rank)
  bcast_S_S4x4096x2x64 : S_.BroadcastsInDim S4x4096x2x64 (![] : Fin 0 → Fin S4x4096x2x64.rank)
  bcast_S_S4x256x2x64 : S_.BroadcastsInDim S4x256x2x64 (![] : Fin 0 → Fin S4x256x2x64.rank)

variable [Facts]

def fn {F : FTy → Type} [FloatOps F] (main_arg0 : FVec F S4x4096x8x64 .f32) (main_arg1 : FVec F S4x4096x2x64 .f32) (main_arg2 : FVec F S4x4096x2x64 .f32) (main_arg3 : FVec F S4x256x2x64 .f32) (main_arg4 : FVec F S4x256x2x64 .f32) : IVec S4x4096x8x64 1 × IVec S4x4096x2x64 1 × IVec S4x256x2x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x2x64 .f32 := Host.absf main_arg1
  let main_cst_0 : FVec F S_ .f32 := constant S_ .f32 0x7F800000#32
  let main_v4 : FVec F S4x4096x2x64 .f32 := broadcastInDim S4x4096x2x64 ![] bcast_S_S4x4096x2x64 main_cst_0
  let main_v5 : IVec S4x4096x2x64 1 := cmpf .olt main_v3 main_v4
  let main_v6 : FVec F S4x256x2x64 .f32 := Host.absf main_arg3
  let main_cst_1 : FVec F S_ .f32 := constant S_ .f32 0x7F800000#32
  let main_v7 : FVec F S4x256x2x64 .f32 := broadcastInDim S4x256x2x64 ![] bcast_S_S4x256x2x64 main_cst_1
  let main_v8 : IVec S4x256x2x64 1 := cmpf .olt main_v6 main_v7
  (main_v2, main_v5, main_v8)
-- ==== Kernel.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S_ : Shape := ⟨0, ![]⟩
abbrev S4x4096x8x128 : Shape := ⟨4, ![4, 4096, 8, 128]⟩
abbrev S16384x1024 : Shape := ⟨2, ![16384, 1024]⟩
abbrev S1024x1024 : Shape := ⟨2, ![1024, 1024]⟩
abbrev S17408x1024 : Shape := ⟨2, ![17408, 1024]⟩
abbrev S4x256x8x128 : Shape := ⟨4, ![4, 256, 8, 128]⟩
abbrev S16384x512 : Shape := ⟨2, ![16384, 512]⟩
abbrev S1024x512 : Shape := ⟨2, ![1024, 512]⟩
abbrev S17408x512 : Shape := ⟨2, ![17408, 512]⟩
abbrev S1024x256 : Shape := ⟨2, ![1024, 256]⟩
abbrev S4096x256 : Shape := ⟨2, ![4096, 256]⟩
abbrev S256x256 : Shape := ⟨2, ![256, 256]⟩
abbrev S4096x128 : Shape := ⟨2, ![4096, 128]⟩
abbrev S256x128 : Shape := ⟨2, ![256, 128]⟩
abbrev S1024x128 : Shape := ⟨2, ![1024, 128]⟩
abbrev S1x128 : Shape := ⟨2, ![1, 128]⟩
abbrev S1024x1 : Shape := ⟨2, ![1024, 1]⟩
abbrev S1024x4096 : Shape := ⟨2, ![1024, 4096]⟩
abbrev S1024 : Shape := ⟨1, ![1024]⟩

abbrev nBuf : Space → Nat
  | .hbm => 34
  | .vmem => 12
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S_, .i32⟩
  | .hbm, ⟨6, _⟩ => ⟨S_, .f32⟩
  | .hbm, ⟨7, _⟩ => ⟨S4x4096x8x128, .f32⟩
  | .hbm, ⟨8, _⟩ => ⟨S16384x1024, .f32⟩
  | .hbm, ⟨9, _⟩ => ⟨S16384x1024, .bf16⟩
  | .hbm, ⟨10, _⟩ => ⟨S_, .bf16⟩
  | .hbm, ⟨11, _⟩ => ⟨S1024x1024, .bf16⟩
  | .hbm, ⟨12, _⟩ => ⟨S17408x1024, .bf16⟩
  | .hbm, ⟨13, _⟩ => ⟨S_, .i32⟩
  | .hbm, ⟨14, _⟩ => ⟨S_, .f32⟩
  | .hbm, ⟨15, _⟩ => ⟨S4x4096x8x128, .f32⟩
  | .hbm, ⟨16, _⟩ => ⟨S16384x1024, .f32⟩
  | .hbm, ⟨17, _⟩ => ⟨S_, .i32⟩
  | .hbm, ⟨18, _⟩ => ⟨S_, .f32⟩
  | .hbm, ⟨19, _⟩ => ⟨S4x256x8x128, .f32⟩
  | .hbm, ⟨20, _⟩ => ⟨S1024x1024, .f32⟩
  | .hbm, ⟨21, _⟩ => ⟨S17408x1024, .f32⟩
  | .hbm, ⟨22, _⟩ => ⟨S17408x1024, .bf16⟩
  | .hbm, ⟨23, _⟩ => ⟨S_, .i32⟩
  | .hbm, ⟨24, _⟩ => ⟨S_, .f32⟩
  | .hbm, ⟨25, _⟩ => ⟨S4x4096x8x64, .f32⟩
  | .hbm, ⟨26, _⟩ => ⟨S16384x512, .f32⟩
  | .hbm, ⟨27, _⟩ => ⟨S_, .i32⟩
  | .hbm, ⟨28, _⟩ => ⟨S_, .f32⟩
  | .hbm, ⟨29, _⟩ => ⟨S4x256x8x64, .f32⟩
  | .hbm, ⟨30, _⟩ => ⟨S1024x512, .f32⟩
  | .hbm, ⟨31, _⟩ => ⟨S17408x512, .f32⟩
  | .hbm, ⟨32, _⟩ => ⟨S17408x512, .bf16⟩
  | .hbm, ⟨33, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S1024x128, .bf16⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call4_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S4x4352x8x96 : Shape := ⟨4, ![4, 4352, 8, 96]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S4x4352x8x96, .f32⟩
  | .hbm, ⟨6, _⟩ => ⟨S4x4352x8x64, .f32⟩
  | .hbm, ⟨7, _⟩ => ⟨S4x8x4096x4352, .f32⟩
  | .hbm, ⟨8, _⟩ => ⟨S_, .f32⟩
  | .hbm, ⟨9, _⟩ => ⟨S_, .f32⟩
  | .hbm, ⟨10, _⟩ => ⟨S4x8x4096x4352, .f32⟩
  | .hbm, ⟨11, _⟩ => ⟨S4x8x4096x4352, .f32⟩
  | .hbm, ⟨12, _⟩ => ⟨S_, .f32⟩
  | .hbm, ⟨13, _⟩ => ⟨S4x8x4096, .f32⟩
  | .hbm, ⟨14, _⟩ => ⟨S_, .f32⟩
  | .hbm, ⟨15, _⟩ => ⟨S4x8x4096, .f32⟩
  | .hbm, ⟨16, _⟩ => ⟨S4x8x4096, .f32⟩
  | .hbm, ⟨17, _⟩ => ⟨S4x8x4096x1, .f32⟩
  | .hbm, ⟨18, _⟩ => ⟨S4x8x4096x4352, .f32⟩
  | .hbm, ⟨19, _⟩ => ⟨S4x8x4096x4352, .f32⟩
  | .hbm, ⟨20, _⟩ => ⟨S4x8x4096x4352, .f32⟩
  | .hbm, ⟨21, _⟩ => ⟨S_, .f32⟩
  | .hbm, ⟨22, _⟩ => ⟨S4x8x4096, .f32⟩
  | .hbm, ⟨23, _⟩ => ⟨S4x8x4096x1, .f32⟩
  | .hbm, ⟨24, _⟩ => ⟨S4x8x4096x4352, .f32⟩
  | .hbm, ⟨25, _⟩ => ⟨S4x8x4096x4352, .f32⟩
  | .hbm, ⟨26, _⟩ => ⟨S4x8x64x4096, .f32⟩
  | .hbm, ⟨27, _⟩ => ⟨S4x4096x8x64, .f32⟩
  | .hbm, ⟨28, _⟩ => ⟨S16384x512, .f32⟩
  | .hbm, ⟨29, _⟩ => ⟨S16384x512, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S16384x512 : Shape := ⟨2, ![16384, 512]⟩
abbrev S_ : Shape := ⟨0, ![]⟩
abbrev S1024x512 : Shape := ⟨2, ![1024, 512]⟩
abbrev S17408x512 : Shape := ⟨2, ![17408, 512]⟩
abbrev S16384x128 : Shape := ⟨2, ![16384, 128]⟩
abbrev S16384x64 : Shape := ⟨2, ![16384, 64]⟩
abbrev S16384x256 : Shape := ⟨2, ![16384, 256]⟩
abbrev S1024x128 : Shape := ⟨2, ![1024, 128]⟩
abbrev S1024x64 : Shape := ⟨2, ![1024, 64]⟩
abbrev S1024x256 : Shape := ⟨2, ![1024, 256]⟩
abbrev S17408x256 : Shape := ⟨2, ![17408, 256]⟩
abbrev S4096x128 : Shape := ⟨2, ![4096, 128]⟩
abbrev S256x128 : Shape := ⟨2, ![256, 128]⟩
abbrev S1x128 : Shape := ⟨2, ![1, 128]⟩
abbrev S1024x1 : Shape := ⟨2, ![1024, 1]⟩
abbrev S1024x4096 : Shape := ⟨2, ![1024, 4096]⟩
abbrev S1024 : Shape := ⟨1, ![1024]⟩

abbrev nBuf : Space → Nat
  | .hbm => 31
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S16384x512, .f32⟩
  | .hbm, ⟨6, _⟩ => ⟨S16384x512, .bf16⟩
  | .hbm, ⟨7, _⟩ => ⟨S_, .bf16⟩
  | .hbm, ⟨8, _⟩ => ⟨S1024x512, .bf16⟩
  | .hbm, ⟨9, _⟩ => ⟨S17408x512, .bf16⟩
  | .hbm, ⟨10, _⟩ => ⟨S16384x128, .f32⟩
  | .hbm, ⟨11, _⟩ => ⟨S16384x64, .f32⟩
  | .hbm, ⟨12, _⟩ => ⟨S16384x64, .f32⟩
  | .hbm, ⟨13, _⟩ => ⟨S16384x256, .f32⟩
  | .hbm, ⟨14, _⟩ => ⟨S1024x128, .f32⟩
  | .hbm, ⟨15, _⟩ => ⟨S1024x64, .f32⟩
  | .hbm, ⟨16, _⟩ => ⟨S1024x64, .f32⟩
  | .hbm, ⟨17, _⟩ => ⟨S1024x256, .f32⟩
  | .hbm, ⟨18, _⟩ => ⟨S17408x256, .f32⟩
  | .hbm, ⟨19, _⟩ => ⟨S17408x256, .bf16⟩
  | .hbm, ⟨20, _⟩ => ⟨S16384x128, .f32⟩
  | .hbm, ⟨21, _⟩ => ⟨S16384x64, .f32⟩
  | .hbm, ⟨22, _⟩ => ⟨S16384x64, .f32⟩
  | .hbm, ⟨23, _⟩ => ⟨S16384x256, .f32⟩
  | .hbm, ⟨24, _⟩ => ⟨S1024x128, .f32⟩
  | .hbm, ⟨25, _⟩ => ⟨S1024x64, .f32⟩
  | .hbm, ⟨26, _⟩ => ⟨S1024x64, .f32⟩
  | .hbm, ⟨27, _⟩ => ⟨S1024x256, .f32⟩
  | .hbm, ⟨28, _⟩ => ⟨S17408x256, .f32⟩
  | .hbm, ⟨29, _⟩ => ⟨S17408x256, .bf16⟩
  | .hbm, ⟨30, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S1024x128, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "eighth_log2e" => some ((8⁻¹ * (Real.log 2)⁻¹ : ℝ) : EReal)
  | _ => none
-- ==== Reference2Ideal.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S4x4352x2x64 : Shape := ⟨4, ![4, 4352, 2, 64]⟩
abbrev S4x4096x2x4x64 : Shape := ⟨5, ![4, 4096, 2, 4, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S16384x512 : Shape := ⟨2, ![16384, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S4x4352x2x64, .f32⟩
  | .hbm, ⟨6, _⟩ => ⟨S4x4352x2x64, .f32⟩
  | .hbm, ⟨7, _⟩ => ⟨S4x4096x2x4x64, .f32⟩
  | .hbm, ⟨8, _⟩ => ⟨S4x2x4352x4096x4, .f32⟩
  | .hbm, ⟨9, _⟩ => ⟨S4x2x4x4096x4352, .f32⟩
  | .hbm, ⟨10, _⟩ => ⟨S_, .f32⟩
  | .hbm, ⟨11, _⟩ => ⟨S4x2x4x4096x4352, .f32⟩
  | .hbm, ⟨12, _⟩ => ⟨S4x2x4x4096x4352, .f32⟩
  | .hbm, ⟨13, _⟩ => ⟨S_, .f32⟩
  | .hbm, ⟨14, _⟩ => ⟨S4x2x4x4096, .f32⟩
  | .hbm, ⟨15, _⟩ => ⟨S_, .f32⟩
  | .hbm, ⟨16, _⟩ => ⟨S4x2x4x4096, .f32⟩
  | .hbm, ⟨17, _⟩ => ⟨S4x2x4x4096, .f32⟩
  | .hbm, ⟨18, _⟩ => ⟨S4x2x4x4096x1, .f32⟩
  | .hbm, ⟨19, _⟩ => ⟨S4x2x4x4096x4352, .f32⟩
  | .hbm, ⟨20, _⟩ => ⟨S4x2x4x4096x4352, .f32⟩
  | .hbm, ⟨21, _⟩ => ⟨S4x2x4x4096x4352, .f32⟩
  | .hbm, ⟨22, _⟩ => ⟨S_, .f32⟩
  | .hbm, ⟨23, _⟩ => ⟨S4x2x4x4096, .f32⟩
  | .hbm, ⟨24, _⟩ => ⟨S4x2x4x4096x1, .f32⟩
  | .hbm, ⟨25, _⟩ => ⟨S4x2x4x4096x4352, .f32⟩
  | .hbm, ⟨26, _⟩ => ⟨S4x2x4x4096x4352, .f32⟩
  | .hbm, ⟨27, _⟩ => ⟨S4x2x64x4x4096, .f32⟩
  | .hbm, ⟨28, _⟩ => ⟨S4x4096x2x4x64, .f32⟩
  | .hbm, ⟨29, _⟩ => ⟨S16384x512, .f32⟩
  | .hbm, ⟨30, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6144 : Shape := ⟨2, ![4, 6144]⟩
abbrev S4x4096x512 : Shape := ⟨3, ![4, 4096, 512]⟩
abbrev S4x4096x3072 : Shape := ⟨3, ![4, 4096, 3072]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16384x1024 : Shape := ⟨2, ![16384, 1024]⟩
abbrev S_ : Shape := ⟨0, ![]⟩
abbrev S17408x1024 : Shape := ⟨2, ![17408, 1024]⟩
abbrev S8x6144 : Shape := ⟨2, ![8, 6144]⟩
abbrev S8x1x6144 : Shape := ⟨3, ![8, 1, 6144]⟩
abbrev S16384x3072 : Shape := ⟨2, ![16384, 3072]⟩
abbrev S1024x3072 : Shape := ⟨2, ![1024, 3072]⟩
abbrev S17408x3072 : Shape := ⟨2, ![17408, 3072]⟩
abbrev S16384x512 : Shape := ⟨2, ![16384, 512]⟩
abbrev S16x128x128 : Shape := ⟨3, ![16, 128, 128]⟩
abbrev S1x1024 : Shape := ⟨2, ![1, 1024]⟩
abbrev S8x128x16384 : Shape := ⟨3, ![8, 128, 16384]⟩
abbrev S1x1x6144 : Shape := ⟨3, ![1, 1, 6144]⟩
abbrev S512x512 : Shape := ⟨2, ![512, 512]⟩
abbrev S512x3072 : Shape := ⟨2, ![512, 3072]⟩
abbrev S8x128x512 : Shape := ⟨3, ![8, 128, 512]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 44
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S8x2x128x128, .f32⟩
  | .hbm, ⟨13, _⟩ => ⟨S16384x1024, .f32⟩
  | .hbm, ⟨14, _⟩ => ⟨S_, .f32⟩
  | .hbm, ⟨15, _⟩ => ⟨S1024x1024, .f32⟩
  | .hbm, ⟨16, _⟩ => ⟨S17408x1024, .f32⟩
  | .hbm, ⟨17, _⟩ => ⟨S_, .f32⟩
  | .hbm, ⟨18, _⟩ => ⟨S4x6144, .f32⟩
  | .hbm, ⟨19, _⟩ => ⟨S8x6144, .f32⟩
  | .hbm, ⟨20, _⟩ => ⟨S8x1x6144, .f32⟩
  | .hbm, ⟨21, _⟩ => ⟨S16384x3072, .f32⟩
  | .hbm, ⟨22, _⟩ => ⟨S16384x3072, .bf16⟩
  | .hbm, ⟨23, _⟩ => ⟨S_, .bf16⟩
  | .hbm, ⟨24, _⟩ => ⟨S1024x3072, .bf16⟩
  | .hbm, ⟨25, _⟩ => ⟨S17408x3072, .bf16⟩
  | .hbm, ⟨26, _⟩ => ⟨S16384x512, .f32⟩
  | .hbm, ⟨27, _⟩ => ⟨S16384x512, .bf16⟩
  | .hbm, ⟨28, _⟩ => ⟨S16384x512, .f32⟩
  | .hbm, ⟨29, _⟩ => ⟨S16384x512, .bf16⟩
  | .hbm, ⟨30, _⟩ => ⟨S16384x512, .f32⟩
  | .hbm, ⟨31, _⟩ => ⟨S16384x512, .bf16⟩
  | .hbm, ⟨32, _⟩ => ⟨S512x1024, .bf16⟩
  | .hbm, ⟨33, _⟩ => ⟨S512x1024, .bf16⟩
  | .hbm, ⟨34, _⟩ => ⟨S512x1024, .bf16⟩
  | .hbm, ⟨35, _⟩ => ⟨S1024x1024, .bf16⟩
  | .hbm, ⟨36, _⟩ => ⟨S1024x2048, .bf16⟩
  | .hbm, ⟨37, _⟩ => ⟨S16x128x128, .f32⟩
  | .hbm, ⟨38, _⟩ => ⟨S16x128x128, .bf16⟩
  | .hbm, ⟨39, _⟩ => ⟨S1x1024, .f32⟩
  | .hbm, ⟨40, _⟩ => ⟨S16384x1024, .f32⟩
  | .hbm, ⟨41, _⟩ => ⟨S16384x1024, .bf16⟩
  | .hbm, ⟨42, _⟩ => ⟨S8x128x16384, .f32⟩
  | .hbm, ⟨43, _⟩ => ⟨S8x128x16384, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x2048, .bf16⟩
  | .local _ .vmem, ⟨18, _⟩ => ⟨S16x128x128, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S8x128x512, .f32⟩
  | .local _ .vmem, ⟨24, _⟩ => ⟨S8x128x512, .f32⟩
  | .local _ .vmem, ⟨25, _⟩ => ⟨S8x128x512, .f32⟩
  | .local _ .vmem, ⟨26, _⟩ => ⟨S8x128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S4x4096x1024 : Shape := ⟨3, ![4, 4096, 1024]⟩
abbrev S4x6144 : Shape := ⟨2, ![4, 6144]⟩
abbrev S4x4096x512 : Shape := ⟨3, ![4, 4096, 512]⟩
abbrev S4x4096x3072 : Shape := ⟨3, ![4, 4096, 3072]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S8x128x16384 : Shape := ⟨3, ![8, 128, 16384]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S8x2x128x128, .f32⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | .hbm, ⟨59, _⟩ => ⟨S16384x2048, .f32⟩
  | .hbm, ⟨60, _⟩ => ⟨S16384x8x2x128, .f32⟩
  | .hbm, ⟨61, _⟩ => ⟨S8x2x128x16384, .f32⟩
  | .hbm, ⟨62, _⟩ => ⟨S16384x8x2x128, .f32⟩
  | .hbm, ⟨63, _⟩ => ⟨S16384x8x1x128, .f32⟩
  | .hbm, ⟨64, _⟩ => ⟨S16384x8x128, .f32⟩
  | .hbm, ⟨65, _⟩ => ⟨S8x128x16384, .f32⟩
  | .hbm, ⟨66, _⟩ => ⟨S16384x8x1x128, .f32⟩
  | .hbm, ⟨67, _⟩ => ⟨S16384x8x128, .f32⟩
  | .hbm, ⟨68, _⟩ => ⟨S8x128x16384, .f32⟩
  | .hbm, ⟨69, _⟩ => ⟨S16384x1024, .f32⟩
  | .hbm, ⟨70, _⟩ => ⟨S16384x1024, .f32⟩
  | .hbm, ⟨71, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x5280 : Shape := ⟨2, ![1024, 5280]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S128x128 : Shape := ⟨2, ![128, 128]⟩
abbrev S16384x1024 : Shape := ⟨2, ![16384, 1024]⟩
abbrev S1024x1024 : Shape := ⟨2, ![1024, 1024]⟩
abbrev S17408x1024 : Shape := ⟨2, ![17408, 1024]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S8x1x6144 : Shape := ⟨3, ![8, 1, 6144]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S16 : Shape := ⟨1, ![16]⟩
abbrev S1x16 : Shape := ⟨2, ![1, 16]⟩
abbrev S4096x768 : Shape := ⟨2, ![4096, 768]⟩
abbrev S512x128 : Shape := ⟨2, ![512, 128]⟩
abbrev S512x256 : Shape := ⟨2, ![512, 256]⟩
abbrev S512x768 : Shape := ⟨2, ![512, 768]⟩
abbrev S4608x768 : Shape := ⟨2, ![4608, 768]⟩
abbrev S1x1024x5280 : Shape := ⟨3, ![1, 1024, 5280]⟩
abbrev S1x1024x384 : Shape := ⟨3, ![1, 1024, 384]⟩
abbrev S1x1024x256 : Shape := ⟨3, ![1, 1024, 256]⟩
abbrev S1x1024x32 : Shape := ⟨3, ![1, 1024, 32]⟩
abbrev S1x1024x512 : Shape := ⟨3, ![1, 1024, 512]⟩
abbrev S1x1024x128 : Shape := ⟨3, ![1, 1024, 128]⟩
abbrev S1x1024x3072 : Shape := ⟨3, ![1, 1024, 3072]⟩
abbrev S1x1024x64 : Shape := ⟨3, ![1, 1024, 64]⟩
abbrev S1x1024x5888 : Shape := ⟨3, ![1, 1024, 5888]⟩
abbrev S1x384x768 : Shape := ⟨3, ![1, 384, 768]⟩
abbrev S1x384x8x96 : Shape := ⟨4, ![1, 384, 8, 96]⟩
abbrev S1x384x8x128 : Shape := ⟨4, ![1, 384, 8, 128]⟩
abbrev S1x384x1024 : Shape := ⟨3, ![1, 384, 1024]⟩
abbrev S1x256x1024 : Shape := ⟨3, ![1, 256, 1024]⟩
abbrev S1x256x8x128 : Shape := ⟨4, ![1, 256, 8, 128]⟩
abbrev S1x256x8x64 : Shape := ⟨4, ![1, 256, 8, 64]⟩
abbrev S1x256x512 : Shape := ⟨3, ![1, 256, 512]⟩
abbrev S1x256x1536 : Shape := ⟨3, ![1, 256, 1536]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x512 : Shape := ⟨3, ![1, 1, 512]⟩
abbrev S1x1x4x64 : Shape := ⟨4, ![1, 1, 4, 64]⟩
abbrev S1x256 : Shape := ⟨2, ![1, 256]⟩
abbrev S1x1x256 : Shape := ⟨3, ![1, 1, 256]⟩
abbrev S1x1024 : Shape := ⟨2, ![1, 1024]⟩
abbrev S1x384 : Shape := ⟨2, ![1, 384]⟩
abbrev S384x1024 : Shape := ⟨2, ![384, 1024]⟩
abbrev S256x1536 : Shape := ⟨2, ![256, 1536]⟩
abbrev S17408x512 : Shape := ⟨2, ![17408, 512]⟩
abbrev S17408x256 : Shape := ⟨2, ![17408, 256]⟩
abbrev S17408x3072 : Shape := ⟨2, ![17408, 3072]⟩
abbrev S512x1024 : Shape := ⟨2, ![512, 1024]⟩
abbrev S1x1x6144 : Shape := ⟨3, ![1, 1, 6144]⟩
abbrev S512x512 : Shape := ⟨2, ![512, 512]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩
abbrev S1024x256 : Shape := ⟨2, ![1024, 256]⟩
abbrev S512x1536 : Shape := ⟨2, ![512, 1536]⟩
abbrev S1024x128 : Shape := ⟨2, ![1024, 128]⟩
abbrev S1024x512 : Shape := ⟨2, ![1024, 512]⟩
abbrev S1x1024x1024 : Shape := ⟨3, ![1, 1024, 1024]⟩

abbrev nBuf : Space → Nat
  | .hbm => 173
  | .vmem => 35
  | .smem => 0
  | _ => 0

abbrev hbmTy0_0 (i : Nat) : BufTy := match i % 128 with
  | 0 => ⟨S4x4096x1024, .f32⟩
  | 1 => ⟨S4x256x1024, .f32⟩
  | 2 => ⟨S4x6144, .f32⟩
  | 3 => ⟨S6144, .f32⟩
  | 4 => ⟨S1024, .f32⟩
  | 5 => ⟨S1024x5280, .f32⟩
  | 6 => ⟨S384, .f32⟩
  | 7 => ⟨S256, .f32⟩
  | 8 => ⟨S384x768, .f32⟩
  | 9 => ⟨S256x1024, .f32⟩
  | 10 => ⟨S64, .f32⟩
  | 11 => ⟨S64, .f32⟩
  | 12 => ⟨S128x128, .bf16⟩
  | 13 => ⟨S16384x1024, .f32⟩
  | 14 => ⟨S1024x1024, .f32⟩
  | 15 => ⟨S17408x1024, .f32⟩
  | 16 => ⟨S1x6144, .f32⟩
  | 17 => ⟨S_, .f32⟩
  | 18 => ⟨S3x6144, .f32⟩
  | 19 => ⟨S8x6144, .f32⟩
  | 20 => ⟨S8x1x6144, .f32⟩
  | 21 => ⟨S64, .f32⟩
  | 22 => ⟨S64x64, .f32⟩
  | 23 => ⟨S4096, .f32⟩
  | 24 => ⟨S64, .f32⟩
  | 25 => ⟨S1x64, .f32⟩
  | 26 => ⟨S64x64, .f32⟩
  | 27 => ⟨S4096, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S4096x1, .f32⟩
  | 37 => ⟨S1x8, .f32⟩
  | 38 => ⟨S4096x8, .f32⟩
  | 39 => ⟨S4096x8, .f32⟩
  | 40 => ⟨S4096x8, .f32⟩
  | 41 => ⟨S4096x1, .f32⟩
  | 42 => ⟨S1x8, .f32⟩
  | 43 => ⟨S4096x8, .f32⟩
  | 44 => ⟨S4096x8, .f32⟩
  | 45 => ⟨S4096x8, .f32⟩
  | 46 => ⟨S4096x16, .f32⟩
  | 47 => ⟨S4096x16, .f32⟩
  | 48 => ⟨S4096x16, .f32⟩
  | 49 => ⟨S_, .f32⟩
  | 50 => ⟨S4096x64, .f32⟩
  | 51 => ⟨S_, .f32⟩
  | 52 => ⟨S4096x64, .f32⟩
  | 53 => ⟨S_, .f32⟩
  | 54 => ⟨S4096x16, .f32⟩
  | 55 => ⟨S_, .f32⟩
  | 56 => ⟨S4096x32, .f32⟩
  | 57 => ⟨S_, .f32⟩
  | 58 => ⟨S4096x32, .f32⟩
  | 59 => ⟨S4096x128, .f32⟩
  | 60 => ⟨S4096x16, .f32⟩
  | 61 => ⟨S4096x128, .f32⟩
  | 62 => ⟨S4096x128, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S4096x1, .f32⟩
  | 72 => ⟨S1x16, .f32⟩
  | 73 => ⟨S4096x16, .f32⟩
  | 74 => ⟨S4096x16, .f32⟩
  | 75 => ⟨S4096x16, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x32, .f32⟩
  | 82 => ⟨S4096x32, .f32⟩
  | 83 => ⟨S4096x32, .f32⟩
  | 84 => ⟨S_, .f32⟩
  | 85 => ⟨S4096x32, .f32⟩
  | 86 => ⟨S4096x128, .f32⟩
  | 87 => ⟨S4096x32, .f32⟩
  | 88 => ⟨S4096x32, .f32⟩
  | 89 => ⟨S4096x128, .f32⟩
  | 90 => ⟨S4096x128, .f32⟩
  | 91 => ⟨S4096x768, .f32⟩
  | 92 => ⟨S_, .f32⟩
  | 93 => ⟨S512x128, .f32⟩
  | 94 => ⟨S_, .f32⟩
  | 95 => ⟨S512x256, .f32⟩
  | 96 => ⟨S512x768, .f32⟩
  | 97 => ⟨S4608x768, .f32⟩
  | 98 => ⟨S1x1024x5280, .f32⟩
  | 99 => ⟨S1x1024x384, .f32⟩
  | 100 => ⟨S1x1024x256, .f32⟩
  | 101 => ⟨S1x1024x32, .f32⟩
  | 102 => ⟨S1x1024x512, .f32⟩
  | 103 => ⟨S1x1024x128, .f32⟩
  | 104 => ⟨S1x1024x128, .f32⟩
  | 105 => ⟨S1x1024x512, .f32⟩
  | 106 => ⟨S1x1024x128, .f32⟩
  | 107 => ⟨S1x1024x128, .f32⟩
  | 108 => ⟨S1x1024x3072, .f32⟩
  | 109 => ⟨S_, .f32⟩
  | 110 => ⟨S1x1024x64, .f32⟩
  | 111 => ⟨S_, .f32⟩
  | 112 => ⟨S1x1024x32, .f32⟩
  | 113 => ⟨S1x1024x128, .f32⟩
  | 114 => ⟨S1x1024x64, .f32⟩
  | 115 => ⟨S1x1024x64, .f32⟩
  | 116 => ⟨S1x1024x256, .f32⟩
  | 117 => ⟨S1x1024x64, .f32⟩
  | 118 => ⟨S1x1024x64, .f32⟩
  | 119 => ⟨S1x1024x256, .f32⟩
  | 120 => ⟨S1x1024x64, .f32⟩
  | 121 => ⟨S1x1024x64, .f32⟩
  | 122 => ⟨S1x1024x256, .f32⟩
  | 123 => ⟨S1x1024x64, .f32⟩
  | 124 => ⟨S1x1024x64, .f32⟩
  | 125 => ⟨S1x1024x256, .f32⟩
  | 126 => ⟨S1x1024x5888, .f32⟩
  | 127 => ⟨S1x1024x5888, .bf16⟩
  | _ => ⟨S4x4096x1024, .f32⟩

abbrev hbmTy0_1 (i : Nat) : BufTy := match i % 128 with
  | 0 => ⟨S1x384x768, .f32⟩
  | 1 => ⟨S1x384x8x96, .f32⟩
  | 2 => ⟨S_, .i32⟩
  | 3 => ⟨S_, .f32⟩
  | 4 => ⟨S1x384x8x128, .f32⟩
  | 5 => ⟨S1x384x1024, .f32⟩
  | 6 => ⟨S1x384x1024, .bf16⟩
  | 7 => ⟨S1x256x1024, .f32⟩
  | 8 => ⟨S1x256x8x128, .f32⟩
  | 9 => ⟨S1x256x8x64, .f32⟩
  | 10 => ⟨S_, .i32⟩
  | 11 => ⟨S_, .f32⟩
  | 12 => ⟨S1x256x8x128, .f32⟩
  | 13 => ⟨S1x256x8x64, .f32⟩
  | 14 => ⟨S1x256x1024, .f32⟩
  | 15 => ⟨S1x256x512, .f32⟩
  | 16 => ⟨S1x256x1536, .f32⟩
  | 17 => ⟨S1x256x1536, .bf16⟩
  | 18 => ⟨S1x64, .f32⟩
  | 19 => ⟨S1x1x1x64, .f32⟩
  | 20 => ⟨S1x1x8x64, .f32⟩
  | 21 => ⟨S1x512, .f32⟩
  | 22 => ⟨S1x1x512, .f32⟩
  | 23 => ⟨S1x64, .f32⟩
  | 24 => ⟨S1x1x1x64, .f32⟩
  | 25 => ⟨S1x1x4x64, .f32⟩
  | 26 => ⟨S1x256, .f32⟩
  | 27 => ⟨S1x1x256, .f32⟩
  | 28 => ⟨S1x1024, .f32⟩
  | 29 => ⟨S1x384, .f32⟩
  | 30 => ⟨S1x256, .f32⟩
  | 31 => ⟨S384x1024, .bf16⟩
  | 32 => ⟨S256x1536, .bf16⟩
  | 33 => ⟨S1x512, .f32⟩
  | 34 => ⟨S1x256, .f32⟩
  | 35 => ⟨S17408x1024, .bf16⟩
  | 36 => ⟨S17408x1024, .bf16⟩
  | 37 => ⟨S17408x512, .bf16⟩
  | 38 => ⟨S17408x512, .bf16⟩
  | 39 => ⟨S17408x256, .bf16⟩
  | 40 => ⟨S17408x256, .bf16⟩
  | 41 => ⟨S17408x512, .bf16⟩
  | 42 => ⟨S17408x256, .bf16⟩
  | 43 => ⟨S17408x256, .bf16⟩
  | 44 => ⟨S17408x3072, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x5888, .bf16⟩
  | .local _ .vmem, ⟨6, _⟩ => ⟨S1x384, .f32⟩
  | .local _ .vmem, ⟨7, _⟩ => ⟨S1x256, .f32⟩
  | .local _ .vmem, ⟨8, _⟩ => ⟨S384x1024, .bf16⟩
  | .local _ .vmem, ⟨9, _⟩ => ⟨S256x1536, .bf16⟩
  | .local _ .vmem, ⟨10, _⟩ => ⟨S1x512, .f32⟩
  | .local _ .vmem, ⟨11, _⟩ => ⟨S1x256, .f32⟩
  | .local _ .vmem, ⟨12, _⟩ => ⟨S512x768, .f32⟩
  | .local _ .vmem, ⟨13, _⟩ => ⟨S512x768, .f32⟩
  | .local _ .vmem, ⟨14, _⟩ => ⟨S128x128, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x512, .bf16⟩
  | .local _ .vmem, ⟨28, _⟩ => ⟨S512x512, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x3072, .bf16⟩
  | .local _ .vmem, ⟨34, _⟩ => ⟨S512x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c : Ref sig .tc := ⟨.hbm, 130, rfl⟩
abbrev main_call0_v0 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_15 : Ref sig .tc := ⟨.hbm, 138, rfl⟩
abbrev main_call1_v0 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131_0 : Ref sig .tc := ⟨.hbm, 163, rfl⟩
abbrev main_v131_1 : Ref sig .tc := ⟨.hbm, 164, rfl⟩
abbrev main_v131_2 : Ref sig .tc := ⟨.hbm, 165, rfl⟩
abbrev main_v131_3 : Ref sig .tc := ⟨.hbm, 166, rfl⟩
abbrev main_v131_4 : Ref sig .tc := ⟨.hbm, 167, rfl⟩
abbrev main_v131_5 : Ref sig .tc := ⟨.hbm, 168, rfl⟩
abbrev main_v131_6 : Ref sig .tc := ⟨.hbm, 169, rfl⟩
abbrev main_v131_7 : Ref sig .tc := ⟨.hbm, 170, rfl⟩
abbrev main_v131_8 : Ref sig .tc := ⟨.hbm, 171, rfl⟩
abbrev main_v131_9 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5888 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x3072 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S4x4096x1024 : Shape := ⟨3, ![4, 4096, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x5280 : Shape := ⟨2, ![1024, 5280]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x256 : Shape := ⟨2, ![4, 256]⟩
abbrev S4x256x1 : Shape := ⟨3, ![4, 256, 1]⟩
abbrev S16384x1024 : Shape := ⟨2, ![16384, 1024]⟩
abbrev S1024x1024 : Shape := ⟨2, ![1024, 1024]⟩
abbrev S17408x1024 : Shape := ⟨2, ![17408, 1024]⟩
abbrev S17408x5280 : Shape := ⟨2, ![17408, 5280]⟩
abbrev S17408x384 : Shape := ⟨2, ![17408, 384]⟩
abbrev S17408x256 : Shape := ⟨2, ![17408, 256]⟩
abbrev S17408x32 : Shape := ⟨2, ![17408, 32]⟩
abbrev S17408x512 : Shape := ⟨2, ![17408, 512]⟩
abbrev S17408x128 : Shape := ⟨2, ![17408, 128]⟩
abbrev S17408x3072 : Shape := ⟨2, ![17408, 3072]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S16 : Shape := ⟨1, ![16]⟩
abbrev S1x16 : Shape := ⟨2, ![1, 16]⟩
abbrev S4096x32 : Shape := ⟨2, ![4096, 32]⟩
abbrev S17408 : Shape := ⟨1, ![17408]⟩
abbrev S17408x1 : Shape := ⟨2, ![17408, 1]⟩
abbrev S1x384 : Shape := ⟨2, ![1, 384]⟩
abbrev S17408x768 : Shape := ⟨2, ![17408, 768]⟩
abbrev S17408x8x96 : Shape := ⟨3, ![17408, 8, 96]⟩
abbrev S17408x8x64 : Shape := ⟨3, ![17408, 8, 64]⟩
abbrev S17408x8x32 : Shape := ⟨3, ![17408, 8, 32]⟩
abbrev S1x4096x1x16 : Shape := ⟨4, ![1, 4096, 1, 16]⟩
abbrev S16384x8x32 : Shape := ⟨3, ![16384, 8, 32]⟩
abbrev S4x4096x8x32 : Shape := ⟨4, ![4, 4096, 8, 32]⟩
abbrev S4x4096x8x16 : Shape := ⟨4, ![4, 4096, 8, 16]⟩
abbrev S1024x8x32 : Shape := ⟨3, ![1024, 8, 32]⟩
abbrev S1x256 : Shape := ⟨2, ![1, 256]⟩
abbrev S17408x8x128 : Shape := ⟨3, ![17408, 8, 128]⟩
abbrev S17408x1x32 : Shape := ⟨3, ![17408, 1, 32]⟩
abbrev S16384x1x32 : Shape := ⟨3, ![16384, 1, 32]⟩
abbrev S4x4096x1x32 : Shape := ⟨4, ![4, 4096, 1, 32]⟩
abbrev S4x4096x1x16 : Shape := ⟨4, ![4, 4096, 1, 16]⟩
abbrev S1024x1x32 : Shape := ⟨3, ![1024, 1, 32]⟩
abbrev S17408x8 : Shape := ⟨2, ![17408, 8]⟩
abbrev S17408x8x1 : Shape := ⟨3, ![17408, 8, 1]⟩
abbrev S1x1x64 : Shape := ⟨3, ![1, 1, 64]⟩
abbrev S1x4096x1x32 : Shape := ⟨4, ![1, 4096, 1, 32]⟩
abbrev S16384x8x64 : Shape := ⟨3, ![16384, 8, 64]⟩
abbrev S4x4096x8x64 : Shape := ⟨4, ![4, 4096, 8, 64]⟩
abbrev S1024x8x64 : Shape := ⟨3, ![1024, 8, 64]⟩
abbrev S17408x2x64 : Shape := ⟨3, ![17408, 2, 64]⟩
abbrev S17408x2 : Shape := ⟨2, ![17408, 2]⟩
abbrev S17408x2x1 : Shape := ⟨3, ![17408, 2, 1]⟩
abbrev S16384x2x64 : Shape := ⟨3, ![16384, 2, 64]⟩
abbrev S4x4096x2x64 : Shape := ⟨4, ![4, 4096, 2, 64]⟩
abbrev S4x4096x2x32 : Shape := ⟨4, ![4, 4096, 2, 32]⟩
abbrev S1024x2x64 : Shape := ⟨3, ![1024, 2, 64]⟩
abbrev S17408x8x1x128 : Shape := ⟨4, ![17408, 8, 1, 128]⟩
abbrev S17408x8x1x64 : Shape := ⟨4, ![17408, 8, 1, 64]⟩
abbrev S17408x2x1x64 : Shape := ⟨4, ![17408, 2, 1, 64]⟩
abbrev S17408x2x2x64 : Shape := ⟨4, ![17408, 2, 2, 64]⟩

abbrev nBuf : Space → Nat
  | .hbm => 408
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x6144, .f32⟩
  | 3 => ⟨S6144, .f32⟩
  | 4 => ⟨S1024, .f32⟩
  | 5 => ⟨S1024x5280, .f32⟩
  | 6 => ⟨S384, .f32⟩
  | 7 => ⟨S256, .f32⟩
  | 8 => ⟨S384x768, .f32⟩
  | 9 => ⟨S256x1024, .f32⟩
  | 10 => ⟨S64, .f32⟩
  | 11 => ⟨S64, .f32⟩
  | 12 => ⟨S4x1024, .f32⟩
  | 13 => ⟨S4x1x1024, .f32⟩
  | 14 => ⟨S4x1024, .f32⟩
  | 15 => ⟨S4x1x1024, .f32⟩
  | 16 => ⟨S4x4096x1024, .f32⟩
  | 17 => ⟨S_, .f32⟩
  | 18 => ⟨S4x4096, .f32⟩
  | 19 => ⟨S4x4096x1, .f32⟩
  | 20 => ⟨S_, .f32⟩
  | 21 => ⟨S4x4096x1, .f32⟩
  | 22 => ⟨S4x4096x1, .f32⟩
  | 23 => ⟨S_, .f32⟩
  | 24 => ⟨S4x4096x1, .f32⟩
  | 25 => ⟨S4x4096x1, .f32⟩
  | 26 => ⟨S4x4096x1, .f32⟩
  | 27 => ⟨S4x4096x1024, .f32⟩
  | 28 => ⟨S4x4096x1024, .f32⟩
  | 29 => ⟨S1x1x1024, .f32⟩
  | 30 => ⟨S4x4096x1024, .f32⟩
  | 31 => ⟨S4x4096x1024, .f32⟩
  | 32 => ⟨S_, .f32⟩
  | 33 => ⟨S4x1x1024, .f32⟩
  | 34 => ⟨S4x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S4x256x1024, .f32⟩
  | 40 => ⟨S_, .f32⟩
  | 41 => ⟨S4x256, .f32⟩
  | 42 => ⟨S4x256x1, .f32⟩
  | 43 => ⟨S_, .f32⟩
  | 44 => ⟨S4x256x1, .f32⟩
  | 45 => ⟨S4x256x1, .f32⟩
  | 46 => ⟨S_, .f32⟩
  | 47 => ⟨S4x256x1, .f32⟩
  | 48 => ⟨S4x256x1, .f32⟩
  | 49 => ⟨S4x256x1, .f32⟩
  | 50 => ⟨S4x256x1024, .f32⟩
  | 51 => ⟨S4x256x1024, .f32⟩
  | 52 => ⟨S1x1x1024, .f32⟩
  | 53 => ⟨S4x256x1024, .f32⟩
  | 54 => ⟨S4x256x1024, .f32⟩
  | 55 => ⟨S1024, .f32⟩
  | 56 => ⟨S_, .f32⟩
  | 57 => ⟨S1024, .f32⟩
  | 58 => ⟨S1024, .f32⟩
  | 59 => ⟨S1x1x1024, .f32⟩
  | 60 => ⟨S4x256x1024, .f32⟩
  | 61 => ⟨S4x256x1024, .f32⟩
  | 62 => ⟨S1024, .f32⟩
  | 63 => ⟨S1x1x1024, .f32⟩
  | 64 => ⟨S4x256x1024, .f32⟩
  | 65 => ⟨S4x256x1024, .f32⟩
  | 66 => ⟨S16384x1024, .f32⟩
  | 67 => ⟨S1024x1024, .f32⟩
  | 68 => ⟨S17408x1024, .f32⟩
  | 69 => ⟨S17408x5280, .f32⟩
  | 70 => ⟨S17408x384, .f32⟩
  | 71 => ⟨S17408x256, .f32⟩
  | 72 => ⟨S17408x32, .f32⟩
  | 73 => ⟨S17408x512, .f32⟩
  | 74 => ⟨S17408x128, .f32⟩
  | 75 => ⟨S17408x128, .f32⟩
  | 76 => ⟨S17408x512, .f32⟩
  | 77 => ⟨S17408x128, .f32⟩
  | 78 => ⟨S17408x128, .f32⟩
  | 79 => ⟨S17408x3072, .f32⟩
  | 80 => ⟨S64, .f32⟩
  | 81 => ⟨S64x64, .f32⟩
  | 82 => ⟨S4096, .f32⟩
  | 83 => ⟨S64, .f32⟩
  | 84 => ⟨S1x64, .f32⟩
  | 85 => ⟨S64x64, .f32⟩
  | 86 => ⟨S4096, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S4096x1, .f32⟩
  | 96 => ⟨S1x8, .f32⟩
  | 97 => ⟨S4096x8, .f32⟩
  | 98 => ⟨S4096x8, .f32⟩
  | 99 => ⟨S4096x8, .f32⟩
  | 100 => ⟨S4096x1, .f32⟩
  | 101 => ⟨S1x8, .f32⟩
  | 102 => ⟨S4096x8, .f32⟩
  | 103 => ⟨S4096x8, .f32⟩
  | 104 => ⟨S4096x8, .f32⟩
  | 105 => ⟨S4096x16, .f32⟩
  | 106 => ⟨S4096x16, .f32⟩
  | 107 => ⟨S4096x16, .f32⟩
  | 108 => ⟨S64, .f32⟩
  | 109 => ⟨S64x64, .f32⟩
  | 110 => ⟨S4096, .f32⟩
  | 111 => ⟨S64, .f32⟩
  | 112 => ⟨S1x64, .f32⟩
  | 113 => ⟨S64x64, .f32⟩
  | 114 => ⟨S4096, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S4096x1, .f32⟩
  | 124 => ⟨S1x16, .f32⟩
  | 125 => ⟨S4096x16, .f32⟩
  | 126 => ⟨S4096x16, .f32⟩
  | 127 => ⟨S4096x16, .f32⟩
  | _ => ⟨S4x4096x1024, .f32⟩

abbrev hbmTy0_1 (i : Nat) : BufTy := match i % 128 with
  | 0 => ⟨S4096x1, .f32⟩
  | 1 => ⟨S1x16, .f32⟩
  | 2 => ⟨S4096x16, .f32⟩
  | 3 => ⟨S4096x16, .f32⟩
  | 4 => ⟨S4096x16, .f32⟩
  | 5 => ⟨S4096x32, .f32⟩
  | 6 => ⟨S4096x32, .f32⟩
  | 7 => ⟨S4096x32, .f32⟩
  | 8 => ⟨S17408x384, .f32⟩
  | 9 => ⟨S_, .f32⟩
  | 10 => ⟨S17408, .f32⟩
  | 11 => ⟨S17408x1, .f32⟩
  | 12 => ⟨S_, .f32⟩
  | 13 => ⟨S17408x1, .f32⟩
  | 14 => ⟨S17408x1, .f32⟩
  | 15 => ⟨S_, .f32⟩
  | 16 => ⟨S17408x1, .f32⟩
  | 17 => ⟨S17408x1, .f32⟩
  | 18 => ⟨S17408x1, .f32⟩
  | 19 => ⟨S17408x384, .f32⟩
  | 20 => ⟨S17408x384, .f32⟩
  | 21 => ⟨S1x384, .f32⟩
  | 22 => ⟨S17408x384, .f32⟩
  | 23 => ⟨S17408x384, .f32⟩
  | 24 => ⟨S17408x768, .f32⟩
  | 25 => ⟨S17408x8x96, .f32⟩
  | 26 => ⟨S17408x8x64, .f32⟩
  | 27 => ⟨S17408x8x32, .f32⟩
  | 28 => ⟨S1x4096x1x16, .f32⟩
  | 29 => ⟨S1x4096x1x16, .f32⟩
  | 30 => ⟨S16384x8x32, .f32⟩
  | 31 => ⟨S4x4096x8x32, .f32⟩
  | 32 => ⟨S4x4096x8x16, .f32⟩
  | 33 => ⟨S4x4096x8x16, .f32⟩
  | 34 => ⟨S4x4096x8x16, .f32⟩
  | 35 => ⟨S4x4096x8x16, .f32⟩
  | 36 => ⟨S4x4096x8x16, .f32⟩
  | 37 => ⟨S4x4096x8x16, .f32⟩
  | 38 => ⟨S4x4096x8x16, .f32⟩
  | 39 => ⟨S4x4096x8x16, .f32⟩
  | 40 => ⟨S4x4096x8x16, .f32⟩
  | 41 => ⟨S4x4096x8x16, .f32⟩
  | 42 => ⟨S4x4096x8x16, .f32⟩
  | 43 => ⟨S4x4096x8x16, .f32⟩
  | 44 => ⟨S4x4096x8x32, .f32⟩
  | 45 => ⟨S16384x8x32, .f32⟩
  | 46 => ⟨S1024x8x32, .f32⟩
  | 47 => ⟨S17408x8x32, .f32⟩
  | 48 => ⟨S17408x8x96, .f32⟩
  | 49 => ⟨S17408x256, .f32⟩
  | 50 => ⟨S_, .f32⟩
  | 51 => ⟨S17408, .f32⟩
  | 52 => ⟨S17408x1, .f32⟩
  | 53 => ⟨S_, .f32⟩
  | 54 => ⟨S17408x1, .f32⟩
  | 55 => ⟨S17408x1, .f32⟩
  | 56 => ⟨S_, .f32⟩
  | 57 => ⟨S17408x1, .f32⟩
  | 58 => ⟨S17408x1, .f32⟩
  | 59 => ⟨S17408x1, .f32⟩
  | 60 => ⟨S17408x256, .f32⟩
  | 61 => ⟨S17408x256, .f32⟩
  | 62 => ⟨S1x256, .f32⟩
  | 63 => ⟨S17408x256, .f32⟩
  | 64 => ⟨S17408x256, .f32⟩
  | 65 => ⟨S17408x1024, .f32⟩
  | 66 => ⟨S17408x8x128, .f32⟩
  | 67 => ⟨S17408x1x32, .f32⟩
  | 68 => ⟨S1x4096x1x16, .f32⟩
  | 69 => ⟨S1x4096x1x16, .f32⟩
  | 70 => ⟨S16384x1x32, .f32⟩
  | 71 => ⟨S4x4096x1x32, .f32⟩
  | 72 => ⟨S4x4096x1x16, .f32⟩
  | 73 => ⟨S4x4096x1x16, .f32⟩
  | 74 => ⟨S4x4096x1x16, .f32⟩
  | 75 => ⟨S4x4096x1x16, .f32⟩
  | 76 => ⟨S4x4096x1x16, .f32⟩
  | 77 => ⟨S4x4096x1x16, .f32⟩
  | 78 => ⟨S4x4096x1x16, .f32⟩
  | 79 => ⟨S4x4096x1x16, .f32⟩
  | 80 => ⟨S4x4096x1x16, .f32⟩
  | 81 => ⟨S4x4096x1x16, .f32⟩
  | 82 => ⟨S4x4096x1x16, .f32⟩
  | 83 => ⟨S4x4096x1x16, .f32⟩
  | 84 => ⟨S4x4096x1x32, .f32⟩
  | 85 => ⟨S16384x1x32, .f32⟩
  | 86 => ⟨S1024x1x32, .f32⟩
  | 87 => ⟨S17408x1x32, .f32⟩
  | 88 => ⟨S17408x8x32, .f32⟩
  | 89 => ⟨S17408x8x64, .f32⟩
  | 90 => ⟨S17408x8x96, .f32⟩
  | 91 => ⟨S17408x8x64, .f32⟩
  | 92 => ⟨S17408x8x64, .f32⟩
  | 93 => ⟨S17408x8x64, .f32⟩
  | 94 => ⟨S_, .f32⟩
  | 95 => ⟨S17408x8, .f32⟩
  | 96 => ⟨S17408x8x1, .f32⟩
  | 97 => ⟨S_, .f32⟩
  | 98 => ⟨S17408x8x1, .f32⟩
  | 99 => ⟨S17408x8x1, .f32⟩
  | 100 => ⟨S_, .f32⟩
  | 101 => ⟨S17408x8x1, .f32⟩
  | 102 => ⟨S17408x8x1, .f32⟩
  | 103 => ⟨S17408x8x1, .f32⟩
  | 104 => ⟨S17408x8x64, .f32⟩
  | 105 => ⟨S17408x8x64, .f32⟩
  | 106 => ⟨S1x1x64, .f32⟩
  | 107 => ⟨S17408x8x64, .f32⟩
  | 108 => ⟨S17408x8x64, .f32⟩
  | 109 => ⟨S1x4096x1x32, .f32⟩
  | 110 => ⟨S1x4096x1x32, .f32⟩
  | 111 => ⟨S16384x8x64, .f32⟩
  | 112 => ⟨S4x4096x8x64, .f32⟩
  | 113 => ⟨S4x4096x8x32, .f32⟩
  | 114 => ⟨S4x4096x8x32, .f32⟩
  | 115 => ⟨S4x4096x8x32, .f32⟩
  | 116 => ⟨S4x4096x8x32, .f32⟩
  | 117 => ⟨S4x4096x8x32, .f32⟩
  | 118 => ⟨S4x4096x8x32, .f32⟩
  | 119 => ⟨S4x4096x8x32, .f32⟩
  | 120 => ⟨S4x4096x8x32, .f32⟩
  | 121 => ⟨S4x4096x8x32, .f32⟩
  | 122 => ⟨S4x4096x8x32, .f32⟩
  | 123 => ⟨S4x4096x8x32, .f32⟩
  | 124 => ⟨S4x4096x8x32, .f32⟩
  | 125 => ⟨S4x4096x8x64, .f32⟩
  | 126 => ⟨S16384x8x64, .f32⟩
  | 127 => ⟨S1024x8x64, .f32⟩
  | _ => ⟨S4x4096x1024, .f32⟩

abbrev hbmTy0_2 (i : Nat) : BufTy := match i % 128 with
  | 0 => ⟨S17408x8x64, .f32⟩
  | 1 => ⟨S17408x2x64, .f32⟩
  | 2 => ⟨S17408x2x64, .f32⟩
  | 3 => ⟨S_, .f32⟩
  | 4 => ⟨S17408x2, .f32⟩
  | 5 => ⟨S17408x2x1, .f32⟩
  | 6 => ⟨S_, .f32⟩
  | 7 => ⟨S17408x2x1, .f32⟩
  | 8 => ⟨S17408x2x1, .f32⟩
  | 9 => ⟨S_, .f32⟩
  | 10 => ⟨S17408x2x1, .f32⟩
  | 11 => ⟨S17408x2x1, .f32⟩
  | 12 => ⟨S17408x2x1, .f32⟩
  | 13 => ⟨S17408x2x64, .f32⟩
  | 14 => ⟨S17408x2x64, .f32⟩
  | 15 => ⟨S1x1x64, .f32⟩
  | 16 => ⟨S17408x2x64, .f32⟩
  | 17 => ⟨S17408x2x64, .f32⟩
  | 18 => ⟨S1x4096x1x32, .f32⟩
  | 19 => ⟨S1x4096x1x32, .f32⟩
  | 20 => ⟨S16384x2x64, .f32⟩
  | 21 => ⟨S4x4096x2x64, .f32⟩
  | 22 => ⟨S4x4096x2x32, .f32⟩
  | 23 => ⟨S4x4096x2x32, .f32⟩
  | 24 => ⟨S4x4096x2x32, .f32⟩
  | 25 => ⟨S4x4096x2x32, .f32⟩
  | 26 => ⟨S4x4096x2x32, .f32⟩
  | 27 => ⟨S4x4096x2x32, .f32⟩
  | 28 => ⟨S4x4096x2x32, .f32⟩
  | 29 => ⟨S4x4096x2x32, .f32⟩
  | 30 => ⟨S4x4096x2x32, .f32⟩
  | 31 => ⟨S4x4096x2x32, .f32⟩
  | 32 => ⟨S4x4096x2x32, .f32⟩
  | 33 => ⟨S4x4096x2x32, .f32⟩
  | 34 => ⟨S4x4096x2x64, .f32⟩
  | 35 => ⟨S16384x2x64, .f32⟩
  | 36 => ⟨S1024x2x64, .f32⟩
  | 37 => ⟨S17408x2x64, .f32⟩
  | 38 => ⟨S17408x8x64, .f32⟩
  | 39 => ⟨S1x4096x1x32, .f32⟩
  | 40 => ⟨S1x4096x1x32, .f32⟩
  | 41 => ⟨S16384x8x64, .f32⟩
  | 42 => ⟨S4x4096x8x64, .f32⟩
  | 43 => ⟨S4x4096x8x32, .f32⟩
  | 44 => ⟨S4x4096x8x32, .f32⟩
  | 45 => ⟨S4x4096x8x32, .f32⟩
  | 46 => ⟨S4x4096x8x32, .f32⟩
  | 47 => ⟨S4x4096x8x32, .f32⟩
  | 48 => ⟨S4x4096x8x32, .f32⟩
  | 49 => ⟨S4x4096x8x32, .f32⟩
  | 50 => ⟨S4x4096x8x32, .f32⟩
  | 51 => ⟨S4x4096x8x32, .f32⟩
  | 52 => ⟨S4x4096x8x32, .f32⟩
  | 53 => ⟨S4x4096x8x32, .f32⟩
  | 54 => ⟨S4x4096x8x32, .f32⟩
  | 55 => ⟨S4x4096x8x64, .f32⟩
  | 56 => ⟨S16384x8x64, .f32⟩
  | 57 => ⟨S1024x8x64, .f32⟩
  | 58 => ⟨S17408x8x64, .f32⟩
  | 59 => ⟨S_, .f32⟩
  | 60 => ⟨S17408x8x64, .f32⟩
  | 61 => ⟨S17408x8x64, .f32⟩
  | 62 => ⟨S17408x2x64, .f32⟩
  | 63 => ⟨S1x4096x1x32, .f32⟩
  | 64 => ⟨S1x4096x1x32, .f32⟩
  | 65 => ⟨S16384x2x64, .f32⟩
  | 66 => ⟨S4x4096x2x64, .f32⟩
  | 67 => ⟨S4x4096x2x32, .f32⟩
  | 68 => ⟨S4x4096x2x32, .f32⟩
  | 69 => ⟨S4x4096x2x32, .f32⟩
  | 70 => ⟨S4x4096x2x32, .f32⟩
  | 71 => ⟨S4x4096x2x32, .f32⟩
  | 72 => ⟨S4x4096x2x32, .f32⟩
  | 73 => ⟨S4x4096x2x32, .f32⟩
  | 74 => ⟨S4x4096x2x32, .f32⟩
  | 75 => ⟨S4x4096x2x32, .f32⟩
  | 76 => ⟨S4x4096x2x32, .f32⟩
  | 77 => ⟨S4x4096x2x32, .f32⟩
  | 78 => ⟨S4x4096x2x32, .f32⟩
  | 79 => ⟨S4x4096x2x64, .f32⟩
  | 80 => ⟨S16384x2x64, .f32⟩
  | 81 => ⟨S1024x2x64, .f32⟩
  | 82 => ⟨S17408x2x64, .f32⟩
  | 83 => ⟨S_, .i32⟩
  | 84 => ⟨S_, .f32⟩
  | 85 => ⟨S17408x8x128, .f32⟩
  | 86 => ⟨S17408x8x1x128, .f32⟩
  | 87 => ⟨S17408x1024, .f32⟩
  | 88 => ⟨S17408x1024, .bf16⟩
  | 89 => ⟨S_, .i32⟩
  | 90 => ⟨S_, .f32⟩
  | 91 => ⟨S17408x8x128, .f32⟩
  | 92 => ⟨S17408x8x1x128, .f32⟩
  | 93 => ⟨S17408x1024, .f32⟩
  | 94 => ⟨S17408x1024, .bf16⟩
  | 95 => ⟨S_, .i32⟩
  | 96 => ⟨S_, .f32⟩
  | 97 => ⟨S17408x8x64, .f32⟩
  | 98 => ⟨S17408x8x1x64, .f32⟩
  | 99 => ⟨S17408x512, .f32⟩
  | 100 => ⟨S17408x512, .bf16⟩
  | 101 => ⟨S_, .i32⟩
  | 102 => ⟨S_, .f32⟩
  | 103 => ⟨S17408x8x64, .f32⟩
  | 104 => ⟨S17408x8x1x64, .f32⟩
  | 105 => ⟨S17408x512, .f32⟩
  | 106 => ⟨S17408x512, .bf16⟩
  | 107 => ⟨S_, .i32⟩
  | 108 => ⟨S_, .f32⟩
  | 109 => ⟨S17408x2x64, .f32⟩
  | 110 => ⟨S17408x2x1x64, .f32⟩
  | 111 => ⟨S17408x2x2x64, .f32⟩
  | 112 => ⟨S17408x256, .f32⟩
  | 113 => ⟨S17408x256, .bf16⟩
  | 114 => ⟨S17408x2x64, .f32⟩
  | 115 => ⟨S_, .i32⟩
  | 116 => ⟨S_, .f32⟩
  | 117 => ⟨S17408x2x64, .f32⟩
  | 118 => ⟨S17408x2x1x64, .f32⟩
  | 119 => ⟨S17408x2x2x64, .f32⟩
  | 120 => ⟨S17408x256, .f32⟩
  | 121 => ⟨S17408x256, .bf16⟩
  | 122 => ⟨S_, .i32⟩
  | 123 => ⟨S_, .f32⟩
  | 124 => ⟨S17408x8x64, .f32⟩
  | 125 => ⟨S17408x8x1x64, .f32⟩
  | 126 => ⟨S17408x512, .f32⟩
  | 127 => ⟨S17408x512, .bf16⟩
  | _ => ⟨S4x4096x1024, .f32⟩

abbrev hbmTy0_3 (i : Nat) : BufTy := match i % 128 with
  | 0 => ⟨S_, .i32⟩
  | 1 => ⟨S_, .f32⟩
  | 2 => ⟨S17408x2x64, .f32⟩
  | 3 => ⟨S17408x2x1x64, .f32⟩
  | 4 => ⟨S17408x2x2x64, .f32⟩
  | 5 => ⟨S17408x256, .f32⟩
  | 6 => ⟨S17408x256, .bf16⟩
  | 7 => ⟨S17408x2x64, .f32⟩
  | 8 => ⟨S_, .i32⟩
  | 9 => ⟨S_, .f32⟩
  | 10 => ⟨S17408x2x64, .f32⟩
  | 11 => ⟨S17408x2x1x64, .f32⟩
  | 12 => ⟨S17408x2x2x64, .f32⟩
  | 13 => ⟨S17408x256, .f32⟩
  | 14 => ⟨S17408x256, .bf16⟩
  | 15 => ⟨S17408x3072, .f32⟩
  | 16 => ⟨S17408x3072, .f32⟩
  | 17 => ⟨S_, .f32⟩
  | 18 => ⟨S17408x3072, .f32⟩
  | 19 => ⟨S17408x3072, .f32⟩
  | 20 => ⟨S_, .f32⟩
  | 21 => ⟨S17408x3072, .f32⟩
  | 22 => ⟨S17408x3072, .f32⟩
  | 23 => ⟨S17408x3072, .bf16⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_cst_10 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_11 : Ref sig .tc := ⟨.hbm, 137, rfl⟩
abbrev main_v113 : Ref sig .tc := ⟨.hbm, 138, rfl⟩
abbrev main_v114 : Ref sig .tc := ⟨.hbm, 139, rfl⟩
abbrev main_cst_12 : Ref sig .tc := ⟨.hbm, 140, rfl⟩
abbrev main_v115 : Ref sig .tc := ⟨.hbm, 141, rfl⟩
abbrev main_v116 : Ref sig .tc := ⟨.hbm, 142, rfl⟩
abbrev main_cst_13 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_14 : Ref sig .tc := ⟨.hbm, 178, rfl⟩
abbrev main_v151 : Ref sig .tc := ⟨.hbm, 179, rfl⟩
abbrev main_v152 : Ref sig .tc := ⟨.hbm, 180, rfl⟩
abbrev main_cst_15 : Ref sig .tc := ⟨.hbm, 181, rfl⟩
abbrev main_v153 : Ref sig .tc := ⟨.hbm, 182, rfl⟩
abbrev main_v154 : Ref sig .tc := ⟨.hbm, 183, rfl⟩
abbrev main_cst_16 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_cst_17 : Ref sig .tc := ⟨.hbm, 222, rfl⟩
abbrev main_v192 : Ref sig .tc := ⟨.hbm, 223, rfl⟩
abbrev main_v193 : Ref sig .tc := ⟨.hbm, 224, rfl⟩
abbrev main_cst_18 : Ref sig .tc := ⟨.hbm, 225, rfl⟩
abbrev main_v194 : Ref sig .tc := ⟨.hbm, 226, rfl⟩
abbrev main_v195 : Ref sig .tc := ⟨.hbm, 227, rfl⟩
abbrev main_cst_19 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_cst_20 : Ref sig .tc := ⟨.hbm, 259, rfl⟩
abbrev main_v226 : Ref sig .tc := ⟨.hbm, 260, rfl⟩
abbrev main_v227 : Ref sig .tc := ⟨.hbm, 261, rfl⟩
abbrev main_cst_21 : Ref sig .tc := ⟨.hbm, 262, rfl⟩
abbrev main_v228 : Ref sig .tc := ⟨.hbm, 263, rfl⟩
abbrev main_v229 : Ref sig .tc := ⟨.hbm, 264, rfl⟩
abbrev main_cst_22 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_cst_23 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_c : Ref sig .tc := ⟨.hbm, 339, rfl⟩
abbrev main_call0_v0 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_c_24 : Ref sig .tc := ⟨.hbm, 345, rfl⟩
abbrev main_call1_v0 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_c_25 : Ref sig .tc := ⟨.hbm, 351, rfl⟩
abbrev main_call2_v0 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_c_26 : Ref sig .tc := ⟨.hbm, 357, rfl⟩
abbrev main_call3_v0 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_c_27 : Ref sig .tc := ⟨.hbm, 363, rfl⟩
abbrev main_call4_v0 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_c_28 : Ref sig .tc := ⟨.hbm, 371, rfl⟩
abbrev main_call5_v0 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_c_29 : Ref sig .tc := ⟨.hbm, 378, rfl⟩
abbrev main_call6_v0 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_c_30 : Ref sig .tc := ⟨.hbm, 384, rfl⟩
abbrev main_call7_v0 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_c_31 : Ref sig .tc := ⟨.hbm, 392, rfl⟩
abbrev main_call8_v0 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_cst_32 : Ref sig .tc := ⟨.hbm, 401, rfl⟩
abbrev main_v346 : Ref sig .tc := ⟨.hbm, 402, rfl⟩
abbrev main_v347 : Ref sig .tc := ⟨.hbm, 403, rfl⟩
abbrev main_cst_33 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩

abbrev nD : Nat := 1
abbrev τ : Topo := Topo.v7x

variable {F : FTy → Type} [FloatOps F]
-- ==== Proof.Attn.Softmax.lean ====
/-
  The scalar mathematics of softmax attention over two pieces of keys, on the extended reals: one row of the kernel
  (a running maximum, a running sum and a running product, rescaled when the maximum grows, in powers of two) against
  one row of the textbook softmax over all the keys (natural exponentials).
-/
module

public import Idealize.ShloMosaic.Lib.Pointwise

@[expose] public section

noncomputable section

namespace Cert.Attn

open Idealize.ShloMosaic

/-- A row's greatest entry, as both programs take it: a fold of `max` from `-∞`. -/
def top {n : ℕ} (s : Fin n → EReal) : EReal := Finset.univ.fold max ⊥ s

/-- The running maximum `m` after a piece of scores `s`. -/
def stepMax {n : ℕ} (m : EReal) (s : Fin n → EReal) : EReal := max m (top s)

/-- The running sum `l` after a piece of scores `s`, under the running maximum `m` before it: the old sum rescaled, plus
    the piece's weights. -/
def stepSum {n : ℕ} (m l : EReal) (s : Fin n → EReal) : EReal :=
  Ideal.exp2 (m - stepMax m s) * l + ∑ k, Ideal.exp2 (s k - stepMax m s)

/-- The running product `a` after a piece of scores `s` and values `v`, rescaled as the running sum is. -/
def stepAcc {n : ℕ} (m a : EReal) (s v : Fin n → EReal) : EReal :=
  Ideal.exp2 (m - stepMax m s) * a + ∑ k, Ideal.exp2 (s k - stepMax m s) * v k

/-- One row and one column of the kernel: scores `s₁`, `s₂` against two pieces of keys, their values `v₁`, `v₂`.
    The running maximum starts at `-∞`, the running sum and product at zero, and the weights are powers of two. -/
def online {a b : ℕ} (s₁ : Fin a → EReal) (s₂ : Fin b → EReal) (v₁ : Fin a → EReal) (v₂ : Fin b → EReal) : EReal :=
  Ideal.div (stepAcc (stepMax ⊥ s₁) (stepAcc ⊥ 0 s₁ v₁) s₂ v₂) (stepSum (stepMax ⊥ s₁) (stepSum ⊥ 0 s₁) s₂)

/-- One row and one column of the textbook softmax attention: scores `t`, values `v`. -/
def softmax {n : ℕ} (t : Fin n → EReal) (v : Fin n → EReal) : EReal :=
  ∑ k, v k * Ideal.div (Ideal.exp (t k - max ⊥ (top t))) (∑ k', Ideal.exp (t k' - max ⊥ (top t)))

/-- The greatest of finitely many reals, at least one, is a real. -/
theorem top_coe {n : ℕ} (hn : 0 < n) (s : Fin n → ℝ) : ∃ r : ℝ, top (fun k => (s k : EReal)) = (r : EReal) := by
  have aux : ∀ S : Finset (Fin n), S.fold max (⊥ : EReal) (fun k => (s k : EReal)) = ⊥ ∧ S = ∅
      ∨ ∃ r : ℝ, S.fold max (⊥ : EReal) (fun k => (s k : EReal)) = (r : EReal) := by
    intro S
    induction S using Finset.induction_on with
    | empty => exact .inl ⟨rfl, rfl⟩
    | insert x S hx ih =>
      right
      rw [Finset.fold_insert hx]
      rcases ih with ⟨h, -⟩ | ⟨r, h⟩
      · exact ⟨s x, by rw [h]; exact max_bot_right _⟩
      · exact ⟨max (s x) r, by rw [h]; exact (EReal.coe_strictMono.monotone.map_max).symm⟩
  rcases aux Finset.univ with ⟨-, h⟩ | h
  · exact absurd h (Finset.univ_nonempty_iff.mpr ⟨⟨0, hn⟩⟩).ne_empty
  · exact h

/-- A real factor that is not negative passes into a sum of extended reals. -/
theorem mul_sum_coe {ι : Type} (S : Finset ι) {r : ℝ} (hr : 0 ≤ r) (f : ι → EReal) :
    (r : EReal) * ∑ k ∈ S, f k = ∑ k ∈ S, (r : EReal) * f k := by
  classical
  induction S using Finset.induction_on with
  | empty => simp
  | insert x S hx ih =>
    rw [Finset.sum_insert hx, Finset.sum_insert hx, ← ih]
    exact EReal.left_distrib_of_nonneg_of_ne_top (by exact_mod_cast hr) (EReal.coe_ne_top r) _ _

/-- A sum of coerced reals is the coerced sum. -/
theorem sum_coe {ι : Type} (S : Finset ι) (f : ι → ℝ) : ∑ k ∈ S, (f k : EReal) = ((∑ k ∈ S, f k : ℝ) : EReal) := by
  classical
  induction S using Finset.induction_on with
  | empty => simp
  | insert x S hx ih => rw [Finset.sum_insert hx, Finset.sum_insert hx, ih, EReal.coe_add]

/-- A power of two at a difference of reals, as a product of two powers. -/
theorem exp2_sub (x m : ℝ) : Ideal.exp2 ((x : EReal) - (m : EReal)) = (((2 : ℝ) ^ x * (2 : ℝ) ^ (-m) : ℝ) : EReal) := by
  rw [← EReal.coe_sub, Ideal.exp2_coe]
  congr 1
  show (2 : ℝ) ^ (x - m) = _
  rw [sub_eq_add_neg, Real.rpow_add (by norm_num)]

/-- An exponential at a difference of reals, as a product of two exponentials. -/
theorem exp_sub (x m : ℝ) : Ideal.exp ((x : EReal) - (m : EReal)) = ((Real.exp x * Real.exp (-m) : ℝ) : EReal) := by
  rw [← EReal.coe_sub, Ideal.exp_coe, sub_eq_add_neg, Real.exp_add]

/-- The textbook softmax row over real scores: the values weighted by `exp t / Σ exp t`. -/
theorem softmax_coe {n : ℕ} (hn : 0 < n) (t : Fin n → ℝ) (v : Fin n → EReal) :
    softmax (fun k => (t k : EReal)) v = ∑ k, ((Real.exp (t k) / ∑ k', Real.exp (t k') : ℝ) : EReal) * v k := by
  obtain ⟨M, hM⟩ := top_coe hn t
  have hW : 0 < ∑ k, Real.exp (t k) := Finset.sum_pos (fun k _ => Real.exp_pos _) (Finset.univ_nonempty_iff.mpr ⟨⟨0, hn⟩⟩)
  have hE : 0 < Real.exp (-M) := Real.exp_pos _
  unfold softmax
  simp only [hM, max_bot_left, exp_sub, sum_coe, ← Finset.sum_mul]
  refine Finset.sum_congr rfl fun k _ => ?_
  rw [Ideal.div_coe (mul_pos hW hE).ne', ← EReal.coe_mul, mul_comm]
  congr 2
  field_simp

/-- The kernel's row over real scores: the values of both pieces weighted by `2 ^ s / Σ 2 ^ s`. -/
theorem online_coe {a b : ℕ} (ha : 0 < a) (hb : 0 < b) (s₁ : Fin a → ℝ) (s₂ : Fin b → ℝ) (v₁ : Fin a → EReal)
    (v₂ : Fin b → EReal) :
    online (fun k => (s₁ k : EReal)) (fun k => (s₂ k : EReal)) v₁ v₂
      = ∑ k, (((2 : ℝ) ^ s₁ k / (∑ k', (2 : ℝ) ^ s₁ k' + ∑ k', (2 : ℝ) ^ s₂ k') : ℝ) : EReal) * v₁ k
        + ∑ k, (((2 : ℝ) ^ s₂ k / (∑ k', (2 : ℝ) ^ s₁ k' + ∑ k', (2 : ℝ) ^ s₂ k') : ℝ) : EReal) * v₂ k := by
  obtain ⟨M₁, h₁⟩ := top_coe ha s₁
  obtain ⟨M₂, h₂⟩ := top_coe hb s₂
  have p2 : ∀ x : ℝ, 0 < (2 : ℝ) ^ x := fun x => Real.rpow_pos_of_pos (by norm_num) x
  set M := max M₁ M₂ with hM
  have hmax : max (M₁ : EReal) (M₂ : EReal) = (M : EReal) := (EReal.coe_strictMono.monotone.map_max).symm
  set W₁ := ∑ k, (2 : ℝ) ^ s₁ k with hW₁
  set W₂ := ∑ k, (2 : ℝ) ^ s₂ k with hW₂
  have hp₁ : 0 < W₁ := Finset.sum_pos (fun k _ => p2 _) (Finset.univ_nonempty_iff.mpr ⟨⟨0, ha⟩⟩)
  have hp₂ : 0 < W₂ := Finset.sum_pos (fun k _ => p2 _) (Finset.univ_nonempty_iff.mpr ⟨⟨0, hb⟩⟩)
  have hcancel : (2 : ℝ) ^ M₁ * (2 : ℝ) ^ (-M₁) = 1 := by
    rw [← Real.rpow_add (by norm_num)]; simp
  unfold online stepAcc stepSum stepMax
  simp only [h₁, h₂, max_bot_left, hmax, exp2_sub, sum_coe, ← Finset.sum_mul, EReal.bot_sub, Ideal.exp2_bot, mul_zero,
    zero_add]
  rw [mul_sum_coe _ (mul_pos (p2 _) (p2 _)).le, ← EReal.coe_mul, ← EReal.coe_add]
  have hden : (2 : ℝ) ^ M₁ * (2 : ℝ) ^ (-M) * (W₁ * (2 : ℝ) ^ (-M₁)) + W₂ * (2 : ℝ) ^ (-M) = (W₁ + W₂) * (2 : ℝ) ^ (-M) := by
    linear_combination ((2 : ℝ) ^ (-M) * W₁) * hcancel
  rw [hden, Ideal.div_coe (mul_pos (add_pos hp₁ hp₂) (p2 _)).ne', mul_comm]
  have hq : 0 ≤ 1 / ((W₁ + W₂) * (2 : ℝ) ^ (-M)) := (one_div_pos.mpr (mul_pos (add_pos hp₁ hp₂) (p2 _))).le
  rw [EReal.left_distrib_of_nonneg_of_ne_top (by exact_mod_cast hq) (EReal.coe_ne_top _), mul_sum_coe _ hq, mul_sum_coe _ hq]
  have hM0 := p2 (-M)
  congr 1 <;> refine Finset.sum_congr rfl fun k _ => ?_
  · rw [← mul_assoc, ← mul_assoc, ← EReal.coe_mul, ← EReal.coe_mul]
    congr 2
    have : (2 : ℝ) ^ M₁ * (2 : ℝ) ^ (-M) * ((2 : ℝ) ^ s₁ k * (2 : ℝ) ^ (-M₁)) = (2 : ℝ) ^ s₁ k * (2 : ℝ) ^ (-M) := by
      linear_combination ((2 : ℝ) ^ (-M) * (2 : ℝ) ^ s₁ k) * hcancel
    rw [mul_assoc, this]
    field_simp
  · rw [← mul_assoc, ← EReal.coe_mul]
    congr 2
    field_simp

/-- THE EQUATION of one row and one column: the kernel's two pieces, scores `s` in powers of two, against the textbook
    softmax over the pieces one after the other, scores `s · log 2` in natural exponentials. The values are any
    extended reals. -/
theorem online_eq_softmax {a b : ℕ} (ha : 0 < a) (hb : 0 < b) (s₁ : Fin a → ℝ) (s₂ : Fin b → ℝ) (v₁ : Fin a → EReal)
    (v₂ : Fin b → EReal) (t : Fin (a + b) → ℝ) (v : Fin (a + b) → EReal)
    (ht₁ : ∀ k, t (Fin.castAdd b k) = s₁ k * Real.log 2) (ht₂ : ∀ k, t (Fin.natAdd a k) = s₂ k * Real.log 2)
    (hv₁ : ∀ k, v (Fin.castAdd b k) = v₁ k) (hv₂ : ∀ k, v (Fin.natAdd a k) = v₂ k) :
    online (fun k => (s₁ k : EReal)) (fun k => (s₂ k : EReal)) v₁ v₂ = softmax (fun k => (t k : EReal)) v := by
  have e : ∀ x : ℝ, Real.exp (x * Real.log 2) = (2 : ℝ) ^ x := fun x => by
    rw [Real.rpow_def_of_pos (by norm_num), mul_comm]
  rw [online_coe ha hb, softmax_coe (by omega)]
  simp only [Fin.sum_univ_add, ht₁, ht₂, hv₁, hv₂, e]

end Cert.Attn

end
-- ==== Proof.Attn.Rows.lean ====
/-
  One row and one column of both programs, brought together: scores that are scaled dot products of finite queries and
  keys. The kernel's dot product runs over a padded head, its scale is in powers of two; the reference's runs over the
  head itself, its scale is in natural exponentials.
-/
module

public import proofs.«01_k».proof.Proof.Attn.Softmax

@[expose] public section

noncomputable section

namespace Cert.Attn

open Idealize.ShloMosaic

/-- An extended real that lies below `+∞` in absolute value is a real. -/
theorem real_of_abs_lt (x : EReal) (h : max x (-x) < ⊤) : ∃ r : ℝ, x = r := by
  induction x using EReal.rec with
  | bot => simp at h
  | coe r => exact ⟨r, rfl⟩
  | top => simp at h

/-- What the precondition says of an entry: its comparison against `+∞` holds, so it is a real. -/
theorem real_of_cmp (x : EReal) (h : Ideal.cmp .olt (max x (-x)) ⊤ = 1#1) : ∃ r : ℝ, x = r := by
  refine real_of_abs_lt x ?_
  by_contra hn
  have : Ideal.cmp .olt (max x (-x)) ⊤ = 0#1 := by simp only [Ideal.cmp, decide_eq_false hn]; rfl
  rw [this] at h
  exact absurd h (by decide)

/-- A dot product over `n` entries padded with `p` zeros is the dot product over the entries. -/
theorem sum_padded (n p : ℕ) (f g : Fin n → EReal) :
    (∑ d : Fin (n + p), (if hd : d.val < n then f ⟨d.val, hd⟩ else 0) * (if hd : d.val < n then g ⟨d.val, hd⟩ else 0)) =
      ∑ d : Fin n, f d * g d := by
  rw [Fin.sum_univ_add]
  have hz : ∀ d : Fin p, (if hd : (Fin.natAdd n d).val < n then f ⟨(Fin.natAdd n d).val, hd⟩ else 0) *
      (if hd : (Fin.natAdd n d).val < n then g ⟨(Fin.natAdd n d).val, hd⟩ else 0) = (0 : EReal) := fun d => by
    rw [dif_neg (show ¬(Fin.natAdd n d).val < n from Nat.not_lt.mpr (Nat.le_add_right n d.val)), zero_mul]
  rw [Finset.sum_congr rfl fun d _ => hz d, Finset.sum_const_zero, add_zero]
  exact Finset.sum_congr rfl fun d _ => by
    rw [dif_pos (show (Fin.castAdd p d).val < n from d.isLt), dif_pos (show (Fin.castAdd p d).val < n from d.isLt)]; rfl

/-- A scaled dot product of reals is a real. -/
theorem dot_coe {D : ℕ} (q k : Fin D → ℝ) (f : ℝ) :
    (∑ d, (q d : EReal) * (k d : EReal)) * (f : EReal) = (((∑ d, q d * k d) * f : ℝ) : EReal) := by
  have e : ∀ d, (q d : EReal) * (k d : EReal) = ((q d * k d : ℝ) : EReal) := fun d => (EReal.coe_mul _ _).symm
  rw [EReal.coe_mul, ← sum_coe]
  simp only [e]

/-- THE EQUATION of one row and one column, from queries and keys that are reals: the kernel's two pieces of keys with its
    scale `f`, against the textbook softmax over all the keys with the scale `c`, where `c` is `f · log 2`. -/
theorem rows_eq {D a b : ℕ} (ha : 0 < a) (hb : 0 < b) (f c : ℝ) (hc : c = f * Real.log 2) (q : Fin D → EReal)
    (k₁ : Fin a → Fin D → EReal) (k₂ : Fin b → Fin D → EReal) (v₁ : Fin a → EReal) (v₂ : Fin b → EReal)
    (k : Fin (a + b) → Fin D → EReal) (v : Fin (a + b) → EReal)
    (hq : ∀ d, ∃ r : ℝ, q d = r) (h₁ : ∀ j d, ∃ r : ℝ, k₁ j d = r) (h₂ : ∀ j d, ∃ r : ℝ, k₂ j d = r)
    (hk₁ : ∀ j, k (Fin.castAdd b j) = k₁ j) (hk₂ : ∀ j, k (Fin.natAdd a j) = k₂ j)
    (hv₁ : ∀ j, v (Fin.castAdd b j) = v₁ j) (hv₂ : ∀ j, v (Fin.natAdd a j) = v₂ j) :
    online (fun j => (∑ d, q d * k₁ j d) * (f : EReal)) (fun j => (∑ d, q d * k₂ j d) * (f : EReal)) v₁ v₂ =
      softmax (fun j => (∑ d, q d * k j d) * (c : EReal)) v := by
  choose q' hq' using hq
  choose k₁' h₁' using h₁
  choose k₂' h₂' using h₂
  have e : ∀ j, (∑ d, q d * k j d) * (c : EReal) =
      ((Fin.addCases (fun j => (∑ d, q' d * k₁' j d) * c) (fun j => (∑ d, q' d * k₂' j d) * c) j : ℝ) : EReal) := fun j => by
    refine Fin.addCases (fun j => ?_) (fun j => ?_) j
    · rw [Fin.addCases_left, hk₁, ← dot_coe]
      simp only [hq', h₁']
    · rw [Fin.addCases_right, hk₂, ← dot_coe]
      simp only [hq', h₂']
  have e₁ : ∀ j, (∑ d, q d * k₁ j d) * (f : EReal) = (((∑ d, q' d * k₁' j d) * f : ℝ) : EReal) := fun j => by
    rw [← dot_coe]; simp only [hq', h₁']
  have e₂ : ∀ j, (∑ d, q d * k₂ j d) * (f : EReal) = (((∑ d, q' d * k₂' j d) * f : ℝ) : EReal) := fun j => by
    rw [← dot_coe]; simp only [hq', h₂']
  simp only [e, e₁, e₂]
  refine online_eq_softmax ha hb _ _ v₁ v₂ _ v (fun j => ?_) (fun j => ?_) hv₁ hv₂
  · rw [Fin.addCases_left, hc, mul_assoc]
  · rw [Fin.addCases_right, hc, mul_assoc]

/-- The bit pattern of `+∞`. -/
theorem posInf : Ideal.ofBits .f32 0x7F800000#32 = ⊤ := by simp [Ideal.ofBits, Ideal.ieee]

/-- An entry that passes the precondition's comparison is a real. -/
theorem entry_real {s u : Shape} (x : FVec Ideal s .f32) (f : Fin u.rank → Fin s.rank) (h : u.BroadcastsInDim s f) (i : s.Idx)
    (hx : cmpf .olt (Host.absf x) (broadcastInDim s f h (constant u .f32 0x7F800000#32)) i = 1#1) : ∃ r : ℝ, x i = r := by
  refine real_of_cmp (x i) ?_
  rw [← posInf]
  exact hx

end Cert.Attn

end
-- ==== Proof.Attn.Online.lean ====
module

public import proofs.«01_k».proof.Proof.Attn.Softmax
public import Idealize.ShloMosaic.Lib.Pointwise

/-! One step of the running softmax on whole vectors, read at an index: a row of the new maximum, of the
new sum and of the new accumulator is `stepMax`, `stepSum`, `stepAcc` of the row's scores. The sizes are
arbitrary, so that both attention kernels read their steps by these theorems. -/

@[expose] public section

set_option maxRecDepth 16384

noncomputable section

namespace Cert.Attn

open Idealize.ShloMosaic Idealize.ShloMosaic.TcCoe Idealize.SL.Sem

variable {a b n : ℕ}

/-- The bit pattern of negative infinity is the bottom of the extended reals. -/
theorem negInf : Ideal.ofBits .f32 0xFF800000#32 = ⊥ := by simp [Ideal.ofBits, Ideal.ieee]

/-- A quotient of vectors, read at an index. -/
theorem quot_apply {s : Shape} (x y : FVec Ideal s .f32) (i : s.Idx) : divf x y i = Ideal.div (x i) (y i) := rfl

/-- The greater of two vectors, read at an index. -/
theorem greater_apply {s : Shape} (x y : FVec Ideal s .f32) (i : s.Idx) : maximumf x y i = max (x i : EReal) (y i) := rfl

/-- The exponential of a difference, read at an index. -/
theorem expSub_apply {s : Shape} (x y : FVec Ideal s .f32) (i : s.Idx) : Host.exp (subf x y) i = Ideal.exp (x i - y i) := rfl

/-- One number spread over a vector, read at an index. -/
theorem spreadConst_apply {s u : Shape} (d : Fin u.rank → Fin s.rank) (h) (b : BitVec 32) (i : s.Idx) :
    broadcastInDim s d h (constant (F := Ideal) u .f32 b) i = Ideal.ofBits .f32 b := rfl

/-- A row's maximum, started from negative infinity, is the largest entry of the row. -/
theorem rowMax (v : FVec Ideal ⟨2, ![a, b]⟩ .f32) (h : (⟨2, ![a, b]⟩ : Shape).Reduces [1] ⟨1, ![a]⟩) (hφ) (hacc) (r : Fin a) :
    multiReduction .maximumf [1] ⟨1, ![a]⟩ v 0xFF800000#32 h hφ hacc (ix1 r) = top fun k => v (ix2 r k) := by
  rw [multiReduction_maximumf_eq_fold, Shape.Reduces.fold_fiber_r2_a1]
  unfold top
  rw [← negInf]
  rfl

/-- A row's sum, started from zero, is the sum of the row's entries. -/
theorem rowSum (v : FVec Ideal ⟨2, ![a, b]⟩ .f32) (h : (⟨2, ![a, b]⟩ : Shape).Reduces [1] ⟨1, ![a]⟩) (hφ) (hacc) (r : Fin a) :
    multiReduction .add [1] ⟨1, ![a]⟩ v 0x00000000#32 h hφ hacc (ix1 r) = ∑ k, v (ix2 r k) := by
  rw [multiReduction_add_apply, Ideal.reduceAdd_def, Ideal.reduceAdd_r2_a1]
  rfl

/-- A host reduction over the last of four axes by the maximum, started from negative infinity. -/
theorem hostMax4 {d e f g : ℕ} {u : Shape} (s : FVec Ideal ⟨4, ![d, e, f, g]⟩ .f32) (h : (⟨4, ![d, e, f, g]⟩ : Shape).ReducesTo [3] ⟨3, ![d, e, f]⟩)
    (hu : 0 < u.numel) (i : Fin d) (j : Fin e) (k : Fin f) :
    Host.reduce FloatOps.maximumf s (constant u .f32 0xFF800000#32) h hu (ix3 i j k) = top fun l => s (ix4 i j k l) := by
  rw [Host.reduce_eq_fold, Shape.ReducesTo.fold_fiber_r4_a3]
  unfold top
  rw [← negInf]
  rfl

/-- A host reduction over the last of five axes by the maximum, started from negative infinity. -/
theorem hostMax5 {d e f g n : ℕ} {u : Shape} (s : FVec Ideal ⟨5, ![d, e, f, g, n]⟩ .f32)
    (h : (⟨5, ![d, e, f, g, n]⟩ : Shape).ReducesTo [4] ⟨4, ![d, e, f, g]⟩)
    (hu : 0 < u.numel) (i : Fin d) (j : Fin e) (k : Fin f) (l : Fin g) :
    Host.reduce FloatOps.maximumf s (constant u .f32 0xFF800000#32) h hu (ix4 i j k l) = top fun o => s (ix5 i j k l o) := by
  rw [Host.reduce_eq_fold, Shape.ReducesTo.fold_fiber_r5_a4]
  unfold top
  rw [← negInf]
  rfl

/-- A vector of length `a` cast to one column, read in row `r`. -/
theorem colCast {α : Type} (x : (⟨1, ![a]⟩ : Shape).Idx → α) (h : (⟨1, ![a]⟩ : Shape).ShapeCasts ⟨2, ![a, 1]⟩) (r : Fin a) (u : Fin 1) :
    shapeCast ⟨2, ![a, 1]⟩ x h (ix2 r u) = x (ix1 r) := by
  have hk : ((⟨1, ![a]⟩ : Shape).rowMajor (ix1 r)).val = ((⟨2, ![a, 1]⟩ : Shape).rowMajor (ix2 r u)).val := by
    rw [Shape.rowMajor_val_one, Shape.rowMajor_val_two]
    obtain rfl : u = 0 := Subsingleton.elim _ _
    show r.val = r.val * 1 + 0
    omega
  unfold shapeCast
  exact congrArg x (Shape.reshapeEquiv_eq_of_rowMajor h hk)

/-- One column spread over `b` columns, read in row `r`. -/
theorem colSpread {α : Type} (x : (⟨2, ![a, 1]⟩ : Shape).Idx → α) (h : (⟨2, ![a, 1]⟩ : Shape).Broadcasts ⟨2, ![a, b]⟩) (r : Fin a) (k : Fin b) :
    broadcastTo ⟨2, ![a, b]⟩ x h (ix2 r k) = x (ix2 r 0) := by
  pointwise
  refine congrArg x (funext fun i => ?_)
  match i with
  | ⟨0, _⟩ =>
    by_cases h1 : a = 1
    · subst h1; exact Subsingleton.elim (α := Fin 1) _ _
    · simp [Shape.Idx.norm, ix2, h1]
      rfl
  | ⟨1, _⟩ => exact Subsingleton.elim (α := Fin 1) _ _

/-- The new maximum of a row. -/
theorem stepMax_apply (m : FVec Ideal ⟨2, ![a, 1]⟩ .f32) (s : FVec Ideal ⟨2, ![a, b]⟩ .f32)
    (h : (⟨2, ![a, b]⟩ : Shape).Reduces [1] ⟨1, ![a]⟩) (hφ) (hacc) (hc : (⟨1, ![a]⟩ : Shape).ShapeCasts ⟨2, ![a, 1]⟩) (r : Fin a) (u : Fin 1) :
    maximumf m (shapeCast ⟨2, ![a, 1]⟩ (multiReduction .maximumf [1] ⟨1, ![a]⟩ s 0xFF800000#32 h hφ hacc) hc) (ix2 r u) =
      stepMax (m (ix2 r 0)) fun k => s (ix2 r k) := by
  obtain rfl : u = 0 := Subsingleton.elim _ _
  unfold stepMax
  have e := colCast (multiReduction .maximumf [1] ⟨1, ![a]⟩ s 0xFF800000#32 h hφ hacc) hc r 0
  rw [rowMax] at e
  exact congrArg (fun x : EReal => max (m (ix2 r 0)) x) e

/-- The new sum of a row, from the old maximum `m`, the new maximum `m'` and the old sum `l`. -/
theorem stepSum_apply (m m' l : FVec Ideal ⟨2, ![a, 1]⟩ .f32) (s : FVec Ideal ⟨2, ![a, b]⟩ .f32)
    (h : (⟨2, ![a, b]⟩ : Shape).Reduces [1] ⟨1, ![a]⟩) (hφ) (hacc) (hc : (⟨1, ![a]⟩ : Shape).ShapeCasts ⟨2, ![a, 1]⟩)
    (hb : (⟨2, ![a, 1]⟩ : Shape).Broadcasts ⟨2, ![a, b]⟩) (r : Fin a) (u : Fin 1)
    (hm : m' (ix2 r 0) = stepMax (m (ix2 r 0)) fun k => s (ix2 r k)) :
    addf (mulf (exp2 (subf m m')) l)
        (shapeCast ⟨2, ![a, 1]⟩ (multiReduction .add [1] ⟨1, ![a]⟩ (exp2 (subf s (broadcastTo ⟨2, ![a, b]⟩ m' hb))) 0x00000000#32 h hφ hacc) hc)
        (ix2 r u) =
      stepSum (m (ix2 r 0)) (l (ix2 r 0)) fun k => s (ix2 r k) := by
  obtain rfl : u = 0 := Subsingleton.elim _ _
  have e := colCast (multiReduction .add [1] ⟨1, ![a]⟩ (exp2 (subf s (broadcastTo ⟨2, ![a, b]⟩ m' hb))) 0x00000000#32 h hφ hacc) hc r 0
  rw [rowSum] at e
  unfold stepSum
  rw [← hm]
  refine congrArg₂ (fun x y : EReal => x + y) rfl (e.trans (Finset.sum_congr rfl fun k _ => ?_))
  exact congrArg (fun x : EReal => Ideal.exp2 (s (ix2 r k) - x)) (colSpread m' hb r k)

/-- The new accumulator of a row in column `j`, from the old maximum `m`, the new maximum `m'` and the old
    accumulator `acc`, given that the product with the values is a sum over the keys. -/
theorem stepAcc_apply (m m' : FVec Ideal ⟨2, ![a, 1]⟩ .f32) (acc : FVec Ideal ⟨2, ![a, n]⟩ .f32) (s : FVec Ideal ⟨2, ![a, b]⟩ .f32)
    (hb : (⟨2, ![a, 1]⟩ : Shape).Broadcasts ⟨2, ![a, b]⟩) (hb' : (⟨2, ![a, 1]⟩ : Shape).Broadcasts ⟨2, ![a, n]⟩)
    (ht) (prod : FVec Ideal ⟨2, ![a, b]⟩ .bf16 → FVec Ideal ⟨2, ![a, n]⟩ .f32) (v : Fin b → EReal) (r : Fin a) (j : Fin n)
    (hp : ∀ p, prod p (ix2 r j) = ∑ k, (p (ix2 r k) : EReal) * v k)
    (hm : m' (ix2 r 0) = stepMax (m (ix2 r 0)) fun k => s (ix2 r k)) :
    addf (mulf (broadcastTo ⟨2, ![a, n]⟩ (exp2 (subf m m')) hb') acc)
        (prod (truncf .bf16 (exp2 (subf s (broadcastTo ⟨2, ![a, b]⟩ m' hb))) ht)) (ix2 r j) =
      stepAcc (m (ix2 r 0)) (acc (ix2 r j)) (fun k => s (ix2 r k)) v := by
  unfold stepAcc
  rw [← hm]
  refine congrArg₂ (fun x y : EReal => x + y) ?_ ((hp _).trans (Finset.sum_congr rfl fun k _ => ?_))
  · exact congrArg (fun x : EReal => x * acc (ix2 r j)) (colSpread (exp2 (subf m m')) hb' r j)
  · exact congrArg (fun x : EReal => Ideal.exp2 (s (ix2 r k) - x) * v k) (colSpread m' hb r k)

end Cert.Attn

end
-- ==== Proof.Attn.WideBlock.lean ====
module

public import proofs.«01_k».proof.Proof.Attn.Online
public import proofs.«01_k».proof.Proof.Gen.KernelIdeal.Value
public import Idealize.ShloMosaic.Lib.Pipeline.ValueKit
public import Idealize.ShloMosaic.Lib.Pointwise

/-! What one grid point of the wide attention kernel leaves in its output block, read at an index: every
row and column is the running softmax (`online`) of the block's scores, the left 64 columns from the first
head of the pair and the right 64 from the second. -/

@[expose] public section

set_option maxRecDepth 16384

noncomputable section

namespace Cert.Attn.Wide

open Cert.KernelIdeal Cert.KernelIdeal.Gen Idealize.ShloMosaic Idealize.ShloMosaic.TcCoe Idealize.SL.Sem

/-- The factor of the scores: one over the root of 96, one over the logarithm of 2. -/
def factor : EReal := (((Real.sqrt 96)⁻¹ * (Real.log 2)⁻¹ : ℝ) : EReal)

/-- The named constant is the factor. -/
theorem named_factor : Named.named (F := Ideal) κ "scale_log2e" (φ := .f32) 0x3E16C740#32 = factor :=
  IdealRules.named_const.ideal_named_scalar _ _ _ _ rfl

/-- The scores against the latent keys. -/
theorem latScore_apply (q : FVec Ideal S1024x128 .bf16) (k : Vec Ideal S4096x128 .bf16) (r : Fin 1024) (j : Fin 4096) :
    k0_pay14 q k (ix2 r j) = (∑ d : Fin 128, q (ix2 r d) * k (ix2 j d)) * factor := by
  rw [← named_factor]
  pointwise [k0_pay14]

/-- The scores against the context keys. -/
theorem ctxScore_apply (q : FVec Ideal S1024x128 .bf16) (k : Vec Ideal S256x128 .bf16) (r : Fin 1024) (j : Fin 256) :
    k0_pay20 q k (ix2 r j) = (∑ d : Fin 128, q (ix2 r d) * k (ix2 j d)) * factor := by
  rw [← named_factor]
  pointwise [k0_pay20]

/-- The product of weights with latent values, as the kernel takes it. -/
def prod1 (v : FVec Ideal S4096x128 .bf16) (p : FVec Ideal S1024x4096 .bf16) : FVec Ideal S1024x128 .f32 :=
  matmul dot_S1024x4096_S4096x128_S1024x128_1_0_0_1_n_n none p (shapeCast S4096x128 v shapeCasts_S4096x128_S4096x128)
    (constant S1024x128 .f32 0x00000000#32)

/-- The product of weights with context values, as the kernel takes it. -/
def prod2 (v : FVec Ideal S256x128 .bf16) (p : FVec Ideal S1024x256 .bf16) : FVec Ideal S1024x128 .f32 :=
  matmul dot_S1024x256_S256x128_S1024x128_1_0_0_1_n_n none p (shapeCast S256x128 v shapeCasts_S256x128_S256x128)
    (constant S1024x128 .f32 0x00000000#32)

/-- The product of the weights with the latent values. -/
theorem prod1_apply (p : FVec Ideal S1024x4096 .bf16) (v : Vec Ideal S4096x128 .bf16) (r : Fin 1024) (l : Fin 128) :
    prod1 v p (ix2 r l) = ∑ k : Fin 4096, p (ix2 r k) * v (ix2 k l) := by
  pointwise [prod1]

/-- The product of the weights with the context values. -/
theorem prod2_apply (p : FVec Ideal S1024x256 .bf16) (v : Vec Ideal S256x128 .bf16) (r : Fin 1024) (l : Fin 128) :
    prod2 v p (ix2 r l) = ∑ k : Fin 256, p (ix2 r k) * v (ix2 k l) := by
  pointwise [prod2]

/-- The running maximum after the latent piece. -/
theorem latMax_apply (q : FVec Ideal S1024x128 .bf16) (m : FVec Ideal S1024x1 .f32) (k : Vec Ideal S4096x128 .bf16) (r : Fin 1024) (u : Fin 1) :
    k0_pay15 q m k (ix2 r u) = stepMax (m (ix2 r 0)) fun j => k0_pay14 q k (ix2 r j) :=
  stepMax_apply m (k0_pay14 q k) _ _ _ _ r u

/-- The running sum after the latent piece. -/
theorem latSum_apply (q : FVec Ideal S1024x128 .bf16) (m l : FVec Ideal S1024x1 .f32) (k : Vec Ideal S4096x128 .bf16) (r : Fin 1024) (u : Fin 1) :
    k0_pay18 q m l k (ix2 r u) = stepSum (m (ix2 r 0)) (l (ix2 r 0)) fun j => k0_pay14 q k (ix2 r j) :=
  stepSum_apply m (k0_pay15 q m k) l (k0_pay14 q k) _ _ _ _ _ r u (latMax_apply q m k r 0)

/-- The running product after the latent piece. -/
theorem latAcc_apply (q : FVec Ideal S1024x128 .bf16) (m : FVec Ideal S1024x1 .f32) (a : FVec Ideal S1024x128 .f32) (k v : Vec Ideal S4096x128 .bf16)
    (r : Fin 1024) (l : Fin 128) :
    k0_pay19 q m a k v (ix2 r l) =
      stepAcc (m (ix2 r 0)) (a (ix2 r l)) (fun j => k0_pay14 q k (ix2 r j)) fun j => v (ix2 j l) :=
  stepAcc_apply m (k0_pay15 q m k) a (k0_pay14 q k) broadcasts_S1024x1_S1024x4096 broadcasts_S1024x1_S1024x128 bitsLt_bf16_f32
    (prod1 v) (fun j => v (ix2 j l)) r l (fun p => prod1_apply p v r l) (latMax_apply q m k r 0)

/-- The running maximum after the context piece. -/
theorem ctxMax_apply (q : FVec Ideal S1024x128 .bf16) (m : FVec Ideal S1024x1 .f32) (k : Vec Ideal S256x128 .bf16) (r : Fin 1024) (u : Fin 1) :
    k0_pay21 q m k (ix2 r u) = stepMax (m (ix2 r 0)) fun j => k0_pay20 q k (ix2 r j) :=
  stepMax_apply m (k0_pay20 q k) _ _ _ _ r u

/-- The running sum after the context piece. -/
theorem ctxSum_apply (q : FVec Ideal S1024x128 .bf16) (m l : FVec Ideal S1024x1 .f32) (k : Vec Ideal S256x128 .bf16) (r : Fin 1024) (u : Fin 1) :
    k0_pay24 q m l k (ix2 r u) = stepSum (m (ix2 r 0)) (l (ix2 r 0)) fun j => k0_pay20 q k (ix2 r j) :=
  stepSum_apply m (k0_pay21 q m k) l (k0_pay20 q k) _ _ _ _ _ r u (ctxMax_apply q m k r 0)

/-- The running product after the context piece, as the kernel takes it. -/
def ctxAcc (q : FVec Ideal S1024x128 .bf16) (m : FVec Ideal S1024x1 .f32) (a : FVec Ideal S1024x128 .f32) (k v : Vec Ideal S256x128 .bf16) :
    FVec Ideal S1024x128 .f32 :=
  addf (k0_pay25 q m a k) (prod2 v (k0_pay26 q m k))

/-- The running product after the context piece. -/
theorem ctxAcc_apply (q : FVec Ideal S1024x128 .bf16) (m : FVec Ideal S1024x1 .f32) (a : FVec Ideal S1024x128 .f32) (k v : Vec Ideal S256x128 .bf16)
    (r : Fin 1024) (l : Fin 128) :
    ctxAcc q m a k v (ix2 r l) =
      stepAcc (m (ix2 r 0)) (a (ix2 r l)) (fun j => k0_pay20 q k (ix2 r j)) fun j => v (ix2 j l) :=
  stepAcc_apply m (k0_pay21 q m k) a (k0_pay20 q k) broadcasts_S1024x1_S1024x256 broadcasts_S1024x1_S1024x128 bitsLt_bf16_f32
    (prod2 v) (fun j => v (ix2 j l)) r l (fun p => prod2_apply p v r l) (ctxMax_apply q m k r 0)

/-- The running maximum starts at negative infinity. -/
theorem start_max (r : Fin 1024) (u : Fin 1) : k0_pay5 (F := Ideal) (ix2 r u) = ⊥ := negInf

/-- The running sum starts at zero. -/
theorem start_sum (r : Fin 1024) (u : Fin 1) : k0_pay6 (F := Ideal) (ix2 r u) = 0 := by
  pointwise [k0_pay6]

/-- The running product starts at zero. -/
theorem start_acc (r : Fin 1024) (l : Fin 128) : k0_pay7 (F := Ideal) (ix2 r l) = 0 := by
  pointwise [k0_pay7]

/-- One head's quotient: its running product over its running sum after both pieces. -/
def head (q : FVec Ideal S1024x128 .bf16) (k₁ v₁ : Vec Ideal S4096x128 .bf16) (k₂ v₂ : Vec Ideal S256x128 .bf16) : FVec Ideal S1024x128 .f32 :=
  divf (ctxAcc q (k0_pay15 q k0_pay5 k₁) (k0_pay19 q k0_pay5 k0_pay7 k₁ v₁) k₂ v₂)
    (broadcastTo S1024x128 (k0_pay24 q (k0_pay15 q k0_pay5 k₁) (k0_pay18 q k0_pay5 k0_pay6 k₁) k₂) broadcasts_S1024x1_S1024x128)

/-- One head's quotient is the running softmax of its scores. -/
theorem head_apply (q : FVec Ideal S1024x128 .bf16) (k₁ v₁ : Vec Ideal S4096x128 .bf16) (k₂ v₂ : Vec Ideal S256x128 .bf16)
    (r : Fin 1024) (l : Fin 128) :
    head q k₁ v₁ k₂ v₂ (ix2 r l) =
      online (fun k => (∑ d : Fin 128, q (ix2 r d) * k₁ (ix2 k d)) * factor)
        (fun k => (∑ d : Fin 128, q (ix2 r d) * k₂ (ix2 k d)) * factor) (fun k => v₁ (ix2 k l)) fun k => v₂ (ix2 k l) := by
  have ea := ctxAcc_apply q (k0_pay15 q k0_pay5 k₁) (k0_pay19 q k0_pay5 k0_pay7 k₁ v₁) k₂ v₂ r l
  have es := (colSpread (k0_pay24 q (k0_pay15 q k0_pay5 k₁) (k0_pay18 q k0_pay5 k0_pay6 k₁) k₂) broadcasts_S1024x1_S1024x128 r l).trans
    (ctxSum_apply q (k0_pay15 q k0_pay5 k₁) (k0_pay18 q k0_pay5 k0_pay6 k₁) k₂ r 0)
  unfold head
  rw [quot_apply, ea, es]
  rw [latMax_apply, latSum_apply, latAcc_apply]
  simp only [start_max, start_sum, start_acc, latScore_apply, ctxScore_apply]
  rfl

/-- The lane test: lane `l` is below 64. -/
theorem lane_lt : ∀ l : Fin 128, IntOp.cmpi .slt (BitVec.ofNat 32 l.val) 64#32 = if l.val < 64 then 1#1 else 0#1 := by
  decide +kernel

/-- The choice by the lane of the quotient of one head or of the other. -/
theorem choose_apply (x y : FVec Ideal S1024x128 .f32) (r : Fin 1024) (l : Fin 128) :
    truncf .bf16 (select (broadcastTo S1024x128 (shapeCast S1x128 (cmpi .slt (iota .tc S1x128 32 [1] iota_S1x128_d1_w32)
        (broadcast S1x128 64#32)) shapeCasts_S1x128_S1x128) broadcasts_S1x128_S1024x128) x y) bitsLt_bf16_f32 (ix2 r l) =
      if l.val < 64 then x (ix2 r l) else y (ix2 r l) := by
  pointwise
  rw [lane_lt]
  split <;> rfl

/-- The block's last value: the first head's quotient in the left lanes, the second's in the right lanes. -/
theorem last_apply (q q' : Vec Ideal S1024x128 .bf16) (k k' v v' : Vec Ideal S4096x128 .bf16) (kc kc' vc vc' : Vec Ideal S256x128 .bf16)
    (r : Fin 1024) (j : Fin 128) :
    k0_pay1 (iota .tc S1x128 32 [1] iota_S1x128_d1_w32) (k0_pay3 q') (k0_pay15 (k0_pay3 q') k0_pay5 k')
        (k0_pay18 (k0_pay3 q') k0_pay5 k0_pay6 k') (k0_pay19 (k0_pay3 q') k0_pay5 k0_pay7 k' v')
        (k0_pay24 (k0_pay2 q) (k0_pay9 q k) (k0_pay12 q k) kc) (k0_pay25 (k0_pay2 q) (k0_pay9 q k) (k0_pay13 q k v) kc)
        (k0_pay26 (k0_pay2 q) (k0_pay9 q k) kc) (k0_pay27 vc) kc' vc' (ix2 r j) =
      if j.val < 64 then head (k0_pay2 q) k v kc vc (ix2 r j) else head (k0_pay3 q') k' v' kc' vc' (ix2 r j) :=
  choose_apply (head (k0_pay2 q) k v kc vc) (head (k0_pay3 q') k' v' kc' vc') r j

/-- What the body leaves at row `r` and lane `l` of its output block: the running softmax of the scores of the head
    `l / 64` of the pair, whose queries and keys lie in the block's columns from `128 * (l / 64)` on. -/
theorem block_apply (c : Dev nD) (i : grid0.Coords) (arg3 : Memref sig .tc .vmem S1024x256 .bf16) (harg3 : arg3.IsWhole)
    (arg4 : Memref sig .tc .vmem S4096x256 .bf16) (harg4 : arg4.IsWhole) (arg5 : Memref sig .tc .vmem S256x256 .bf16) (harg5 : arg5.IsWhole)
    (arg6 : Memref sig .tc .vmem S4096x128 .bf16) (harg6 : arg6.IsWhole) (arg7 : Memref sig .tc .vmem S256x128 .bf16) (harg7 : arg7.IsWhole)
    (arg8 : Memref sig .tc .vmem S1024x128 .bf16) (harg8 : arg8.IsWhole)
    (x0 : Vec Ideal S1024x256 .bf16) (x1 : Vec Ideal S4096x256 .bf16) (x2 : Vec Ideal S256x256 .bf16) (x3 : Vec Ideal S4096x128 .bf16)
    (x4 : Vec Ideal S256x128 .bf16) (r : Fin 1024) (l : Fin 128) :
    out0_A_5 c i arg3 harg3 arg4 harg4 arg5 harg5 arg6 harg6 arg7 harg7 arg8 harg8 x0 x1 x2 x3 x4 (ix2 r l) =
      online
        (fun k => (∑ d : Fin 128, x0 (ix2 r ⟨128 * (l.val / 64) + d.val, by omega⟩) * x1 (ix2 k ⟨128 * (l.val / 64) + d.val, by omega⟩)) * factor)
        (fun k => (∑ d : Fin 128, x0 (ix2 r ⟨128 * (l.val / 64) + d.val, by omega⟩) * x2 (ix2 k ⟨128 * (l.val / 64) + d.val, by omega⟩)) * factor)
        (fun k => x3 (ix2 k l)) fun k => x4 (ix2 k l) := by
  frame_out
  rw [last_apply]
  by_cases hl : l.val < 64
  · have e : l.val / 64 = 0 := by omega
    rw [if_pos hl, head_apply]
    simp only [e]
    pointwise [k0_pay2]
  · have e : l.val / 64 = 1 := by omega
    rw [if_neg hl, head_apply]
    simp only [e]
    pointwise [k0_pay3]

end Cert.Attn.Wide

end
-- ==== Proof.Attn.WideArray.lean ====
module

public import proofs.«01_k».proof.Proof.Attn.WideBlock

/-! The wide attention's output array after the run: at every row and column the running softmax of the scores,
over the arrays of queries, keys and values that the call reads. -/

@[expose] public section

set_option maxRecDepth 16384

noncomputable section

namespace Cert.Attn.Wide

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's padded queries, as its call finds them. -/
def Q : S17408x1024.Idx → EReal := V m c main_v4
/-- The padded keys: the latent rows of all sequences, then the context rows. -/
def K : S17408x1024.Idx → EReal := V m c main_v10
/-- The values, in the keys' row order. -/
def W : S17408x512.Idx → EReal := V m c main_v16

/-- Where each window's block lies at grid point `t`. -/
theorem idx : ∀ t : Fin cfg0.N,
    win0_0.index t = ![4 * (t.val / 16) + t.val % 4, t.val / 4 % 4] ∧
    win0_1.index t = ![t.val / 16, t.val / 4 % 4] ∧
    win0_2.index t = ![64 + t.val / 16, t.val / 4 % 4] ∧
    win0_3.index t = ![t.val / 16, t.val / 4 % 4] ∧
    win0_4.index t = ![64 + t.val / 16, t.val / 4 % 4] ∧
    win0_5.index t = ![4 * (t.val / 16) + t.val % 4, t.val / 4 % 4] := by
  decide +kernel

/-- The result at row `R` and column `C`: the running softmax of the scores of row `R` and head `C / 64` against the
    latent and the context rows of the same sequence `R / 4096`. -/
def resultAt (R : Fin 16384) (C : Fin 512) : EReal :=
  online
    (fun k : Fin 4096 => (∑ d : Fin 128,
      Q m c (ix2 (⟨R.val, by omega⟩ : Fin 17408) (⟨128 * (C.val / 64) + d.val, by omega⟩ : Fin 1024)) *
      K m c (ix2 (⟨4096 * (R.val / 4096) + k.val, by omega⟩ : Fin 17408) (⟨128 * (C.val / 64) + d.val, by omega⟩ : Fin 1024))) * factor)
    (fun k : Fin 256 => (∑ d : Fin 128,
      Q m c (ix2 (⟨R.val, by omega⟩ : Fin 17408) (⟨128 * (C.val / 64) + d.val, by omega⟩ : Fin 1024)) *
      K m c (ix2 (⟨16384 + 256 * (R.val / 4096) + k.val, by omega⟩ : Fin 17408) (⟨128 * (C.val / 64) + d.val, by omega⟩ : Fin 1024))) * factor)
    (fun k : Fin 4096 => W m c (ix2 (⟨4096 * (R.val / 4096) + k.val, by omega⟩ : Fin 17408) C))
    (fun k : Fin 256 => W m c (ix2 (⟨16384 + 256 * (R.val / 4096) + k.val, by omega⟩ : Fin 17408) C))

/-- The kernel's result array. -/
def result (i : S16384x512.Idx) : EReal := resultAt m c (i 0) (i 1)

/-- The grid has 64 points. -/
theorem tN (t : Fin cfg0.N) : t.val < 64 := t.isLt

/-- The query block of point `t`, read from the query array. -/
theorem query_apply (t : Fin cfg0.N) (r : Fin 1024) (e : Fin 256) :
    iblk m c 0 t (ix2 r e) = Q m c (ix2 (⟨1024 * (4 * (t.val / 16) + t.val % 4) + r.val, by have := tN t; omega⟩ : Fin 17408)
      (⟨256 * (t.val / 4 % 4) + e.val, by omega⟩ : Fin 1024)) := by
  blk_ext [iblk, Q, idx t]

/-- The latent key block of point `t`, read from the key array. -/
theorem latKey_apply (t : Fin cfg0.N) (k : Fin 4096) (e : Fin 256) :
    X0_1 m c t (ix2 k e) = K m c (ix2 (⟨4096 * (t.val / 16) + k.val, by have := tN t; omega⟩ : Fin 17408)
      (⟨256 * (t.val / 4 % 4) + e.val, by omega⟩ : Fin 1024)) := by
  unfold X0_1 Pipeline.Window.fill
  rw [dif_pos (moved0_1 t _)]
  blk_ext [iblk, K, idx t]

/-- The context key block of point `t`, read from the key array. -/
theorem ctxKey_apply (t : Fin cfg0.N) (k : Fin 256) (e : Fin 256) :
    iblk m c 2 t (ix2 k e) = K m c (ix2 (⟨16384 + 256 * (t.val / 16) + k.val, by have := tN t; omega⟩ : Fin 17408)
      (⟨256 * (t.val / 4 % 4) + e.val, by omega⟩ : Fin 1024)) := by
  blk_ext [iblk, K, idx t]

/-- The latent value block of point `t`, read from the value array. -/
theorem latVal_apply (t : Fin cfg0.N) (k : Fin 4096) (l : Fin 128) :
    X0_3 m c t (ix2 k l) = W m c (ix2 (⟨4096 * (t.val / 16) + k.val, by have := tN t; omega⟩ : Fin 17408)
      (⟨128 * (t.val / 4 % 4) + l.val, by omega⟩ : Fin 512)) := by
  unfold X0_3 Pipeline.Window.fill
  rw [dif_pos (moved0_3 t _)]
  blk_ext [iblk, W, idx t]

/-- The context value block of point `t`, read from the value array. -/
theorem ctxVal_apply (t : Fin cfg0.N) (k : Fin 256) (l : Fin 128) :
    iblk m c 4 t (ix2 k l) = W m c (ix2 (⟨16384 + 256 * (t.val / 16) + k.val, by have := tN t; omega⟩ : Fin 17408)
      (⟨128 * (t.val / 4 % 4) + l.val, by omega⟩ : Fin 512)) := by
  blk_ext [iblk, W, idx t]

/-- Where row `r` and lane `l` of point `t`'s output block lie in the result. -/
theorem place (t : Fin cfg0.N) (r : Fin 1024) (l : Fin 128) :
    ((View.whole main_v17).slice (win0_5.rect t)).emb (ix2 r l) =
      ix2 (⟨1024 * (4 * (t.val / 16) + t.val % 4) + r.val, by have := tN t; omega⟩ : Fin 16384)
        (⟨128 * (t.val / 4 % 4) + l.val, by omega⟩ : Fin 512) := by
  blk_ext [idx t]

/-- The running softmax of point `t`'s blocks at row `r` and lane `l` is the result where the block lies. -/
theorem resultAt_eq (t : Fin cfg0.N) (r : Fin 1024) (l : Fin 128) (R : Fin 16384) (C : Fin 512)
    (hR : R.val = 1024 * (4 * (t.val / 16) + t.val % 4) + r.val) (hC : C.val = 128 * (t.val / 4 % 4) + l.val)
    (x0 : Vec Ideal S1024x256 .bf16) (x1 : Vec Ideal S4096x256 .bf16) (x2 : Vec Ideal S256x256 .bf16) (x3 : Vec Ideal S4096x128 .bf16)
    (x4 : Vec Ideal S256x128 .bf16) (h0 : x0 = iblk m c 0 t) (h1 : x1 = X0_1 m c t) (h2 : x2 = iblk m c 2 t) (h3 : x3 = X0_3 m c t)
    (h4 : x4 = iblk m c 4 t) :
    online
        (fun k => (∑ d : Fin 128, x0 (ix2 r ⟨128 * (l.val / 64) + d.val, by omega⟩) * x1 (ix2 k ⟨128 * (l.val / 64) + d.val, by omega⟩)) * factor)
        (fun k => (∑ d : Fin 128, x0 (ix2 r ⟨128 * (l.val / 64) + d.val, by omega⟩) * x2 (ix2 k ⟨128 * (l.val / 64) + d.val, by omega⟩)) * factor)
        (fun k => x3 (ix2 k l)) (fun k => x4 (ix2 k l)) = resultAt m c R C := by
  have ht := tN t
  have e0 : ∀ d : Fin 128, x0 (ix2 r ⟨128 * (l.val / 64) + d.val, by omega⟩) =
      Q m c (ix2 (⟨R.val, by omega⟩ : Fin 17408) (⟨128 * (C.val / 64) + d.val, by omega⟩ : Fin 1024)) := fun d => by
    rw [h0]; refine (query_apply m c t r _).trans (congrArg (Q m c) (congrArg₂ ix2 (Fin.ext ?_) (Fin.ext ?_))) <;> simp only <;> omega
  have e1 : ∀ (k : Fin 4096) (d : Fin 128), x1 (ix2 k ⟨128 * (l.val / 64) + d.val, by omega⟩) =
      K m c (ix2 (⟨4096 * (R.val / 4096) + k.val, by omega⟩ : Fin 17408) (⟨128 * (C.val / 64) + d.val, by omega⟩ : Fin 1024)) := fun k d => by
    rw [h1]; refine (latKey_apply m c t k _).trans (congrArg (K m c) (congrArg₂ ix2 (Fin.ext ?_) (Fin.ext ?_))) <;> simp only <;> omega
  have e2 : ∀ (k : Fin 256) (d : Fin 128), x2 (ix2 k ⟨128 * (l.val / 64) + d.val, by omega⟩) =
      K m c (ix2 (⟨16384 + 256 * (R.val / 4096) + k.val, by omega⟩ : Fin 17408) (⟨128 * (C.val / 64) + d.val, by omega⟩ : Fin 1024)) := fun k d => by
    rw [h2]; refine (ctxKey_apply m c t k _).trans (congrArg (K m c) (congrArg₂ ix2 (Fin.ext ?_) (Fin.ext ?_))) <;> simp only <;> omega
  have e3 : ∀ k : Fin 4096, x3 (ix2 k l) = W m c (ix2 (⟨4096 * (R.val / 4096) + k.val, by omega⟩ : Fin 17408) C) := fun k => by
    rw [h3]; refine (latVal_apply m c t k _).trans (congrArg (W m c) (congrArg₂ ix2 (Fin.ext ?_) (Fin.ext ?_))) <;> simp only <;> omega
  have e4 : ∀ k : Fin 256, x4 (ix2 k l) = W m c (ix2 (⟨16384 + 256 * (R.val / 4096) + k.val, by omega⟩ : Fin 17408) C) := fun k => by
    rw [h4]; refine (ctxVal_apply m c t k _).trans (congrArg (W m c) (congrArg₂ ix2 (Fin.ext ?_) (Fin.ext ?_))) <;> simp only <;> omega
  simp only [e0, e1, e2, e3, e4]
  rfl

/-- The output array after the run is the result: every block lies where the grid puts it and holds the running softmax. -/
theorem array_eq : (dats m 0 c).arrAt 5 cfg0.N = result m c := by
  refine (dats m 0 c).arrAt_eq_of_covers 5 _ (by decide +kernel) fun t hf y => ?_
  blk_simp
  rw [after0_5]
  unfold outsAt0
  idx_vars y
  rw [block_apply, place]
  exact resultAt_eq m c t y0 y1 _ _ rfl rfl _ _ _ _ _ rfl rfl rfl rfl rfl

end Cert.Attn.Wide

end
-- ==== Proof.Attn.WideHost.lean ====
module

public import proofs.«01_k».proof.Proof.Attn.WideArray
public import Idealize.ShloMosaic.Lib.StableHlo.RunRead

/-! The arrays the wide attention's call reads, as the host makes them of the arguments: the heads' columns padded
with zeros, the latent rows before the context rows. -/

@[expose] public section

set_option maxRecDepth 16384

noncomputable section

namespace Cert.Attn.Wide

open Cert.KernelIdeal Cert.KernelIdeal.Gen Idealize.ShloMosaic Idealize.ShloMosaic.TcCoe Idealize.SL.Sem

/-- The padding value. -/
def zero : FVec Ideal S_ .f32 := sitofp .f32 (constantI S_ 32 0#32)

/-- The latent rows of a query or key array, each head's 96 columns padded to 128. -/
def packLat (x : FVec Ideal S4x4096x8x96 .f32) : FVec Ideal S16384x1024 .f32 :=
  shapeCast S16384x1024 (pad S4x4096x8x128 ![0, 0, 0, 0] ![0, 0, 0, 32] ![0, 0, 0, 0] x zero pads_S4x4096x8x96_S4x4096x8x128_000_000_000_0320 h_S_)
    shapeCasts_S4x4096x8x128_S16384x1024

/-- The context rows of a key array, each head's 96 columns padded to 128. -/
def packCtx (x : FVec Ideal S4x256x8x96 .f32) : FVec Ideal S1024x1024 .f32 :=
  shapeCast S1024x1024 (pad S4x256x8x128 ![0, 0, 0, 0] ![0, 0, 0, 32] ![0, 0, 0, 0] x zero pads_S4x256x8x96_S4x256x8x128_000_000_000_0320 h_S_)
    shapeCasts_S4x256x8x128_S1024x1024

/-- The query array: the latent rows, then rows of zeros. -/
def packQ (x : FVec Ideal S4x4096x8x96 .f32) : FVec Ideal S17408x1024 .bf16 :=
  concatenate S17408x1024 0 [⟨S16384x1024, truncf .bf16 (packLat x) bitsLt_bf16_f32⟩,
    ⟨S1024x1024, broadcastInDim S1024x1024 ![] bcast_S_S1024x1024 (constant S_ .bf16 0x0000#16)⟩] concatenates_S16384x1024_S1024x1024_S17408x1024_d0

/-- The key array: the latent rows, then the context rows. -/
def packK (x : FVec Ideal S4x4096x8x96 .f32) (y : FVec Ideal S4x256x8x96 .f32) : FVec Ideal S17408x1024 .bf16 :=
  truncf .bf16 (concatenate S17408x1024 0 [⟨S16384x1024, packLat x⟩, ⟨S1024x1024, packCtx y⟩] concatenates_S16384x1024_S1024x1024_S17408x1024_d0)
    bitsLt_bf16_f32

/-- The latent rows of the value array. -/
def valLat (x : FVec Ideal S4x4096x8x64 .f32) : FVec Ideal S16384x512 .f32 :=
  shapeCast S16384x512 (pad S4x4096x8x64 ![0, 0, 0, 0] ![0, 0, 0, 0] ![0, 0, 0, 0] x zero pads_S4x4096x8x64_S4x4096x8x64_000_000_000_000 h_S_)
    shapeCasts_S4x4096x8x64_S16384x512

/-- The context rows of the value array. -/
def valCtx (y : FVec Ideal S4x256x8x64 .f32) : FVec Ideal S1024x512 .f32 :=
  shapeCast S1024x512 (pad S4x256x8x64 ![0, 0, 0, 0] ![0, 0, 0, 0] ![0, 0, 0, 0] y zero pads_S4x256x8x64_S4x256x8x64_000_000_000_000 h_S_)
    shapeCasts_S4x256x8x64_S1024x512

/-- The value array: the latent rows, then the context rows. -/
def packV (x : FVec Ideal S4x4096x8x64 .f32) (y : FVec Ideal S4x256x8x64 .f32) : FVec Ideal S17408x512 .bf16 :=
  truncf .bf16 (concatenate S17408x512 0 [⟨S16384x512, valLat x⟩, ⟨S1024x512, valCtx y⟩] concatenates_S16384x512_S1024x512_S17408x512_d0)
    bitsLt_bf16_f32

/-- The padding value is zero. -/
theorem zero_apply (i : S_.Idx) : zero i = (0 : EReal) := by
  show (((0#32).toInt : ℝ) : EReal) = 0
  simp

/-- A latent row's padded column. -/
theorem packLat_apply (x : FVec Ideal S4x4096x8x96 .f32) (b : Fin 4) (s : Fin 4096) (h : Fin 8) (d : Fin 128) :
    packLat x (ix2 (⟨4096 * b.val + s.val, by omega⟩ : Fin 16384) (⟨128 * h.val + d.val, by omega⟩ : Fin 1024)) =
      if hd : d.val < 96 then x (ix4 b s h ⟨d.val, hd⟩) else (0 : EReal) := by
  rw [← zero_apply (Shape.Idx.first h_S_)]
  pointwise [packLat]

/-- A context row's padded column. -/
theorem packCtx_apply (x : FVec Ideal S4x256x8x96 .f32) (b : Fin 4) (s : Fin 256) (h : Fin 8) (d : Fin 128) :
    packCtx x (ix2 (⟨256 * b.val + s.val, by omega⟩ : Fin 1024) (⟨128 * h.val + d.val, by omega⟩ : Fin 1024)) =
      if hd : d.val < 96 then x (ix4 b s h ⟨d.val, hd⟩) else (0 : EReal) := by
  rw [← zero_apply (Shape.Idx.first h_S_)]
  pointwise [packCtx]

/-- A latent row's value. -/
theorem valLat_apply (x : FVec Ideal S4x4096x8x64 .f32) (b : Fin 4) (s : Fin 4096) (h : Fin 8) (d : Fin 64) :
    valLat x (ix2 (⟨4096 * b.val + s.val, by omega⟩ : Fin 16384) (⟨64 * h.val + d.val, by omega⟩ : Fin 512)) = x (ix4 b s h d) := by
  pointwise [valLat]

/-- A context row's value. -/
theorem valCtx_apply (x : FVec Ideal S4x256x8x64 .f32) (b : Fin 4) (s : Fin 256) (h : Fin 8) (d : Fin 64) :
    valCtx x (ix2 (⟨256 * b.val + s.val, by omega⟩ : Fin 1024) (⟨64 * h.val + d.val, by omega⟩ : Fin 512)) = x (ix4 b s h d) := by
  pointwise [valCtx]

/-- The query array's upper rows. -/
theorem packQ_upper (x : FVec Ideal S4x4096x8x96 .f32) (R : Fin 16384) (C : Fin 1024) :
    packQ x (ix2 (⟨R.val, by omega⟩ : Fin 17408) C) = packLat x (ix2 R C) := by
  pointwise [packQ]

/-- The key array's upper rows. -/
theorem packK_upper (x : FVec Ideal S4x4096x8x96 .f32) (y : FVec Ideal S4x256x8x96 .f32) (R : Fin 16384) (C : Fin 1024) :
    packK x y (ix2 (⟨R.val, by omega⟩ : Fin 17408) C) = packLat x (ix2 R C) := by
  pointwise [packK]

/-- The key array's lower rows. -/
theorem packK_lower (x : FVec Ideal S4x4096x8x96 .f32) (y : FVec Ideal S4x256x8x96 .f32) (R : Fin 1024) (C : Fin 1024) :
    packK x y (ix2 (⟨16384 + R.val, by omega⟩ : Fin 17408) C) = packCtx y (ix2 R C) := by
  pointwise [packK]

/-- The value array's upper rows. -/
theorem packV_upper (x : FVec Ideal S4x4096x8x64 .f32) (y : FVec Ideal S4x256x8x64 .f32) (R : Fin 16384) (C : Fin 512) :
    packV x y (ix2 (⟨R.val, by omega⟩ : Fin 17408) C) = valLat x (ix2 R C) := by
  pointwise [packV]

/-- The value array's lower rows. -/
theorem packV_lower (x : FVec Ideal S4x4096x8x64 .f32) (y : FVec Ideal S4x256x8x64 .f32) (R : Fin 1024) (C : Fin 512) :
    packV x y (ix2 (⟨16384 + R.val, by omega⟩ : Fin 17408) C) = valCtx y (ix2 R C) := by
  pointwise [packV]

variable (m : (ℓ : Loc nD τ sig) → Buf (Elt Ideal) ℓ) (c : Dev nD)

/-- The call's query array is the packed queries. -/
theorem Q_eq : Q m c = packQ (m ((c.tc : Thread nD τ).loc main_arg0)) := by
  unfold Q
  unfold_abbrev_sides
  simp only [List.flatten_cons, List.flatten_nil, List.append_nil, List.cons_append, List.nil_append]
  after_reads_simp
  rfl

/-- The call's key array is the packed keys. -/
theorem K_eq : K m c = packK (m ((c.tc : Thread nD τ).loc main_arg1)) (m ((c.tc : Thread nD τ).loc main_arg3)) := by
  unfold K
  unfold_abbrev_sides
  simp only [List.flatten_cons, List.flatten_nil, List.append_nil, List.cons_append, List.nil_append]
  after_reads_simp
  rfl

/-- The call's value array is the packed values. -/
theorem W_eq : W m c = packV (m ((c.tc : Thread nD τ).loc main_arg2)) (m ((c.tc : Thread nD τ).loc main_arg4)) := by
  unfold W
  unfold_abbrev_sides
  simp only [List.flatten_cons, List.flatten_nil, List.append_nil, List.cons_append, List.nil_append]
  after_reads_simp
  rfl

end Cert.Attn.Wide

end
-- ==== Proof.Attn.WideReference.lean ====
module

public import proofs.«01_k».proof.Proof.Attn.Online
public import proofs.«01_k».proof.Proof.Gen.ReferenceIdeal.Run
public import Idealize.ShloMosaic.Lib.Pointwise

/-! The reference of the wide attention, read at an index: every entry of its result is the textbook
softmax attention (`softmax`) of one query row against all latent and context keys of its sequence. -/

@[expose] public section

set_option maxRecDepth 16384

noncomputable section

namespace Cert.Attn.WideReference

open Cert.ReferenceIdeal Cert.ReferenceIdeal.Gen Idealize.ShloMosaic Idealize.ShloMosaic.TcCoe Idealize.SL.Sem

/-- The latent keys followed by the context keys, per sequence. -/
def keys (k₁ : FVec Ideal S4x4096x8x96 .f32) (k₂ : FVec Ideal S4x256x8x96 .f32) : FVec Ideal S4x4352x8x96 .f32 :=
  concatenate S4x4352x8x96 1 [⟨S4x4096x8x96, k₁⟩, ⟨S4x256x8x96, k₂⟩] concatenates_S4x4096x8x96_S4x256x8x96_S4x4352x8x96_d1

/-- The latent values followed by the context values, per sequence. -/
def vals (v₁ : FVec Ideal S4x4096x8x64 .f32) (v₂ : FVec Ideal S4x256x8x64 .f32) : FVec Ideal S4x4352x8x64 .f32 :=
  concatenate S4x4352x8x64 1 [⟨S4x4096x8x64, v₁⟩, ⟨S4x256x8x64, v₂⟩] concatenates_S4x4096x8x64_S4x256x8x64_S4x4352x8x64_d1

/-- The scaled scores. -/
def scores (q : FVec Ideal S4x4096x8x96 .f32) (k : FVec Ideal S4x4352x8x96 .f32) : FVec Ideal S4x8x4096x4352 .f32 :=
  Host.divf (Host.dotGeneral dot_S4x4096x8x96_S4x4352x8x96_S4x8x4096x4352_3_3_1_1_02_02 none q k)
    (broadcastInDim S4x8x4096x4352 ![] bcast_S_S4x8x4096x4352 (Host.sqrt (constant S_ .f32 0x42C00000#32)))

/-- Each row's greatest score. -/
def tops (s : FVec Ideal S4x8x4096x4352 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4352_S4x8x4096_d3 h_S_)

/-- One number per row, spread over the row. -/
def spread (x : FVec Ideal S4x8x4096 .f32) : FVec Ideal S4x8x4096x4352 .f32 :=
  broadcastInDim S4x8x4096x4352 ![0, 1, 2, 3] bcast_S4x8x4096x1_S4x8x4096x4352_0_1_2_3
    (broadcastInDim S4x8x4096x1 ![0, 1, 2] bcast_S4x8x4096_S4x8x4096x1_0_1_2 x)

/-- The exponentials. -/
def exps (s : FVec Ideal S4x8x4096x4352 .f32) : FVec Ideal S4x8x4096x4352 .f32 := Host.exp (subf s (spread (tops s)))

/-- Each row's sum. -/
def sums (e : FVec Ideal S4x8x4096x4352 .f32) : FVec Ideal S4x8x4096 .f32 :=
  Host.reduceAdd e (constant S_ .f32 0x00000000#32) reducesTo_S4x8x4096x4352_S4x8x4096_d3 h_S_

/-- The weighted values, head by head in the columns. -/
def out (v : FVec Ideal S4x4352x8x64 .f32) (e : FVec Ideal S4x8x4096x4352 .f32) : FVec Ideal S16384x512 .bf16 :=
  truncf .bf16 (shapeCast S16384x512 (transpose S4x4096x8x64 [0, 3, 1, 2]
    (Host.dotGeneral dot_S4x4352x8x64_S4x8x4096x4352_S4x8x64x4096_1_3_3_2_02_01 none v (Host.divf e (spread (sums e))))
    transposes_S4x8x64x4096_S4x4096x8x64_0_3_1_2) shapeCasts_S4x4096x8x64_S16384x512) bitsLt_bf16_f32

/-- The reference's run: its result is the softmax attention of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) =
        out (vals (m ((c.tc : Thread nD τ).loc main_arg2)) (m ((c.tc : Thread nD τ).loc main_arg4)))
          (exps (scores (m ((c.tc : Thread nD τ).loc main_arg0))
            (keys (m ((c.tc : Thread nD τ).loc main_arg1)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run m ρ)

/-- The row's greatest score, read at a row. -/
theorem tops_apply (s : FVec Ideal S4x8x4096x4352 .f32) (b : Fin 4) (h : Fin 8) (r : Fin 4096) :
    tops s (ix3 b h r) = max ⊥ (top fun k => s (ix4 b h r k)) := by
  unfold tops
  rw [greater_apply, spreadConst_apply, negInf, hostMax4]

/-- The row's sum, read at a row. -/
theorem sums_apply (s : FVec Ideal S4x8x4096x4352 .f32) (b : Fin 4) (h : Fin 8) (r : Fin 4096) :
    sums s (ix3 b h r) = ∑ k, s (ix4 b h r k) := by
  pointwise [sums]

/-- A row's number, read at an entry of the row. -/
theorem spread_apply (x : FVec Ideal S4x8x4096 .f32) (b : Fin 4) (h : Fin 8) (r : Fin 4096) (k : Fin 4352) :
    spread x (ix4 b h r k) = x (ix3 b h r) := by
  pointwise [spread]

/-- The bit pattern of the reference's radicand. -/
theorem ninetySix : Ideal.ofBits .f32 0x42C00000#32 = ((96 : ℝ) : EReal) := by
  simp [Ideal.ofBits, Ideal.ieee, -EReal.coe_mul]; norm_num

/-- Division by the root of the radicand is multiplication by its inverse. -/
theorem div_root (x : EReal) : Ideal.div x (Ideal.sqrt (Ideal.ofBits .f32 0x42C00000#32)) = x * ((Real.sqrt 96)⁻¹ : ℝ) := by
  rw [ninetySix, Ideal.sqrt_coe, if_neg (show ¬(96 : ℝ) < 0 by norm_num),
    Ideal.div_coe (Real.sqrt_pos.mpr (show (0 : ℝ) < 96 by norm_num)).ne', one_div]

/-- A score, read at an entry. -/
theorem scores_apply (q : FVec Ideal S4x4096x8x96 .f32) (k : FVec Ideal S4x4352x8x96 .f32) (b : Fin 4) (h : Fin 8) (r : Fin 4096) (j : Fin 4352) :
    scores q k (ix4 b h r j) = (∑ d : Fin 96, q (ix4 b r h d) * k (ix4 b j h d)) * ((Real.sqrt 96)⁻¹ : ℝ) := by
  rw [← div_root]
  pointwise [scores]

/-- An exponential, read at an entry. -/
theorem exps_apply (s : FVec Ideal S4x8x4096x4352 .f32) (b : Fin 4) (h : Fin 8) (r : Fin 4096) (j : Fin 4352) :
    exps s (ix4 b h r j) = Ideal.exp (s (ix4 b h r j) - max ⊥ (top fun k => s (ix4 b h r k))) := by
  unfold exps
  rw [expSub_apply, spread_apply, tops_apply]

/-- The weighted values, read at an entry of the result. -/
theorem out_apply (v : FVec Ideal S4x4352x8x64 .f32) (e : FVec Ideal S4x8x4096x4352 .f32) (b : Fin 4) (h : Fin 8) (r : Fin 4096) (l : Fin 64) :
    out v e (ix2 (⟨4096 * b.val + r.val, by omega⟩ : Fin 16384) (⟨64 * h.val + l.val, by omega⟩ : Fin 512)) =
      ∑ k : Fin 4352, v (ix4 b k h l) * Ideal.div (e (ix4 b h r k)) (∑ k' : Fin 4352, e (ix4 b h r k')) := by
  pointwise [out, spread, sums]

/-- The latent part of the joined keys. -/
theorem keys_lat (k₁ : FVec Ideal S4x4096x8x96 .f32) (k₂ : FVec Ideal S4x256x8x96 .f32) (b : Fin 4) (j : Fin 4096) (h : Fin 8) (d : Fin 96) :
    keys k₁ k₂ (ix4 b (Fin.castAdd 256 j) h d) = k₁ (ix4 b j h d) := by
  pointwise [keys]
  rw [dif_pos (show (Fin.castAdd 256 j).val < 4096 from j.isLt)]
  rfl

/-- The context part of the joined keys. -/
theorem keys_ctx (k₁ : FVec Ideal S4x4096x8x96 .f32) (k₂ : FVec Ideal S4x256x8x96 .f32) (b : Fin 4) (j : Fin 256) (h : Fin 8) (d : Fin 96) :
    keys k₁ k₂ (ix4 b (Fin.natAdd 4096 j) h d) = k₂ (ix4 b j h d) := by
  pointwise [keys]
  rw [dif_neg (show ¬(Fin.natAdd 4096 j).val < 4096 from Nat.not_lt.mpr (Nat.le_add_right 4096 j.val))]
  exact congrArg (fun x => k₂ (ix4 b x h d)) (Fin.ext (Nat.add_sub_cancel_left 4096 j.val))

/-- The latent part of the joined values. -/
theorem vals_lat (v₁ : FVec Ideal S4x4096x8x64 .f32) (v₂ : FVec Ideal S4x256x8x64 .f32) (b : Fin 4) (j : Fin 4096) (h : Fin 8) (d : Fin 64) :
    vals v₁ v₂ (ix4 b (Fin.castAdd 256 j) h d) = v₁ (ix4 b j h d) := by
  pointwise [vals]
  rw [dif_pos (show (Fin.castAdd 256 j).val < 4096 from j.isLt)]
  rfl

/-- The context part of the joined values. -/
theorem vals_ctx (v₁ : FVec Ideal S4x4096x8x64 .f32) (v₂ : FVec Ideal S4x256x8x64 .f32) (b : Fin 4) (j : Fin 256) (h : Fin 8) (d : Fin 64) :
    vals v₁ v₂ (ix4 b (Fin.natAdd 4096 j) h d) = v₂ (ix4 b j h d) := by
  pointwise [vals]
  rw [dif_neg (show ¬(Fin.natAdd 4096 j).val < 4096 from Nat.not_lt.mpr (Nat.le_add_right 4096 j.val))]
  exact congrArg (fun x => v₂ (ix4 b x h d)) (Fin.ext (Nat.add_sub_cancel_left 4096 j.val))

end Cert.Attn.WideReference

end
-- ==== Proof.Attn.WideClaim.lean ====
module

public import proofs.«01_k».proof.Defs
public import proofs.«01_k».proof.Proof.Attn.Rows
public import proofs.«01_k».proof.Proof.Attn.WideArray
public import proofs.«01_k».proof.Proof.Attn.WideHost
public import proofs.«01_k».proof.Proof.Attn.WideReference
public import proofs.«01_k».proof.Proof.Gen.Pre_finite_qk

/-! The wide attention's value claim: from finite queries and keys, the kernel's result array and the reference's are
equal. -/

@[expose] public section

set_option maxRecDepth 16384

noncomputable section

namespace Cert.Attn.Wide

open Cert.KernelIdeal Cert.KernelIdeal.Gen Idealize.ShloMosaic Idealize.ShloMosaic.TcCoe Idealize.SL.Sem

variable (m : (ℓ : Loc nD τ sig) → Buf (Elt Ideal) ℓ) (c : Dev nD)

/-- The queries, keys and values a device is given. -/
abbrev argQ : FVec Ideal S4x4096x8x96 .f32 := m ((c.tc : Thread nD τ).loc main_arg0)
@[inherit_doc argQ] abbrev argK₁ : FVec Ideal S4x4096x8x96 .f32 := m ((c.tc : Thread nD τ).loc main_arg1)
@[inherit_doc argQ] abbrev argV₁ : FVec Ideal S4x4096x8x64 .f32 := m ((c.tc : Thread nD τ).loc main_arg2)
@[inherit_doc argQ] abbrev argK₂ : FVec Ideal S4x256x8x96 .f32 := m ((c.tc : Thread nD τ).loc main_arg3)
@[inherit_doc argQ] abbrev argV₂ : FVec Ideal S4x256x8x64 .f32 := m ((c.tc : Thread nD τ).loc main_arg4)

/-- The precondition makes every query and every key a real. -/
theorem reals (h : Cert.Pre_KernelIdeal_finite_qk m) :
    (∀ i, ∃ r : ℝ, argQ m c i = r) ∧ (∀ i, ∃ r : ℝ, argK₁ m c i = r) ∧ ∀ i, ∃ r : ℝ, argK₂ m c i = r :=
  ⟨fun i => entry_real _ _ Cert.Pre_finite_qk.Gen.bcast_S_S4x4096x8x96 i (congrFun (h c).1 i),
   fun i => entry_real _ _ Cert.Pre_finite_qk.Gen.bcast_S_S4x4096x8x96 i (congrFun (h c).2.1 i),
   fun i => entry_real _ _ Cert.Pre_finite_qk.Gen.bcast_S_S4x256x8x96 i (congrFun (h c).2.2 i)⟩

/-- A query of the call's array is the argument's entry, or a zero of the padding. -/
theorem Q_at (b : Fin 4) (s : Fin 4096) (h : Fin 8) (d : Fin 128) (R C : ℕ) (hR : R < 17408) (hC : C < 1024)
    (eR : R = 4096 * b.val + s.val) (eC : C = 128 * h.val + d.val) :
    Q m c (ix2 (⟨R, hR⟩ : Fin 17408) (⟨C, hC⟩ : Fin 1024)) = if hd : d.val < 96 then argQ m c (ix4 b s h ⟨d.val, hd⟩) else (0 : EReal) := by
  subst eR eC
  rw [Q_eq]
  exact (packQ_upper _ ⟨4096 * b.val + s.val, by omega⟩ _).trans (packLat_apply _ b s h d)

/-- A latent key of the call's array is the argument's entry, or a zero of the padding. -/
theorem K_lat (b : Fin 4) (s : Fin 4096) (h : Fin 8) (d : Fin 128) (R C : ℕ) (hR : R < 17408) (hC : C < 1024)
    (eR : R = 4096 * b.val + s.val) (eC : C = 128 * h.val + d.val) :
    K m c (ix2 (⟨R, hR⟩ : Fin 17408) (⟨C, hC⟩ : Fin 1024)) = if hd : d.val < 96 then argK₁ m c (ix4 b s h ⟨d.val, hd⟩) else (0 : EReal) := by
  subst eR eC
  rw [K_eq]
  exact (packK_upper _ _ ⟨4096 * b.val + s.val, by omega⟩ _).trans (packLat_apply _ b s h d)

/-- A context key of the call's array is the argument's entry, or a zero of the padding. -/
theorem K_ctx (b : Fin 4) (s : Fin 256) (h : Fin 8) (d : Fin 128) (R C : ℕ) (hR : R < 17408) (hC : C < 1024)
    (eR : R = 16384 + (256 * b.val + s.val)) (eC : C = 128 * h.val + d.val) :
    K m c (ix2 (⟨R, hR⟩ : Fin 17408) (⟨C, hC⟩ : Fin 1024)) = if hd : d.val < 96 then argK₂ m c (ix4 b s h ⟨d.val, hd⟩) else (0 : EReal) := by
  subst eR eC
  rw [K_eq]
  exact (packK_lower _ _ ⟨256 * b.val + s.val, by omega⟩ _).trans (packCtx_apply _ b s h d)

/-- A latent value of the call's array is the argument's entry. -/
theorem W_lat (b : Fin 4) (s : Fin 4096) (h : Fin 8) (l : Fin 64) (R C : ℕ) (hR : R < 17408) (hC : C < 512)
    (eR : R = 4096 * b.val + s.val) (eC : C = 64 * h.val + l.val) :
    W m c (ix2 (⟨R, hR⟩ : Fin 17408) (⟨C, hC⟩ : Fin 512)) = argV₁ m c (ix4 b s h l) := by
  subst eR eC
  rw [W_eq]
  exact (packV_upper _ _ ⟨4096 * b.val + s.val, by omega⟩ _).trans (valLat_apply _ b s h l)

/-- A context value of the call's array is the argument's entry. -/
theorem W_ctx (b : Fin 4) (s : Fin 256) (h : Fin 8) (l : Fin 64) (R C : ℕ) (hR : R < 17408) (hC : C < 512)
    (eR : R = 16384 + (256 * b.val + s.val)) (eC : C = 64 * h.val + l.val) :
    W m c (ix2 (⟨R, hR⟩ : Fin 17408) (⟨C, hC⟩ : Fin 512)) = argV₂ m c (ix4 b s h l) := by
  subst eR eC
  rw [W_eq]
  exact (packV_lower _ _ ⟨256 * b.val + s.val, by omega⟩ _).trans (valCtx_apply _ b s h l)

/-- The result at a row of sequence `b` and a column of head `h`, over the arguments. -/
theorem resultAt_args (b : Fin 4) (r : Fin 4096) (h : Fin 8) (l : Fin 64) :
    resultAt m c ⟨4096 * b.val + r.val, by omega⟩ ⟨64 * h.val + l.val, by omega⟩ =
      online (fun k : Fin 4096 => (∑ d : Fin 96, argQ m c (ix4 b r h d) * argK₁ m c (ix4 b k h d)) * factor)
        (fun k : Fin 256 => (∑ d : Fin 96, argQ m c (ix4 b r h d) * argK₂ m c (ix4 b k h d)) * factor)
        (fun k => argV₁ m c (ix4 b k h l)) (fun k => argV₂ m c (ix4 b k h l)) := by
  unfold resultAt
  refine congr (congr (congr (congrArg online (funext fun k => ?_)) (funext fun k => ?_)) (funext fun k => ?_)) (funext fun k => ?_)
  · refine congrArg (· * factor) ((Finset.sum_congr rfl fun d _ => ?_).trans
      (sum_padded 96 32 (fun d => argQ m c (ix4 b r h d)) (fun d => argK₁ m c (ix4 b k h d))))
    exact congrArg₂ (· * ·) (Q_at m c b r h d _ _ _ _ rfl (by simp only; omega)) (K_lat m c b k h d _ _ _ _ (by simp only; omega) (by simp only; omega))
  · refine congrArg (· * factor) ((Finset.sum_congr rfl fun d _ => ?_).trans
      (sum_padded 96 32 (fun d => argQ m c (ix4 b r h d)) (fun d => argK₂ m c (ix4 b k h d))))
    exact congrArg₂ (· * ·) (Q_at m c b r h d _ _ _ _ rfl (by simp only; omega)) (K_ctx m c b k h d _ _ _ _ (by simp only; omega) (by simp only; omega))
  · exact W_lat m c b k h l _ _ _ _ (by simp only; omega) rfl
  · exact W_ctx m c b k h l _ _ _ _ (by simp only; omega) rfl

/-- The reference's result from the kernel's arguments. -/
abbrev refOut : FVec Ideal S16384x512 .bf16 :=
  WideReference.out (WideReference.vals (argV₁ m c) (argV₂ m c))
    (WideReference.exps (WideReference.scores (argQ m c) (WideReference.keys (argK₁ m c) (argK₂ m c))))

/-- One entry of the result, the kernel's and the reference's. -/
theorem entry_eq (hp : Cert.Pre_KernelIdeal_finite_qk m) (b : Fin 4) (r : Fin 4096) (h : Fin 8) (l : Fin 64) :
    resultAt m c ⟨4096 * b.val + r.val, by omega⟩ ⟨64 * h.val + l.val, by omega⟩ =
      refOut m c (ix2 (⟨4096 * b.val + r.val, by omega⟩ : Fin 16384) (⟨64 * h.val + l.val, by omega⟩ : Fin 512)) := by
  obtain ⟨hq, hk₁, hk₂⟩ := reals m c hp
  have hl : Real.log 2 ≠ 0 := (Real.log_pos (by norm_num)).ne'
  rw [resultAt_args]
  refine Eq.trans ?_ (WideReference.out_apply _ _ b h r l).symm
  simp only [WideReference.exps_apply, WideReference.scores_apply]
  exact rows_eq (by norm_num) (by norm_num) ((Real.sqrt 96)⁻¹ * (Real.log 2)⁻¹) (Real.sqrt 96)⁻¹
    (by rw [mul_assoc, inv_mul_cancel₀ hl, mul_one])
    (fun d => argQ m c (ix4 b r h d)) (fun k d => argK₁ m c (ix4 b k h d)) (fun k d => argK₂ m c (ix4 b k h d)) _ _
    (fun k d => WideReference.keys (argK₁ m c) (argK₂ m c) (ix4 b k h d))
    (fun k => WideReference.vals (argV₁ m c) (argV₂ m c) (ix4 b k h l))
    (fun d => hq _) (fun k d => hk₁ _) (fun k d => hk₂ _)
    (fun k => funext fun d => WideReference.keys_lat _ _ b k h d) (fun k => funext fun d => WideReference.keys_ctx _ _ b k h d)
    (fun k => WideReference.vals_lat _ _ b k h l) (fun k => WideReference.vals_ctx _ _ b k h l)

/-- The kernel's result array is the reference's. -/
theorem result_eq (hp : Cert.Pre_KernelIdeal_finite_qk m) : result m c = refOut m c := by
  funext i
  have h := entry_eq m c hp ⟨(i 0).val / 4096, by have h : (i 0).val < 16384 := (i 0).isLt; omega⟩ ⟨(i 0).val % 4096, Nat.mod_lt _ (by norm_num)⟩
    ⟨(i 1).val / 64, by have h : (i 1).val < 512 := (i 1).isLt; omega⟩ ⟨(i 1).val % 64, Nat.mod_lt _ (by norm_num)⟩
  have e0 : (⟨4096 * ((i 0).val / 4096) + (i 0).val % 4096, by have h : (i 0).val < 16384 := (i 0).isLt; omega⟩ : Fin 16384) = i 0 := Fin.ext (Nat.div_add_mod _ _)
  have e1 : (⟨64 * ((i 1).val / 64) + (i 1).val % 64, by have h : (i 1).val < 512 := (i 1).isLt; omega⟩ : Fin 512) = i 1 := Fin.ext (Nat.div_add_mod _ _)
  have e : ix2 (i 0) (i 1) = i := by
    funext a; match a with
    | ⟨0, _⟩ => rfl
    | ⟨1, _⟩ => rfl
  unfold result
  exact (congrArg₂ (resultAt m c) e0 e1).symm.trans (h.trans (congrArg (refOut m c) ((congrArg₂ ix2 e0 e1).trans e)))

/-- THE CLAIM: the kernel's run and the reference's run end in the same result, their arguments kept. -/
theorem claim : Cert.algebraic_KernelIdeal_ReferenceIdeal_pre_finite_qk := fun m g m' g' hp ha =>
  ⟨fun c => result m c,
   (θ_run defs _ _).mono (fun _ h c => ⟨(h c).1.trans (array_eq m c), (h c).2⟩) (Cert.KernelIdeal.Value.run_blocks m g),
   (θ_run Cert.ReferenceIdeal.defs _ _).mono (fun _ h c => ⟨(h c).1.trans (by
      rw [(ha c).1, (ha c).2.1, (ha c).2.2.1, (ha c).2.2.2.1, (ha c).2.2.2.2]; exact (result_eq m c hp).symm), (h c).2⟩)
     (WideReference.run m' g')⟩

end Cert.Attn.Wide

end
-- ==== Proof.Attn.NarrowBlock.lean ====
module

public import proofs.«01_k».proof.Proof.Attn.Online
public import proofs.«01_k».proof.Proof.Gen.Kernel2Ideal.Value
public import Idealize.ShloMosaic.Lib.Pipeline.ValueKit
public import Idealize.ShloMosaic.Lib.Pointwise

/-! What one grid point of the narrow attention kernel leaves in its output block, read at an index: every
row and column is the running softmax (`online`) of the block's scores. The two heads of the pair share the block's 128
query columns: a head's scores take the queries with the other head's 64 columns multiplied by zero. -/

@[expose] public section

set_option maxRecDepth 16384

noncomputable section

namespace Cert.Attn.Narrow

open Cert.Kernel2Ideal Cert.Kernel2Ideal.Gen Idealize.ShloMosaic Idealize.ShloMosaic.TcCoe Idealize.SL.Sem

/-- The factor of the scores: one eighth, one over the logarithm of 2. -/
def factor : EReal := ((8⁻¹ * (Real.log 2)⁻¹ : ℝ) : EReal)

/-- The named constant is the factor. -/
theorem named_factor : Named.named (F := Ideal) κ "eighth_log2e" (φ := .f32) 0x3E38AA3B#32 = factor :=
  IdealRules.named_const.ideal_named_scalar _ _ _ _ rfl

/-- The scores against the latent keys. -/
theorem latScore_apply (q : FVec Ideal S1024x128 .bf16) (k : Vec Ideal S4096x128 .bf16) (r : Fin 1024) (j : Fin 4096) :
    k0_pay16 q k (ix2 r j) = (∑ d : Fin 128, q (ix2 r d) * k (ix2 j d)) * factor := by
  rw [← named_factor]
  pointwise [k0_pay16]

/-- The scores against the context keys. -/
theorem ctxScore_apply (q : FVec Ideal S1024x128 .bf16) (k : Vec Ideal S256x128 .bf16) (r : Fin 1024) (j : Fin 256) :
    k0_pay22 q k (ix2 r j) = (∑ d : Fin 128, q (ix2 r d) * k (ix2 j d)) * factor := by
  rw [← named_factor]
  pointwise [k0_pay22]

/-- The product of weights with latent values, as the kernel takes it. -/
def prod1 (v : FVec Ideal S4096x128 .bf16) (p : FVec Ideal S1024x4096 .bf16) : FVec Ideal S1024x128 .f32 :=
  matmul dot_S1024x4096_S4096x128_S1024x128_1_0_0_1_n_n none p (shapeCast S4096x128 v shapeCasts_S4096x128_S4096x128)
    (constant S1024x128 .f32 0x00000000#32)

/-- The product of weights with context values, as the kernel takes it. -/
def prod2 (v : FVec Ideal S256x128 .bf16) (p : FVec Ideal S1024x256 .bf16) : FVec Ideal S1024x128 .f32 :=
  matmul dot_S1024x256_S256x128_S1024x128_1_0_0_1_n_n none p (shapeCast S256x128 v shapeCasts_S256x128_S256x128)
    (constant S1024x128 .f32 0x00000000#32)

/-- The product of the weights with the latent values. -/
theorem prod1_apply (p : FVec Ideal S1024x4096 .bf16) (v : Vec Ideal S4096x128 .bf16) (r : Fin 1024) (l : Fin 128) :
    prod1 v p (ix2 r l) = ∑ k : Fin 4096, p (ix2 r k) * v (ix2 k l) := by
  pointwise [prod1]

/-- The product of the weights with the context values. -/
theorem prod2_apply (p : FVec Ideal S1024x256 .bf16) (v : Vec Ideal S256x128 .bf16) (r : Fin 1024) (l : Fin 128) :
    prod2 v p (ix2 r l) = ∑ k : Fin 256, p (ix2 r k) * v (ix2 k l) := by
  pointwise [prod2]

/-- The running maximum after the latent piece. -/
theorem latMax_apply (q : FVec Ideal S1024x128 .bf16) (m : FVec Ideal S1024x1 .f32) (k : Vec Ideal S4096x128 .bf16) (r : Fin 1024) (u : Fin 1) :
    k0_pay17 q m k (ix2 r u) = stepMax (m (ix2 r 0)) fun j => k0_pay16 q k (ix2 r j) :=
  stepMax_apply m (k0_pay16 q k) _ _ _ _ r u

/-- The running sum after the latent piece. -/
theorem latSum_apply (q : FVec Ideal S1024x128 .bf16) (m l : FVec Ideal S1024x1 .f32) (k : Vec Ideal S4096x128 .bf16) (r : Fin 1024) (u : Fin 1) :
    k0_pay20 q m l k (ix2 r u) = stepSum (m (ix2 r 0)) (l (ix2 r 0)) fun j => k0_pay16 q k (ix2 r j) :=
  stepSum_apply m (k0_pay17 q m k) l (k0_pay16 q k) _ _ _ _ _ r u (latMax_apply q m k r 0)

/-- The running product after the latent piece. -/
theorem latAcc_apply (q : FVec Ideal S1024x128 .bf16) (m : FVec Ideal S1024x1 .f32) (a : FVec Ideal S1024x128 .f32) (k v : Vec Ideal S4096x128 .bf16)
    (r : Fin 1024) (l : Fin 128) :
    k0_pay21 q m a k v (ix2 r l) =
      stepAcc (m (ix2 r 0)) (a (ix2 r l)) (fun j => k0_pay16 q k (ix2 r j)) fun j => v (ix2 j l) :=
  stepAcc_apply m (k0_pay17 q m k) a (k0_pay16 q k) broadcasts_S1024x1_S1024x4096 broadcasts_S1024x1_S1024x128 bitsLt_bf16_f32
    (prod1 v) (fun j => v (ix2 j l)) r l (fun p => prod1_apply p v r l) (latMax_apply q m k r 0)

/-- The running maximum after the context piece. -/
theorem ctxMax_apply (q : FVec Ideal S1024x128 .bf16) (m : FVec Ideal S1024x1 .f32) (k : Vec Ideal S256x128 .bf16) (r : Fin 1024) (u : Fin 1) :
    k0_pay23 q m k (ix2 r u) = stepMax (m (ix2 r 0)) fun j => k0_pay22 q k (ix2 r j) :=
  stepMax_apply m (k0_pay22 q k) _ _ _ _ r u

/-- The weights of the context piece, as the kernel takes them. -/
def ctxWeights (q : FVec Ideal S1024x128 .bf16) (m : FVec Ideal S1024x1 .f32) (k : Vec Ideal S256x128 .bf16) : FVec Ideal S1024x256 .f32 :=
  exp2 (subf (k0_pay22 q k) (broadcastTo S1024x256 (k0_pay23 q m k) broadcasts_S1024x1_S1024x256))

/-- The running sum after the context piece, as the kernel takes it. -/
def ctxSum (q : FVec Ideal S1024x128 .bf16) (m l : FVec Ideal S1024x1 .f32) (k : Vec Ideal S256x128 .bf16) : FVec Ideal S1024x1 .f32 :=
  addf (mulf (exp2 (subf m (k0_pay23 q m k))) l)
    (shapeCast S1024x1 (multiReduction .add [1] S1024 (ctxWeights q m k) 0x00000000#32 reduces_S1024x256_S1024 (.inl rfl) rfl)
      shapeCasts_S1024_S1024x1)

/-- The running product after the context piece, as the kernel takes it. -/
def ctxAcc (q : FVec Ideal S1024x128 .bf16) (m : FVec Ideal S1024x1 .f32) (a : FVec Ideal S1024x128 .f32) (k v : Vec Ideal S256x128 .bf16) :
    FVec Ideal S1024x128 .f32 :=
  addf (mulf (broadcastTo S1024x128 (exp2 (subf m (k0_pay23 q m k))) broadcasts_S1024x1_S1024x128) a)
    (prod2 v (truncf .bf16 (ctxWeights q m k) bitsLt_bf16_f32))

/-- The running sum after the context piece. -/
theorem ctxSum_apply (q : FVec Ideal S1024x128 .bf16) (m l : FVec Ideal S1024x1 .f32) (k : Vec Ideal S256x128 .bf16) (r : Fin 1024) (u : Fin 1) :
    ctxSum q m l k (ix2 r u) = stepSum (m (ix2 r 0)) (l (ix2 r 0)) fun j => k0_pay22 q k (ix2 r j) :=
  stepSum_apply m (k0_pay23 q m k) l (k0_pay22 q k) _ _ _ _ _ r u (ctxMax_apply q m k r 0)

/-- The running product after the context piece. -/
theorem ctxAcc_apply (q : FVec Ideal S1024x128 .bf16) (m : FVec Ideal S1024x1 .f32) (a : FVec Ideal S1024x128 .f32) (k v : Vec Ideal S256x128 .bf16)
    (r : Fin 1024) (l : Fin 128) :
    ctxAcc q m a k v (ix2 r l) =
      stepAcc (m (ix2 r 0)) (a (ix2 r l)) (fun j => k0_pay22 q k (ix2 r j)) fun j => v (ix2 j l) :=
  stepAcc_apply m (k0_pay23 q m k) a (k0_pay22 q k) broadcasts_S1024x1_S1024x256 broadcasts_S1024x1_S1024x128 bitsLt_bf16_f32
    (prod2 v) (fun j => v (ix2 j l)) r l (fun p => prod2_apply p v r l) (ctxMax_apply q m k r 0)

/-- The running maximum starts at negative infinity. -/
theorem start_max (r : Fin 1024) (u : Fin 1) : k0_pay5 (F := Ideal) (ix2 r u) = ⊥ := negInf

/-- The running sum starts at zero. -/
theorem start_sum (r : Fin 1024) (u : Fin 1) : k0_pay6 (F := Ideal) (ix2 r u) = 0 := by
  pointwise [k0_pay6]

/-- The running product starts at zero. -/
theorem start_acc (r : Fin 1024) (l : Fin 128) : k0_pay7 (F := Ideal) (ix2 r l) = 0 := by
  pointwise [k0_pay7]

/-- One head's quotient: its running product over its running sum after both pieces. -/
def head (q : FVec Ideal S1024x128 .bf16) (k₁ v₁ : Vec Ideal S4096x128 .bf16) (k₂ v₂ : Vec Ideal S256x128 .bf16) : FVec Ideal S1024x128 .f32 :=
  divf (ctxAcc q (k0_pay17 q k0_pay5 k₁) (k0_pay21 q k0_pay5 k0_pay7 k₁ v₁) k₂ v₂)
    (broadcastTo S1024x128 (ctxSum q (k0_pay17 q k0_pay5 k₁) (k0_pay20 q k0_pay5 k0_pay6 k₁) k₂) broadcasts_S1024x1_S1024x128)

/-- One head's quotient is the running softmax of its scores. -/
theorem head_apply (q : FVec Ideal S1024x128 .bf16) (k₁ v₁ : Vec Ideal S4096x128 .bf16) (k₂ v₂ : Vec Ideal S256x128 .bf16)
    (r : Fin 1024) (l : Fin 128) :
    head q k₁ v₁ k₂ v₂ (ix2 r l) =
      online (fun k => (∑ d : Fin 128, q (ix2 r d) * k₁ (ix2 k d)) * factor)
        (fun k => (∑ d : Fin 128, q (ix2 r d) * k₂ (ix2 k d)) * factor) (fun k => v₁ (ix2 k l)) fun k => v₂ (ix2 k l) := by
  have ea := ctxAcc_apply q (k0_pay17 q k0_pay5 k₁) (k0_pay21 q k0_pay5 k0_pay7 k₁ v₁) k₂ v₂ r l
  have es := (colSpread (ctxSum q (k0_pay17 q k0_pay5 k₁) (k0_pay20 q k0_pay5 k0_pay6 k₁) k₂) broadcasts_S1024x1_S1024x128 r l).trans
    (ctxSum_apply q (k0_pay17 q k0_pay5 k₁) (k0_pay20 q k0_pay5 k0_pay6 k₁) k₂ r 0)
  unfold head
  rw [quot_apply, ea, es]
  rw [latMax_apply, latSum_apply, latAcc_apply]
  simp only [start_max, start_sum, start_acc, latScore_apply, ctxScore_apply]
  rfl

/-- The lane test: lane `l` is below 64. -/
theorem lane_lt : ∀ l : Fin 128, IntOp.cmpi .slt (BitVec.ofNat 32 l.val) 64#32 = if l.val < 64 then 1#1 else 0#1 := by
  decide +kernel

/-- The choice by the lane of the quotient of one head or of the other. -/
theorem choose_apply (x y : FVec Ideal S1024x128 .f32) (r : Fin 1024) (l : Fin 128) :
    truncf .bf16 (select (broadcastTo S1024x128 (shapeCast S1x128 (cmpi .slt (iota .tc S1x128 32 [1] iota_S1x128_d1_w32)
        (broadcast S1x128 64#32)) shapeCasts_S1x128_S1x128) broadcasts_S1x128_S1024x128) x y) bitsLt_bf16_f32 (ix2 r l) =
      if l.val < 64 then x (ix2 r l) else y (ix2 r l) := by
  pointwise
  rw [lane_lt]
  split <;> rfl

/-- The block's last value: the first head's quotient in the left lanes, the second's in the right lanes. -/
theorem last_apply (q q' : Vec Ideal S1024x128 .bf16) (k k' v v' : Vec Ideal S4096x128 .bf16) (kc kc' vc vc' : Vec Ideal S256x128 .bf16)
    (r : Fin 1024) (j : Fin 128) :
    k0_pay1
        (k0_pay25 (k0_pay14 (k0_pay12 q k) (k0_pay13 q k)) (k0_pay15 k0_pay7 (k0_pay11 q k) (k0_pay12 q k) v) (k0_pay22 (k0_pay2 q) kc)
          (k0_pay23 (k0_pay2 q) (k0_pay10 q k) kc) (k0_pay24 (k0_pay2 q) (k0_pay10 q k) kc) vc)
        (k0_pay26 (k0_pay3 q') (k0_pay17 (k0_pay3 q') k0_pay5 k') (k0_pay20 (k0_pay3 q') k0_pay5 k0_pay6 k')
          (k0_pay21 (k0_pay3 q') k0_pay5 k0_pay8 k' v') kc' vc')
        (k0_pay27 (iota .tc S1x128 32 [1] iota_S1x128_d1_w32)) (ix2 r j) =
      if j.val < 64 then head (k0_pay2 q) k v kc vc (ix2 r j) else head (k0_pay3 q') k' v' kc' vc' (ix2 r j) :=
  choose_apply (head (k0_pay2 q) k v kc vc) (head (k0_pay3 q') k' v' kc' vc') r j

/-- The second lane test: lane `l` is at least 64. -/
theorem lane_ge : ∀ l : Fin 128, IntOp.cmpi .sge (BitVec.ofNat 32 l.val) 64#32 = if l.val < 64 then 0#1 else 1#1 := by
  decide +kernel

/-- The first head's queries: the right lanes are multiplied by zero. -/
theorem own_left (q : Vec Ideal S1024x128 .bf16) (r : Fin 1024) (d : Fin 128) :
    k0_pay2 q (ix2 r d) = q (ix2 r d) * (if d.val < 64 then (1 : EReal) else 0) := by
  pointwise [k0_pay2]
  rw [lane_lt]
  split <;> refine congrArg (fun x : EReal => q (ix2 r d) * x) ?_ <;> simp [FloatOps.sitofp]

/-- The second head's queries: the left lanes are multiplied by zero. -/
theorem own_right (q : Vec Ideal S1024x128 .bf16) (r : Fin 1024) (d : Fin 128) :
    k0_pay3 q (ix2 r d) = q (ix2 r d) * (if d.val < 64 then (0 : EReal) else 1) := by
  pointwise [k0_pay3]
  rw [lane_ge]
  split <;> refine congrArg (fun x : EReal => q (ix2 r d) * x) ?_ <;> simp [FloatOps.sitofp]

/-- A sum over 128 lanes whose right half is multiplied by zero is the sum over the left half. -/
theorem sum_left (f g : Fin 128 → EReal) :
    (∑ d : Fin 128, f d * (if d.val < 64 then (1 : EReal) else 0) * g d) = ∑ d : Fin 64, f ⟨64 * 0 + d.val, by omega⟩ * g ⟨64 * 0 + d.val, by omega⟩ := by
  rw [Fin.sum_univ_add (a := 64) (b := 64), Finset.sum_eq_zero (s := Finset.univ (α := Fin 64))
    (f := fun d => f (Fin.natAdd 64 d) * (if (Fin.natAdd 64 d).val < 64 then (1 : EReal) else 0) * g (Fin.natAdd 64 d)), add_zero]
  · refine Finset.sum_congr rfl fun d _ => ?_
    have e : (⟨64 * 0 + d.val, by omega⟩ : Fin 128) = Fin.castAdd 64 d := Fin.ext (Nat.zero_add _)
    rw [if_pos (show (Fin.castAdd 64 d).val < 64 from d.isLt), mul_one, e]
  · intro d _
    rw [if_neg (show ¬(Fin.natAdd 64 d).val < 64 from Nat.not_lt.mpr (Nat.le_add_right 64 d.val)), mul_zero, zero_mul]

/-- A sum over 128 lanes whose left half is multiplied by zero is the sum over the right half. -/
theorem sum_right (f g : Fin 128 → EReal) :
    (∑ d : Fin 128, f d * (if d.val < 64 then (0 : EReal) else 1) * g d) = ∑ d : Fin 64, f ⟨64 * 1 + d.val, by omega⟩ * g ⟨64 * 1 + d.val, by omega⟩ := by
  rw [Fin.sum_univ_add (a := 64) (b := 64), Finset.sum_eq_zero (s := Finset.univ (α := Fin 64))
    (f := fun d => f (Fin.castAdd 64 d) * (if (Fin.castAdd 64 d).val < 64 then (0 : EReal) else 1) * g (Fin.castAdd 64 d)), zero_add]
  · refine Finset.sum_congr rfl fun d _ => ?_
    rw [if_neg (show ¬(Fin.natAdd 64 d).val < 64 from Nat.not_lt.mpr (Nat.le_add_right 64 d.val)), mul_one]
    rfl
  · intro d _
    rw [if_pos (show (Fin.castAdd 64 d).val < 64 from d.isLt), mul_zero, zero_mul]

/-- What the body leaves at row `r` and lane `l` of its output block: the running softmax of the scores of the head
    `l / 64` of the pair, whose queries and keys lie in the block's columns from `64 * (l / 64)` on. -/
theorem block_apply (c : Dev nD) (i : grid0.Coords) (arg3 : Memref sig .tc .vmem S1024x128 .bf16) (harg3 : arg3.IsWhole)
    (arg4 : Memref sig .tc .vmem S4096x128 .bf16) (harg4 : arg4.IsWhole) (arg5 : Memref sig .tc .vmem S256x128 .bf16) (harg5 : arg5.IsWhole)
    (arg6 : Memref sig .tc .vmem S4096x128 .bf16) (harg6 : arg6.IsWhole) (arg7 : Memref sig .tc .vmem S256x128 .bf16) (harg7 : arg7.IsWhole)
    (arg8 : Memref sig .tc .vmem S1024x128 .bf16) (harg8 : arg8.IsWhole)
    (x0 : Vec Ideal S1024x128 .bf16) (x1 : Vec Ideal S4096x128 .bf16) (x2 : Vec Ideal S256x128 .bf16) (x3 : Vec Ideal S4096x128 .bf16)
    (x4 : Vec Ideal S256x128 .bf16) (r : Fin 1024) (l : Fin 128) :
    out0_A_5 c i arg3 harg3 arg4 harg4 arg5 harg5 arg6 harg6 arg7 harg7 arg8 harg8 x0 x1 x2 x3 x4 (ix2 r l) =
      online
        (fun k => (∑ d : Fin 64, x0 (ix2 r ⟨64 * (l.val / 64) + d.val, by omega⟩) * x1 (ix2 k ⟨64 * (l.val / 64) + d.val, by omega⟩)) * factor)
        (fun k => (∑ d : Fin 64, x0 (ix2 r ⟨64 * (l.val / 64) + d.val, by omega⟩) * x2 (ix2 k ⟨64 * (l.val / 64) + d.val, by omega⟩)) * factor)
        (fun k => x3 (ix2 k l)) fun k => x4 (ix2 k l) := by
  frame_out
  rw [last_apply]
  by_cases hl : l.val < 64
  · have e : l.val / 64 = 0 := by omega
    rw [if_pos hl, head_apply]
    simp only [e, own_left]
    refine congr (congr (congr (congrArg online (funext fun k => ?_)) (funext fun k => ?_)) ?_) ?_
    · exact congrArg (· * factor) (sum_left (fun d => x0 (ix2 r d)) fun d => x1 (ix2 k d))
    · exact congrArg (· * factor) (sum_left (fun d => x0 (ix2 r d)) fun d => x2 (ix2 k d))
    · rfl
    · rfl
  · have e : l.val / 64 = 1 := by omega
    rw [if_neg hl, head_apply]
    simp only [e, own_right]
    refine congr (congr (congr (congrArg online (funext fun k => ?_)) (funext fun k => ?_)) ?_) ?_
    · exact congrArg (· * factor) (sum_right (fun d => x0 (ix2 r d)) fun d => x1 (ix2 k d))
    · exact congrArg (· * factor) (sum_right (fun d => x0 (ix2 r d)) fun d => x2 (ix2 k d))
    · rfl
    · rfl

end Cert.Attn.Narrow

end
-- ==== Proof.Attn.NarrowArray.lean ====
module

public import proofs.«01_k».proof.Proof.Attn.NarrowBlock

/-! The narrow attention's output array after the run: at every row and column the running softmax of the scores,
over the arrays of queries, keys and values that the call reads. -/

@[expose] public section

set_option maxRecDepth 16384

noncomputable section

namespace Cert.Attn.Narrow

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The kernel's queries, as its call finds them. -/
def Q : S17408x512.Idx → EReal := V m c main_v3
/-- The keys, every key head twice: the latent rows of all sequences, then the context rows. -/
def K : S17408x256.Idx → EReal := V m c main_v13
/-- The values, in the keys' row order. -/
def W : S17408x256.Idx → EReal := V m c main_v23

/-- Where each window's block lies at grid point `t`. -/
theorem idx : ∀ t : Fin cfg0.N,
    win0_0.index t = ![4 * (t.val / 16) + t.val % 4, t.val / 4 % 4] ∧
    win0_1.index t = ![t.val / 16, t.val / 4 % 4 / 2] ∧
    win0_2.index t = ![64 + t.val / 16, t.val / 4 % 4 / 2] ∧
    win0_3.index t = ![t.val / 16, t.val / 4 % 4 / 2] ∧
    win0_4.index t = ![64 + t.val / 16, t.val / 4 % 4 / 2] ∧
    win0_5.index t = ![4 * (t.val / 16) + t.val % 4, t.val / 4 % 4] := by
  decide +kernel

/-- The result at row `R` and column `C`: the running softmax of the scores of row `R` and head `C / 64` against the
    latent and the context rows of the head's key head `C / 256`, of the same sequence `R / 4096`. -/
def resultAt (R : Fin 16384) (C : Fin 512) : EReal :=
  online
    (fun k : Fin 4096 => (∑ d : Fin 64,
      Q m c (ix2 (⟨R.val, by omega⟩ : Fin 17408) (⟨64 * (C.val / 64) + d.val, by omega⟩ : Fin 512)) *
      K m c (ix2 (⟨4096 * (R.val / 4096) + k.val, by omega⟩ : Fin 17408) (⟨128 * (C.val / 256) + 64 * (C.val / 64 % 2) + d.val, by omega⟩ : Fin 256))) * factor)
    (fun k : Fin 256 => (∑ d : Fin 64,
      Q m c (ix2 (⟨R.val, by omega⟩ : Fin 17408) (⟨64 * (C.val / 64) + d.val, by omega⟩ : Fin 512)) *
      K m c (ix2 (⟨16384 + 256 * (R.val / 4096) + k.val, by omega⟩ : Fin 17408) (⟨128 * (C.val / 256) + 64 * (C.val / 64 % 2) + d.val, by omega⟩ : Fin 256))) * factor)
    (fun k : Fin 4096 => W m c (ix2 (⟨4096 * (R.val / 4096) + k.val, by omega⟩ : Fin 17408) (⟨128 * (C.val / 256) + C.val % 128, by omega⟩ : Fin 256)))
    (fun k : Fin 256 => W m c (ix2 (⟨16384 + 256 * (R.val / 4096) + k.val, by omega⟩ : Fin 17408) (⟨128 * (C.val / 256) + C.val % 128, by omega⟩ : Fin 256)))

/-- The kernel's result array. -/
def result (i : S16384x512.Idx) : EReal := resultAt m c (i 0) (i 1)

/-- The grid has 64 points. -/
theorem tN (t : Fin cfg0.N) : t.val < 64 := t.isLt

/-- The query block of point `t`, read from the query array. -/
theorem query_apply (t : Fin cfg0.N) (r : Fin 1024) (e : Fin 128) :
    iblk m c 0 t (ix2 r e) = Q m c (ix2 (⟨1024 * (4 * (t.val / 16) + t.val % 4) + r.val, by have := tN t; omega⟩ : Fin 17408)
      (⟨128 * (t.val / 4 % 4) + e.val, by omega⟩ : Fin 512)) := by
  blk_ext [iblk, Q, idx t]

/-- The latent key block of point `t`, read from the key array. -/
theorem latKey_apply (t : Fin cfg0.N) (k : Fin 4096) (e : Fin 128) :
    X0_1 m c t (ix2 k e) = K m c (ix2 (⟨4096 * (t.val / 16) + k.val, by have := tN t; omega⟩ : Fin 17408)
      (⟨128 * (t.val / 4 % 4 / 2) + e.val, by omega⟩ : Fin 256)) := by
  unfold X0_1 Pipeline.Window.fill
  rw [dif_pos (moved0_1 t _)]
  blk_ext [iblk, K, idx t]

/-- The context key block of point `t`, read from the key array. -/
theorem ctxKey_apply (t : Fin cfg0.N) (k : Fin 256) (e : Fin 128) :
    iblk m c 2 t (ix2 k e) = K m c (ix2 (⟨16384 + 256 * (t.val / 16) + k.val, by have := tN t; omega⟩ : Fin 17408)
      (⟨128 * (t.val / 4 % 4 / 2) + e.val, by omega⟩ : Fin 256)) := by
  blk_ext [iblk, K, idx t]

/-- The latent value block of point `t`, read from the value array. -/
theorem latVal_apply (t : Fin cfg0.N) (k : Fin 4096) (l : Fin 128) :
    X0_3 m c t (ix2 k l) = W m c (ix2 (⟨4096 * (t.val / 16) + k.val, by have := tN t; omega⟩ : Fin 17408)
      (⟨128 * (t.val / 4 % 4 / 2) + l.val, by omega⟩ : Fin 256)) := by
  unfold X0_3 Pipeline.Window.fill
  rw [dif_pos (moved0_3 t _)]
  blk_ext [iblk, W, idx t]

/-- The context value block of point `t`, read from the value array. -/
theorem ctxVal_apply (t : Fin cfg0.N) (k : Fin 256) (l : Fin 128) :
    iblk m c 4 t (ix2 k l) = W m c (ix2 (⟨16384 + 256 * (t.val / 16) + k.val, by have := tN t; omega⟩ : Fin 17408)
      (⟨128 * (t.val / 4 % 4 / 2) + l.val, by omega⟩ : Fin 256)) := by
  blk_ext [iblk, W, idx t]

/-- Where row `r` and lane `l` of point `t`'s output block lie in the result. -/
theorem place (t : Fin cfg0.N) (r : Fin 1024) (l : Fin 128) :
    ((View.whole main_v24).slice (win0_5.rect t)).emb (ix2 r l) =
      ix2 (⟨1024 * (4 * (t.val / 16) + t.val % 4) + r.val, by have := tN t; omega⟩ : Fin 16384)
        (⟨128 * (t.val / 4 % 4) + l.val, by omega⟩ : Fin 512) := by
  blk_ext [idx t]

/-- The running softmax of point `t`'s blocks at row `r` and lane `l` is the result where the block lies. -/
theorem resultAt_eq (t : Fin cfg0.N) (r : Fin 1024) (l : Fin 128) (R : Fin 16384) (C : Fin 512)
    (hR : R.val = 1024 * (4 * (t.val / 16) + t.val % 4) + r.val) (hC : C.val = 128 * (t.val / 4 % 4) + l.val)
    (x0 : Vec Ideal S1024x128 .bf16) (x1 : Vec Ideal S4096x128 .bf16) (x2 : Vec Ideal S256x128 .bf16) (x3 : Vec Ideal S4096x128 .bf16)
    (x4 : Vec Ideal S256x128 .bf16) (h0 : x0 = iblk m c 0 t) (h1 : x1 = X0_1 m c t) (h2 : x2 = iblk m c 2 t) (h3 : x3 = X0_3 m c t)
    (h4 : x4 = iblk m c 4 t) :
    online
        (fun k => (∑ d : Fin 64, x0 (ix2 r ⟨64 * (l.val / 64) + d.val, by omega⟩) * x1 (ix2 k ⟨64 * (l.val / 64) + d.val, by omega⟩)) * factor)
        (fun k => (∑ d : Fin 64, x0 (ix2 r ⟨64 * (l.val / 64) + d.val, by omega⟩) * x2 (ix2 k ⟨64 * (l.val / 64) + d.val, by omega⟩)) * factor)
        (fun k => x3 (ix2 k l)) (fun k => x4 (ix2 k l)) = resultAt m c R C := by
  have ht := tN t
  have e0 : ∀ d : Fin 64, x0 (ix2 r ⟨64 * (l.val / 64) + d.val, by omega⟩) =
      Q m c (ix2 (⟨R.val, by omega⟩ : Fin 17408) (⟨64 * (C.val / 64) + d.val, by omega⟩ : Fin 512)) := fun d => by
    rw [h0]; refine (query_apply m c t r _).trans (congrArg (Q m c) (congrArg₂ ix2 (Fin.ext ?_) (Fin.ext ?_))) <;> simp only <;> omega
  have e1 : ∀ (k : Fin 4096) (d : Fin 64), x1 (ix2 k ⟨64 * (l.val / 64) + d.val, by omega⟩) =
      K m c (ix2 (⟨4096 * (R.val / 4096) + k.val, by omega⟩ : Fin 17408) (⟨128 * (C.val / 256) + 64 * (C.val / 64 % 2) + d.val, by omega⟩ : Fin 256)) := fun k d => by
    rw [h1]; refine (latKey_apply m c t k _).trans (congrArg (K m c) (congrArg₂ ix2 (Fin.ext ?_) (Fin.ext ?_))) <;> simp only <;> omega
  have e2 : ∀ (k : Fin 256) (d : Fin 64), x2 (ix2 k ⟨64 * (l.val / 64) + d.val, by omega⟩) =
      K m c (ix2 (⟨16384 + 256 * (R.val / 4096) + k.val, by omega⟩ : Fin 17408) (⟨128 * (C.val / 256) + 64 * (C.val / 64 % 2) + d.val, by omega⟩ : Fin 256)) := fun k d => by
    rw [h2]; refine (ctxKey_apply m c t k _).trans (congrArg (K m c) (congrArg₂ ix2 (Fin.ext ?_) (Fin.ext ?_))) <;> simp only <;> omega
  have e3 : ∀ k : Fin 4096, x3 (ix2 k l) = W m c (ix2 (⟨4096 * (R.val / 4096) + k.val, by omega⟩ : Fin 17408) (⟨128 * (C.val / 256) + C.val % 128, by omega⟩ : Fin 256)) := fun k => by
    rw [h3]; refine (latVal_apply m c t k _).trans (congrArg (W m c) (congrArg₂ ix2 (Fin.ext ?_) (Fin.ext ?_))) <;> simp only <;> omega
  have e4 : ∀ k : Fin 256, x4 (ix2 k l) = W m c (ix2 (⟨16384 + 256 * (R.val / 4096) + k.val, by omega⟩ : Fin 17408) (⟨128 * (C.val / 256) + C.val % 128, by omega⟩ : Fin 256)) := fun k => by
    rw [h4]; refine (ctxVal_apply m c t k _).trans (congrArg (W m c) (congrArg₂ ix2 (Fin.ext ?_) (Fin.ext ?_))) <;> simp only <;> omega
  simp only [e0, e1, e2, e3, e4]
  rfl

/-- The output array after the run is the result: every block lies where the grid puts it and holds the running softmax. -/
theorem array_eq : (dats m 0 c).arrAt 5 cfg0.N = result m c := by
  refine (dats m 0 c).arrAt_eq_of_covers 5 _ (by decide +kernel) fun t hf y => ?_
  blk_simp
  rw [after0_5]
  unfold outsAt0
  idx_vars y
  rw [block_apply, place]
  exact resultAt_eq m c t y0 y1 _ _ rfl rfl _ _ _ _ _ rfl rfl rfl rfl rfl

end Cert.Attn.Narrow

end
-- ==== Proof.Attn.NarrowHost.lean ====
module

public import proofs.«01_k».proof.Proof.Attn.NarrowArray
public import Idealize.ShloMosaic.Lib.StableHlo.RunRead

/-! The arrays the narrow attention's call reads, as the host makes them of the arguments: the columns of every key
and value head twice, the latent rows before the context rows. -/

@[expose] public section

set_option maxRecDepth 16384

noncomputable section

namespace Cert.Attn.Narrow

open Cert.Kernel2Ideal Cert.Kernel2Ideal.Gen Idealize.ShloMosaic Idealize.ShloMosaic.TcCoe Idealize.SL.Sem

/-- The latent rows of the queries. -/
def rowsQ (x : FVec Ideal S4x4096x8x64 .f32) : FVec Ideal S16384x512 .f32 :=
  shapeCast S16384x512 x shapeCasts_S4x4096x8x64_S16384x512

/-- The query array: the latent rows, then rows of zeros. -/
def packQ (x : FVec Ideal S4x4096x8x64 .f32) : FVec Ideal S17408x512 .bf16 :=
  concatenate S17408x512 0 [⟨S16384x512, truncf .bf16 (rowsQ x) bitsLt_bf16_f32⟩,
    ⟨S1024x512, broadcastInDim S1024x512 ![] bcast_S_S1024x512 (constant S_ .bf16 0x0000#16)⟩] concatenates_S16384x512_S1024x512_S17408x512_d0

/-- The latent rows of the keys or values, two heads of 64 columns. -/
def rowsLat (x : FVec Ideal S4x4096x2x64 .f32) : FVec Ideal S16384x128 .f32 :=
  shapeCast S16384x128 x shapeCasts_S4x4096x2x64_S16384x128

/-- The context rows of the keys or values, two heads of 64 columns. -/
def rowsCtx (x : FVec Ideal S4x256x2x64 .f32) : FVec Ideal S1024x128 .f32 :=
  shapeCast S1024x128 x shapeCasts_S4x256x2x64_S1024x128

/-- The latent rows with every head's columns twice. -/
def twiceLat (w : FVec Ideal S16384x128 .f32) : FVec Ideal S16384x256 .f32 :=
  concatenate S16384x256 1 [⟨S16384x64, extractStridedSlice S16384x64 ![0, 0] w slices_S16384x128_S16384x64_0_0⟩,
    ⟨S16384x64, extractStridedSlice S16384x64 ![0, 0] w slices_S16384x128_S16384x64_0_0⟩,
    ⟨S16384x64, extractStridedSlice S16384x64 ![0, 64] w slices_S16384x128_S16384x64_0_64⟩,
    ⟨S16384x64, extractStridedSlice S16384x64 ![0, 64] w slices_S16384x128_S16384x64_0_64⟩] concatenates_S16384x64_S16384x64_S16384x64_S16384x64_S16384x256_d1

/-- The context rows with every head's columns twice. -/
def twiceCtx (w : FVec Ideal S1024x128 .f32) : FVec Ideal S1024x256 .f32 :=
  concatenate S1024x256 1 [⟨S1024x64, extractStridedSlice S1024x64 ![0, 0] w slices_S1024x128_S1024x64_0_0⟩,
    ⟨S1024x64, extractStridedSlice S1024x64 ![0, 0] w slices_S1024x128_S1024x64_0_0⟩,
    ⟨S1024x64, extractStridedSlice S1024x64 ![0, 64] w slices_S1024x128_S1024x64_0_64⟩,
    ⟨S1024x64, extractStridedSlice S1024x64 ![0, 64] w slices_S1024x128_S1024x64_0_64⟩] concatenates_S1024x64_S1024x64_S1024x64_S1024x64_S1024x256_d1

/-- The key or value array: the latent rows, then the context rows. -/
def pack (x : FVec Ideal S4x4096x2x64 .f32) (y : FVec Ideal S4x256x2x64 .f32) : FVec Ideal S17408x256 .bf16 :=
  truncf .bf16 (concatenate S17408x256 0 [⟨S16384x256, twiceLat (rowsLat x)⟩, ⟨S1024x256, twiceCtx (rowsCtx y)⟩]
    concatenates_S16384x256_S1024x256_S17408x256_d0) bitsLt_bf16_f32

/-- A latent row of the queries. -/
theorem rowsQ_apply (x : FVec Ideal S4x4096x8x64 .f32) (b : Fin 4) (s : Fin 4096) (h : Fin 8) (d : Fin 64) :
    rowsQ x (ix2 (⟨4096 * b.val + s.val, by omega⟩ : Fin 16384) (⟨64 * h.val + d.val, by omega⟩ : Fin 512)) = x (ix4 b s h d) := by
  pointwise [rowsQ]

/-- The query array's upper rows. -/
theorem packQ_upper (x : FVec Ideal S4x4096x8x64 .f32) (R : Fin 16384) (C : Fin 512) :
    packQ x (ix2 (⟨R.val, by omega⟩ : Fin 17408) C) = rowsQ x (ix2 R C) := by
  pointwise [packQ]

/-- A latent row of the keys or values. -/
theorem rowsLat_apply (x : FVec Ideal S4x4096x2x64 .f32) (b : Fin 4) (s : Fin 4096) (g : Fin 2) (d : Fin 64) :
    rowsLat x (ix2 (⟨4096 * b.val + s.val, by omega⟩ : Fin 16384) (⟨64 * g.val + d.val, by omega⟩ : Fin 128)) = x (ix4 b s g d) := by
  pointwise [rowsLat]

/-- A context row of the keys or values. -/
theorem rowsCtx_apply (x : FVec Ideal S4x256x2x64 .f32) (b : Fin 4) (s : Fin 256) (g : Fin 2) (d : Fin 64) :
    rowsCtx x (ix2 (⟨256 * b.val + s.val, by omega⟩ : Fin 1024) (⟨64 * g.val + d.val, by omega⟩ : Fin 128)) = x (ix4 b s g d) := by
  pointwise [rowsCtx]

/-- A column of the doubled latent rows: head `g`, copy `u`. -/
theorem twiceLat_apply (w : FVec Ideal S16384x128 .f32) (R : Fin 16384) (g u : Fin 2) (d : Fin 64) :
    twiceLat w (ix2 R (⟨128 * g.val + 64 * u.val + d.val, by omega⟩ : Fin 256)) = w (ix2 R (⟨64 * g.val + d.val, by omega⟩ : Fin 128)) := by
  pointwise [twiceLat]
  split_ifs <;> refine congrArg (fun z => w (ix2 R z)) (Fin.ext ?_) <;> simp only <;> omega

/-- A column of the doubled context rows: head `g`, copy `u`. -/
theorem twiceCtx_apply (w : FVec Ideal S1024x128 .f32) (R : Fin 1024) (g u : Fin 2) (d : Fin 64) :
    twiceCtx w (ix2 R (⟨128 * g.val + 64 * u.val + d.val, by omega⟩ : Fin 256)) = w (ix2 R (⟨64 * g.val + d.val, by omega⟩ : Fin 128)) := by
  pointwise [twiceCtx]
  split_ifs <;> refine congrArg (fun z => w (ix2 R z)) (Fin.ext ?_) <;> simp only <;> omega

/-- The key or value array's upper rows. -/
theorem pack_upper (x : FVec Ideal S4x4096x2x64 .f32) (y : FVec Ideal S4x256x2x64 .f32) (R : Fin 16384) (C : Fin 256) :
    pack x y (ix2 (⟨R.val, by omega⟩ : Fin 17408) C) = twiceLat (rowsLat x) (ix2 R C) := by
  pointwise [pack]

/-- The key or value array's lower rows. -/
theorem pack_lower (x : FVec Ideal S4x4096x2x64 .f32) (y : FVec Ideal S4x256x2x64 .f32) (R : Fin 1024) (C : Fin 256) :
    pack x y (ix2 (⟨16384 + R.val, by omega⟩ : Fin 17408) C) = twiceCtx (rowsCtx y) (ix2 R C) := by
  pointwise [pack]

variable (m : (ℓ : Loc nD τ sig) → Buf (Elt Ideal) ℓ) (c : Dev nD)

/-- The call's query array is the packed queries. -/
theorem Q_eq : Q m c = packQ (m ((c.tc : Thread nD τ).loc main_arg0)) := by
  unfold Q
  unfold_abbrev_sides
  after_reads_simp
  rfl

/-- The call's key array is the packed keys. -/
theorem K_eq : K m c = pack (m ((c.tc : Thread nD τ).loc main_arg1)) (m ((c.tc : Thread nD τ).loc main_arg3)) := by
  unfold K
  unfold_abbrev_sides
  after_reads_simp
  rfl

/-- The call's value array is the packed values. -/
theorem W_eq : W m c = pack (m ((c.tc : Thread nD τ).loc main_arg2)) (m ((c.tc : Thread nD τ).loc main_arg4)) := by
  unfold W
  unfold_abbrev_sides
  after_reads_simp
  rfl

end Cert.Attn.Narrow

end
-- ==== Proof.Attn.NarrowReference.lean ====
module

public import proofs.«01_k».proof.Proof.Attn.Online
public import proofs.«01_k».proof.Proof.Gen.Reference2Ideal.Run
public import Idealize.ShloMosaic.Lib.Pointwise

/-! The reference of the narrow attention, read at an index: every entry of its result is the textbook
softmax attention (`softmax`) of one query row against all latent and context keys of its sequence. -/

@[expose] public section

set_option maxRecDepth 16384

noncomputable section

namespace Cert.Attn.NarrowReference

open Cert.Reference2Ideal Cert.Reference2Ideal.Gen Idealize.ShloMosaic Idealize.ShloMosaic.TcCoe Idealize.SL.Sem

/-- The latent rows followed by the context rows, per sequence. -/
def joined (x : FVec Ideal S4x4096x2x64 .f32) (y : FVec Ideal S4x256x2x64 .f32) : FVec Ideal S4x4352x2x64 .f32 :=
  concatenate S4x4352x2x64 1 [⟨S4x4096x2x64, x⟩, ⟨S4x256x2x64, y⟩] concatenates_S4x4096x2x64_S4x256x2x64_S4x4352x2x64_d1

/-- The scaled scores. -/
def scores (q : FVec Ideal S4x4096x8x64 .f32) (k : FVec Ideal S4x4352x2x64 .f32) : FVec Ideal S4x2x4x4096x4352 .f32 :=
  mulf (transpose S4x2x4x4096x4352 [0, 1, 4, 3, 2]
      (Host.dotGeneral dot_S4x4352x2x64_S4x4096x2x4x64_S4x2x4352x4096x4_3_4_1_13_02_02 none k
        (shapeCast S4x4096x2x4x64 q shapeCasts_S4x4096x8x64_S4x4096x2x4x64))
      transposes_S4x2x4352x4096x4_S4x2x4x4096x4352_0_1_4_3_2)
    (broadcastInDim S4x2x4x4096x4352 ![] bcast_S_S4x2x4x4096x4352 (constant S_ .f32 0x3E000000#32))

/-- Each row's greatest score. -/
def tops (s : FVec Ideal S4x2x4x4096x4352 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4352_S4x2x4x4096_d4 h_S_)

/-- One number per row, spread over the row. -/
def spread (x : FVec Ideal S4x2x4x4096 .f32) : FVec Ideal S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)

/-- The exponentials. -/
def exps (s : FVec Ideal S4x2x4x4096x4352 .f32) : FVec Ideal S4x2x4x4096x4352 .f32 := Host.exp (subf s (spread (tops s)))

/-- Each row's sum. -/
def sums (e : FVec Ideal S4x2x4x4096x4352 .f32) : FVec Ideal S4x2x4x4096 .f32 :=
  Host.reduceAdd e (constant S_ .f32 0x00000000#32) reducesTo_S4x2x4x4096x4352_S4x2x4x4096_d4 h_S_

/-- The weighted values, head by head in the columns. -/
def out (v : FVec Ideal S4x4352x2x64 .f32) (e : FVec Ideal S4x2x4x4096x4352 .f32) : FVec Ideal S16384x512 .bf16 :=
  truncf .bf16 (shapeCast S16384x512 (transpose S4x4096x2x4x64 [0, 4, 1, 3, 2]
    (Host.dotGeneral dot_S4x4352x2x64_S4x2x4x4096x4352_S4x2x64x4x4096_1_4_3_23_02_01 none v (Host.divf e (spread (sums e))))
    transposes_S4x2x64x4x4096_S4x4096x2x4x64_0_4_1_3_2) shapeCasts_S4x4096x2x4x64_S16384x512) bitsLt_bf16_f32

/-- The reference's run: its result is the softmax attention of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) =
        out (joined (m ((c.tc : Thread nD τ).loc main_arg2)) (m ((c.tc : Thread nD τ).loc main_arg4)))
          (exps (scores (m ((c.tc : Thread nD τ).loc main_arg0))
            (joined (m ((c.tc : Thread nD τ).loc main_arg1)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.Reference2Ideal.Value.run m ρ)

/-- The row's greatest score, read at a row. -/
theorem tops_apply (s : FVec Ideal S4x2x4x4096x4352 .f32) (b : Fin 4) (g : Fin 2) (h : Fin 4) (r : Fin 4096) :
    tops s (ix4 b g h r) = max ⊥ (top fun k => s (ix5 b g h r k)) := by
  unfold tops
  rw [greater_apply, spreadConst_apply, negInf, hostMax5]

/-- The row's sum, read at a row. -/
theorem sums_apply (s : FVec Ideal S4x2x4x4096x4352 .f32) (b : Fin 4) (g : Fin 2) (h : Fin 4) (r : Fin 4096) :
    sums s (ix4 b g h r) = ∑ k, s (ix5 b g h r k) := by
  pointwise [sums]

/-- A row's number, read at an entry of the row. -/
theorem spread_apply (x : FVec Ideal S4x2x4x4096 .f32) (b : Fin 4) (g : Fin 2) (h : Fin 4) (r : Fin 4096) (k : Fin 4352) :
    spread x (ix5 b g h r k) = x (ix4 b g h r) := by
  pointwise [spread]

/-- The bit pattern of the reference's scale. -/
theorem eighth : Ideal.ofBits .f32 0x3E000000#32 = ((8⁻¹ : ℝ) : EReal) := by
  simp [Ideal.ofBits, Ideal.ieee, -EReal.coe_mul]; norm_num

/-- A score, read at an entry. -/
theorem scores_apply (q : FVec Ideal S4x4096x8x64 .f32) (k : FVec Ideal S4x4352x2x64 .f32) (b : Fin 4) (g : Fin 2) (h : Fin 4) (r : Fin 4096)
    (j : Fin 4352) :
    scores q k (ix5 b g h r j) = (∑ d : Fin 64, q (ix4 b r ⟨4 * g.val + h.val, by omega⟩ d) * k (ix4 b j g d)) * ((8⁻¹ : ℝ) : EReal) := by
  rw [← eighth, Finset.sum_congr rfl fun d _ => mul_comm (q (ix4 b r ⟨4 * g.val + h.val, by omega⟩ d)) (k (ix4 b j g d))]
  pointwise [scores]
  simp only [Nat.mul_comm g.val 4]

/-- An exponential, read at an entry. -/
theorem exps_apply (s : FVec Ideal S4x2x4x4096x4352 .f32) (b : Fin 4) (g : Fin 2) (h : Fin 4) (r : Fin 4096) (j : Fin 4352) :
    exps s (ix5 b g h r j) = Ideal.exp (s (ix5 b g h r j) - max ⊥ (top fun k => s (ix5 b g h r k))) := by
  unfold exps
  rw [expSub_apply, spread_apply, tops_apply]

/-- The weighted values, read at an entry of the result. -/
theorem out_apply (v : FVec Ideal S4x4352x2x64 .f32) (e : FVec Ideal S4x2x4x4096x4352 .f32) (b : Fin 4) (g : Fin 2) (h : Fin 4) (r : Fin 4096)
    (l : Fin 64) :
    out v e (ix2 (⟨4096 * b.val + r.val, by omega⟩ : Fin 16384) (⟨64 * (4 * g.val + h.val) + l.val, by omega⟩ : Fin 512)) =
      ∑ k : Fin 4352, v (ix4 b k g l) * Ideal.div (e (ix5 b g h r k)) (∑ k' : Fin 4352, e (ix5 b g h r k')) := by
  pointwise [out, spread, sums]

/-- The latent part of the joined rows. -/
theorem joined_lat (x : FVec Ideal S4x4096x2x64 .f32) (y : FVec Ideal S4x256x2x64 .f32) (b : Fin 4) (j : Fin 4096) (g : Fin 2) (d : Fin 64) :
    joined x y (ix4 b (Fin.castAdd 256 j) g d) = x (ix4 b j g d) := by
  pointwise [joined]
  rw [dif_pos (show (Fin.castAdd 256 j).val < 4096 from j.isLt)]
  rfl

/-- The context part of the joined rows. -/
theorem joined_ctx (x : FVec Ideal S4x4096x2x64 .f32) (y : FVec Ideal S4x256x2x64 .f32) (b : Fin 4) (j : Fin 256) (g : Fin 2) (d : Fin 64) :
    joined x y (ix4 b (Fin.natAdd 4096 j) g d) = y (ix4 b j g d) := by
  pointwise [joined]
  rw [dif_neg (show ¬(Fin.natAdd 4096 j).val < 4096 from Nat.not_lt.mpr (Nat.le_add_right 4096 j.val))]
  exact congrArg (fun z => y (ix4 b z g d)) (Fin.ext (Nat.add_sub_cancel_left 4096 j.val))

end Cert.Attn.NarrowReference

end
-- ==== Proof.Attn.NarrowClaim.lean ====
module

public import proofs.«01_k».proof.Defs
public import proofs.«01_k».proof.Proof.Attn.Rows
public import proofs.«01_k».proof.Proof.Attn.NarrowArray
public import proofs.«01_k».proof.Proof.Attn.NarrowHost
public import proofs.«01_k».proof.Proof.Attn.NarrowReference
public import proofs.«01_k».proof.Proof.Gen.Pre_finite_qk2

/-! The narrow attention's value claim: from finite queries and keys, the kernel's result array and the reference's are
equal. -/

@[expose] public section

set_option maxRecDepth 16384

noncomputable section

namespace Cert.Attn.Narrow

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The queries, keys and values a device is given. -/
abbrev argQ : FVec Ideal S4x4096x8x64 .f32 := m ((c.tc : Thread nD τ).loc main_arg0)
@[inherit_doc argQ] abbrev argK₁ : FVec Ideal S4x4096x2x64 .f32 := m ((c.tc : Thread nD τ).loc main_arg1)
@[inherit_doc argQ] abbrev argV₁ : FVec Ideal S4x4096x2x64 .f32 := m ((c.tc : Thread nD τ).loc main_arg2)
@[inherit_doc argQ] abbrev argK₂ : FVec Ideal S4x256x2x64 .f32 := m ((c.tc : Thread nD τ).loc main_arg3)
@[inherit_doc argQ] abbrev argV₂ : FVec Ideal S4x256x2x64 .f32 := m ((c.tc : Thread nD τ).loc main_arg4)

/-- The precondition makes every query and every key a real. -/
theorem reals (h : Cert.Pre_Kernel2Ideal_finite_qk2 m) :
    (∀ i, ∃ r : ℝ, argQ m c i = r) ∧ (∀ i, ∃ r : ℝ, argK₁ m c i = r) ∧ ∀ i, ∃ r : ℝ, argK₂ m c i = r :=
  ⟨fun i => entry_real _ _ Cert.Pre_finite_qk2.Gen.bcast_S_S4x4096x8x64 i (congrFun (h c).1 i),
   fun i => entry_real _ _ Cert.Pre_finite_qk2.Gen.bcast_S_S4x4096x2x64 i (congrFun (h c).2.1 i),
   fun i => entry_real _ _ Cert.Pre_finite_qk2.Gen.bcast_S_S4x256x2x64 i (congrFun (h c).2.2 i)⟩

/-- A query of the call's array is the argument's entry. -/
theorem Q_at (b : Fin 4) (s : Fin 4096) (h : Fin 8) (d : Fin 64) (R C : ℕ) (hR : R < 17408) (hC : C < 512)
    (eR : R = 4096 * b.val + s.val) (eC : C = 64 * h.val + d.val) :
    Q m c (ix2 (⟨R, hR⟩ : Fin 17408) (⟨C, hC⟩ : Fin 512)) = argQ m c (ix4 b s h d) := by
  subst eR eC
  rw [Q_eq]
  exact (packQ_upper _ ⟨4096 * b.val + s.val, by omega⟩ _).trans (rowsQ_apply _ b s h d)

/-- A latent row of a packed array, in either copy of head `g`, is the argument's entry. -/
theorem pack_lat (x : FVec Ideal S4x4096x2x64 .f32) (y : FVec Ideal S4x256x2x64 .f32) (b : Fin 4) (s : Fin 4096) (g u : Fin 2) (d : Fin 64)
    (R C : ℕ) (hR : R < 17408) (hC : C < 256) (eR : R = 4096 * b.val + s.val) (eC : C = 128 * g.val + 64 * u.val + d.val) :
    pack x y (ix2 (⟨R, hR⟩ : Fin 17408) (⟨C, hC⟩ : Fin 256)) = x (ix4 b s g d) := by
  subst eR eC
  exact (pack_upper x y ⟨4096 * b.val + s.val, by omega⟩ _).trans ((twiceLat_apply _ _ g u d).trans (rowsLat_apply x b s g d))

/-- A context row of a packed array, in either copy of head `g`, is the argument's entry. -/
theorem pack_ctx (x : FVec Ideal S4x4096x2x64 .f32) (y : FVec Ideal S4x256x2x64 .f32) (b : Fin 4) (s : Fin 256) (g u : Fin 2) (d : Fin 64)
    (R C : ℕ) (hR : R < 17408) (hC : C < 256) (eR : R = 16384 + (256 * b.val + s.val)) (eC : C = 128 * g.val + 64 * u.val + d.val) :
    pack x y (ix2 (⟨R, hR⟩ : Fin 17408) (⟨C, hC⟩ : Fin 256)) = y (ix4 b s g d) := by
  subst eR eC
  exact (pack_lower x y ⟨256 * b.val + s.val, by omega⟩ _).trans ((twiceCtx_apply _ _ g u d).trans (rowsCtx_apply y b s g d))

/-- The copy of a key head that the query head `h` of the group reads. -/
abbrev copy (h : Fin 4) : Fin 2 := ⟨h.val % 2, Nat.mod_lt _ (by norm_num)⟩

/-- The result at a row of sequence `b` and a column of head `4 * g + h`, over the arguments. -/
theorem resultAt_args (b : Fin 4) (r : Fin 4096) (g : Fin 2) (h : Fin 4) (l : Fin 64) :
    resultAt m c ⟨4096 * b.val + r.val, by omega⟩ ⟨64 * (4 * g.val + h.val) + l.val, by omega⟩ =
      online (fun k : Fin 4096 => (∑ d : Fin 64, argQ m c (ix4 b r ⟨4 * g.val + h.val, by omega⟩ d) * argK₁ m c (ix4 b k g d)) * factor)
        (fun k : Fin 256 => (∑ d : Fin 64, argQ m c (ix4 b r ⟨4 * g.val + h.val, by omega⟩ d) * argK₂ m c (ix4 b k g d)) * factor)
        (fun k => argV₁ m c (ix4 b k g l)) (fun k => argV₂ m c (ix4 b k g l)) := by
  unfold resultAt
  rw [K_eq, W_eq]
  refine congr (congr (congr (congrArg online (funext fun k => ?_)) (funext fun k => ?_)) (funext fun k => ?_)) (funext fun k => ?_)
  · refine congrArg (· * factor) (Finset.sum_congr rfl fun d _ => ?_)
    exact congrArg₂ (· * ·) (Q_at m c b r ⟨4 * g.val + h.val, by omega⟩ d _ _ _ _ rfl (by simp only; omega))
      (pack_lat _ _ b k g (copy h) d _ _ _ _ (by simp only; omega) (by simp only; omega))
  · refine congrArg (· * factor) (Finset.sum_congr rfl fun d _ => ?_)
    exact congrArg₂ (· * ·) (Q_at m c b r ⟨4 * g.val + h.val, by omega⟩ d _ _ _ _ rfl (by simp only; omega))
      (pack_ctx _ _ b k g (copy h) d _ _ _ _ (by simp only; omega) (by simp only; omega))
  · exact pack_lat _ _ b k g (copy h) l _ _ _ _ (by simp only; omega) (by simp only; omega)
  · exact pack_ctx _ _ b k g (copy h) l _ _ _ _ (by simp only; omega) (by simp only; omega)

/-- The reference's result from the kernel's arguments. -/
abbrev refOut : FVec Ideal S16384x512 .bf16 :=
  NarrowReference.out (NarrowReference.joined (argV₁ m c) (argV₂ m c))
    (NarrowReference.exps (NarrowReference.scores (argQ m c) (NarrowReference.joined (argK₁ m c) (argK₂ m c))))

/-- One entry of the result, the kernel's and the reference's. -/
theorem entry_eq (hp : Cert.Pre_Kernel2Ideal_finite_qk2 m) (b : Fin 4) (r : Fin 4096) (g : Fin 2) (h : Fin 4) (l : Fin 64) :
    resultAt m c ⟨4096 * b.val + r.val, by omega⟩ ⟨64 * (4 * g.val + h.val) + l.val, by omega⟩ =
      refOut m c (ix2 (⟨4096 * b.val + r.val, by omega⟩ : Fin 16384) (⟨64 * (4 * g.val + h.val) + l.val, by omega⟩ : Fin 512)) := by
  obtain ⟨hq, hk₁, hk₂⟩ := reals m c hp
  have hl : Real.log 2 ≠ 0 := (Real.log_pos (by norm_num)).ne'
  rw [resultAt_args]
  refine Eq.trans ?_ (NarrowReference.out_apply _ _ b g h r l).symm
  simp only [NarrowReference.exps_apply, NarrowReference.scores_apply]
  exact rows_eq (by norm_num) (by norm_num) (8⁻¹ * (Real.log 2)⁻¹) 8⁻¹
    (by rw [mul_assoc, inv_mul_cancel₀ hl, mul_one])
    (fun d => argQ m c (ix4 b r ⟨4 * g.val + h.val, by omega⟩ d)) (fun k d => argK₁ m c (ix4 b k g d)) (fun k d => argK₂ m c (ix4 b k g d)) _ _
    (fun k d => NarrowReference.joined (argK₁ m c) (argK₂ m c) (ix4 b k g d))
    (fun k => NarrowReference.joined (argV₁ m c) (argV₂ m c) (ix4 b k g l))
    (fun d => hq _) (fun k d => hk₁ _) (fun k d => hk₂ _)
    (fun k => funext fun d => NarrowReference.joined_lat _ _ b k g d) (fun k => funext fun d => NarrowReference.joined_ctx _ _ b k g d)
    (fun k => NarrowReference.joined_lat _ _ b k g l) (fun k => NarrowReference.joined_ctx _ _ b k g l)

/-- The kernel's result array is the reference's. -/
theorem result_eq (hp : Cert.Pre_Kernel2Ideal_finite_qk2 m) : result m c = refOut m c := by
  funext i
  have h := entry_eq m c hp ⟨(i 0).val / 4096, by have h : (i 0).val < 16384 := (i 0).isLt; omega⟩ ⟨(i 0).val % 4096, Nat.mod_lt _ (by norm_num)⟩
    ⟨(i 1).val / 256, by have h : (i 1).val < 512 := (i 1).isLt; omega⟩ ⟨(i 1).val / 64 % 4, Nat.mod_lt _ (by norm_num)⟩ ⟨(i 1).val % 64, Nat.mod_lt _ (by norm_num)⟩
  have e0 : (⟨4096 * ((i 0).val / 4096) + (i 0).val % 4096, by have h : (i 0).val < 16384 := (i 0).isLt; omega⟩ : Fin 16384) = i 0 := Fin.ext (Nat.div_add_mod _ _)
  have e1 : (⟨64 * (4 * ((i 1).val / 256) + (i 1).val / 64 % 4) + (i 1).val % 64, by have h : (i 1).val < 512 := (i 1).isLt; omega⟩ : Fin 512) = i 1 :=
    Fin.ext (show 64 * (4 * ((i 1).val / 256) + (i 1).val / 64 % 4) + (i 1).val % 64 = (i 1).val by omega)
  have e : ix2 (i 0) (i 1) = i := by
    funext a; match a with
    | ⟨0, _⟩ => rfl
    | ⟨1, _⟩ => rfl
  unfold result
  exact (congrArg₂ (resultAt m c) e0 e1).symm.trans (h.trans (congrArg (refOut m c) ((congrArg₂ ix2 e0 e1).trans e)))

/-- THE CLAIM: the kernel's run and the reference's run end in the same result, their arguments kept. -/
theorem claim : Cert.algebraic_Kernel2Ideal_Reference2Ideal_pre_finite_qk2 := fun m g m' g' hp ha =>
  ⟨fun c => result m c,
   (θ_run defs _ _).mono (fun _ h c => ⟨(h c).1.trans (array_eq m c), (h c).2⟩) (Cert.Kernel2Ideal.Value.run_blocks m g),
   (θ_run Cert.Reference2Ideal.defs _ _).mono (fun _ h c => ⟨(h c).1.trans (by
      rw [(ha c).1, (ha c).2.1, (ha c).2.2.1, (ha c).2.2.2.1, (ha c).2.2.2.2]; exact (result_eq m c hp).symm), (h c).2⟩)
     (NarrowReference.run m' g')⟩

end Cert.Attn.Narrow

end
-- ==== Proof.Merge.Rows.lean ====
module

public import Idealize.ShloMosaic.Lib.Pointwise

/-! What the merge computes for one token, as plain functions of the numbers it reads: the gated sum of the three
attention results, the residual step, the normed and modulated row, the queries and their scores against a sub-key. -/

@[expose] public section

noncomputable section

namespace Cert.Merge

open Idealize.ShloMosaic

/-- What belongs to one token: its row, the step's gate, the shift and the scale of the modulation, the three
    attention results and their gates. -/
@[ext] structure Token where
  /-- The token's row. -/
  x : Fin 1024 → EReal
  /-- The gate of the residual step. -/
  step : Fin 1024 → EReal
  /-- The shift of the modulation. -/
  shift : Fin 1024 → EReal
  /-- The scale of the modulation. -/
  scale : Fin 1024 → EReal
  /-- The first attention's result. -/
  a : Fin 512 → EReal
  /-- The second attention's result. -/
  b : Fin 512 → EReal
  /-- The third attention's result. -/
  w : Fin 512 → EReal
  /-- The gate of the first result. -/
  ga : Fin 1024 → EReal
  /-- The gate of the second result. -/
  gb : Fin 1024 → EReal
  /-- The gate of the third result. -/
  gw : Fin 1024 → EReal

/-- The weights, common to all tokens. -/
@[ext] structure Weights where
  /-- The first result's projection. -/
  a : Fin 512 → Fin 1024 → EReal
  /-- The second result's projection. -/
  b : Fin 512 → Fin 1024 → EReal
  /-- The third result's projection. -/
  w : Fin 512 → Fin 1024 → EReal
  /-- The projection of the gated sum. -/
  o : Fin 1024 → Fin 1024 → EReal
  /-- The norm's gain. -/
  gain : Fin 1024 → EReal
  /-- The projection to the queries. -/
  q : Fin 1024 → Fin 2048 → EReal

variable (T : Token) (P : Weights)

/-- The gated sum of the three projected results. -/
def mixed (n : Fin 1024) : EReal :=
  T.ga n * (∑ d, T.a d * P.a d n) + T.gb n * (∑ d, T.b d * P.b d n) + T.gw n * ∑ d, T.w d * P.w d n

/-- The row after the residual step. -/
def stepped (n : Fin 1024) : EReal := T.x n + T.step n * ∑ j, mixed T P j * P.o j n

/-- The reciprocal root mean square of the row after the step. -/
def inverse : EReal :=
  Ideal.rsqrt (Ideal.div (∑ n, stepped T P n * stepped T P n) (Ideal.ofBits .f32 0x44800000#32) + Ideal.ofBits .f32 0x358637BD#32)

/-- The normed and modulated row. -/
def normed (n : Fin 1024) : EReal :=
  stepped T P n * inverse T P * P.gain n * (Ideal.ofBits .f32 0x3F800000#32 + T.scale n) + T.shift n

/-- The queries. -/
def query (c : Fin 2048) : EReal := ∑ n, normed T P n * P.q n c

/-- The score of one sub-key against slice `g` of the queries. -/
def score (key : Fin 128 → EReal) (g : Fin 16) : EReal := ∑ e : Fin 128, key e * query T P ⟨128 * g.val + e.val, by omega⟩

end Cert.Merge

end
-- ==== Proof.Merge.Block.lean ====
module

public import proofs.«01_k».proof.Proof.Merge.Rows
public import proofs.«01_k».proof.Proof.Gen.Kernel3Ideal.Value
public import Idealize.ShloMosaic.Lib.Pointwise

/-! One grid point of the merge: the rows the body leaves in its four output blocks are the row functions of the blocks
it reads. -/

@[expose] public section

set_option maxRecDepth 16384

noncomputable section

namespace Cert.Merge

open Cert.Kernel3Ideal Cert.Kernel3Ideal.Gen Idealize.ShloMosaic Idealize.ShloMosaic.TcCoe Idealize.SL.Sem

/-- The first two terms of the gated sum, at a row and a column. -/
theorem two_apply (oa ob : Vec Ideal S512x512 .bf16) (ga wa gb wb : Vec Ideal S512x1024 .bf16) (r : Fin 512) (n : Fin 1024) :
    k0_pay6 oa ob ga wa gb wb (ix2 r n) =
      ga (ix2 r n) * (∑ d : Fin 512, oa (ix2 r d) * wa (ix2 d n)) + gb (ix2 r n) * ∑ d : Fin 512, ob (ix2 r d) * wb (ix2 d n) := by
  pointwise [k0_pay6]

/-- The row after the residual step, at a row and a column. -/
theorem step_apply (ow : FVec Ideal S512x512 .bf16) (gt : FVec Ideal S1x1024 .f32) (two gw : FVec Ideal S512x1024 .f32)
    (ww : Vec Ideal S512x1024 .bf16) (wo : Vec Ideal S1024x1024 .bf16) (x : Vec Ideal S512x1024 .f32) (r : Fin 512) (n : Fin 1024) :
    k0_pay8 ow gt two gw ww wo x (ix2 r n) = x (ix2 r n) + gt (ix2 0 n) *
      ∑ j : Fin 1024, (two (ix2 r j) + gw (ix2 r j) * ∑ d : Fin 512, ow (ix2 r d) * ww (ix2 d j)) * wo (ix2 j n) := by
  pointwise [k0_pay8]

/-- The normed and modulated row, at a row and a column, from the row after the step. -/
theorem norm_apply (ow : FVec Ideal S512x512 .bf16) (gt sh sc : FVec Ideal S1x1024 .f32) (two gw : FVec Ideal S512x1024 .f32)
    (ww : Vec Ideal S512x1024 .bf16) (wo : Vec Ideal S1024x1024 .bf16) (x : Vec Ideal S512x1024 .f32) (g : Vec Ideal S1x1024 .f32)
    (y : Fin 1024 → EReal) (r : Fin 512) (hy : ∀ n : Fin 1024, k0_pay8 ow gt two gw ww wo x (ix2 r n) = y n) (n : Fin 1024) :
    k0_pay9 ow gt sh sc two gw ww wo x g (ix2 r n) =
      y n * Ideal.rsqrt (Ideal.div (∑ n, y n * y n) (Ideal.ofBits .f32 0x44800000#32) + Ideal.ofBits .f32 0x358637BD#32) *
        g (ix2 0 n) * (Ideal.ofBits .f32 0x3F800000#32 + sc (ix2 0 n)) + sh (ix2 0 n) := by
  have e : y = fun n => k0_pay8 ow gt two gw ww wo x (ix2 r n) := funext fun n => (hy n).symm
  subst e
  unfold k0_pay9
  generalize k0_pay8 ow gt two gw ww wo x = z
  pointwise

/-- The queries, at a row and a column. -/
theorem query_pay (h : FVec Ideal S512x1024 .bf16) (w : FVec Ideal S1024x2048 .bf16) (r : Fin 512) (c : Fin 2048) :
    k0_pay11 h (k0_pay10 w) (constant S512x2048 .f32 0x00000000#32) (ix2 r c) = ∑ n : Fin 1024, h (ix2 r n) * w (ix2 n c) := by
  pointwise [k0_pay11, k0_pay10]

/-- The step's gate as a row. -/
theorem cast_step (y : Vec Ideal S1x1x1024 .f32) (n : Fin 1024) : k0_pay3 y (ix2 0 n) = y (ix3 0 0 n) := by
  pointwise [k0_pay3]

/-- The shift as a row. -/
theorem cast_shift (y : Vec Ideal S1x1x1024 .f32) (n : Fin 1024) : k0_pay4 y (ix2 0 n) = y (ix3 0 0 n) := by
  pointwise [k0_pay4]

/-- The scale as a row. -/
theorem cast_scale (y : Vec Ideal S1x1x1024 .f32) (n : Fin 1024) : k0_pay5 y (ix2 0 n) = y (ix3 0 0 n) := by
  pointwise [k0_pay5]

/-- The third attention result, unchanged. -/
theorem cast_third (o : Vec Ideal S512x512 .bf16) (r : Fin 512) (d : Fin 512) : k0_pay2 o (ix2 r d) = o (ix2 r d) := by
  pointwise [k0_pay2]

/-- The third gate, unchanged. -/
theorem cast_gate (g : Vec Ideal S512x1024 .bf16) (r : Fin 512) (n : Fin 1024) : k0_pay7 g (ix2 r n) = g (ix2 r n) := by
  pointwise [k0_pay7]

variable (x0 : Vec Ideal S512x1024 .f32) (x1 : Vec Ideal S1x1x6144 .f32) (x2 : Vec Ideal S512x512 .bf16) (x3 : Vec Ideal S512x512 .bf16)
  (x4 : Vec Ideal S512x512 .bf16) (x5 : Vec Ideal S512x3072 .bf16) (x6 : Vec Ideal S512x1024 .bf16) (x7 : Vec Ideal S512x1024 .bf16)
  (x8 : Vec Ideal S512x1024 .bf16) (x9 : Vec Ideal S1024x1024 .bf16) (x10 : Vec Ideal S1x1024 .f32) (x11 : Vec Ideal S1024x2048 .bf16)
  (x12 : Vec Ideal S16x128x128 .bf16)

/-- What row `r` of a point's blocks holds for its token. -/
def blockToken (r : Fin 512) : Token where
  x n := x0 (ix2 r n)
  step n := x1 (ix3 0 0 (⟨2048 + n.val, by omega⟩ : Fin 6144))
  shift n := x1 (ix3 0 0 (⟨3072 + n.val, by omega⟩ : Fin 6144))
  scale n := x1 (ix3 0 0 (⟨4096 + n.val, by omega⟩ : Fin 6144))
  a d := x2 (ix2 r d)
  b d := x3 (ix2 r d)
  w d := x4 (ix2 r d)
  ga n := x5 (ix2 r (⟨n.val, by omega⟩ : Fin 3072))
  gb n := x5 (ix2 r (⟨1024 + n.val, by omega⟩ : Fin 3072))
  gw n := x5 (ix2 r (⟨2048 + n.val, by omega⟩ : Fin 3072))

/-- The weights a point's blocks hold. -/
def blockWeights : Weights where
  a d n := x6 (ix2 d n)
  b d n := x7 (ix2 d n)
  w d n := x8 (ix2 d n)
  o j n := x9 (ix2 j n)
  gain n := x10 (ix2 0 n)
  q n c := x11 (ix2 n c)

/-- The row after the step, as the body computes it of its blocks. -/
theorem stepped_pay (r : Fin 512) (n : Fin 1024) :
    k0_pay8 (k0_pay31 x0 x1 x2 x3 x4 x5 x6 x7 x8 x9 x10 x11 x12) (k0_pay32 x0 x1 x2 x3 x4 x5 x6 x7 x8 x9 x10 x11 x12)
      (k0_pay35 x0 x1 x2 x3 x4 x5 x6 x7 x8 x9 x10 x11 x12) (k0_pay36 x0 x1 x2 x3 x4 x5 x6 x7 x8 x9 x10 x11 x12)
      (View.ld x8 r0_5) (View.ld x9 r0_8) (View.ld x0 r0_5) (ix2 r n) =
      stepped (blockToken x0 x1 x2 x3 x4 x5 r) (blockWeights x6 x7 x8 x9 x10 x11) n := by
  rw [step_apply]
  unfold k0_pay31 k0_pay32 k0_pay35 k0_pay36
  simp only [two_apply, cast_step, cast_third, cast_gate]
  unfold stepped mixed blockToken blockWeights
  pointwise

/-- The normed row, as the body computes it of its blocks. -/
theorem normed_pay (r : Fin 512) (n : Fin 1024) :
    k0_pay38 x0 x1 x2 x3 x4 x5 x6 x7 x8 x9 x10 x11 x12 (ix2 r n) =
      normed (blockToken x0 x1 x2 x3 x4 x5 r) (blockWeights x6 x7 x8 x9 x10 x11) n := by
  unfold k0_pay38
  rw [norm_apply (hy := stepped_pay x0 x1 x2 x3 x4 x5 x6 x7 x8 x9 x10 x11 x12 r)]
  unfold normed inverse k0_pay33 k0_pay34
  rw [cast_shift, cast_scale]
  have e1 : View.ld x10 r0_9 (ix2 0 n) = (blockWeights x6 x7 x8 x9 x10 x11).gain n := by unfold blockWeights; pointwise
  have e2 : View.ld x1 r0_3 (ix3 0 0 n) = (blockToken x0 x1 x2 x3 x4 x5 r).scale n := by unfold blockToken; pointwise
  have e3 : View.ld x1 r0_2 (ix3 0 0 n) = (blockToken x0 x1 x2 x3 x4 x5 r).shift n := by unfold blockToken; pointwise
  rw [e1, e2, e3]

/-- The queries, as the body computes them of its blocks. -/
theorem queries_pay (r : Fin 512) (c : Fin 2048) :
    k0_pay40 x0 x1 x2 x3 x4 x5 x6 x7 x8 x9 x10 x11 x12 (ix2 r c) =
      query (blockToken x0 x1 x2 x3 x4 x5 r) (blockWeights x6 x7 x8 x9 x10 x11) c := by
  unfold k0_pay40 k0_pay39 k0_pay37
  rw [query_pay]
  unfold query
  refine Finset.sum_congr rfl fun n _ => ?_
  rw [normed_pay]
  have e : View.ld x11 r0_10 (ix2 n c) = (blockWeights x6 x7 x8 x9 x10 x11).q n c := by unfold blockWeights; pointwise
  rw [e]

/-- What the body leaves in its first output block. -/
theorem block_step (r : Fin 512) (n : Fin 1024) :
    out0_13 x0 x1 x2 x3 x4 x5 x6 x7 x8 x9 x10 x11 x12 (ix2 r n) =
      stepped (blockToken x0 x1 x2 x3 x4 x5 r) (blockWeights x6 x7 x8 x9 x10 x11) n := by
  refine Eq.trans ?_ (stepped_pay x0 x1 x2 x3 x4 x5 x6 x7 x8 x9 x10 x11 x12 r n)
  unfold out0_13
  rw [View.canon_unit_zero (by decide)]

/-- What the body leaves in its second output block. -/
theorem block_norm (r : Fin 512) (n : Fin 1024) :
    out0_14 x0 x1 x2 x3 x4 x5 x6 x7 x8 x9 x10 x11 x12 (ix2 r n) =
      normed (blockToken x0 x1 x2 x3 x4 x5 r) (blockWeights x6 x7 x8 x9 x10 x11) n := by
  refine Eq.trans ?_ (normed_pay x0 x1 x2 x3 x4 x5 x6 x7 x8 x9 x10 x11 x12 r n)
  unfold out0_14
  rw [View.canon_unit_zero (by decide)]
  rfl

end Cert.Merge

end
-- ==== Proof.Merge.Scores.lean ====
module

public import proofs.«01_k».proof.Proof.Merge.Block
public import Idealize.ShloMosaic.Lib.Pipeline.ValueKit

/-! One grid point of the merge, its last two output blocks: the scores of every token of the block against the sub-keys,
head by head. -/

@[expose] public section

set_option maxRecDepth 16384

noncomputable section

namespace Cert.Merge

open Cert.Kernel3Ideal Cert.Kernel3Ideal.Gen Idealize.ShloMosaic Idealize.ShloMosaic.TcCoe Idealize.SL.Sem

/-- The scores of a block of keys against 128 columns of the queries, at a key and a token. -/
def slice (q : FVec Ideal S512x2048 .bf16) (keys : Vec Ideal S1x128x128 .bf16) (g : Fin 16) (k : Fin 128) (r : Fin 512) : EReal :=
  ∑ e : Fin 128, keys (ix3 0 k e) * q (ix2 r (⟨128 * g.val + e.val, by omega⟩ : Fin 2048))

/-- The stored scores of slice 0. -/
theorem slice_0 (h : FVec Ideal S512x1024 .bf16) (w : FVec Ideal S1024x2048 .bf16) (cst : FVec Ideal S512x2048 .f32) (keys : Vec Ideal S1x128x128 .bf16) (u : Fin 1) (k : Fin 128) (r : Fin 512) :
    k0_pay12 h w cst keys (ix3 u k r) = slice (k0_pay11 h w cst) keys 0 k r := by
  unfold k0_pay12 slice
  generalize k0_pay11 h w cst = q
  pointwise

/-- The stored scores of slice 1. -/
theorem slice_1 (h : FVec Ideal S512x1024 .bf16) (w : FVec Ideal S1024x2048 .bf16) (cst : FVec Ideal S512x2048 .f32) (keys : Vec Ideal S1x128x128 .bf16) (u : Fin 1) (k : Fin 128) (r : Fin 512) :
    k0_pay13 h w cst keys (ix3 u k r) = slice (k0_pay11 h w cst) keys 1 k r := by
  unfold k0_pay13 slice
  generalize k0_pay11 h w cst = q
  pointwise

/-- The stored scores of slice 2. -/
theorem slice_2 (h : FVec Ideal S512x1024 .bf16) (w : FVec Ideal S1024x2048 .bf16) (cst : FVec Ideal S512x2048 .f32) (keys : Vec Ideal S1x128x128 .bf16) (u : Fin 1) (k : Fin 128) (r : Fin 512) :
    k0_pay14 h w cst keys (ix3 u k r) = slice (k0_pay11 h w cst) keys 2 k r := by
  unfold k0_pay14 slice
  generalize k0_pay11 h w cst = q
  pointwise

/-- The stored scores of slice 3. -/
theorem slice_3 (h : FVec Ideal S512x1024 .bf16) (w : FVec Ideal S1024x2048 .bf16) (cst : FVec Ideal S512x2048 .f32) (keys : Vec Ideal S1x128x128 .bf16) (u : Fin 1) (k : Fin 128) (r : Fin 512) :
    k0_pay16 (k0_pay15 h w cst keys) (ix3 u k r) = slice (k0_pay11 h w cst) keys 3 k r := by
  unfold k0_pay16 k0_pay15 slice
  generalize k0_pay11 h w cst = q
  pointwise

/-- The stored scores of slice 4. -/
theorem slice_4 (q : FVec Ideal S512x2048 .bf16) (keys : Vec Ideal S1x128x128 .bf16) (u : Fin 1) (k : Fin 128) (r : Fin 512) :
    k0_pay17 q keys (ix3 u k r) = slice q keys 4 k r := by
  unfold k0_pay17 slice
  pointwise

/-- The stored scores of slice 5. -/
theorem slice_5 (q : FVec Ideal S512x2048 .bf16) (keys : Vec Ideal S1x128x128 .bf16) (u : Fin 1) (k : Fin 128) (r : Fin 512) :
    k0_pay18 q keys (ix3 u k r) = slice q keys 5 k r := by
  unfold k0_pay18 slice
  pointwise

/-- The stored scores of slice 6. -/
theorem slice_6 (q : FVec Ideal S512x2048 .bf16) (keys : Vec Ideal S1x128x128 .bf16) (u : Fin 1) (k : Fin 128) (r : Fin 512) :
    k0_pay19 q keys (ix3 u k r) = slice q keys 6 k r := by
  unfold k0_pay19 slice
  pointwise

/-- The stored scores of slice 7. -/
theorem slice_7 (q : FVec Ideal S512x2048 .bf16) (keys : Vec Ideal S1x128x128 .bf16) (u : Fin 1) (k : Fin 128) (r : Fin 512) :
    k0_pay21 (k0_pay20 q keys) (ix3 u k r) = slice q keys 7 k r := by
  unfold k0_pay21 k0_pay20 slice
  pointwise

/-- The stored scores of slice 8. -/
theorem slice_8 (q : FVec Ideal S512x2048 .bf16) (keys : Vec Ideal S1x128x128 .bf16) (u : Fin 1) (k : Fin 128) (r : Fin 512) :
    k0_pay22 q keys (ix3 u k r) = slice q keys 8 k r := by
  unfold k0_pay22 slice
  pointwise

/-- The stored scores of slice 9. -/
theorem slice_9 (q : FVec Ideal S512x2048 .bf16) (keys : Vec Ideal S1x128x128 .bf16) (u : Fin 1) (k : Fin 128) (r : Fin 512) :
    k0_pay23 q keys (ix3 u k r) = slice q keys 9 k r := by
  unfold k0_pay23 slice
  pointwise

/-- The stored scores of slice 10. -/
theorem slice_10 (q : FVec Ideal S512x2048 .bf16) (keys : Vec Ideal S1x128x128 .bf16) (u : Fin 1) (k : Fin 128) (r : Fin 512) :
    k0_pay24 q keys (ix3 u k r) = slice q keys 10 k r := by
  unfold k0_pay24 slice
  pointwise

/-- The stored scores of slice 11. -/
theorem slice_11 (q : FVec Ideal S512x2048 .bf16) (keys : Vec Ideal S1x128x128 .bf16) (u : Fin 1) (k : Fin 128) (r : Fin 512) :
    k0_pay26 (k0_pay25 q keys) (ix3 u k r) = slice q keys 11 k r := by
  unfold k0_pay26 k0_pay25 slice
  pointwise

/-- The stored scores of slice 12. -/
theorem slice_12 (q : FVec Ideal S512x2048 .bf16) (keys : Vec Ideal S1x128x128 .bf16) (u : Fin 1) (k : Fin 128) (r : Fin 512) :
    k0_pay27 q keys (ix3 u k r) = slice q keys 12 k r := by
  unfold k0_pay27 slice
  pointwise

/-- The stored scores of slice 13. -/
theorem slice_13 (q : FVec Ideal S512x2048 .bf16) (keys : Vec Ideal S1x128x128 .bf16) (u : Fin 1) (k : Fin 128) (r : Fin 512) :
    k0_pay28 q keys (ix3 u k r) = slice q keys 13 k r := by
  unfold k0_pay28 slice
  pointwise

/-- The stored scores of slice 14. -/
theorem slice_14 (q : FVec Ideal S512x2048 .bf16) (keys : Vec Ideal S1x128x128 .bf16) (u : Fin 1) (k : Fin 128) (r : Fin 512) :
    k0_pay29 q keys (ix3 u k r) = slice q keys 14 k r := by
  unfold k0_pay29 slice
  pointwise

/-- The stored scores of slice 15. -/
theorem slice_15 (q : FVec Ideal S512x2048 .bf16) (keys : Vec Ideal S1x128x128 .bf16) (u : Fin 1) (k : Fin 128) (r : Fin 512) :
    k0_pay1 (k0_pay30 q keys) (ix3 u k r) = slice q keys 15 k r := by
  unfold k0_pay1 k0_pay30 slice
  pointwise

variable (x0 : Vec Ideal S512x1024 .f32) (x1 : Vec Ideal S1x1x6144 .f32) (x2 : Vec Ideal S512x512 .bf16) (x3 : Vec Ideal S512x512 .bf16)
  (x4 : Vec Ideal S512x512 .bf16) (x5 : Vec Ideal S512x3072 .bf16) (x6 : Vec Ideal S512x1024 .bf16) (x7 : Vec Ideal S512x1024 .bf16)
  (x8 : Vec Ideal S512x1024 .bf16) (x9 : Vec Ideal S1024x1024 .bf16) (x10 : Vec Ideal S1x1024 .f32) (x11 : Vec Ideal S1024x2048 .bf16)
  (x12 : Vec Ideal S16x128x128 .bf16)

/-- The scores of slice `2 * p + u`, for head `p`, against the block's keys. -/
def blockScore (u : Fin 2) (y : S8x128x512.Idx) : EReal :=
  score (blockToken x0 x1 x2 x3 x4 x5 (y 2)) (blockWeights x6 x7 x8 x9 x10 x11)
    (fun e => x12 (ix3 (⟨2 * (y 0).val + u.val, by have : (y 0).val < 8 := (y 0).isLt; omega⟩ : Fin 16) (y 1) e))
    ⟨2 * (y 0).val + u.val, by have : (y 0).val < 8 := (y 0).isLt; omega⟩

/-- A slice's scores are the score of the token. -/
theorem slice_eq (keys : Vec Ideal S1x128x128 .bf16) (g : Fin 16) (k : Fin 128) (r : Fin 512)
    (hk : ∀ e : Fin 128, keys (ix3 0 k e) = x12 (ix3 g k e)) :
    slice (k0_pay40 x0 x1 x2 x3 x4 x5 x6 x7 x8 x9 x10 x11 x12) keys g k r =
      score (blockToken x0 x1 x2 x3 x4 x5 r) (blockWeights x6 x7 x8 x9 x10 x11) (fun e => x12 (ix3 g k e)) g := by
  unfold slice score
  refine Finset.sum_congr rfl fun e _ => ?_
  rw [queries_pay, hk]

/-- The score at a head, a key and a token of the block. -/
theorem score_place (u : Fin 2) (p : Fin 8) (k : Fin 128) (r : Fin 512) (g : Fin 16) (hg : g.val = 2 * p.val + u.val) :
    score (blockToken x0 x1 x2 x3 x4 x5 r) (blockWeights x6 x7 x8 x9 x10 x11) (fun e => x12 (ix3 g k e)) g =
      blockScore x0 x1 x2 x3 x4 x5 x6 x7 x8 x9 x10 x11 x12 u (ix3 p k r) := by
  obtain ⟨g, h⟩ := g
  simp only at hg
  subst hg
  rfl

/-- What the body leaves in the output block of the first sub-key set: every head's scores. -/
theorem block_first (y : S8x128x512.Idx) :
    out0_15 x0 x1 x2 x3 x4 x5 x6 x7 x8 x9 x10 x11 x12 y = blockScore x0 x1 x2 x3 x4 x5 x6 x7 x8 x9 x10 x11 x12 0 y := by
  unfold out0_15
  refine View.canon_apply_of_pieces (Val := Elt Ideal) (e := .f32) (blockScore x0 x1 x2 x3 x4 x5 x6 x7 x8 x9 x10 x11 x12 0) _ ?_ y (cover0_15 _ _ _ _ _ _ _ _ y)
  simp only [List.forall_mem_cons, List.not_mem_nil, IsEmpty.forall_iff, implies_true, and_true]
  refine ⟨fun z => ?_, fun z => ?_, fun z => ?_, fun z => ?_, fun z => ?_, fun z => ?_, fun z => ?_, fun z => ?_⟩
  · idx_vars z
    refine (slice_14 _ _ _ _ _).trans ((slice_eq x0 x1 x2 x3 x4 x5 x6 x7 x8 x9 x10 x11 x12 _ 14 _ _ ?_).trans ?_)
    · intro e; pointwise
    · have h : r0_33.emb (ix3 z0 z1 z2) = ix3 7 z1 z2 := by
        blk_ext
      exact (score_place x0 x1 x2 x3 x4 x5 x6 x7 x8 x9 x10 x11 x12 0 7 z1 z2 14 rfl).trans (congrArg (blockScore x0 x1 x2 x3 x4 x5 x6 x7 x8 x9 x10 x11 x12 0) h.symm)
  · idx_vars z
    refine (slice_12 _ _ _ _ _).trans ((slice_eq x0 x1 x2 x3 x4 x5 x6 x7 x8 x9 x10 x11 x12 _ 12 _ _ ?_).trans ?_)
    · intro e; pointwise
    · have h : r0_30.emb (ix3 z0 z1 z2) = ix3 6 z1 z2 := by
        blk_ext
      exact (score_place x0 x1 x2 x3 x4 x5 x6 x7 x8 x9 x10 x11 x12 0 6 z1 z2 12 rfl).trans (congrArg (blockScore x0 x1 x2 x3 x4 x5 x6 x7 x8 x9 x10 x11 x12 0) h.symm)
  · idx_vars z
    refine (slice_10 _ _ _ _ _).trans ((slice_eq x0 x1 x2 x3 x4 x5 x6 x7 x8 x9 x10 x11 x12 _ 10 _ _ ?_).trans ?_)
    · intro e; pointwise
    · have h : r0_27.emb (ix3 z0 z1 z2) = ix3 5 z1 z2 := by
        blk_ext
      exact (score_place x0 x1 x2 x3 x4 x5 x6 x7 x8 x9 x10 x11 x12 0 5 z1 z2 10 rfl).trans (congrArg (blockScore x0 x1 x2 x3 x4 x5 x6 x7 x8 x9 x10 x11 x12 0) h.symm)
  · idx_vars z
    refine (slice_8 _ _ _ _ _).trans ((slice_eq x0 x1 x2 x3 x4 x5 x6 x7 x8 x9 x10 x11 x12 _ 8 _ _ ?_).trans ?_)
    · intro e; pointwise
    · have h : r0_24.emb (ix3 z0 z1 z2) = ix3 4 z1 z2 := by
        blk_ext
      exact (score_place x0 x1 x2 x3 x4 x5 x6 x7 x8 x9 x10 x11 x12 0 4 z1 z2 8 rfl).trans (congrArg (blockScore x0 x1 x2 x3 x4 x5 x6 x7 x8 x9 x10 x11 x12 0) h.symm)
  · idx_vars z
    refine (slice_6 _ _ _ _ _).trans ((slice_eq x0 x1 x2 x3 x4 x5 x6 x7 x8 x9 x10 x11 x12 _ 6 _ _ ?_).trans ?_)
    · intro e; pointwise
    · have h : r0_21.emb (ix3 z0 z1 z2) = ix3 3 z1 z2 := by
        blk_ext
      exact (score_place x0 x1 x2 x3 x4 x5 x6 x7 x8 x9 x10 x11 x12 0 3 z1 z2 6 rfl).trans (congrArg (blockScore x0 x1 x2 x3 x4 x5 x6 x7 x8 x9 x10 x11 x12 0) h.symm)
  · idx_vars z
    refine (slice_4 _ _ _ _ _).trans ((slice_eq x0 x1 x2 x3 x4 x5 x6 x7 x8 x9 x10 x11 x12 _ 4 _ _ ?_).trans ?_)
    · intro e; pointwise
    · have h : r0_18.emb (ix3 z0 z1 z2) = ix3 2 z1 z2 := by
        blk_ext
      exact (score_place x0 x1 x2 x3 x4 x5 x6 x7 x8 x9 x10 x11 x12 0 2 z1 z2 4 rfl).trans (congrArg (blockScore x0 x1 x2 x3 x4 x5 x6 x7 x8 x9 x10 x11 x12 0) h.symm)
  · idx_vars z
    refine (slice_2 _ _ _ _ _ _ _).trans ((slice_eq x0 x1 x2 x3 x4 x5 x6 x7 x8 x9 x10 x11 x12 _ 2 _ _ ?_).trans ?_)
    · intro e; pointwise
    · have h : r0_15.emb (ix3 z0 z1 z2) = ix3 1 z1 z2 := by
        blk_ext
      exact (score_place x0 x1 x2 x3 x4 x5 x6 x7 x8 x9 x10 x11 x12 0 1 z1 z2 2 rfl).trans (congrArg (blockScore x0 x1 x2 x3 x4 x5 x6 x7 x8 x9 x10 x11 x12 0) h.symm)
  · idx_vars z
    refine (slice_0 _ _ _ _ _ _ _).trans ((slice_eq x0 x1 x2 x3 x4 x5 x6 x7 x8 x9 x10 x11 x12 _ 0 _ _ ?_).trans ?_)
    · intro e; pointwise
    · have h : r0_12.emb (ix3 z0 z1 z2) = ix3 0 z1 z2 := by
        blk_ext
      exact (score_place x0 x1 x2 x3 x4 x5 x6 x7 x8 x9 x10 x11 x12 0 0 z1 z2 0 rfl).trans (congrArg (blockScore x0 x1 x2 x3 x4 x5 x6 x7 x8 x9 x10 x11 x12 0) h.symm)

/-- What the body leaves in the output block of the second sub-key set: every head's scores. -/
theorem block_second (y : S8x128x512.Idx) :
    out0_16 x0 x1 x2 x3 x4 x5 x6 x7 x8 x9 x10 x11 x12 y = blockScore x0 x1 x2 x3 x4 x5 x6 x7 x8 x9 x10 x11 x12 1 y := by
  unfold out0_16
  refine View.canon_apply_of_pieces (Val := Elt Ideal) (e := .f32) (blockScore x0 x1 x2 x3 x4 x5 x6 x7 x8 x9 x10 x11 x12 1) _ ?_ y (cover0_16 _ _ _ _ _ _ _ _ y)
  simp only [List.forall_mem_cons, List.not_mem_nil, IsEmpty.forall_iff, implies_true, and_true]
  refine ⟨fun z => ?_, fun z => ?_, fun z => ?_, fun z => ?_, fun z => ?_, fun z => ?_, fun z => ?_, fun z => ?_⟩
  · idx_vars z
    refine (slice_15 _ _ _ _ _).trans ((slice_eq x0 x1 x2 x3 x4 x5 x6 x7 x8 x9 x10 x11 x12 _ 15 _ _ ?_).trans ?_)
    · intro e; pointwise
    · have h : r0_33.emb (ix3 z0 z1 z2) = ix3 7 z1 z2 := by
        blk_ext
      exact (score_place x0 x1 x2 x3 x4 x5 x6 x7 x8 x9 x10 x11 x12 1 7 z1 z2 15 rfl).trans (congrArg (blockScore x0 x1 x2 x3 x4 x5 x6 x7 x8 x9 x10 x11 x12 1) h.symm)
  · idx_vars z
    refine (slice_13 _ _ _ _ _).trans ((slice_eq x0 x1 x2 x3 x4 x5 x6 x7 x8 x9 x10 x11 x12 _ 13 _ _ ?_).trans ?_)
    · intro e; pointwise
    · have h : r0_30.emb (ix3 z0 z1 z2) = ix3 6 z1 z2 := by
        blk_ext
      exact (score_place x0 x1 x2 x3 x4 x5 x6 x7 x8 x9 x10 x11 x12 1 6 z1 z2 13 rfl).trans (congrArg (blockScore x0 x1 x2 x3 x4 x5 x6 x7 x8 x9 x10 x11 x12 1) h.symm)
  · idx_vars z
    refine (slice_11 _ _ _ _ _).trans ((slice_eq x0 x1 x2 x3 x4 x5 x6 x7 x8 x9 x10 x11 x12 _ 11 _ _ ?_).trans ?_)
    · intro e; pointwise
    · have h : r0_27.emb (ix3 z0 z1 z2) = ix3 5 z1 z2 := by
        blk_ext
      exact (score_place x0 x1 x2 x3 x4 x5 x6 x7 x8 x9 x10 x11 x12 1 5 z1 z2 11 rfl).trans (congrArg (blockScore x0 x1 x2 x3 x4 x5 x6 x7 x8 x9 x10 x11 x12 1) h.symm)
  · idx_vars z
    refine (slice_9 _ _ _ _ _).trans ((slice_eq x0 x1 x2 x3 x4 x5 x6 x7 x8 x9 x10 x11 x12 _ 9 _ _ ?_).trans ?_)
    · intro e; pointwise
    · have h : r0_24.emb (ix3 z0 z1 z2) = ix3 4 z1 z2 := by
        blk_ext
      exact (score_place x0 x1 x2 x3 x4 x5 x6 x7 x8 x9 x10 x11 x12 1 4 z1 z2 9 rfl).trans (congrArg (blockScore x0 x1 x2 x3 x4 x5 x6 x7 x8 x9 x10 x11 x12 1) h.symm)
  · idx_vars z
    refine (slice_7 _ _ _ _ _).trans ((slice_eq x0 x1 x2 x3 x4 x5 x6 x7 x8 x9 x10 x11 x12 _ 7 _ _ ?_).trans ?_)
    · intro e; pointwise
    · have h : r0_21.emb (ix3 z0 z1 z2) = ix3 3 z1 z2 := by
        blk_ext
      exact (score_place x0 x1 x2 x3 x4 x5 x6 x7 x8 x9 x10 x11 x12 1 3 z1 z2 7 rfl).trans (congrArg (blockScore x0 x1 x2 x3 x4 x5 x6 x7 x8 x9 x10 x11 x12 1) h.symm)
  · idx_vars z
    refine (slice_5 _ _ _ _ _).trans ((slice_eq x0 x1 x2 x3 x4 x5 x6 x7 x8 x9 x10 x11 x12 _ 5 _ _ ?_).trans ?_)
    · intro e; pointwise
    · have h : r0_18.emb (ix3 z0 z1 z2) = ix3 2 z1 z2 := by
        blk_ext
      exact (score_place x0 x1 x2 x3 x4 x5 x6 x7 x8 x9 x10 x11 x12 1 2 z1 z2 5 rfl).trans (congrArg (blockScore x0 x1 x2 x3 x4 x5 x6 x7 x8 x9 x10 x11 x12 1) h.symm)
  · idx_vars z
    refine (slice_3 _ _ _ _ _ _ _).trans ((slice_eq x0 x1 x2 x3 x4 x5 x6 x7 x8 x9 x10 x11 x12 _ 3 _ _ ?_).trans ?_)
    · intro e; pointwise
    · have h : r0_15.emb (ix3 z0 z1 z2) = ix3 1 z1 z2 := by
        blk_ext
      exact (score_place x0 x1 x2 x3 x4 x5 x6 x7 x8 x9 x10 x11 x12 1 1 z1 z2 3 rfl).trans (congrArg (blockScore x0 x1 x2 x3 x4 x5 x6 x7 x8 x9 x10 x11 x12 1) h.symm)
  · idx_vars z
    refine (slice_1 _ _ _ _ _ _ _).trans ((slice_eq x0 x1 x2 x3 x4 x5 x6 x7 x8 x9 x10 x11 x12 _ 1 _ _ ?_).trans ?_)
    · intro e; pointwise
    · have h : r0_12.emb (ix3 z0 z1 z2) = ix3 0 z1 z2 := by
        blk_ext
      exact (score_place x0 x1 x2 x3 x4 x5 x6 x7 x8 x9 x10 x11 x12 1 0 z1 z2 1 rfl).trans (congrArg (blockScore x0 x1 x2 x3 x4 x5 x6 x7 x8 x9 x10 x11 x12 1) h.symm)

end Cert.Merge

end
-- ==== Proof.Merge.Array.lean ====
module

public import proofs.«01_k».proof.Proof.Merge.Scores

/-! The merge's four output arrays after the run: every token's row, normed row and scores, over the arrays that the
call reads. -/

@[expose] public section

set_option maxRecDepth 16384

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The tokens' rows, as the call finds them: the latent rows, then rows of zeros. -/
def inX : S17408x1024.Idx → EReal := V m c main_v2
/-- The modulation, one row per sequence, then rows of zeros. -/
def inM : S8x1x6144.Idx → EReal := V m c main_v5
/-- The first attention's result. -/
def inA : S16384x512.Idx → EReal := V m c main_v11
/-- The second attention's result. -/
def inB : S16384x512.Idx → EReal := V m c main_v13
/-- The third attention's result. -/
def inW : S16384x512.Idx → EReal := V m c main_v15
/-- The gates of the latent rows, then rows of zeros. -/
def inG : S17408x3072.Idx → EReal := V m c main_v9
/-- The first result's projection. -/
def inPA : S512x1024.Idx → EReal := V m c main_v16
/-- The second result's projection. -/
def inPB : S512x1024.Idx → EReal := V m c main_v17
/-- The third result's projection. -/
def inPW : S512x1024.Idx → EReal := V m c main_v18
/-- The projection of the gated sum. -/
def inPO : S1024x1024.Idx → EReal := V m c main_v19
/-- The norm's gain. -/
def inGain : S1x1024.Idx → EReal := V m c main_v23
/-- The projection to the queries. -/
def inPQ : S1024x2048.Idx → EReal := V m c main_v20
/-- The sub-keys, one block per slice of the queries. -/
def inKeys : S16x128x128.Idx → EReal := V m c main_v22

/-- Where each window's block lies at grid point `t`. -/
theorem idx : ∀ t : Fin cfg0.N,
    win0_0.index t = ![t.val, 0] ∧ win0_1.index t = ![t.val / 8, 0, 0] ∧ win0_2.index t = ![t.val, 0] ∧
    win0_3.index t = ![t.val, 0] ∧ win0_4.index t = ![t.val, 0] ∧ win0_5.index t = ![t.val, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0, 0] ∧
    win0_13.index t = ![t.val, 0] ∧ win0_14.index t = ![t.val, 0] ∧ win0_15.index t = ![0, 0, t.val] ∧
    win0_16.index t = ![0, 0, t.val] := by
  decide +kernel

/-- The grid has 32 points. -/
theorem tN (t : Fin cfg0.N) : t.val < 32 := t.isLt

/-- The rows of point `t`. -/
theorem x_block (t : Fin cfg0.N) (r : Fin 512) (n : Fin 1024) :
    iblk m c 0 t (ix2 r n) = inX m c (ix2 (⟨512 * t.val + r.val, by have := tN t; omega⟩ : Fin 17408) n) := by
  blk_ext [iblk, inX, idx t]

/-- The modulation of point `t`. -/
theorem mod_block (t : Fin cfg0.N) (n : Fin 6144) :
    iblk m c 1 t (ix3 0 0 n) = inM m c (ix3 (⟨t.val / 8, by have := tN t; omega⟩ : Fin 8) 0 n) := by
  blk_ext [iblk, inM, idx t]

/-- The attention results of window 2 at point `t`. -/
theorem a_block (t : Fin cfg0.N) (r : Fin 512) (d : Fin 512) :
    iblk m c 2 t (ix2 r d) = inA m c (ix2 (⟨512 * t.val + r.val, by have := tN t; omega⟩ : Fin 16384) d) := by
  blk_ext [iblk, inA, idx t]

/-- The attention results of window 3 at point `t`. -/
theorem b_block (t : Fin cfg0.N) (r : Fin 512) (d : Fin 512) :
    iblk m c 3 t (ix2 r d) = inB m c (ix2 (⟨512 * t.val + r.val, by have := tN t; omega⟩ : Fin 16384) d) := by
  blk_ext [iblk, inB, idx t]

/-- The attention results of window 4 at point `t`. -/
theorem w_block (t : Fin cfg0.N) (r : Fin 512) (d : Fin 512) :
    iblk m c 4 t (ix2 r d) = inW m c (ix2 (⟨512 * t.val + r.val, by have := tN t; omega⟩ : Fin 16384) d) := by
  blk_ext [iblk, inW, idx t]

/-- The gates of point `t`. -/
theorem gate_block (t : Fin cfg0.N) (r : Fin 512) (n : Fin 3072) :
    iblk m c 5 t (ix2 r n) = inG m c (ix2 (⟨512 * t.val + r.val, by have := tN t; omega⟩ : Fin 17408) n) := by
  blk_ext [iblk, inG, idx t]

/-- The weights of window 6, the same at every point. -/
theorem pa_block (t : Fin cfg0.N) (d : Fin 512) (n : Fin 1024) :
    iblk m c 6 t (ix2 d n) = inPA m c (ix2 d n) := by
  blk_ext [iblk, inPA, idx t]

/-- The weights of window 7, the same at every point. -/
theorem pb_block (t : Fin cfg0.N) (d : Fin 512) (n : Fin 1024) :
    iblk m c 7 t (ix2 d n) = inPB m c (ix2 d n) := by
  blk_ext [iblk, inPB, idx t]

/-- The weights of window 8, the same at every point. -/
theorem pw_block (t : Fin cfg0.N) (d : Fin 512) (n : Fin 1024) :
    iblk m c 8 t (ix2 d n) = inPW m c (ix2 d n) := by
  blk_ext [iblk, inPW, idx t]

/-- The weights of the gated sum's projection, the same at every point. -/
theorem po_block (t : Fin cfg0.N) (j n : Fin 1024) :
    iblk m c 9 t (ix2 j n) = inPO m c (ix2 j n) := by
  blk_ext [iblk, inPO, idx t]

/-- The norm's gain, the same at every point. -/
theorem gain_block (t : Fin cfg0.N) (n : Fin 1024) :
    iblk m c 10 t (ix2 0 n) = inGain m c (ix2 0 n) := by
  blk_ext [iblk, inGain, idx t]

/-- The weights of the queries, the same at every point. -/
theorem pq_block (t : Fin cfg0.N) (j : Fin 1024) (n : Fin 2048) :
    iblk m c 11 t (ix2 j n) = inPQ m c (ix2 j n) := by
  blk_ext [iblk, inPQ, idx t]

/-- The sub-keys, the same at every point. -/
theorem keys_block (t : Fin cfg0.N) (g : Fin 16) (k e : Fin 128) :
    iblk m c 12 t (ix3 g k e) = inKeys m c (ix3 g k e) := by
  blk_ext [iblk, inKeys, idx t]

/-- What the call's arrays hold for the token of row `R`, of the sequence `R / 4096`. -/
def arrayToken (R : Fin 16384) : Token where
  x n := inX m c (ix2 (⟨R.val, by omega⟩ : Fin 17408) n)
  step n := inM m c (ix3 (⟨R.val / 4096, by omega⟩ : Fin 8) 0 (⟨2048 + n.val, by omega⟩ : Fin 6144))
  shift n := inM m c (ix3 (⟨R.val / 4096, by omega⟩ : Fin 8) 0 (⟨3072 + n.val, by omega⟩ : Fin 6144))
  scale n := inM m c (ix3 (⟨R.val / 4096, by omega⟩ : Fin 8) 0 (⟨4096 + n.val, by omega⟩ : Fin 6144))
  a d := inA m c (ix2 R d)
  b d := inB m c (ix2 R d)
  w d := inW m c (ix2 R d)
  ga n := inG m c (ix2 (⟨R.val, by omega⟩ : Fin 17408) (⟨n.val, by omega⟩ : Fin 3072))
  gb n := inG m c (ix2 (⟨R.val, by omega⟩ : Fin 17408) (⟨1024 + n.val, by omega⟩ : Fin 3072))
  gw n := inG m c (ix2 (⟨R.val, by omega⟩ : Fin 17408) (⟨2048 + n.val, by omega⟩ : Fin 3072))

/-- The weights the call's arrays hold. -/
def arrayWeights : Weights where
  a d n := inPA m c (ix2 d n)
  b d n := inPB m c (ix2 d n)
  w d n := inPW m c (ix2 d n)
  o j n := inPO m c (ix2 j n)
  gain n := inGain m c (ix2 0 n)
  q j n := inPQ m c (ix2 j n)

/-- Row `r` of blocks that are point `t`'s holds the token of row `512 * t + r`. -/
theorem token_of (t : Fin cfg0.N) (r : Fin 512) (x0 : Vec Ideal S512x1024 .f32) (x1 : Vec Ideal S1x1x6144 .f32)
    (x2 x3 x4 : Vec Ideal S512x512 .bf16) (x5 : Vec Ideal S512x3072 .bf16) (h0 : x0 = iblk m c 0 t) (h1 : x1 = iblk m c 1 t)
    (h2 : x2 = iblk m c 2 t) (h3 : x3 = iblk m c 3 t) (h4 : x4 = iblk m c 4 t) (h5 : x5 = iblk m c 5 t) :
    blockToken x0 x1 x2 x3 x4 x5 r = arrayToken m c ⟨512 * t.val + r.val, by have := tN t; omega⟩ := by
  have ht := tN t
  have h : (⟨(512 * t.val + r.val) / 4096, by omega⟩ : Fin 8) = ⟨t.val / 8, by omega⟩ :=
    Fin.ext (show (512 * t.val + r.val) / 4096 = t.val / 8 by omega)
  have e0 : ∀ n : Fin 1024, x0 (ix2 r n) = inX m c (ix2 (⟨512 * t.val + r.val, by omega⟩ : Fin 17408) n) := fun n => by
    rw [h0]; exact x_block m c t r n
  have e1 : ∀ n : Fin 6144, x1 (ix3 0 0 n) = inM m c (ix3 (⟨(512 * t.val + r.val) / 4096, by omega⟩ : Fin 8) 0 n) := fun n => by
    rw [h1, h]; exact mod_block m c t n
  have e2 : ∀ d : Fin 512, x2 (ix2 r d) = inA m c (ix2 (⟨512 * t.val + r.val, by omega⟩ : Fin 16384) d) := fun d => by
    rw [h2]; exact a_block m c t r d
  have e3 : ∀ d : Fin 512, x3 (ix2 r d) = inB m c (ix2 (⟨512 * t.val + r.val, by omega⟩ : Fin 16384) d) := fun d => by
    rw [h3]; exact b_block m c t r d
  have e4 : ∀ d : Fin 512, x4 (ix2 r d) = inW m c (ix2 (⟨512 * t.val + r.val, by omega⟩ : Fin 16384) d) := fun d => by
    rw [h4]; exact w_block m c t r d
  have e5 : ∀ n : Fin 3072, x5 (ix2 r n) = inG m c (ix2 (⟨512 * t.val + r.val, by omega⟩ : Fin 17408) n) := fun n => by
    rw [h5]; exact gate_block m c t r n
  unfold blockToken arrayToken
  simp only [e0, e1, e2, e3, e4, e5]

/-- Blocks that are a point's hold the call's weights. -/
theorem weights_of (t : Fin cfg0.N) (x6 x7 x8 : Vec Ideal S512x1024 .bf16) (x9 : Vec Ideal S1024x1024 .bf16) (x10 : Vec Ideal S1x1024 .f32)
    (x11 : Vec Ideal S1024x2048 .bf16) (h6 : x6 = iblk m c 6 t) (h7 : x7 = iblk m c 7 t) (h8 : x8 = iblk m c 8 t)
    (h9 : x9 = iblk m c 9 t) (h10 : x10 = iblk m c 10 t) (h11 : x11 = iblk m c 11 t) :
    blockWeights x6 x7 x8 x9 x10 x11 = arrayWeights m c := by
  have e6 : ∀ (d : Fin 512) (n : Fin 1024), x6 (ix2 d n) = inPA m c (ix2 d n) := fun d n => by rw [h6]; exact pa_block m c t d n
  have e7 : ∀ (d : Fin 512) (n : Fin 1024), x7 (ix2 d n) = inPB m c (ix2 d n) := fun d n => by rw [h7]; exact pb_block m c t d n
  have e8 : ∀ (d : Fin 512) (n : Fin 1024), x8 (ix2 d n) = inPW m c (ix2 d n) := fun d n => by rw [h8]; exact pw_block m c t d n
  have e9 : ∀ j n : Fin 1024, x9 (ix2 j n) = inPO m c (ix2 j n) := fun j n => by rw [h9]; exact po_block m c t j n
  have e10 : ∀ n : Fin 1024, x10 (ix2 0 n) = inGain m c (ix2 0 n) := fun n => by rw [h10]; exact gain_block m c t n
  have e11 : ∀ (j : Fin 1024) (n : Fin 2048), x11 (ix2 j n) = inPQ m c (ix2 j n) := fun j n => by rw [h11]; exact pq_block m c t j n
  unfold blockWeights arrayWeights
  simp only [e6, e7, e8, e9, e10, e11]

/-- The rows after the step. -/
def outStep (i : S16384x1024.Idx) : EReal := stepped (arrayToken m c (i 0)) (arrayWeights m c) (i 1)

/-- The normed rows. -/
def outNorm (i : S16384x1024.Idx) : EReal := normed (arrayToken m c (i 0)) (arrayWeights m c) (i 1)

/-- The scores of the sub-keys of set `u`. -/
def outScore (u : Fin 2) (i : S8x128x16384.Idx) : EReal :=
  score (arrayToken m c (i 2)) (arrayWeights m c)
    (fun e => inKeys m c (ix3 (⟨2 * (i 0).val + u.val, by have : (i 0).val < 8 := (i 0).isLt; omega⟩ : Fin 16) (i 1) e))
    ⟨2 * (i 0).val + u.val, by have : (i 0).val < 8 := (i 0).isLt; omega⟩

/-- A score of blocks that are point `t`'s is the score of the token of row `512 * t + r`. -/
theorem score_of (t : Fin cfg0.N) (u : Fin 2) (p : Fin 8) (k : Fin 128) (r : Fin 512) (x0 : Vec Ideal S512x1024 .f32) (x1 : Vec Ideal S1x1x6144 .f32)
    (x2 x3 x4 : Vec Ideal S512x512 .bf16) (x5 : Vec Ideal S512x3072 .bf16) (x6 x7 x8 : Vec Ideal S512x1024 .bf16)
    (x9 : Vec Ideal S1024x1024 .bf16) (x10 : Vec Ideal S1x1024 .f32) (x11 : Vec Ideal S1024x2048 .bf16) (x12 : Vec Ideal S16x128x128 .bf16)
    (h0 : x0 = iblk m c 0 t) (h1 : x1 = iblk m c 1 t) (h2 : x2 = iblk m c 2 t) (h3 : x3 = iblk m c 3 t) (h4 : x4 = iblk m c 4 t) (h5 : x5 = iblk m c 5 t) (h6 : x6 = iblk m c 6 t) (h7 : x7 = iblk m c 7 t) (h8 : x8 = iblk m c 8 t) (h9 : x9 = iblk m c 9 t) (h10 : x10 = iblk m c 10 t) (h11 : x11 = iblk m c 11 t) (h12 : x12 = iblk m c 12 t) :
    blockScore x0 x1 x2 x3 x4 x5 x6 x7 x8 x9 x10 x11 x12 u (ix3 p k r) =
      outScore m c u (ix3 p k (⟨512 * t.val + r.val, by have := tN t; omega⟩ : Fin 16384)) := by
  have e : ∀ (g : Fin 16) (k e : Fin 128), x12 (ix3 g k e) = inKeys m c (ix3 g k e) := fun g k e => by rw [h12]; exact keys_block m c t g k e
  refine (score_place x0 x1 x2 x3 x4 x5 x6 x7 x8 x9 x10 x11 x12 u p k r ⟨2 * p.val + u.val, by omega⟩ rfl).symm.trans ?_
  rw [token_of m c t r x0 x1 x2 x3 x4 x5 h0 h1 h2 h3 h4 h5, weights_of m c t x6 x7 x8 x9 x10 x11 h6 h7 h8 h9 h10 h11]
  simp only [e]
  rfl

/-- Where row `r` and column `n` of point `t`'s block of output 0 lie. -/
theorem place_step (t : Fin cfg0.N) (r : Fin 512) (n : Fin 1024) :
    ((View.whole main_v24_0).slice (win0_13.rect t)).emb (ix2 r n) =
      ix2 (⟨512 * t.val + r.val, by have := tN t; omega⟩ : Fin 16384) n := by
  blk_ext [idx t]

/-- Where row `r` and column `n` of point `t`'s block of output 1 lie. -/
theorem place_norm (t : Fin cfg0.N) (r : Fin 512) (n : Fin 1024) :
    ((View.whole main_v24_1).slice (win0_14.rect t)).emb (ix2 r n) =
      ix2 (⟨512 * t.val + r.val, by have := tN t; omega⟩ : Fin 16384) n := by
  blk_ext [idx t]

/-- Where head `p`, key `k` and token `r` of point `t`'s block of output 2 lie. -/
theorem place_first (t : Fin cfg0.N) (p : Fin 8) (k : Fin 128) (r : Fin 512) :
    ((View.whole main_v24_2).slice (win0_15.rect t)).emb (ix3 p k r) =
      ix3 p k (⟨512 * t.val + r.val, by have := tN t; omega⟩ : Fin 16384) := by
  blk_ext [idx t]

/-- Where head `p`, key `k` and token `r` of point `t`'s block of output 3 lie. -/
theorem place_second (t : Fin cfg0.N) (p : Fin 8) (k : Fin 128) (r : Fin 512) :
    ((View.whole main_v24_3).slice (win0_16.rect t)).emb (ix3 p k r) =
      ix3 p k (⟨512 * t.val + r.val, by have := tN t; omega⟩ : Fin 16384) := by
  blk_ext [idx t]

/-- Output 0 after the run: the rows after the step. -/
theorem array_step : (dats m 0 c).arrAt 13 cfg0.N = outStep m c := by
  refine (dats m 0 c).arrAt_eq_of_covers 13 _ (by decide +kernel) fun t hf y => ?_
  blk_simp
  rw [after0_13]
  idx_vars y
  rw [block_step, place_step]
  exact congrArg₂ (fun T P => stepped T P y1) (token_of m c t y0 _ _ _ _ _ _ rfl rfl rfl rfl rfl rfl) (weights_of m c t _ _ _ _ _ _ rfl rfl rfl rfl rfl rfl)

/-- Output 1 after the run: the normed rows. -/
theorem array_norm : (dats m 0 c).arrAt 14 cfg0.N = outNorm m c := by
  refine (dats m 0 c).arrAt_eq_of_covers 14 _ (by decide +kernel) fun t hf y => ?_
  blk_simp
  rw [after0_14]
  idx_vars y
  rw [block_norm, place_norm]
  exact congrArg₂ (fun T P => normed T P y1) (token_of m c t y0 _ _ _ _ _ _ rfl rfl rfl rfl rfl rfl) (weights_of m c t _ _ _ _ _ _ rfl rfl rfl rfl rfl rfl)

/-- Output 2 after the run: the scores of the first sub-key set. -/
theorem array_first : (dats m 0 c).arrAt 15 cfg0.N = outScore m c 0 := by
  refine (dats m 0 c).arrAt_eq_of_covers 15 _ (by decide +kernel) fun t hf y => ?_
  blk_simp
  rw [after0_15]
  idx_vars y
  rw [block_first, place_first]
  exact score_of m c t 0 y0 y1 y2 _ _ _ _ _ _ _ _ _ _ _ _ _ rfl rfl rfl rfl rfl rfl rfl rfl rfl rfl rfl rfl rfl

/-- Output 3 after the run: the scores of the second sub-key set. -/
theorem array_second : (dats m 0 c).arrAt 16 cfg0.N = outScore m c 1 := by
  refine (dats m 0 c).arrAt_eq_of_covers 16 _ (by decide +kernel) fun t hf y => ?_
  blk_simp
  rw [after0_16]
  idx_vars y
  rw [block_second, place_second]
  exact score_of m c t 1 y0 y1 y2 _ _ _ _ _ _ _ _ _ _ _ _ _ rfl rfl rfl rfl rfl rfl rfl rfl rfl rfl rfl rfl rfl

end Cert.Merge

end
-- ==== Proof.Merge.Host.lean ====
module

public import proofs.«01_k».proof.Proof.Merge.Array
public import Idealize.ShloMosaic.Lib.StableHlo.RunRead

/-! The arrays the merge's call reads, as the host makes them of the arguments: the latent rows, then rows of zeros. -/

@[expose] public section

set_option maxRecDepth 16384

noncomputable section

namespace Cert.Merge

open Cert.Kernel3Ideal Cert.Kernel3Ideal.Gen Idealize.ShloMosaic Idealize.ShloMosaic.TcCoe Idealize.SL.Sem

/-- The tokens' rows: the latent rows, then rows of zeros. -/
def packX (x : FVec Ideal S4x4096x1024 .f32) : FVec Ideal S17408x1024 .f32 :=
  concatenate S17408x1024 0 [⟨S16384x1024, shapeCast S16384x1024 x shapeCasts_S4x4096x1024_S16384x1024⟩,
    ⟨S1024x1024, broadcastInDim S1024x1024 ![] bcast_S_S1024x1024 (constant S_ .f32 0x00000000#32)⟩] concatenates_S16384x1024_S1024x1024_S17408x1024_d0

/-- The modulation: one row per sequence, then rows of zeros. -/
def packM (x : FVec Ideal S4x6144 .f32) : FVec Ideal S8x1x6144 .f32 :=
  shapeCast S8x1x6144 (concatenate S8x6144 0 [⟨S4x6144, x⟩,
    ⟨S4x6144, broadcastInDim S4x6144 ![] bcast_S_S4x6144 (constant S_ .f32 0x00000000#32)⟩] concatenates_S4x6144_S4x6144_S8x6144_d0)
    shapeCasts_S8x6144_S8x1x6144

/-- The gates: the latent rows, then rows of zeros. -/
def packG (x : FVec Ideal S4x4096x3072 .f32) : FVec Ideal S17408x3072 .bf16 :=
  concatenate S17408x3072 0 [⟨S16384x3072, truncf .bf16 (shapeCast S16384x3072 x shapeCasts_S4x4096x3072_S16384x3072) bitsLt_bf16_f32⟩,
    ⟨S1024x3072, broadcastInDim S1024x3072 ![] bcast_S_S1024x3072 (constant S_ .bf16 0x0000#16)⟩] concatenates_S16384x3072_S1024x3072_S17408x3072_d0

/-- An attention result, all sequences in one array of rows. -/
def packO (x : FVec Ideal S4x4096x512 .f32) : FVec Ideal S16384x512 .bf16 :=
  truncf .bf16 (shapeCast S16384x512 x shapeCasts_S4x4096x512_S16384x512) bitsLt_bf16_f32

/-- The sub-keys, one block per head and set. -/
def packKeys (x : FVec Ideal S8x2x128x128 .f32) : FVec Ideal S16x128x128 .bf16 :=
  truncf .bf16 (shapeCast S16x128x128 x shapeCasts_S8x2x128x128_S16x128x128) bitsLt_bf16_f32

/-- The norm's gain as a row. -/
def packGain (x : FVec Ideal S1024 .f32) : FVec Ideal S1x1024 .f32 := broadcastInDim S1x1024 ![1] bcast_S1024_S1x1024_1 x

/-- Weights, in the narrower format. -/
def packP {s : Shape} (x : FVec Ideal s .f32) : FVec Ideal s .bf16 := truncf .bf16 x bitsLt_bf16_f32

/-- A latent row of the tokens. -/
theorem packX_apply (x : FVec Ideal S4x4096x1024 .f32) (b : Fin 4) (s : Fin 4096) (n : Fin 1024) :
    packX x (ix2 (⟨4096 * b.val + s.val, by omega⟩ : Fin 17408) n) = x (ix3 b s n) := by
  pointwise [packX]
  exact dif_pos (show 4096 * b.val + s.val < 16384 by omega)

/-- A sequence's modulation. -/
theorem packM_apply (x : FVec Ideal S4x6144 .f32) (b : Fin 4) (n : Fin 6144) :
    packM x (ix3 (⟨b.val, by omega⟩ : Fin 8) 0 n) = x (ix2 b n) := by
  pointwise [packM]

/-- A latent row of the gates. -/
theorem packG_apply (x : FVec Ideal S4x4096x3072 .f32) (b : Fin 4) (s : Fin 4096) (n : Fin 3072) :
    packG x (ix2 (⟨4096 * b.val + s.val, by omega⟩ : Fin 17408) n) = x (ix3 b s n) := by
  pointwise [packG]
  exact dif_pos (show 4096 * b.val + s.val < 16384 by omega)

/-- A row of an attention result. -/
theorem packO_apply (x : FVec Ideal S4x4096x512 .f32) (b : Fin 4) (s : Fin 4096) (n : Fin 512) :
    packO x (ix2 (⟨4096 * b.val + s.val, by omega⟩ : Fin 16384) n) = x (ix3 b s n) := by
  pointwise [packO]

/-- A sub-key. -/
theorem packKeys_apply (x : FVec Ideal S8x2x128x128 .f32) (p : Fin 8) (u : Fin 2) (k e : Fin 128) :
    packKeys x (ix3 (⟨2 * p.val + u.val, by omega⟩ : Fin 16) k e) = x (ix4 p u k e) := by
  pointwise [packKeys]

/-- The gain of a column. -/
theorem packGain_apply (x : FVec Ideal S1024 .f32) (n : Fin 1024) : packGain x (ix2 0 n) = x (ix1 n) := by
  pointwise [packGain]

variable (m : (ℓ : Loc nD τ sig) → Buf (Elt Ideal) ℓ) (c : Dev nD)

/-- The call's tokens' rows, of the arguments. -/
theorem inX_eq : inX m c = packX (m ((c.tc : Thread nD τ).loc main_arg0)) := by
  unfold inX
  unfold_abbrev_sides
  after_reads_simp
  rfl

/-- The call's modulation, of the arguments. -/
theorem inM_eq : inM m c = packM (m ((c.tc : Thread nD τ).loc main_arg1)) := by
  unfold inM
  unfold_abbrev_sides
  after_reads_simp
  rfl

/-- The call's first attention's result, of the arguments. -/
theorem inA_eq : inA m c = packO (m ((c.tc : Thread nD τ).loc main_arg2)) := by
  unfold inA
  unfold_abbrev_sides
  after_reads_simp
  rfl

/-- The call's second attention's result, of the arguments. -/
theorem inB_eq : inB m c = packO (m ((c.tc : Thread nD τ).loc main_arg3)) := by
  unfold inB
  unfold_abbrev_sides
  after_reads_simp
  rfl

/-- The call's third attention's result, of the arguments. -/
theorem inW_eq : inW m c = packO (m ((c.tc : Thread nD τ).loc main_arg4)) := by
  unfold inW
  unfold_abbrev_sides
  after_reads_simp
  rfl

/-- The call's gates, of the arguments. -/
theorem inG_eq : inG m c = packG (m ((c.tc : Thread nD τ).loc main_arg5)) := by
  unfold inG
  unfold_abbrev_sides
  after_reads_simp
  rfl

/-- The call's first projection, of the arguments. -/
theorem inPA_eq : inPA m c = packP (m ((c.tc : Thread nD τ).loc main_arg6)) := by
  unfold inPA
  unfold_abbrev_sides
  after_reads_simp
  rfl

/-- The call's second projection, of the arguments. -/
theorem inPB_eq : inPB m c = packP (m ((c.tc : Thread nD τ).loc main_arg7)) := by
  unfold inPB
  unfold_abbrev_sides
  after_reads_simp
  rfl

/-- The call's third projection, of the arguments. -/
theorem inPW_eq : inPW m c = packP (m ((c.tc : Thread nD τ).loc main_arg8)) := by
  unfold inPW
  unfold_abbrev_sides
  after_reads_simp
  rfl

/-- The call's projection of the gated sum, of the arguments. -/
theorem inPO_eq : inPO m c = packP (m ((c.tc : Thread nD τ).loc main_arg9)) := by
  unfold inPO
  unfold_abbrev_sides
  after_reads_simp
  rfl

/-- The call's gain, of the arguments. -/
theorem inGain_eq : inGain m c = packGain (m ((c.tc : Thread nD τ).loc main_arg10)) := by
  unfold inGain
  unfold_abbrev_sides
  after_reads_simp
  rfl

/-- The call's projection to the queries, of the arguments. -/
theorem inPQ_eq : inPQ m c = packP (m ((c.tc : Thread nD τ).loc main_arg11)) := by
  unfold inPQ
  unfold_abbrev_sides
  after_reads_simp
  rfl

/-- The call's sub-keys, of the arguments. -/
theorem inKeys_eq : inKeys m c = packKeys (m ((c.tc : Thread nD τ).loc main_arg12)) := by
  unfold inKeys
  unfold_abbrev_sides
  after_reads_simp
  rfl

end Cert.Merge

end
-- ==== Proof.Merge.Reference.lean ====
module

public import proofs.«01_k».proof.Proof.Merge.Rows
public import proofs.«01_k».proof.Proof.Gen.Reference3Ideal.Run
public import Idealize.ShloMosaic.Lib.Pointwise

/-! The reference of the merge, read at an index: its four results are the row functions of its arguments. -/

@[expose] public section

set_option maxRecDepth 16384

noncomputable section

namespace Cert.Merge.Reference

open Cert.Reference3Ideal Cert.Reference3Ideal.Gen Idealize.ShloMosaic Idealize.ShloMosaic.TcCoe Idealize.SL.Sem

/-- What the arguments hold for token `s` of sequence `b`. -/
def argToken (x : FVec Ideal S4x4096x1024 .f32) (md : FVec Ideal S4x6144 .f32) (oa ob ow : FVec Ideal S4x4096x512 .f32)
    (g : FVec Ideal S4x4096x3072 .f32) (b : Fin 4) (s : Fin 4096) : Token where
  x n := x (ix3 b s n)
  step n := md (ix2 b (⟨2048 + n.val, by omega⟩ : Fin 6144))
  shift n := md (ix2 b (⟨3072 + n.val, by omega⟩ : Fin 6144))
  scale n := md (ix2 b (⟨4096 + n.val, by omega⟩ : Fin 6144))
  a d := oa (ix3 b s d)
  b d := ob (ix3 b s d)
  w d := ow (ix3 b s d)
  ga n := g (ix3 b s (⟨n.val, by omega⟩ : Fin 3072))
  gb n := g (ix3 b s (⟨1024 + n.val, by omega⟩ : Fin 3072))
  gw n := g (ix3 b s (⟨2048 + n.val, by omega⟩ : Fin 3072))

/-- The weights the arguments hold. -/
def argWeights (pa pb pw : FVec Ideal S512x1024 .f32) (po : FVec Ideal S1024x1024 .f32) (gain : FVec Ideal S1024 .f32)
    (pq : FVec Ideal S1024x2048 .f32) : Weights where
  a d n := pa (ix2 d n)
  b d n := pb (ix2 d n)
  w d n := pw (ix2 d n)
  o j n := po (ix2 j n)
  gain n := gain (ix1 n)
  q j n := pq (ix2 j n)

/-- The gated sum of the three projected attention results. -/
def gated (oa ob ow : FVec Ideal S4x4096x512 .f32) (g : FVec Ideal S4x4096x3072 .f32) (pa pb pw : FVec Ideal S512x1024 .f32) :
    FVec Ideal S4x4096x1024 .f32 :=
  addf (addf
    (mulf (extractStridedSlice S4x4096x1024 ![0, 0, 0] g slices_S4x4096x3072_S4x4096x1024_0_0_0)
      (Host.dotGeneral dot_S4x4096x512_S512x1024_S4x4096x1024_2_0_01_1_n_n none oa pa))
    (mulf (extractStridedSlice S4x4096x1024 ![0, 0, 1024] g slices_S4x4096x3072_S4x4096x1024_0_0_1024)
      (Host.dotGeneral dot_S4x4096x512_S512x1024_S4x4096x1024_2_0_01_1_n_n none ob pb)))
    (mulf (extractStridedSlice S4x4096x1024 ![0, 0, 2048] g slices_S4x4096x3072_S4x4096x1024_0_0_2048)
      (Host.dotGeneral dot_S4x4096x512_S512x1024_S4x4096x1024_2_0_01_1_n_n none ow pw))

/-- The modulation with a unit axis for the tokens. -/
def mods (md : FVec Ideal S4x6144 .f32) : FVec Ideal S4x1x6144 .f32 :=
  broadcastInDim S4x1x6144 ![0, 2] bcast_S4x6144_S4x1x6144_0_2 md

/-- One row per sequence, spread over its tokens. -/
def spread (x : FVec Ideal S4x1x1024 .f32) : FVec Ideal S4x4096x1024 .f32 :=
  broadcastInDim S4x4096x1024 ![0, 1, 2] bcast_S4x1x1024_S4x4096x1024_0_1_2 x

/-- The rows after the residual step. -/
def step (x : FVec Ideal S4x4096x1024 .f32) (md : FVec Ideal S4x6144 .f32) (mix : FVec Ideal S4x4096x1024 .f32)
    (po : FVec Ideal S1024x1024 .f32) : FVec Ideal S4x4096x1024 .f32 :=
  addf x (mulf (spread (extractStridedSlice S4x1x1024 ![0, 0, 2048] (mods md) slices_S4x1x6144_S4x1x1024_0_0_2048))
    (Host.dotGeneral dot_S4x4096x1024_S1024x1024_S4x4096x1024_2_0_01_1_n_n none mix po))

/-- Each row's reciprocal root mean square, spread over the row. -/
def inverses (y : FVec Ideal S4x4096x1024 .f32) : FVec Ideal S4x4096x1024 .f32 :=
  broadcastInDim S4x4096x1024 ![0, 1, 2] bcast_S4x4096x1_S4x4096x1024_0_1_2
    (Host.rsqrt (addf (Host.divf
      (broadcastInDim S4x4096x1 ![0, 1] bcast_S4x4096_S4x4096x1_0_1
        (Host.reduceAdd (mulf y y) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))

/-- The normed and modulated rows. -/
def norm (y : FVec Ideal S4x4096x1024 .f32) (md : FVec Ideal S4x6144 .f32) (gain : FVec Ideal S1024 .f32) : FVec Ideal S4x4096x1024 .f32 :=
  addf (mulf (mulf (mulf y (inverses y))
      (broadcastInDim S4x4096x1024 ![0, 1, 2] bcast_S1x1x1024_S4x4096x1024_0_1_2
        (broadcastInDim S1x1x1024 ![2] bcast_S1024_S1x1x1024_2 gain)))
      (spread (addf (broadcastInDim S4x1x1024 ![] bcast_S_S4x1x1024 (constant S_ .f32 0x3F800000#32))
        (extractStridedSlice S4x1x1024 ![0, 0, 4096] (mods md) slices_S4x1x6144_S4x1x1024_0_0_4096))))
    (spread (extractStridedSlice S4x1x1024 ![0, 0, 3072] (mods md) slices_S4x1x6144_S4x1x1024_0_0_3072))

/-- The tokens of all sequences in one array of rows. -/
def rows (y : FVec Ideal S4x4096x1024 .f32) : FVec Ideal S16384x1024 .f32 := shapeCast S16384x1024 y shapeCasts_S4x4096x1024_S16384x1024

/-- The queries. -/
def queries (h : FVec Ideal S4x4096x1024 .f32) (pq : FVec Ideal S1024x2048 .f32) : FVec Ideal S16384x2048 .f32 :=
  Host.dotGeneral dot_S16384x1024_S1024x2048_S16384x2048_1_0_0_1_n_n none (rows h) pq

/-- The scores of every token against every sub-key. -/
def scores (keys : FVec Ideal S8x2x128x128 .f32) (q : FVec Ideal S16384x2048 .f32) : FVec Ideal S16384x8x2x128 .f32 :=
  transpose S16384x8x2x128 [3, 0, 1, 2]
    (Host.dotGeneral dot_S8x2x128x128_S16384x8x2x128_S8x2x128x16384_3_3_2_0_01_12 none keys
      (shapeCast S16384x8x2x128 q shapeCasts_S16384x2048_S16384x8x2x128))
    transposes_S8x2x128x16384_S16384x8x2x128_3_0_1_2

/-- The scores of the first sub-key set, the tokens last. -/
def first (s : FVec Ideal S16384x8x2x128 .f32) : FVec Ideal S8x128x16384 .f32 :=
  transpose S8x128x16384 [1, 2, 0] (shapeCast S16384x8x128
    (extractStridedSlice S16384x8x1x128 ![0, 0, 0, 0] s slices_S16384x8x2x128_S16384x8x1x128_0_0_0_0) shapeCasts_S16384x8x1x128_S16384x8x128)
    transposes_S16384x8x128_S8x128x16384_1_2_0

/-- The scores of the second sub-key set, the tokens last. -/
def second (s : FVec Ideal S16384x8x2x128 .f32) : FVec Ideal S8x128x16384 .f32 :=
  transpose S8x128x16384 [1, 2, 0] (shapeCast S16384x8x128
    (extractStridedSlice S16384x8x1x128 ![0, 0, 1, 0] s slices_S16384x8x2x128_S16384x8x1x128_0_0_1_0) shapeCasts_S16384x8x1x128_S16384x8x128)
    transposes_S16384x8x128_S8x128x16384_1_2_0

/-- The rows after the step, of the arguments a device is given. -/
def steps (m : (ℓ : Loc nD τ sig) → Buf (Elt Ideal) ℓ) (c : Dev nD) : FVec Ideal S4x4096x1024 .f32 :=
  step (m ((c.tc : Thread nD τ).loc main_arg0)) (m ((c.tc : Thread nD τ).loc main_arg1))
    (gated (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) (m ((c.tc : Thread nD τ).loc main_arg9))

/-- The normed rows, of the arguments a device is given. -/
def norms (m : (ℓ : Loc nD τ sig) → Buf (Elt Ideal) ℓ) (c : Dev nD) : FVec Ideal S4x4096x1024 .f32 :=
  norm (steps m c) (m ((c.tc : Thread nD τ).loc main_arg1)) (m ((c.tc : Thread nD τ).loc main_arg10))

/-- The scores, of the arguments a device is given. -/
def allScores (m : (ℓ : Loc nD τ sig) → Buf (Elt Ideal) ℓ) (c : Dev nD) : FVec Ideal S16384x8x2x128 .f32 :=
  scores (m ((c.tc : Thread nD τ).loc main_arg12)) (queries (norms m c) (m ((c.tc : Thread nD τ).loc main_arg11)))

/-- The reference's run: its four results are the merge of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = rows (steps m c)
      ∧ r.2.mem ((c.tc : Thread nD τ).loc main_v54) = truncf .bf16 (rows (norms m c)) bitsLt_bf16_f32
      ∧ r.2.mem ((c.tc : Thread nD τ).loc main_v48) = first (allScores m c)
      ∧ r.2.mem ((c.tc : Thread nD τ).loc main_v51) = second (allScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans rfl, (h c).2.1.trans rfl, (h c).2.2.1.trans rfl, (h c).2.2.2.1.trans rfl, (h c).2.2.2.2⟩)
    (Cert.Reference3Ideal.Value.run m ρ)

/-- The gated sum, at a token and a column. -/
theorem gated_apply (oa ob ow : FVec Ideal S4x4096x512 .f32) (g : FVec Ideal S4x4096x3072 .f32) (pa pb pw : FVec Ideal S512x1024 .f32)
    (b : Fin 4) (s : Fin 4096) (n : Fin 1024) :
    gated oa ob ow g pa pb pw (ix3 b s n) =
      g (ix3 b s (⟨n.val, by omega⟩ : Fin 3072)) * (∑ d : Fin 512, oa (ix3 b s d) * pa (ix2 d n)) +
        g (ix3 b s (⟨1024 + n.val, by omega⟩ : Fin 3072)) * (∑ d : Fin 512, ob (ix3 b s d) * pb (ix2 d n)) +
        g (ix3 b s (⟨2048 + n.val, by omega⟩ : Fin 3072)) * ∑ d : Fin 512, ow (ix3 b s d) * pw (ix2 d n) := by
  pointwise [gated]

/-- The row after the step, at a token and a column. -/
theorem step_apply (x : FVec Ideal S4x4096x1024 .f32) (md : FVec Ideal S4x6144 .f32) (mix : FVec Ideal S4x4096x1024 .f32)
    (po : FVec Ideal S1024x1024 .f32) (b : Fin 4) (s : Fin 4096) (n : Fin 1024) :
    step x md mix po (ix3 b s n) =
      x (ix3 b s n) + md (ix2 b (⟨2048 + n.val, by omega⟩ : Fin 6144)) * ∑ j : Fin 1024, mix (ix3 b s j) * po (ix2 j n) := by
  pointwise [step, spread, mods]

/-- The normed row, at a token and a column. -/
theorem norm_apply (y : FVec Ideal S4x4096x1024 .f32) (md : FVec Ideal S4x6144 .f32) (gain : FVec Ideal S1024 .f32)
    (b : Fin 4) (s : Fin 4096) (n : Fin 1024) :
    norm y md gain (ix3 b s n) =
      y (ix3 b s n) * Ideal.rsqrt (Ideal.div (∑ n : Fin 1024, y (ix3 b s n) * y (ix3 b s n)) (Ideal.ofBits .f32 0x44800000#32) +
          Ideal.ofBits .f32 0x358637BD#32) * gain (ix1 n) *
        (Ideal.ofBits .f32 0x3F800000#32 + md (ix2 b (⟨4096 + n.val, by omega⟩ : Fin 6144))) +
        md (ix2 b (⟨3072 + n.val, by omega⟩ : Fin 6144)) := by
  pointwise [norm, inverses, spread, mods]

/-- A row of the array of all tokens. -/
theorem rows_apply (y : FVec Ideal S4x4096x1024 .f32) (b : Fin 4) (s : Fin 4096) (n : Fin 1024) :
    rows y (ix2 (⟨4096 * b.val + s.val, by omega⟩ : Fin 16384) n) = y (ix3 b s n) := by
  pointwise [rows]

/-- A query, at a token and a column. -/
theorem queries_apply (h : FVec Ideal S4x4096x1024 .f32) (pq : FVec Ideal S1024x2048 .f32) (R : Fin 16384) (k : Fin 2048) :
    queries h pq (ix2 R k) = ∑ n : Fin 1024, rows h (ix2 R n) * pq (ix2 n k) := by
  unfold queries
  generalize rows h = z
  pointwise

/-- A score, at a token, a head, a sub-key set and a sub-key. -/
theorem scores_apply (keys : FVec Ideal S8x2x128x128 .f32) (q : FVec Ideal S16384x2048 .f32) (R : Fin 16384) (p : Fin 8) (u : Fin 2) (k : Fin 128) :
    scores keys q (ix4 R p u k) =
      ∑ e : Fin 128, keys (ix4 p u k e) * q (ix2 R (⟨128 * (2 * p.val + u.val) + e.val, by omega⟩ : Fin 2048)) := by
  pointwise [scores]
  refine Finset.sum_congr rfl fun e _ => congrArg (fun z => keys (ix4 p u k e) * q (ix2 R z)) (Fin.ext ?_)
  simp only
  omega

/-- The first set's scores, at a head, a sub-key and a token. -/
theorem first_apply (s : FVec Ideal S16384x8x2x128 .f32) (p : Fin 8) (k : Fin 128) (R : Fin 16384) : first s (ix3 p k R) = s (ix4 R p 0 k) := by
  pointwise [first]

/-- The second set's scores, at a head, a sub-key and a token. -/
theorem second_apply (s : FVec Ideal S16384x8x2x128 .f32) (p : Fin 8) (k : Fin 128) (R : Fin 16384) : second s (ix3 p k R) = s (ix4 R p 1 k) := by
  pointwise [second]

variable (x : FVec Ideal S4x4096x1024 .f32) (md : FVec Ideal S4x6144 .f32) (oa ob ow : FVec Ideal S4x4096x512 .f32)
  (g : FVec Ideal S4x4096x3072 .f32) (pa pb pw : FVec Ideal S512x1024 .f32) (po : FVec Ideal S1024x1024 .f32)
  (gain : FVec Ideal S1024 .f32) (pq : FVec Ideal S1024x2048 .f32) (keys : FVec Ideal S8x2x128x128 .f32)

/-- The reference's row after the step is the token's. -/
theorem step_eq (b : Fin 4) (s : Fin 4096) (n : Fin 1024) :
    step x md (gated oa ob ow g pa pb pw) po (ix3 b s n) =
      stepped (argToken x md oa ob ow g b s) (argWeights pa pb pw po gain pq) n := by
  rw [step_apply]
  simp only [gated_apply]
  rfl

/-- The reference's normed row is the token's. -/
theorem norm_eq (b : Fin 4) (s : Fin 4096) (n : Fin 1024) :
    norm (step x md (gated oa ob ow g pa pb pw) po) md gain (ix3 b s n) =
      normed (argToken x md oa ob ow g b s) (argWeights pa pb pw po gain pq) n := by
  rw [norm_apply]
  simp only [step_eq x md oa ob ow g pa pb pw po gain pq]
  rfl

/-- The reference's scores are the token's. -/
theorem scores_eq (b : Fin 4) (s : Fin 4096) (p : Fin 8) (u : Fin 2) (k : Fin 128) :
    scores keys (queries (norm (step x md (gated oa ob ow g pa pb pw) po) md gain) pq)
        (ix4 (⟨4096 * b.val + s.val, by omega⟩ : Fin 16384) p u k) =
      score (argToken x md oa ob ow g b s) (argWeights pa pb pw po gain pq) (fun e => keys (ix4 p u k e)) ⟨2 * p.val + u.val, by omega⟩ := by
  rw [scores_apply]
  simp only [queries_apply, rows_apply, norm_eq x md oa ob ow g pa pb pw po gain pq]
  rfl

end Cert.Merge.Reference

end
-- ==== Proof.Merge.Claim.lean ====
module

public import proofs.«01_k».proof.Defs
public import proofs.«01_k».proof.Proof.Merge.Host
public import proofs.«01_k».proof.Proof.Merge.Reference

/-! The merge's value claim: from the same arguments, the kernel's four result arrays and the reference's are equal. -/

@[expose] public section

set_option maxRecDepth 16384

noncomputable section

namespace Cert.Merge

open Cert.Kernel3Ideal Cert.Kernel3Ideal.Gen Idealize.ShloMosaic Idealize.ShloMosaic.TcCoe Idealize.SL.Sem

open Cert.Merge.Reference (argToken argWeights)

/-- Every entry of an array of rows is a token's. -/
theorem row_cases (i : S16384x1024.Idx) :
    ∃ (b : Fin 4) (s : Fin 4096) (n : Fin 1024), i = ix2 (⟨4096 * b.val + s.val, by omega⟩ : Fin 16384) n := by
  have h : (i 0).val < 16384 := (i 0).isLt
  refine ⟨⟨(i 0).val / 4096, by omega⟩, ⟨(i 0).val % 4096, Nat.mod_lt _ (by norm_num)⟩, i 1, ?_⟩
  funext a; match a with
  | ⟨0, _⟩ => exact Fin.ext (Nat.div_add_mod _ _).symm
  | ⟨1, _⟩ => rfl

/-- Every entry of an array of scores is a token's. -/
theorem score_cases (i : S8x128x16384.Idx) :
    ∃ (p : Fin 8) (k : Fin 128) (b : Fin 4) (s : Fin 4096), i = ix3 p k (⟨4096 * b.val + s.val, by omega⟩ : Fin 16384) := by
  have h : (i 2).val < 16384 := (i 2).isLt
  refine ⟨i 0, i 1, ⟨(i 2).val / 4096, by omega⟩, ⟨(i 2).val % 4096, Nat.mod_lt _ (by norm_num)⟩, ?_⟩
  funext a; match a with
  | ⟨0, _⟩ => rfl
  | ⟨1, _⟩ => rfl
  | ⟨2, _⟩ => exact Fin.ext (Nat.div_add_mod _ _).symm

variable (m : (ℓ : Loc nD τ sig) → Buf (Elt Ideal) ℓ) (c : Dev nD)

/-- The arguments a device is given: the tokens' rows, the modulation, three attention results, the gates, the weights, the
    gain and the sub-keys. -/
abbrev arg0 : FVec Ideal S4x4096x1024 .f32 := m ((c.tc : Thread nD τ).loc main_arg0)
@[inherit_doc arg0] abbrev arg1 : FVec Ideal S4x6144 .f32 := m ((c.tc : Thread nD τ).loc main_arg1)
@[inherit_doc arg0] abbrev arg2 : FVec Ideal S4x4096x512 .f32 := m ((c.tc : Thread nD τ).loc main_arg2)
@[inherit_doc arg0] abbrev arg3 : FVec Ideal S4x4096x512 .f32 := m ((c.tc : Thread nD τ).loc main_arg3)
@[inherit_doc arg0] abbrev arg4 : FVec Ideal S4x4096x512 .f32 := m ((c.tc : Thread nD τ).loc main_arg4)
@[inherit_doc arg0] abbrev arg5 : FVec Ideal S4x4096x3072 .f32 := m ((c.tc : Thread nD τ).loc main_arg5)
@[inherit_doc arg0] abbrev arg6 : FVec Ideal S512x1024 .f32 := m ((c.tc : Thread nD τ).loc main_arg6)
@[inherit_doc arg0] abbrev arg7 : FVec Ideal S512x1024 .f32 := m ((c.tc : Thread nD τ).loc main_arg7)
@[inherit_doc arg0] abbrev arg8 : FVec Ideal S512x1024 .f32 := m ((c.tc : Thread nD τ).loc main_arg8)
@[inherit_doc arg0] abbrev arg9 : FVec Ideal S1024x1024 .f32 := m ((c.tc : Thread nD τ).loc main_arg9)
@[inherit_doc arg0] abbrev arg10 : FVec Ideal S1024 .f32 := m ((c.tc : Thread nD τ).loc main_arg10)
@[inherit_doc arg0] abbrev arg11 : FVec Ideal S1024x2048 .f32 := m ((c.tc : Thread nD τ).loc main_arg11)
@[inherit_doc arg0] abbrev arg12 : FVec Ideal S8x2x128x128 .f32 := m ((c.tc : Thread nD τ).loc main_arg12)

/-- A token of the arguments. -/
abbrev givenToken (b : Fin 4) (s : Fin 4096) : Token :=
  argToken (arg0 m c) (arg1 m c) (arg2 m c) (arg3 m c) (arg4 m c) (arg5 m c) b s

/-- The weights of the arguments. -/
abbrev givenWeights : Weights := argWeights (arg6 m c) (arg7 m c) (arg8 m c) (arg9 m c) (arg10 m c) (arg11 m c)

/-- The call's modulation of a token is its sequence's. -/
theorem mod_at (b : Fin 4) (s : Fin 4096) (n : Fin 6144) :
    inM m c (ix3 (⟨(4096 * b.val + s.val) / 4096, by omega⟩ : Fin 8) 0 n) = arg1 m c (ix2 b n) := by
  rw [inM_eq]
  refine Eq.trans ?_ (packM_apply (arg1 m c) b n)
  exact congrArg (fun z => packM (arg1 m c) (ix3 z 0 n)) (Fin.ext (show (4096 * b.val + s.val) / 4096 = b.val by omega))

/-- What the call's arrays hold for a token is what the arguments hold. -/
theorem token_given (b : Fin 4) (s : Fin 4096) : arrayToken m c ⟨4096 * b.val + s.val, by omega⟩ = givenToken m c b s := by
  have e0 : ∀ n : Fin 1024, inX m c (ix2 (⟨4096 * b.val + s.val, by omega⟩ : Fin 17408) n) = arg0 m c (ix3 b s n) := fun n => by
    rw [inX_eq]; exact packX_apply _ b s n
  have e1 := mod_at m c b s
  have e2 : ∀ d : Fin 512, inA m c (ix2 (⟨4096 * b.val + s.val, by omega⟩ : Fin 16384) d) = arg2 m c (ix3 b s d) := fun d => by
    rw [inA_eq]; exact packO_apply _ b s d
  have e3 : ∀ d : Fin 512, inB m c (ix2 (⟨4096 * b.val + s.val, by omega⟩ : Fin 16384) d) = arg3 m c (ix3 b s d) := fun d => by
    rw [inB_eq]; exact packO_apply _ b s d
  have e4 : ∀ d : Fin 512, inW m c (ix2 (⟨4096 * b.val + s.val, by omega⟩ : Fin 16384) d) = arg4 m c (ix3 b s d) := fun d => by
    rw [inW_eq]; exact packO_apply _ b s d
  have e5 : ∀ n : Fin 3072, inG m c (ix2 (⟨4096 * b.val + s.val, by omega⟩ : Fin 17408) n) = arg5 m c (ix3 b s n) := fun n => by
    rw [inG_eq]; exact packG_apply _ b s n
  unfold arrayToken
  simp only [e0, e1, e2, e3, e4, e5]
  rfl

/-- The call's weights are the arguments'. -/
theorem weights_given : arrayWeights m c = givenWeights m c := by
  refine Weights.ext (funext fun d => funext fun n => ?_) (funext fun d => funext fun n => ?_) (funext fun d => funext fun n => ?_)
    (funext fun d => funext fun n => ?_) (funext fun n => ?_) (funext fun d => funext fun n => ?_)
  · exact congrFun (inPA_eq m c) _
  · exact congrFun (inPB_eq m c) _
  · exact congrFun (inPW_eq m c) _
  · exact congrFun (inPO_eq m c) _
  · exact (congrFun (inGain_eq m c) _).trans (packGain_apply _ n)
  · exact congrFun (inPQ_eq m c) _

/-- The reference's rows after the step, from the kernel's arguments. -/
abbrev refStep : FVec Ideal S4x4096x1024 .f32 :=
  Reference.step (arg0 m c) (arg1 m c)
    (Reference.gated (arg2 m c) (arg3 m c) (arg4 m c) (arg5 m c) (arg6 m c) (arg7 m c) (arg8 m c)) (arg9 m c)

/-- The reference's normed rows, from the kernel's arguments. -/
abbrev refNorm : FVec Ideal S4x4096x1024 .f32 := Reference.norm (refStep m c) (arg1 m c) (arg10 m c)

/-- The reference's scores, from the kernel's arguments. -/
abbrev refScores : FVec Ideal Cert.Reference3Ideal.S16384x8x2x128 .f32 := Reference.scores (arg12 m c) (Reference.queries (refNorm m c) (arg11 m c))

/-- The rows after the step agree. -/
theorem step_agrees : outStep m c = Reference.rows (refStep m c) := by
  funext i
  obtain ⟨b, s, n, rfl⟩ := row_cases i
  refine Eq.trans ?_ ((Reference.rows_apply (refStep m c) b s n).trans
    (Reference.step_eq (arg0 m c) (arg1 m c) (arg2 m c) (arg3 m c) (arg4 m c) (arg5 m c) (arg6 m c) (arg7 m c) (arg8 m c)
      (arg9 m c) (arg10 m c) (arg11 m c) b s n)).symm
  exact congrArg₂ (fun T P => stepped T P n) (token_given m c b s) (weights_given m c)

/-- The normed rows agree. -/
theorem norm_agrees : outNorm m c = truncf .bf16 (Reference.rows (refNorm m c)) bitsLt_bf16_f32 := by
  funext i
  obtain ⟨b, s, n, rfl⟩ := row_cases i
  refine Eq.trans ?_ ((Reference.rows_apply (refNorm m c) b s n).trans
    (Reference.norm_eq (arg0 m c) (arg1 m c) (arg2 m c) (arg3 m c) (arg4 m c) (arg5 m c) (arg6 m c) (arg7 m c) (arg8 m c)
      (arg9 m c) (arg10 m c) (arg11 m c) b s n)).symm
  exact congrArg₂ (fun T P => normed T P n) (token_given m c b s) (weights_given m c)

/-- A score of the kernel is the reference's. -/
theorem score_agrees (p : Fin 8) (u : Fin 2) (k : Fin 128) (b : Fin 4) (s : Fin 4096) :
    outScore m c u (ix3 p k (⟨4096 * b.val + s.val, by omega⟩ : Fin 16384)) =
      refScores m c (ix4 (⟨4096 * b.val + s.val, by omega⟩ : Fin 16384) p u k) := by
  refine Eq.trans ?_ (Reference.scores_eq (arg0 m c) (arg1 m c) (arg2 m c) (arg3 m c) (arg4 m c) (arg5 m c) (arg6 m c) (arg7 m c) (arg8 m c)
      (arg9 m c) (arg10 m c) (arg11 m c) (arg12 m c) b s p u k).symm
  have e : (fun e => inKeys m c (ix3 (⟨2 * p.val + u.val, by omega⟩ : Fin 16) k e)) = fun e => arg12 m c (ix4 p u k e) :=
    funext fun e => (congrFun (inKeys_eq m c) _).trans (packKeys_apply _ p u k e)
  refine (congrArg (fun f => score _ _ f ⟨2 * p.val + u.val, by omega⟩) e).trans ?_
  exact congrArg₂ (fun T P => score T P (fun e => arg12 m c (ix4 p u k e)) ⟨2 * p.val + u.val, by omega⟩) (token_given m c b s) (weights_given m c)

/-- The first set's scores agree. -/
theorem first_agrees : outScore m c 0 = Reference.first (refScores m c) := by
  funext i
  obtain ⟨p, k, b, s, rfl⟩ := score_cases i
  exact (score_agrees m c p 0 k b s).trans (Reference.first_apply (refScores m c) p k _).symm

/-- The second set's scores agree. -/
theorem second_agrees : outScore m c 1 = Reference.second (refScores m c) := by
  funext i
  obtain ⟨p, k, b, s, rfl⟩ := score_cases i
  exact (score_agrees m c p 1 k b s).trans (Reference.second_apply (refScores m c) p k _).symm

/-- From the same arguments, the reference's own terms are those of the kernel's arguments. -/
theorem ref_terms (m' : (ℓ : Loc Cert.Reference3Ideal.nD Cert.Reference3Ideal.τ Cert.Reference3Ideal.sig) → Buf (Elt Ideal) ℓ)
    (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5))
    (h6 : m' ((c.tc : Thread Cert.Reference3Ideal.nD Cert.Reference3Ideal.τ).loc Cert.Reference3Ideal.main_arg6) = m ((c.tc : Thread nD τ).loc main_arg6))
    (h7 : m' ((c.tc : Thread Cert.Reference3Ideal.nD Cert.Reference3Ideal.τ).loc Cert.Reference3Ideal.main_arg7) = m ((c.tc : Thread nD τ).loc main_arg7))
    (h8 : m' ((c.tc : Thread Cert.Reference3Ideal.nD Cert.Reference3Ideal.τ).loc Cert.Reference3Ideal.main_arg8) = m ((c.tc : Thread nD τ).loc main_arg8))
    (h9 : m' ((c.tc : Thread Cert.Reference3Ideal.nD Cert.Reference3Ideal.τ).loc Cert.Reference3Ideal.main_arg9) = m ((c.tc : Thread nD τ).loc main_arg9))
    (h10 : m' ((c.tc : Thread Cert.Reference3Ideal.nD Cert.Reference3Ideal.τ).loc Cert.Reference3Ideal.main_arg10) = m ((c.tc : Thread nD τ).loc main_arg10))
    (h11 : m' ((c.tc : Thread Cert.Reference3Ideal.nD Cert.Reference3Ideal.τ).loc Cert.Reference3Ideal.main_arg11) = m ((c.tc : Thread nD τ).loc main_arg11))
    (h12 : m' ((c.tc : Thread Cert.Reference3Ideal.nD Cert.Reference3Ideal.τ).loc Cert.Reference3Ideal.main_arg12) = m ((c.tc : Thread nD τ).loc main_arg12)) :
    Reference.steps m' c = refStep m c ∧ Reference.norms m' c = refNorm m c ∧ Reference.allScores m' c = refScores m c := by
  have e : Reference.steps m' c = refStep m c := by
    unfold Reference.steps
    rw [h0, h1, h2, h3, h4, h5, h6, h7, h8, h9]
  have e' : Reference.norms m' c = refNorm m c := by
    unfold Reference.norms
    rw [e, h1, h10]
  refine ⟨e, e', ?_⟩
  unfold Reference.allScores
  rw [e', h11, h12]

/-- THE CLAIM: the kernel's run and the reference's run end in the same four results, their arguments kept. -/
theorem claim : Cert.algebraic_Kernel3Ideal_Reference3Ideal := fun m g m' g' _ ha =>
  ⟨fun c => outStep m c, fun c => outNorm m c, fun c => outScore m c 0, fun c => outScore m c 1,
   (θ_run defs _ _).mono (fun _ h c => ⟨(h c).1.trans (array_step m c), (h c).2.1.trans (array_norm m c), (h c).2.2.1.trans (array_first m c),
      (h c).2.2.2.1.trans (array_second m c), (h c).2.2.2.2⟩) (Cert.Kernel3Ideal.Value.run_blocks m g),
   (θ_run Cert.Reference3Ideal.defs _ _).mono (fun _ h c => by
      obtain ⟨h0, h1, h2, h3, h4, h5, h6, h7, h8, h9, h10, h11, h12⟩ := ha c
      obtain ⟨es, en, ec⟩ := ref_terms m m' c h0 h1 h2 h3 h4 h5 h6 h7 h8 h9 h10 h11 h12
      refine ⟨(h c).1.trans ?_, (h c).2.1.trans ?_, (h c).2.2.1.trans ?_, (h c).2.2.2.1.trans ?_, (h c).2.2.2.2⟩
      · rw [es]; exact (step_agrees m c).symm
      · rw [en]; exact (norm_agrees m c).symm
      · rw [ec]; exact (first_agrees m c).symm
      · rw [ec]; exact (second_agrees m c).symm) (Reference.run m' g')⟩

end Cert.Merge

end
-- ==== Proof.Project.Rows.lean ====
module

public import Idealize.ShloMosaic.Lib.Pointwise

/-! What the input projections compute for one row, as plain functions of the numbers they read: the normed and modulated
row, its product with a column of weights, the root mean square norm, the rotation of a head and the gate. -/

@[expose] public section

noncomputable section

namespace Cert.Project

open Idealize.ShloMosaic

/-- What belongs to one row: its numbers, the shift and the scale of the modulation. -/
@[ext] structure Row where
  /-- The row's numbers. -/
  x : Fin 1024 → EReal
  /-- The shift of the modulation. -/
  shift : Fin 1024 → EReal
  /-- The scale of the modulation. -/
  scale : Fin 1024 → EReal

/-- A row divided by its root mean square, times a gain; `len` is the row's length as a number's bits. -/
def rms {k : Nat} (len : BitVec 32) (v gain : Fin k → EReal) (j : Fin k) : EReal :=
  v j * Ideal.rsqrt (Ideal.div (∑ i, v i * v i) (Ideal.ofBits .f32 len) + Ideal.ofBits .f32 0x358637BD#32) * gain j

/-- The normed and modulated row. -/
def normed (T : Row) (gain : Fin 1024 → EReal) (n : Fin 1024) : EReal :=
  rms 0x44800000#32 T.x gain n * (Ideal.ofBits .f32 0x3F800000#32 + T.scale n) + T.shift n

/-- A row times a column of weights. -/
def lin {k : Nat} (h w : Fin k → EReal) : EReal := ∑ n, h n * w n

/-- The gate of a number: one over one plus the exponential of its negative. -/
def gate (x : EReal) : EReal :=
  Ideal.div (Ideal.ofBits .f32 0x3F800000#32) (Ideal.ofBits .f32 0x3F800000#32 + Ideal.exp (-x))

/-- A slice of 128 lanes times a table, plus the slice turned by `up` lanes times a second table, plus the slice turned by
    `dn` lanes times a third. -/
def turn (up dn : Nat) (x cos lo hi : Fin 128 → EReal) (l : Fin 128) : EReal :=
  x l * cos l + x ⟨(l.val + 128 - up) % 128, Nat.mod_lt _ (by norm_num)⟩ * lo l
    + x ⟨(l.val + 128 - dn) % 128, Nat.mod_lt _ (by norm_num)⟩ * hi l

/-- A slice of 128 lanes divided by the root mean squares of its two heads: the squares are summed through the 128 by 128
    matrix `bd`, in two parts whose second is the squares minus themselves. -/
def leveled (x : Fin 128 → EReal) (bd : Fin 128 → Fin 128 → EReal) (l : Fin 128) : EReal :=
  x l * Ideal.rsqrt (((∑ j, x j * x j * bd j l) + ∑ j, (x j * x j - x j * x j) * bd j l) * Ideal.ofBits .f32 0x3C800000#32 + Ideal.ofBits .f32 0x358637BD#32)

/-- A pair of halves rotated: the first half. -/
def spinLo {k : Nat} (a b c s : Fin k → EReal) (l : Fin k) : EReal := a l * c l - b l * s l

/-- A pair of halves rotated: the second half. -/
def spinHi {k : Nat} (a b c s : Fin k → EReal) (l : Fin k) : EReal := b l * c l + a l * s l

/-- What the call reads for one row: the row, the norm's gain, the packed weights, the gains and the expansions of the
    compressed queries and keys, the heads' gains, the row of the table of rotations and the matrix that sums over heads. -/
@[ext] structure Given where
  /-- The row and its modulation. -/
  row : Row
  /-- The norm's gain. -/
  gain : Fin 1024 → EReal
  /-- The packed weights, by column. -/
  w : Fin 5888 → Fin 1024 → EReal
  /-- The gain of the compressed queries. -/
  gq : Fin 384 → EReal
  /-- The gain of the compressed keys and values. -/
  gk : Fin 256 → EReal
  /-- The expansion of the queries, by column. -/
  uq : Fin 1024 → Fin 384 → EReal
  /-- The expansion of the keys and values, by column. -/
  uk : Fin 1536 → Fin 256 → EReal
  /-- The gain of the second attention's queries. -/
  nq : Fin 512 → EReal
  /-- The gain of the second attention's keys. -/
  nk : Fin 256 → EReal
  /-- The six tables of rotations. -/
  tab : Fin 6 → Fin 128 → EReal
  /-- The matrix that sums over heads. -/
  bd : Fin 128 → Fin 128 → EReal

variable (G : Given)

/-- A column of the projection. -/
def Given.col (j : Fin 5888) : EReal := lin (normed G.row G.gain) (G.w j)

/-- The expanded queries of the first attention. -/
def Given.qa (c : Fin 1024) : EReal :=
  lin (rms 0x43C00000#32 (fun j => G.col ⟨j.val, by omega⟩) G.gq) (G.uq c)

/-- The expanded keys and values of the first attention. -/
def Given.kv (c : Fin 1536) : EReal :=
  lin (rms 0x43800000#32 (fun j => G.col ⟨384 + j.val, by omega⟩) G.gk) (G.uk c)

/-- The first attention's queries: slice `g`, lane `l`. -/
def Given.outQa (g : Fin 8) (l : Fin 128) : EReal :=
  turn 112 16 (fun j => G.qa ⟨128 * g.val + j.val, by omega⟩) (G.tab 0) (G.tab 1) (G.tab 2) l

/-- The first attention's keys. -/
def Given.outKa (g : Fin 8) (l : Fin 128) : EReal :=
  G.kv ⟨128 * g.val + l.val, by omega⟩ + turn 112 16 (fun j => G.col ⟨640 + j.val, by omega⟩) (G.tab 0) (G.tab 1) (G.tab 2) l

/-- The first attention's values. -/
def Given.outVa (c : Fin 512) : EReal := G.kv ⟨1024 + c.val, by omega⟩

/-- The second attention's queries. -/
def Given.outQb (g : Fin 4) (l : Fin 128) : EReal :=
  turn 96 32 (fun j => leveled (fun i => G.col ⟨768 + (128 * g.val + i.val), by omega⟩) G.bd j * G.nq ⟨128 * g.val + j.val, by omega⟩)
    (G.tab 3) (G.tab 4) (G.tab 5) l

/-- The second attention's keys. -/
def Given.outKb (g : Fin 2) (l : Fin 128) : EReal :=
  turn 96 32 (fun j => leveled (fun i => G.col ⟨1280 + (128 * g.val + i.val), by omega⟩) G.bd j * G.nk ⟨128 * g.val + j.val, by omega⟩)
    (G.tab 3) (G.tab 4) (G.tab 5) l

/-- The second attention's values. -/
def Given.outVb (c : Fin 256) : EReal := G.col ⟨1536 + c.val, by omega⟩

/-- The third attention's queries. -/
def Given.outQw (g : Fin 4) (l : Fin 128) : EReal :=
  turn 96 32 (fun j => G.col ⟨1792 + (128 * g.val + j.val), by omega⟩) (G.tab 3) (G.tab 4) (G.tab 5) l * Ideal.ofBits .f32 0x3E000000#32

/-- The third attention's keys. -/
def Given.outKw (g : Fin 2) (l : Fin 128) : EReal :=
  turn 96 32 (fun j => G.col ⟨2304 + (128 * g.val + j.val), by omega⟩) (G.tab 3) (G.tab 4) (G.tab 5) l

/-- The third attention's values. -/
def Given.outVw (c : Fin 256) : EReal := G.col ⟨2560 + c.val, by omega⟩

/-- The gates. -/
def Given.outGate (c : Fin 3072) : EReal := gate (G.col ⟨2816 + c.val, by omega⟩)

end Cert.Project

end
-- ==== Proof.Project.Pays.lean ====
module

public import proofs.«01_k».proof.Proof.Project.Rows
public import proofs.«01_k».proof.Proof.Gen.Kernel4Ideal.Value
public import Idealize.ShloMosaic.Lib.Pointwise

/-! One grid point of the input projections: each value the body computes, read at a row and a column. -/

@[expose] public section

set_option maxRecDepth 16384

noncomputable section

namespace Cert.Project

open Cert.Kernel4Ideal Cert.Kernel4Ideal.Gen Idealize.ShloMosaic Idealize.ShloMosaic.TcCoe Idealize.SL.Sem

/-- The normed and modulated row. -/
theorem pay_normed (x : Vec Ideal S512x1024 .f32) (sh sc : Vec Ideal S1x1x1024 .f32) (g : Vec Ideal S1x1024 .f32) (r : Fin 512) (n : Fin 1024) :
    k0_pay3 x sh sc g (ix2 r n) =
      normed ⟨fun n => x (ix2 r n), fun n => sh (ix3 0 0 n), fun n => sc (ix3 0 0 n)⟩ (fun n => g (ix2 0 n)) n := by
  pointwise [k0_pay3, normed, rms]

/-- Four slices of 128 lanes side by side, read at a slice's lane. -/
theorem cat4 (a0 a1 a2 a3 : FVec Ideal S512x128 .f32) (r : Fin 512) (g : Fin 4) (l : Fin 128) :
    concatenate S512x512 1 [⟨S512x128, a0⟩, ⟨S512x128, a1⟩, ⟨S512x128, a2⟩, ⟨S512x128, a3⟩] concatenates_S512x128_S512x128_S512x128_S512x128_S512x512_d1
      (ix2 r (⟨128 * g.val + l.val, by omega⟩ : Fin 512)) = (![a0, a1, a2, a3] : Fin 4 → FVec Ideal S512x128 .f32) g (ix2 r l) := by
  have hl := l.isLt
  fin_cases g
  · pointwise
  · pointwise
  · pointwise
    rw [dif_neg (by omega), dif_neg (by omega), dif_pos (by omega)]
    exact congrArg (fun z => a2 (ix2 r z)) (Fin.ext (by simp only []; omega))
  · pointwise
    rw [dif_neg (by omega), dif_neg (by omega), dif_neg (by omega)]
    exact congrArg (fun z => a3 (ix2 r z)) (Fin.ext (by simp only []; omega))

/-- Eight slices of 128 lanes side by side, read at a slice's lane. -/
theorem cat8 (a0 a1 a2 a3 a4 a5 a6 a7 : FVec Ideal S512x128 .f32) (r : Fin 512) (g : Fin 8) (l : Fin 128) :
    concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩] concatenates_S512x128_S512x128_S512x128_S512x128_S512x128_S512x128_S512x128_S512x128_S512x1024_d1
      (ix2 r (⟨128 * g.val + l.val, by omega⟩ : Fin 1024)) = (![a0, a1, a2, a3, a4, a5, a6, a7] : Fin 8 → FVec Ideal S512x128 .f32) g (ix2 r l) := by
  have hl := l.isLt
  fin_cases g
  · pointwise
  · pointwise
  · pointwise
    rw [dif_neg (by omega), dif_neg (by omega), dif_pos (by omega)]
    exact congrArg (fun z => a2 (ix2 r z)) (Fin.ext (by simp only []; omega))
  · pointwise
    rw [dif_neg (by omega), dif_neg (by omega), dif_neg (by omega), dif_pos (by omega)]
    exact congrArg (fun z => a3 (ix2 r z)) (Fin.ext (by simp only []; omega))
  · pointwise
    rw [dif_neg (by omega), dif_neg (by omega), dif_neg (by omega), dif_neg (by omega), dif_pos (by omega)]
    exact congrArg (fun z => a4 (ix2 r z)) (Fin.ext (by simp only []; omega))
  · pointwise
    rw [dif_neg (by omega), dif_neg (by omega), dif_neg (by omega), dif_neg (by omega), dif_neg (by omega), dif_pos (by omega)]
    exact congrArg (fun z => a5 (ix2 r z)) (Fin.ext (by simp only []; omega))
  · pointwise
    rw [dif_neg (by omega), dif_neg (by omega), dif_neg (by omega), dif_neg (by omega), dif_neg (by omega), dif_neg (by omega), dif_pos (by omega)]
    exact congrArg (fun z => a6 (ix2 r z)) (Fin.ext (by simp only []; omega))
  · pointwise
    rw [dif_neg (by omega), dif_neg (by omega), dif_neg (by omega), dif_neg (by omega), dif_neg (by omega), dif_neg (by omega), dif_neg (by omega)]
    exact congrArg (fun z => a7 (ix2 r z)) (Fin.ext (by simp only []; omega))

variable (h : Vec Ideal S512x1024 .bf16) (r : Fin 512)

/-- The values of the second attention. -/
theorem pay_vb (w : Vec Ideal S1x1024x256 .bf16) (c : Fin 256) :
    k0_pay46 h w (ix2 r c) = lin (fun n => h (ix2 r n)) (fun n => w (ix3 0 n c)) := by
  pointwise [k0_pay46, lin]

/-- The values of the third attention. -/
theorem pay_vw (w : Vec Ideal S1x1024x256 .bf16) (c : Fin 256) :
    k0_pay50 h w (ix2 r c) = lin (fun n => h (ix2 r n)) (fun n => w (ix3 0 n c)) := by
  pointwise [k0_pay50, lin]

/-- The keys of the third attention, before the rotation. -/
theorem pay_kw (w : Vec Ideal S1x1024x256 .bf16) (c : Fin 256) :
    k0_pay48 h w (ix2 r c) = lin (fun n => h (ix2 r n)) (fun n => w (ix3 0 n c)) := by
  pointwise [k0_pay48, lin]

/-- The first third of the gates. -/
theorem pay_gate0 (w : Vec Ideal S1x1024x1024 .bf16) (c : Fin 1024) :
    k0_pay51 h w (ix2 r c) = gate (lin (fun n => h (ix2 r n)) (fun n => w (ix3 0 n c))) := by
  have z : ∀ x : EReal, 0 - x = -x := fun x => zero_sub x
  pointwise [k0_pay51, lin, gate]
  rw [z]

/-- The second third of the gates. -/
theorem pay_gate1 (w : Vec Ideal S1x1024x1024 .bf16) (c : Fin 1024) :
    k0_pay1 h w (ix2 r c) = gate (lin (fun n => h (ix2 r n)) (fun n => w (ix3 0 n c))) := by
  have z : ∀ x : EReal, 0 - x = -x := fun x => zero_sub x
  pointwise [k0_pay1, lin, gate]
  rw [z]

/-- The last third of the gates. -/
theorem pay_gate2 (w : Vec Ideal S1x1024x1024 .bf16) (c : Fin 1024) :
    k0_pay2 h w (ix2 r c) = gate (lin (fun n => h (ix2 r n)) (fun n => w (ix3 0 n c))) := by
  have z : ∀ x : EReal, 0 - x = -x := fun x => zero_sub x
  pointwise [k0_pay2, lin, gate]
  rw [z]

/-- The keys and values of the first attention, expanded of their compressed form. -/
theorem pay_kv (w : Vec Ideal S1x1024x256 .bf16) (g : Vec Ideal S1x256 .f32) (u : Vec Ideal S256x1536 .bf16) (c : Fin 1536) :
    k0_pay25 h w g u (ix2 r c) =
      lin (rms 0x43800000#32 (fun j => lin (fun n => h (ix2 r n)) fun n => w (ix3 0 n j)) (fun j => g (ix2 0 j))) (fun j => u (ix2 j c)) := by
  pointwise [k0_pay25, lin, rms]

/-- The queries of the first attention before the rotation, expanded of their compressed form. -/
theorem pay_qa (w : Vec Ideal S1x1024x384 .bf16) (g : Vec Ideal S1x384 .f32) (u : Vec Ideal S384x1024 .bf16) (c : Fin 1024) :
    k0_pay10 h w g u (ix2 r c) =
      lin (rms 0x43C00000#32 (fun j => lin (fun n => h (ix2 r n)) fun n => w (ix3 0 n j)) (fun j => g (ix2 0 j))) (fun j => u (ix2 j c)) := by
  pointwise [k0_pay10, lin, rms]

/-- The values of the first attention: the last columns. -/
theorem pay_va (y : FVec Ideal S512x1536 .f32) (c : Fin 512) : k0_pay28 y (ix2 r c) = y (ix2 r (⟨1024 + c.val, by omega⟩ : Fin 1536)) := by
  pointwise [k0_pay28]

variable (cos lo hi : FVec Ideal S512x128 .f32)

/-- The keys of the third attention, rotated. -/
theorem pay_kw_turn (y : FVec Ideal S512x256 .f32) (g : Fin 2) (l : Fin 128) :
    k0_pay49 cos lo hi y (ix2 r (⟨128 * g.val + l.val, by omega⟩ : Fin 256)) =
      turn 96 32 (fun j => y (ix2 r (⟨128 * g.val + j.val, by omega⟩ : Fin 256))) (fun j => cos (ix2 r j)) (fun j => lo (ix2 r j)) (fun j => hi (ix2 r j)) l := by
  fin_cases g <;> pointwise [k0_pay49, turn]

/-- The queries of the third attention, rotated and scaled. -/
theorem pay_qw_turn (w : Vec Ideal S1x1024x512 .bf16) (g : Fin 4) (l : Fin 128) :
    k0_pay47 h cos lo hi w (ix2 r (⟨128 * g.val + l.val, by omega⟩ : Fin 512)) =
      turn 96 32 (fun j => lin (fun n => h (ix2 r n)) fun n => w (ix3 0 n (⟨128 * g.val + j.val, by omega⟩ : Fin 512)))
        (fun j => cos (ix2 r j)) (fun j => lo (ix2 r j)) (fun j => hi (ix2 r j)) l * Ideal.ofBits .f32 0x3E000000#32 := by
  unfold k0_pay47
  refine (congrArg (· * Ideal.ofBits .f32 0x3E000000#32) (cat4 _ _ _ _ r g l)).trans ?_
  fin_cases g <;> pointwise [turn, lin]

/-- The keys of the first attention: the expanded keys plus the rotated shared lanes. -/
theorem pay_ka_turn (w : Vec Ideal S1x1024x256 .bf16) (gn : Vec Ideal S1x256 .f32) (u : Vec Ideal S256x1536 .bf16)
    (w' : Vec Ideal S1x1024x128 .bf16) (g : Fin 8) (l : Fin 128) :
    k0_pay27 (k0_pay26 h cos lo hi w gn u w') (ix2 r (⟨128 * g.val + l.val, by omega⟩ : Fin 1024)) =
      k0_pay25 h w gn u (ix2 r (⟨128 * g.val + l.val, by omega⟩ : Fin 1536)) +
      turn 112 16 (fun j => lin (fun n => h (ix2 r n)) fun n => w' (ix3 0 n j))
        (fun j => cos (ix2 r j)) (fun j => lo (ix2 r j)) (fun j => hi (ix2 r j)) l := by
  unfold k0_pay27 k0_pay26
  generalize k0_pay25 h w gn u = y
  refine (congrArg₂ (· + ·) (x' := y (ix2 r (⟨128 * g.val + l.val, by omega⟩ : Fin 1536))) ?_ (cat8 _ _ _ _ _ _ _ _ r g l)).trans ?_
  · pointwise
  · fin_cases g <;> pointwise [turn, lin]

/-- The queries of the first attention, rotated. -/
theorem pay_qa_turn (w : Vec Ideal S1x1024x384 .bf16) (gn : Vec Ideal S1x384 .f32) (u : Vec Ideal S384x1024 .bf16) (g : Fin 8) (l : Fin 128) :
    k0_pay24 hi (k0_pay11 h cos lo hi w gn u) (k0_pay15 hi (k0_pay13 h w gn u) (k0_pay14 h cos lo w gn u))
      (k0_pay16 cos lo hi (k0_pay10 h w gn u)) (k0_pay17 cos lo hi (k0_pay10 h w gn u)) (k0_pay18 cos lo hi (k0_pay10 h w gn u))
      (k0_pay19 cos lo hi (k0_pay10 h w gn u)) (k0_pay20 cos lo hi (k0_pay10 h w gn u)) (k0_pay22 (k0_pay10 h w gn u))
      (k0_pay23 cos lo (k0_pay10 h w gn u)) (ix2 r (⟨128 * g.val + l.val, by omega⟩ : Fin 1024)) =
      turn 112 16 (fun j => k0_pay10 h w gn u (ix2 r (⟨128 * g.val + j.val, by omega⟩ : Fin 1024)))
        (fun j => cos (ix2 r j)) (fun j => lo (ix2 r j)) (fun j => hi (ix2 r j)) l := by
  unfold k0_pay24 k0_pay11 k0_pay15 k0_pay13 k0_pay14 k0_pay12 k0_pay16 k0_pay17 k0_pay18 k0_pay19 k0_pay20 k0_pay22 k0_pay23 k0_pay21
  generalize k0_pay10 h w gn u = y
  refine (cat8 _ _ _ _ _ _ _ _ r g l).trans ?_
  fin_cases g <;> pointwise [turn]

/-- Slice 0 of the second attention's queries, over the root mean square of its heads. -/
theorem pay_level0 (bd : Vec Ideal S128x128 .bf16) (w : Vec Ideal S1x1024x512 .bf16) (l : Fin 128) :
    k0_pay31 h bd w (ix2 r l) =
      leveled (fun j => k0_pay29 h w (ix2 r (⟨j.val, by omega⟩ : Fin 512))) (fun j l => bd (ix2 j l)) l := by
  unfold k0_pay31
  generalize k0_pay29 h w = y
  pointwise [leveled]

/-- Slice 1 of the second attention's queries, over the root mean square of its heads. -/
theorem pay_level1 (bd : Vec Ideal S128x128 .bf16) (w : Vec Ideal S1x1024x512 .bf16) (l : Fin 128) :
    k0_pay32 h bd w (ix2 r l) =
      leveled (fun j => k0_pay29 h w (ix2 r (⟨128 + j.val, by omega⟩ : Fin 512))) (fun j l => bd (ix2 j l)) l := by
  unfold k0_pay32
  generalize k0_pay29 h w = y
  pointwise [leveled]

/-- The second attention's queries before the norm. -/
theorem pay_qb (w : Vec Ideal S1x1024x512 .bf16) (c : Fin 512) :
    k0_pay29 h w (ix2 r c) = lin (fun n => h (ix2 r n)) (fun n => w (ix3 0 n c)) := by
  pointwise [k0_pay29, lin]

/-- The second attention's keys before the norm. -/
theorem pay_kb (w : Vec Ideal S1x1024x256 .bf16) (c : Fin 256) :
    k0_pay39 h w (ix2 r c) = lin (fun n => h (ix2 r n)) (fun n => w (ix3 0 n c)) := by
  pointwise [k0_pay39, lin]

/-- The second attention's queries, normed and times their gain. -/
theorem pay_qb_level (bd : Vec Ideal S128x128 .bf16) (w : Vec Ideal S1x1024x512 .bf16) (gn : Vec Ideal S1x512 .f32) (g : Fin 4) (l : Fin 128) :
    k0_pay33 bd (k0_pay29 h w) (k0_pay30 gn) (k0_pay31 h bd w) (k0_pay32 h bd w) (ix2 r (⟨128 * g.val + l.val, by omega⟩ : Fin 512)) =
      leveled (fun j => k0_pay29 h w (ix2 r (⟨128 * g.val + j.val, by omega⟩ : Fin 512))) (fun j l => bd (ix2 j l)) l *
        gn (ix2 0 (⟨128 * g.val + l.val, by omega⟩ : Fin 512)) := by
  unfold k0_pay33
  refine (congrArg₂ (· * ·) (cat4 _ _ _ _ r g l) (y' := gn (ix2 0 (⟨128 * g.val + l.val, by omega⟩ : Fin 512))) ?_).trans ?_
  · pointwise [k0_pay30]
  · refine congrArg (· * _) ?_
    fin_cases g
    · exact (pay_level0 h r bd w l).trans (by simp)
    · exact (pay_level1 h r bd w l).trans (by simp)
    · generalize k0_pay29 h w = y
      pointwise [leveled]
    · generalize k0_pay29 h w = y
      pointwise [leveled]

/-- The second attention's queries, rotated. -/
theorem pay_qb_turn (bd : Vec Ideal S128x128 .bf16) (q : FVec Ideal S512x512 .f32) (gn : FVec Ideal S1x512 .f32) (a b : FVec Ideal S512x128 .f32) (g : Fin 4) (l : Fin 128) :
    k0_pay38 cos lo hi (k0_pay33 bd q gn a b) (k0_pay34 cos lo hi bd q gn a b) (k0_pay36 cos lo bd q gn a b) (k0_pay37 hi bd q gn a b)
      (ix2 r (⟨128 * g.val + l.val, by omega⟩ : Fin 512)) =
      turn 96 32 (fun j => k0_pay33 bd q gn a b (ix2 r (⟨128 * g.val + j.val, by omega⟩ : Fin 512)))
        (fun j => cos (ix2 r j)) (fun j => lo (ix2 r j)) (fun j => hi (ix2 r j)) l := by
  unfold k0_pay38 k0_pay34 k0_pay36 k0_pay37 k0_pay35
  generalize k0_pay33 bd q gn a b = y
  refine (cat4 _ _ _ _ r g l).trans ?_
  fin_cases g <;> pointwise [turn]

/-- The second attention's keys, normed, times their gain and rotated. -/
theorem pay_kb_turn (bd : Vec Ideal S128x128 .bf16) (w : Vec Ideal S1x1024x256 .bf16) (gn : Vec Ideal S1x256 .f32) (g : Fin 2) (l : Fin 128) :
    k0_pay45 cos lo hi bd (k0_pay40 gn) (k0_pay41 h bd w) (k0_pay42 h w) (k0_pay43 h w) (k0_pay44 h w) (ix2 r (⟨128 * g.val + l.val, by omega⟩ : Fin 256)) =
      turn 96 32 (fun j => leveled (fun i => k0_pay39 h w (ix2 r (⟨128 * g.val + i.val, by omega⟩ : Fin 256))) (fun j l => bd (ix2 j l)) j *
          gn (ix2 0 (⟨128 * g.val + j.val, by omega⟩ : Fin 256)))
        (fun j => cos (ix2 r j)) (fun j => lo (ix2 r j)) (fun j => hi (ix2 r j)) l := by
  unfold k0_pay45 k0_pay41 k0_pay44 k0_pay43 k0_pay42 k0_pay40
  generalize k0_pay39 h w = y
  fin_cases g
  · pointwise [turn, leveled]
    rw [dif_pos (Nat.mod_lt _ (by norm_num)), dif_pos (Nat.mod_lt _ (by norm_num))]
  · pointwise [turn, leveled]

end Cert.Project

end
-- ==== Proof.Project.Host.lean ====
module

public import proofs.«01_k».proof.Proof.Project.Pays
public import Idealize.ShloMosaic.Lib.StableHlo.RunRead
public import Idealize.ShloMosaic.Lib.KernelVsHost

/-! The arrays the input projections' call reads, as the host makes them of the arguments. -/

@[expose] public section

set_option maxRecDepth 16384

noncomputable section

namespace Cert.Project

open Cert.Kernel4Ideal Cert.Kernel4Ideal.Gen Idealize.ShloMosaic Idealize.ShloMosaic.TcCoe Idealize.SL.Sem

/-- The rows: the latent rows, then the context rows. -/
def packX (x : FVec Ideal S4x4096x1024 .f32) (y : FVec Ideal S4x256x1024 .f32) : FVec Ideal S17408x1024 .f32 :=
  concatenate S17408x1024 0 [⟨S16384x1024, (shapeCast S16384x1024 x shapeCasts_S4x4096x1024_S16384x1024)⟩, ⟨S1024x1024, (shapeCast S1024x1024 y shapeCasts_S4x256x1024_S1024x1024)⟩] concatenates_S16384x1024_S1024x1024_S17408x1024_d0

/-- The modulation: one row per sequence, then the context's, then rows of zeros. -/
def packM (x : FVec Ideal S4x6144 .f32) (y : FVec Ideal S6144 .f32) : FVec Ideal S8x1x6144 .f32 :=
  shapeCast S8x1x6144 (concatenate S8x6144 0 [⟨S4x6144, x⟩, ⟨S1x6144, broadcastInDim S1x6144 ![1] bcast_S6144_S1x6144_1 y⟩, ⟨S3x6144, broadcastInDim S3x6144 ![] bcast_S_S3x6144 (constant S_ .f32 0x00000000#32)⟩] concatenates_S4x6144_S1x6144_S3x6144_S8x6144_d0) shapeCasts_S8x6144_S8x1x6144

/-- The weights with a unit axis in front. -/
def lift (w : FVec Ideal S1024x5280 .f32) : FVec Ideal S1x1024x5280 .f32 :=
  broadcastInDim S1x1024x5280 ![1, 2] bcast_S1024x5280_S1x1024x5280_1_2 w

/-- The shared rotated lanes of the first attention's keys, zeros before and after. -/
def packKr (w : FVec Ideal S1024x5280 .f32) : FVec Ideal S1x1024x128 .f32 :=
  concatenate S1x1024x128 2 [⟨S1x1024x64, broadcastInDim S1x1024x64 ![] bcast_S_S1x1024x64 (constant S_ .f32 0x00000000#32)⟩, ⟨S1x1024x32, extractStridedSlice S1x1024x32 ![0, 0, 640] (lift w) slices_S1x1024x5280_S1x1024x32_0_0_640⟩, ⟨S1x1024x32, broadcastInDim S1x1024x32 ![] bcast_S_S1x1024x32 (constant S_ .f32 0x00000000#32)⟩] concatenates_S1x1024x64_S1x1024x32_S1x1024x32_S1x1024x128_d2

/-- The second attention's keys, each head twice. -/
def packKb (w : FVec Ideal S1024x5280 .f32) : FVec Ideal S1x1024x256 .f32 :=
  concatenate S1x1024x256 2 [⟨S1x1024x64, extractStridedSlice S1x1024x64 ![0, 0, 0] (extractStridedSlice S1x1024x128 ![0, 0, 1184] (lift w) slices_S1x1024x5280_S1x1024x128_0_0_1184) slices_S1x1024x128_S1x1024x64_0_0_0⟩, ⟨S1x1024x64, extractStridedSlice S1x1024x64 ![0, 0, 0] (extractStridedSlice S1x1024x128 ![0, 0, 1184] (lift w) slices_S1x1024x5280_S1x1024x128_0_0_1184) slices_S1x1024x128_S1x1024x64_0_0_0⟩, ⟨S1x1024x64, extractStridedSlice S1x1024x64 ![0, 0, 64] (extractStridedSlice S1x1024x128 ![0, 0, 1184] (lift w) slices_S1x1024x5280_S1x1024x128_0_0_1184) slices_S1x1024x128_S1x1024x64_0_0_64⟩, ⟨S1x1024x64, extractStridedSlice S1x1024x64 ![0, 0, 64] (extractStridedSlice S1x1024x128 ![0, 0, 1184] (lift w) slices_S1x1024x5280_S1x1024x128_0_0_1184) slices_S1x1024x128_S1x1024x64_0_0_64⟩] concatenates_S1x1024x64_S1x1024x64_S1x1024x64_S1x1024x64_S1x1024x256_d2

/-- The second attention's values, each head twice. -/
def packVb (w : FVec Ideal S1024x5280 .f32) : FVec Ideal S1x1024x256 .f32 :=
  concatenate S1x1024x256 2 [⟨S1x1024x64, extractStridedSlice S1x1024x64 ![0, 0, 0] (extractStridedSlice S1x1024x128 ![0, 0, 1312] (lift w) slices_S1x1024x5280_S1x1024x128_0_0_1312) slices_S1x1024x128_S1x1024x64_0_0_0⟩, ⟨S1x1024x64, extractStridedSlice S1x1024x64 ![0, 0, 0] (extractStridedSlice S1x1024x128 ![0, 0, 1312] (lift w) slices_S1x1024x5280_S1x1024x128_0_0_1312) slices_S1x1024x128_S1x1024x64_0_0_0⟩, ⟨S1x1024x64, extractStridedSlice S1x1024x64 ![0, 0, 64] (extractStridedSlice S1x1024x128 ![0, 0, 1312] (lift w) slices_S1x1024x5280_S1x1024x128_0_0_1312) slices_S1x1024x128_S1x1024x64_0_0_64⟩, ⟨S1x1024x64, extractStridedSlice S1x1024x64 ![0, 0, 64] (extractStridedSlice S1x1024x128 ![0, 0, 1312] (lift w) slices_S1x1024x5280_S1x1024x128_0_0_1312) slices_S1x1024x128_S1x1024x64_0_0_64⟩] concatenates_S1x1024x64_S1x1024x64_S1x1024x64_S1x1024x64_S1x1024x256_d2

/-- The third attention's keys, each head twice. -/
def packKw (w : FVec Ideal S1024x5280 .f32) : FVec Ideal S1x1024x256 .f32 :=
  concatenate S1x1024x256 2 [⟨S1x1024x64, extractStridedSlice S1x1024x64 ![0, 0, 0] (extractStridedSlice S1x1024x128 ![0, 0, 1952] (lift w) slices_S1x1024x5280_S1x1024x128_0_0_1952) slices_S1x1024x128_S1x1024x64_0_0_0⟩, ⟨S1x1024x64, extractStridedSlice S1x1024x64 ![0, 0, 0] (extractStridedSlice S1x1024x128 ![0, 0, 1952] (lift w) slices_S1x1024x5280_S1x1024x128_0_0_1952) slices_S1x1024x128_S1x1024x64_0_0_0⟩, ⟨S1x1024x64, extractStridedSlice S1x1024x64 ![0, 0, 64] (extractStridedSlice S1x1024x128 ![0, 0, 1952] (lift w) slices_S1x1024x5280_S1x1024x128_0_0_1952) slices_S1x1024x128_S1x1024x64_0_0_64⟩, ⟨S1x1024x64, extractStridedSlice S1x1024x64 ![0, 0, 64] (extractStridedSlice S1x1024x128 ![0, 0, 1952] (lift w) slices_S1x1024x5280_S1x1024x128_0_0_1952) slices_S1x1024x128_S1x1024x64_0_0_64⟩] concatenates_S1x1024x64_S1x1024x64_S1x1024x64_S1x1024x64_S1x1024x256_d2

/-- The third attention's values, each head twice. -/
def packVw (w : FVec Ideal S1024x5280 .f32) : FVec Ideal S1x1024x256 .f32 :=
  concatenate S1x1024x256 2 [⟨S1x1024x64, extractStridedSlice S1x1024x64 ![0, 0, 0] (extractStridedSlice S1x1024x128 ![0, 0, 2080] (lift w) slices_S1x1024x5280_S1x1024x128_0_0_2080) slices_S1x1024x128_S1x1024x64_0_0_0⟩, ⟨S1x1024x64, extractStridedSlice S1x1024x64 ![0, 0, 0] (extractStridedSlice S1x1024x128 ![0, 0, 2080] (lift w) slices_S1x1024x5280_S1x1024x128_0_0_2080) slices_S1x1024x128_S1x1024x64_0_0_0⟩, ⟨S1x1024x64, extractStridedSlice S1x1024x64 ![0, 0, 64] (extractStridedSlice S1x1024x128 ![0, 0, 2080] (lift w) slices_S1x1024x5280_S1x1024x128_0_0_2080) slices_S1x1024x128_S1x1024x64_0_0_64⟩, ⟨S1x1024x64, extractStridedSlice S1x1024x64 ![0, 0, 64] (extractStridedSlice S1x1024x128 ![0, 0, 2080] (lift w) slices_S1x1024x5280_S1x1024x128_0_0_2080) slices_S1x1024x128_S1x1024x64_0_0_64⟩] concatenates_S1x1024x64_S1x1024x64_S1x1024x64_S1x1024x64_S1x1024x256_d2

/-- The packed weights. -/
def packW (w : FVec Ideal S1024x5280 .f32) : FVec Ideal S1x1024x5888 .bf16 :=
  truncf .bf16 (concatenate S1x1024x5888 2 [⟨S1x1024x384, extractStridedSlice S1x1024x384 ![0, 0, 0] (lift w) slices_S1x1024x5280_S1x1024x384_0_0_0⟩, ⟨S1x1024x256, extractStridedSlice S1x1024x256 ![0, 0, 384] (lift w) slices_S1x1024x5280_S1x1024x256_0_0_384⟩, ⟨S1x1024x128, packKr w⟩, ⟨S1x1024x512, extractStridedSlice S1x1024x512 ![0, 0, 672] (lift w) slices_S1x1024x5280_S1x1024x512_0_0_672⟩, ⟨S1x1024x256, packKb w⟩, ⟨S1x1024x256, packVb w⟩, ⟨S1x1024x512, extractStridedSlice S1x1024x512 ![0, 0, 1440] (lift w) slices_S1x1024x5280_S1x1024x512_0_0_1440⟩, ⟨S1x1024x256, packKw w⟩, ⟨S1x1024x256, packVw w⟩, ⟨S1x1024x3072, extractStridedSlice S1x1024x3072 ![0, 0, 2208] (lift w) slices_S1x1024x5280_S1x1024x3072_0_0_2208⟩] concatenates_S1x1024x384_S1x1024x256_S1x1024x128_S1x1024x512_S1x1024x256_S1x1024x256_S1x1024x512_S1x1024x256_S1x1024x256_S1x1024x3072_S1x1024x5888_d2) bitsLt_bf16_f32

/-- The cosines of the first attention's rotation. -/
def cosA : FVec Ideal S4096x16 .f32 :=
  Host.cos (concatenate S4096x16 1 [⟨S4096x8, (mulf (broadcastInDim S4096x8 ![0, 1] bcast_S4096x1_S4096x8_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩, ⟨S4096x8, (mulf (broadcastInDim S4096x8 ![0, 1] bcast_S4096x1_S4096x8_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩] concatenates_S4096x8_S4096x8_S4096x16_d1)

/-- The sines of the first attention's rotation. -/
def sinA : FVec Ideal S4096x16 .f32 :=
  Host.sin (concatenate S4096x16 1 [⟨S4096x8, (mulf (broadcastInDim S4096x8 ![0, 1] bcast_S4096x1_S4096x8_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩, ⟨S4096x8, (mulf (broadcastInDim S4096x8 ![0, 1] bcast_S4096x1_S4096x8_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩] concatenates_S4096x8_S4096x8_S4096x16_d1)

/-- The cosines of the other attentions' rotation. -/
def cosH : FVec Ideal S4096x32 .f32 :=
  Host.cos (concatenate S4096x32 1 [⟨S4096x16, (mulf (broadcastInDim S4096x16 ![0, 1] bcast_S4096x1_S4096x16_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S4096x16, (mulf (broadcastInDim S4096x16 ![0, 1] bcast_S4096x1_S4096x16_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S4096x16_S4096x16_S4096x32_d1)

/-- The sines of the other attentions' rotation. -/
def sinH : FVec Ideal S4096x32 .f32 :=
  Host.sin (concatenate S4096x32 1 [⟨S4096x16, (mulf (broadcastInDim S4096x16 ![0, 1] bcast_S4096x1_S4096x16_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S4096x16, (mulf (broadcastInDim S4096x16 ![0, 1] bcast_S4096x1_S4096x16_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S4096x16_S4096x16_S4096x32_d1)

/-- The first table of the first attention, of the cosines. -/
def tabA0 (x : FVec Ideal S4096x16 .f32) : FVec Ideal S4096x128 .f32 :=
  concatenate S4096x128 1 [⟨S4096x64, broadcastInDim S4096x64 ![] bcast_S_S4096x64 (constant S_ .f32 0x3F800000#32)⟩, ⟨S4096x16, x⟩, ⟨S4096x16, x⟩, ⟨S4096x32, broadcastInDim S4096x32 ![] bcast_S_S4096x32 (constant S_ .f32 0x3F800000#32)⟩] concatenates_S4096x64_S4096x16_S4096x16_S4096x32_S4096x128_d1

/-- The second table of the first attention, of the sines. -/
def tabA1 (x : FVec Ideal S4096x16 .f32) : FVec Ideal S4096x128 .f32 :=
  concatenate S4096x128 1 [⟨S4096x64, broadcastInDim S4096x64 ![] bcast_S_S4096x64 (constant S_ .f32 0x00000000#32)⟩, ⟨S4096x16, Host.negf x⟩, ⟨S4096x16, broadcastInDim S4096x16 ![] bcast_S_S4096x16 (constant S_ .f32 0x00000000#32)⟩, ⟨S4096x32, broadcastInDim S4096x32 ![] bcast_S_S4096x32 (constant S_ .f32 0x00000000#32)⟩] concatenates_S4096x64_S4096x16_S4096x16_S4096x32_S4096x128_d1

/-- The third table of the first attention, of the sines. -/
def tabA2 (x : FVec Ideal S4096x16 .f32) : FVec Ideal S4096x128 .f32 :=
  concatenate S4096x128 1 [⟨S4096x64, broadcastInDim S4096x64 ![] bcast_S_S4096x64 (constant S_ .f32 0x00000000#32)⟩, ⟨S4096x16, broadcastInDim S4096x16 ![] bcast_S_S4096x16 (constant S_ .f32 0x00000000#32)⟩, ⟨S4096x16, x⟩, ⟨S4096x32, broadcastInDim S4096x32 ![] bcast_S_S4096x32 (constant S_ .f32 0x00000000#32)⟩] concatenates_S4096x64_S4096x16_S4096x16_S4096x32_S4096x128_d1

/-- The first table of the other attentions, of the cosines. -/
def tabH0 (x : FVec Ideal S4096x32 .f32) : FVec Ideal S4096x128 .f32 :=
  concatenate S4096x128 1 [⟨S4096x32, x⟩, ⟨S4096x32, x⟩, ⟨S4096x32, x⟩, ⟨S4096x32, x⟩] concatenates_S4096x32_S4096x32_S4096x32_S4096x32_S4096x128_d1

/-- The second table of the other attentions, of the sines. -/
def tabH1 (x : FVec Ideal S4096x32 .f32) : FVec Ideal S4096x128 .f32 :=
  concatenate S4096x128 1 [⟨S4096x32, Host.negf x⟩, ⟨S4096x32, broadcastInDim S4096x32 ![] bcast_S_S4096x32 (constant S_ .f32 0x00000000#32)⟩, ⟨S4096x32, Host.negf x⟩, ⟨S4096x32, broadcastInDim S4096x32 ![] bcast_S_S4096x32 (constant S_ .f32 0x00000000#32)⟩] concatenates_S4096x32_S4096x32_S4096x32_S4096x32_S4096x128_d1

/-- The third table of the other attentions, of the sines. -/
def tabH2 (x : FVec Ideal S4096x32 .f32) : FVec Ideal S4096x128 .f32 :=
  concatenate S4096x128 1 [⟨S4096x32, broadcastInDim S4096x32 ![] bcast_S_S4096x32 (constant S_ .f32 0x00000000#32)⟩, ⟨S4096x32, x⟩, ⟨S4096x32, broadcastInDim S4096x32 ![] bcast_S_S4096x32 (constant S_ .f32 0x00000000#32)⟩, ⟨S4096x32, x⟩] concatenates_S4096x32_S4096x32_S4096x32_S4096x32_S4096x128_d1

/-- Six tables side by side. -/
def tabL (a0 : FVec Ideal S4096x128 .f32) (a1 : FVec Ideal S4096x128 .f32) (a2 : FVec Ideal S4096x128 .f32) (a3 : FVec Ideal S4096x128 .f32) (a4 : FVec Ideal S4096x128 .f32) (a5 : FVec Ideal S4096x128 .f32) : FVec Ideal S4096x768 .f32 :=
  concatenate S4096x768 1 [⟨S4096x128, a0⟩, ⟨S4096x128, a1⟩, ⟨S4096x128, a2⟩, ⟨S4096x128, a3⟩, ⟨S4096x128, a4⟩, ⟨S4096x128, a5⟩] concatenates_S4096x128_S4096x128_S4096x128_S4096x128_S4096x128_S4096x128_S4096x768_d1

/-- The context rows of the six tables: no rotation. -/
def tabC : FVec Ideal S512x768 .f32 :=
  concatenate S512x768 1 [⟨S512x128, broadcastInDim S512x128 ![] bcast_S_S512x128 (constant S_ .f32 0x3F800000#32)⟩, ⟨S512x256, broadcastInDim S512x256 ![] bcast_S_S512x256 (constant S_ .f32 0x00000000#32)⟩, ⟨S512x128, broadcastInDim S512x128 ![] bcast_S_S512x128 (constant S_ .f32 0x3F800000#32)⟩, ⟨S512x256, broadcastInDim S512x256 ![] bcast_S_S512x256 (constant S_ .f32 0x00000000#32)⟩] concatenates_S512x128_S512x256_S512x128_S512x256_S512x768_d1

/-- The tables of rotations: the latent rows, then the context's. -/
def packTab : FVec Ideal S4608x768 .f32 :=
  concatenate S4608x768 0 [⟨S4096x768, (tabL (tabA0 cosA) (tabA1 sinA) (tabA2 sinA) (tabH0 cosH) (tabH1 sinH) (tabH2 sinH))⟩, ⟨S512x768, tabC⟩] concatenates_S4096x768_S512x768_S4608x768_d0

/-- The norm's gain as a row. -/
def packGain (x : FVec Ideal S1024 .f32) : FVec Ideal S1x1024 .f32 :=
  broadcastInDim S1x1024 ![1] bcast_S1024_S1x1024_1 x

/-- The gain of the compressed queries as a row. -/
def packGq (x : FVec Ideal S384 .f32) : FVec Ideal S1x384 .f32 :=
  broadcastInDim S1x384 ![1] bcast_S384_S1x384_1 x

/-- The gain of the compressed keys and values as a row. -/
def packGk (x : FVec Ideal S256 .f32) : FVec Ideal S1x256 .f32 :=
  broadcastInDim S1x256 ![1] bcast_S256_S1x256_1 x

/-- The expansion of the queries, each head padded to 128 lanes. -/
def packUq (w : FVec Ideal S384x768 .f32) : FVec Ideal S384x1024 .bf16 :=
  shapeCast S384x1024 (truncf .bf16 (shapeCast S1x384x1024 (pad S1x384x8x128 ![0, 0, 0, 0] ![0, 0, 0, 32] ![0, 0, 0, 0] (shapeCast S1x384x8x96 (broadcastInDim S1x384x768 ![1, 2] bcast_S384x768_S1x384x768_1_2 w) shapeCasts_S1x384x768_S1x384x8x96) (sitofp .f32 (constantI S_ 32 0#32)) pads_S1x384x8x96_S1x384x8x128_000_000_000_0320 h_S_) shapeCasts_S1x384x8x128_S1x384x1024) bitsLt_bf16_f32) shapeCasts_S1x384x1024_S384x1024

/-- The expansion of the keys, each head padded to 128 lanes. -/
def packUkK (w : FVec Ideal S256x1024 .f32) : FVec Ideal S1x256x1024 .f32 :=
  shapeCast S1x256x1024 (pad S1x256x8x128 ![0, 0, 0, 0] ![0, 0, 0, 64] ![0, 0, 0, 0] (extractStridedSlice S1x256x8x64 ![0, 0, 0, 0] (shapeCast S1x256x8x128 (broadcastInDim S1x256x1024 ![1, 2] bcast_S256x1024_S1x256x1024_1_2 w) shapeCasts_S1x256x1024_S1x256x8x128) slices_S1x256x8x128_S1x256x8x64_0_0_0_0) (sitofp .f32 (constantI S_ 32 0#32)) pads_S1x256x8x64_S1x256x8x128_000_000_000_0640 h_S_) shapeCasts_S1x256x8x128_S1x256x1024

/-- The expansion of the values. -/
def packUkV (w : FVec Ideal S256x1024 .f32) : FVec Ideal S1x256x512 .f32 :=
  shapeCast S1x256x512 (extractStridedSlice S1x256x8x64 ![0, 0, 0, 64] (shapeCast S1x256x8x128 (broadcastInDim S1x256x1024 ![1, 2] bcast_S256x1024_S1x256x1024_1_2 w) shapeCasts_S1x256x1024_S1x256x8x128) slices_S1x256x8x128_S1x256x8x64_0_0_0_64) shapeCasts_S1x256x8x64_S1x256x512

/-- The expansion of the keys and values. -/
def packUk (w : FVec Ideal S256x1024 .f32) : FVec Ideal S256x1536 .bf16 :=
  shapeCast S256x1536 (truncf .bf16 (concatenate S1x256x1536 2 [⟨S1x256x1024, (packUkK w)⟩, ⟨S1x256x512, (packUkV w)⟩] concatenates_S1x256x1024_S1x256x512_S1x256x1536_d2) bitsLt_bf16_f32) shapeCasts_S1x256x1536_S256x1536

/-- The gain of the second attention's queries, once per head. -/
def packNq (x : FVec Ideal S64 .f32) : FVec Ideal S1x512 .f32 :=
  shapeCast S1x512 (broadcastInDim S1x1x512 ![0, 2] bcast_S1x512_S1x1x512_0_2 (shapeCast S1x512 (broadcastInDim S1x1x8x64 ![0, 1, 2, 3] bcast_S1x1x1x64_S1x1x8x64_0_1_2_3 (shapeCast S1x1x1x64 (broadcastInDim S1x64 ![1] bcast_S64_S1x64_1 x) shapeCasts_S1x64_S1x1x1x64)) shapeCasts_S1x1x8x64_S1x512)) shapeCasts_S1x1x512_S1x512

/-- The gain of the second attention's keys, once per head. -/
def packNk (x : FVec Ideal S64 .f32) : FVec Ideal S1x256 .f32 :=
  shapeCast S1x256 (broadcastInDim S1x1x256 ![0, 2] bcast_S1x256_S1x1x256_0_2 (shapeCast S1x256 (broadcastInDim S1x1x4x64 ![0, 1, 2, 3] bcast_S1x1x1x64_S1x1x4x64_0_1_2_3 (shapeCast S1x1x1x64 (broadcastInDim S1x64 ![1] bcast_S64_S1x64_1 x) shapeCasts_S1x64_S1x1x1x64)) shapeCasts_S1x1x4x64_S1x256)) shapeCasts_S1x1x256_S1x256

/-- The matrix that sums over heads. -/
def packBd : FVec Ideal S128x128 .bf16 :=
  fun i => FloatOps.ofBits .bf16 (lit0 (S128x128.rowMajor i))

/-- The integer zero as a number. -/
theorem sitofp_zero : (Scalar.sitofp FTy.f32 0#32 : Ideal FTy.f32) = 0 := Idealize.ShloMosaic.sitofp_zero

/-- A latent row. -/
theorem packX_latent (x : FVec Ideal S4x4096x1024 .f32) (y : FVec Ideal S4x256x1024 .f32) (b : Fin 4) (s : Fin 4096) (n : Fin 1024) :
    packX x y (ix2 (⟨4096 * b.val + s.val, by omega⟩ : Fin 17408) n) = x (ix3 b s n) := by
  pointwise [packX]
  all_goals repeat' split
  all_goals first | (exfalso; omega) | rfl

/-- A context row. -/
theorem packX_context (x : FVec Ideal S4x4096x1024 .f32) (y : FVec Ideal S4x256x1024 .f32) (b : Fin 4) (s : Fin 256) (R : Fin 17408) (hR : R.val = 16384 + (256 * b.val + s.val)) (n : Fin 1024) :
    packX x y (ix2 R n) = y (ix3 b s n) := by
  pointwise [packX]
  all_goals repeat' split
  all_goals first | (exfalso; omega) | exact congrArg₂ (fun z v => y (ix3 z v n)) (Fin.ext (by simp only []; omega)) (Fin.ext (by simp only []; omega))
/-- A sequence's modulation. -/
theorem packM_latent (x : FVec Ideal S4x6144 .f32) (y : FVec Ideal S6144 .f32) (b : Fin 4) (n : Fin 6144) :
    packM x y (ix3 (⟨b.val, by omega⟩ : Fin 8) 0 n) = x (ix2 b n) := by
  pointwise [packM]
/-- The context's modulation. -/
theorem packM_context (x : FVec Ideal S4x6144 .f32) (y : FVec Ideal S6144 .f32) (n : Fin 6144) :
    packM x y (ix3 (4 : Fin 8) 0 n) = y (ix1 n) := by
  pointwise [packM]
/-- Each head twice. -/
theorem packKb_at (w : FVec Ideal S1024x5280 .f32) (n : Fin 1024) (g u : Fin 2) (d : Fin 64) :
    packKb w (ix3 0 n (⟨128 * g.val + (64 * u.val + d.val), by omega⟩ : Fin 256)) = w (ix2 n (⟨1184 + (64 * g.val + d.val), by omega⟩ : Fin 5280)) := by
  pointwise [packKb, lift]
  all_goals repeat' split
  all_goals first | (exfalso; omega) | exact congrArg (fun z => w (ix2 n z)) (Fin.ext (by first | omega | (simp only []; omega)))
/-- Each head twice. -/
theorem packVb_at (w : FVec Ideal S1024x5280 .f32) (n : Fin 1024) (g u : Fin 2) (d : Fin 64) :
    packVb w (ix3 0 n (⟨128 * g.val + (64 * u.val + d.val), by omega⟩ : Fin 256)) = w (ix2 n (⟨1312 + (64 * g.val + d.val), by omega⟩ : Fin 5280)) := by
  pointwise [packVb, lift]
  all_goals repeat' split
  all_goals first | (exfalso; omega) | exact congrArg (fun z => w (ix2 n z)) (Fin.ext (by first | omega | (simp only []; omega)))
/-- Each head twice. -/
theorem packKw_at (w : FVec Ideal S1024x5280 .f32) (n : Fin 1024) (g u : Fin 2) (d : Fin 64) :
    packKw w (ix3 0 n (⟨128 * g.val + (64 * u.val + d.val), by omega⟩ : Fin 256)) = w (ix2 n (⟨1952 + (64 * g.val + d.val), by omega⟩ : Fin 5280)) := by
  pointwise [packKw, lift]
  all_goals repeat' split
  all_goals first | (exfalso; omega) | exact congrArg (fun z => w (ix2 n z)) (Fin.ext (by first | omega | (simp only []; omega)))
/-- Each head twice. -/
theorem packVw_at (w : FVec Ideal S1024x5280 .f32) (n : Fin 1024) (g u : Fin 2) (d : Fin 64) :
    packVw w (ix3 0 n (⟨128 * g.val + (64 * u.val + d.val), by omega⟩ : Fin 256)) = w (ix2 n (⟨2080 + (64 * g.val + d.val), by omega⟩ : Fin 5280)) := by
  pointwise [packVw, lift]
  all_goals repeat' split
  all_goals first | (exfalso; omega) | exact congrArg (fun z => w (ix2 n z)) (Fin.ext (by first | omega | (simp only []; omega)))
/-- Zeros before the rotated lanes. -/
theorem packKr_lo (w : FVec Ideal S1024x5280 .f32) (n : Fin 1024) (l : Fin 64) :
    packKr w (ix3 0 n (⟨l.val, by omega⟩ : Fin 128)) = 0 := by
  pointwise [packKr, lift]
  all_goals repeat' split
  all_goals first | (exfalso; omega) | rfl

/-- The rotated lanes. -/
theorem packKr_at (w : FVec Ideal S1024x5280 .f32) (n : Fin 1024) (l : Fin 32) :
    packKr w (ix3 0 n (⟨64 + l.val, by omega⟩ : Fin 128)) = w (ix2 n (⟨640 + l.val, by omega⟩ : Fin 5280)) := by
  pointwise [packKr, lift]
  all_goals repeat' split
  all_goals first | (exfalso; omega) | exact congrArg (fun z => w (ix2 n z)) (Fin.ext (by first | omega | (simp only []; omega)))
/-- Zeros after the rotated lanes. -/
theorem packKr_hi (w : FVec Ideal S1024x5280 .f32) (n : Fin 1024) (l : Fin 32) :
    packKr w (ix3 0 n (⟨96 + l.val, by omega⟩ : Fin 128)) = 0 := by
  pointwise [packKr, lift]
  all_goals repeat' split
  all_goals first | (exfalso; omega) | rfl

/-- Columns taken as they are. -/
theorem packW_Cq (w : FVec Ideal S1024x5280 .f32) (n : Fin 1024) (c : Fin 384) :
    packW w (ix3 0 n (⟨c.val, by omega⟩ : Fin 5888)) = w (ix2 n (⟨c.val, by omega⟩ : Fin 5280)) := by
  pointwise [packW, lift]
  all_goals repeat' split
  all_goals first | (exfalso; omega) | exact congrArg (fun z => w (ix2 n z)) (Fin.ext (by first | omega | (simp only []; omega)))
/-- Columns taken as they are. -/
theorem packW_Ckv (w : FVec Ideal S1024x5280 .f32) (n : Fin 1024) (c : Fin 256) :
    packW w (ix3 0 n (⟨384 + c.val, by omega⟩ : Fin 5888)) = w (ix2 n (⟨384 + c.val, by omega⟩ : Fin 5280)) := by
  pointwise [packW, lift]
  all_goals repeat' split
  all_goals first | (exfalso; omega) | exact congrArg (fun z => w (ix2 n z)) (Fin.ext (by first | omega | (simp only []; omega)))
/-- Columns taken as they are. -/
theorem packW_Qb (w : FVec Ideal S1024x5280 .f32) (n : Fin 1024) (c : Fin 512) :
    packW w (ix3 0 n (⟨768 + c.val, by omega⟩ : Fin 5888)) = w (ix2 n (⟨672 + c.val, by omega⟩ : Fin 5280)) := by
  pointwise [packW, lift]
  all_goals repeat' split
  all_goals first | (exfalso; omega) | exact congrArg (fun z => w (ix2 n z)) (Fin.ext (by first | omega | (simp only []; omega)))
/-- Columns taken as they are. -/
theorem packW_Qw (w : FVec Ideal S1024x5280 .f32) (n : Fin 1024) (c : Fin 512) :
    packW w (ix3 0 n (⟨1792 + c.val, by omega⟩ : Fin 5888)) = w (ix2 n (⟨1440 + c.val, by omega⟩ : Fin 5280)) := by
  pointwise [packW, lift]
  all_goals repeat' split
  all_goals first | (exfalso; omega) | exact congrArg (fun z => w (ix2 n z)) (Fin.ext (by first | omega | (simp only []; omega)))
/-- Columns taken as they are. -/
theorem packW_Gate (w : FVec Ideal S1024x5280 .f32) (n : Fin 1024) (c : Fin 3072) :
    packW w (ix3 0 n (⟨2816 + c.val, by omega⟩ : Fin 5888)) = w (ix2 n (⟨2208 + c.val, by omega⟩ : Fin 5280)) := by
  pointwise [packW, lift]
  all_goals repeat' split
  all_goals first | (exfalso; omega) | exact congrArg (fun z => w (ix2 n z)) (Fin.ext (by first | omega | (simp only []; omega)))
/-- A packed part among the columns. -/
theorem packW_Kr (w : FVec Ideal S1024x5280 .f32) (n : Fin 1024) (c : Fin 128) :
    packW w (ix3 0 n (⟨640 + c.val, by omega⟩ : Fin 5888)) = packKr w (ix3 0 n c) := by
  pointwise [packW]
  all_goals repeat' split
  all_goals first | (exfalso; omega) | exact congrArg (fun z => packKr w (ix3 0 n z)) (Fin.ext (by first | omega | (simp only []; omega)))
/-- A packed part among the columns. -/
theorem packW_Kb (w : FVec Ideal S1024x5280 .f32) (n : Fin 1024) (c : Fin 256) :
    packW w (ix3 0 n (⟨1280 + c.val, by omega⟩ : Fin 5888)) = packKb w (ix3 0 n c) := by
  pointwise [packW]
  all_goals repeat' split
  all_goals first | (exfalso; omega) | exact congrArg (fun z => packKb w (ix3 0 n z)) (Fin.ext (by first | omega | (simp only []; omega)))
/-- A packed part among the columns. -/
theorem packW_Vb (w : FVec Ideal S1024x5280 .f32) (n : Fin 1024) (c : Fin 256) :
    packW w (ix3 0 n (⟨1536 + c.val, by omega⟩ : Fin 5888)) = packVb w (ix3 0 n c) := by
  pointwise [packW]
  all_goals repeat' split
  all_goals first | (exfalso; omega) | exact congrArg (fun z => packVb w (ix3 0 n z)) (Fin.ext (by first | omega | (simp only []; omega)))
/-- A packed part among the columns. -/
theorem packW_Kw (w : FVec Ideal S1024x5280 .f32) (n : Fin 1024) (c : Fin 256) :
    packW w (ix3 0 n (⟨2304 + c.val, by omega⟩ : Fin 5888)) = packKw w (ix3 0 n c) := by
  pointwise [packW]
  all_goals repeat' split
  all_goals first | (exfalso; omega) | exact congrArg (fun z => packKw w (ix3 0 n z)) (Fin.ext (by first | omega | (simp only []; omega)))
/-- A packed part among the columns. -/
theorem packW_Vw (w : FVec Ideal S1024x5280 .f32) (n : Fin 1024) (c : Fin 256) :
    packW w (ix3 0 n (⟨2560 + c.val, by omega⟩ : Fin 5888)) = packVw w (ix3 0 n c) := by
  pointwise [packW]
  all_goals repeat' split
  all_goals first | (exfalso; omega) | exact congrArg (fun z => packVw w (ix3 0 n z)) (Fin.ext (by first | omega | (simp only []; omega)))
/-- A head's column of the queries' expansion. -/
theorem packUq_at (w : FVec Ideal S384x768 .f32) (j : Fin 384) (p : Fin 8) (l : Fin 96) :
    packUq w (ix2 j (⟨128 * p.val + l.val, by omega⟩ : Fin 1024)) = w (ix2 j (⟨96 * p.val + l.val, by omega⟩ : Fin 768)) := by
  pointwise [packUq]
  all_goals repeat' split
  all_goals first | (exfalso; omega) | exact congrArg (fun z => w (ix2 j z)) (Fin.ext (by first | omega | (simp only []; omega)))
/-- Zeros after a head's columns. -/
theorem packUq_pad (w : FVec Ideal S384x768 .f32) (j : Fin 384) (p : Fin 8) (l : Fin 32) :
    packUq w (ix2 j (⟨128 * p.val + (96 + l.val), by omega⟩ : Fin 1024)) = 0 := by
  pointwise [packUq]
  all_goals repeat' split
  all_goals first | (exfalso; omega) | exact sitofp_zero
/-- A head's column of the keys' expansion. -/
theorem packUkK_at (w : FVec Ideal S256x1024 .f32) (j : Fin 256) (p : Fin 8) (l : Fin 64) :
    packUkK w (ix3 0 j (⟨128 * p.val + l.val, by omega⟩ : Fin 1024)) = w (ix2 j (⟨128 * p.val + l.val, by omega⟩ : Fin 1024)) := by
  pointwise [packUkK]
  all_goals repeat' split
  all_goals first | (exfalso; omega) | exact congrArg (fun z => w (ix2 j z)) (Fin.ext (by first | omega | (simp only []; omega)))
/-- Zeros after a head's columns. -/
theorem packUkK_pad (w : FVec Ideal S256x1024 .f32) (j : Fin 256) (p : Fin 8) (l : Fin 64) :
    packUkK w (ix3 0 j (⟨128 * p.val + (64 + l.val), by omega⟩ : Fin 1024)) = 0 := by
  pointwise [packUkK]
  all_goals repeat' split
  all_goals first | (exfalso; omega) | exact sitofp_zero
/-- A head's column of the values' expansion. -/
theorem packUkV_at (w : FVec Ideal S256x1024 .f32) (j : Fin 256) (p : Fin 8) (l : Fin 64) :
    packUkV w (ix3 0 j (⟨64 * p.val + l.val, by omega⟩ : Fin 512)) = w (ix2 j (⟨128 * p.val + (64 + l.val), by omega⟩ : Fin 1024)) := by
  pointwise [packUkV]
  all_goals repeat' split
  all_goals first | (exfalso; omega) | exact congrArg (fun z => w (ix2 j z)) (Fin.ext (by first | omega | (simp only []; omega)))
/-- The keys' columns come first. -/
theorem packUk_K (w : FVec Ideal S256x1024 .f32) (j : Fin 256) (c : Fin 1024) :
    packUk w (ix2 j (⟨c.val, by omega⟩ : Fin 1536)) = packUkK w (ix3 0 j c) := by
  pointwise [packUk]
  all_goals repeat' split
  all_goals first | (exfalso; omega) | exact congrArg (fun z => packUkK w (ix3 0 j z)) (Fin.ext (by first | omega | (simp only []; omega)))
/-- The values' columns come next. -/
theorem packUk_V (w : FVec Ideal S256x1024 .f32) (j : Fin 256) (c : Fin 512) :
    packUk w (ix2 j (⟨1024 + c.val, by omega⟩ : Fin 1536)) = packUkV w (ix3 0 j c) := by
  pointwise [packUk]
  all_goals repeat' split
  all_goals first | (exfalso; omega) | exact congrArg (fun z => packUkV w (ix3 0 j z)) (Fin.ext (by first | omega | (simp only []; omega)))
/-- The gain of each head. -/
theorem packNq_at (x : FVec Ideal S64 .f32) (p : Fin 8) (l : Fin 64) :
    packNq x (ix2 0 (⟨64 * p.val + l.val, by omega⟩ : Fin 512)) = x (ix1 l) := by
  pointwise [packNq]
  all_goals repeat' split
  all_goals first | (exfalso; omega) | exact congrArg (fun z => x (ix1 z)) (Fin.ext (by first | omega | (simp only []; omega)))
/-- The gain of each head. -/
theorem packNk_at (x : FVec Ideal S64 .f32) (p : Fin 4) (l : Fin 64) :
    packNk x (ix2 0 (⟨64 * p.val + l.val, by omega⟩ : Fin 256)) = x (ix1 l) := by
  pointwise [packNk]
  all_goals repeat' split
  all_goals first | (exfalso; omega) | exact congrArg (fun z => x (ix1 z)) (Fin.ext (by first | omega | (simp only []; omega)))
/-- A gain as a row. -/
theorem packGain_at (x : FVec Ideal S1024 .f32) (n : Fin 1024) :
    packGain x (ix2 0 n) = x (ix1 n) := by
  pointwise [packGain]
  all_goals repeat' split
  all_goals first | (exfalso; omega) | exact congrArg (fun z => x (ix1 z)) (Fin.ext (by first | omega | (simp only []; omega)))
/-- A gain as a row. -/
theorem packGq_at (x : FVec Ideal S384 .f32) (n : Fin 384) :
    packGq x (ix2 0 n) = x (ix1 n) := by
  pointwise [packGq]
  all_goals repeat' split
  all_goals first | (exfalso; omega) | exact congrArg (fun z => x (ix1 z)) (Fin.ext (by first | omega | (simp only []; omega)))
/-- A gain as a row. -/
theorem packGk_at (x : FVec Ideal S256 .f32) (n : Fin 256) :
    packGk x (ix2 0 n) = x (ix1 n) := by
  pointwise [packGk]
  all_goals repeat' split
  all_goals first | (exfalso; omega) | exact congrArg (fun z => x (ix1 z)) (Fin.ext (by first | omega | (simp only []; omega)))
end Cert.Project

end
-- ==== Proof.Project.Tables.lean ====
module

public import proofs.«01_k».proof.Proof.Project.Host
public import Idealize.ShloMosaic.Lib.StableHlo.RunRead

/-! The tables of rotations, entry by entry. -/

@[expose] public section

set_option maxRecDepth 16384

noncomputable section

namespace Cert.Project

open Cert.Kernel4Ideal Cert.Kernel4Ideal.Gen Idealize.ShloMosaic Idealize.ShloMosaic.TcCoe Idealize.SL.Sem

/-- Lanes of a table. -/
theorem tabA0_1 (x : FVec Ideal S4096x16 .f32) (s : Fin 4096) (l : Fin 64) :
    tabA0 x (ix2 s (⟨l.val, by omega⟩ : Fin 128)) = 1 := by
  pointwise [tabA0]
  all_goals repeat' split
  all_goals first | (exfalso; omega) | rfl
  all_goals rfl
/-- Lanes of a table. -/
theorem tabA0_2 (x : FVec Ideal S4096x16 .f32) (s : Fin 4096) (l : Fin 16) :
    tabA0 x (ix2 s (⟨64 + l.val, by omega⟩ : Fin 128)) = x (ix2 s l) := by
  pointwise [tabA0]
  all_goals repeat' split
  all_goals first | (exfalso; omega) | exact congrArg (fun z => x (ix2 s z)) (Fin.ext (by first | omega | (simp only []; omega)))
/-- Lanes of a table. -/
theorem tabA0_3 (x : FVec Ideal S4096x16 .f32) (s : Fin 4096) (l : Fin 16) :
    tabA0 x (ix2 s (⟨64 + (16 + l.val), by omega⟩ : Fin 128)) = x (ix2 s l) := by
  pointwise [tabA0]
  all_goals repeat' split
  all_goals first | (exfalso; omega) | exact congrArg (fun z => x (ix2 s z)) (Fin.ext (by first | omega | (simp only []; omega)))
/-- Lanes of a table. -/
theorem tabA0_4 (x : FVec Ideal S4096x16 .f32) (s : Fin 4096) (l : Fin 32) :
    tabA0 x (ix2 s (⟨96 + l.val, by omega⟩ : Fin 128)) = 1 := by
  pointwise [tabA0]
  all_goals repeat' split
  all_goals first | (exfalso; omega) | rfl
  all_goals rfl
/-- Lanes of a table. -/
theorem tabA1_5 (x : FVec Ideal S4096x16 .f32) (s : Fin 4096) (l : Fin 64) :
    tabA1 x (ix2 s (⟨l.val, by omega⟩ : Fin 128)) = 0 := by
  pointwise [tabA1]
  all_goals repeat' split
  all_goals first | (exfalso; omega) | rfl
  all_goals rfl
/-- Lanes of a table. -/
theorem tabA1_6 (x : FVec Ideal S4096x16 .f32) (s : Fin 4096) (l : Fin 16) :
    tabA1 x (ix2 s (⟨64 + l.val, by omega⟩ : Fin 128)) = -x (ix2 s l) := by
  pointwise [tabA1]
  all_goals repeat' split
  all_goals first | (exfalso; omega) | exact congrArg (fun z => -x (ix2 s z)) (Fin.ext (by first | omega | (simp only []; omega)))
/-- Lanes of a table. -/
theorem tabA1_7 (x : FVec Ideal S4096x16 .f32) (s : Fin 4096) (l : Fin 16) :
    tabA1 x (ix2 s (⟨64 + (16 + l.val), by omega⟩ : Fin 128)) = 0 := by
  pointwise [tabA1]
  all_goals repeat' split
  all_goals first | (exfalso; omega) | rfl
  all_goals rfl
/-- Lanes of a table. -/
theorem tabA1_8 (x : FVec Ideal S4096x16 .f32) (s : Fin 4096) (l : Fin 32) :
    tabA1 x (ix2 s (⟨96 + l.val, by omega⟩ : Fin 128)) = 0 := by
  pointwise [tabA1]
  all_goals repeat' split
  all_goals first | (exfalso; omega) | rfl
  all_goals rfl
/-- Lanes of a table. -/
theorem tabA2_9 (x : FVec Ideal S4096x16 .f32) (s : Fin 4096) (l : Fin 64) :
    tabA2 x (ix2 s (⟨l.val, by omega⟩ : Fin 128)) = 0 := by
  pointwise [tabA2]
  all_goals repeat' split
  all_goals first | (exfalso; omega) | rfl
  all_goals rfl
/-- Lanes of a table. -/
theorem tabA2_10 (x : FVec Ideal S4096x16 .f32) (s : Fin 4096) (l : Fin 16) :
    tabA2 x (ix2 s (⟨64 + l.val, by omega⟩ : Fin 128)) = 0 := by
  pointwise [tabA2]
  all_goals repeat' split
  all_goals first | (exfalso; omega) | rfl
  all_goals rfl
/-- Lanes of a table. -/
theorem tabA2_11 (x : FVec Ideal S4096x16 .f32) (s : Fin 4096) (l : Fin 16) :
    tabA2 x (ix2 s (⟨64 + (16 + l.val), by omega⟩ : Fin 128)) = x (ix2 s l) := by
  pointwise [tabA2]
  all_goals repeat' split
  all_goals first | (exfalso; omega) | exact congrArg (fun z => x (ix2 s z)) (Fin.ext (by first | omega | (simp only []; omega)))
/-- Lanes of a table. -/
theorem tabA2_12 (x : FVec Ideal S4096x16 .f32) (s : Fin 4096) (l : Fin 32) :
    tabA2 x (ix2 s (⟨96 + l.val, by omega⟩ : Fin 128)) = 0 := by
  pointwise [tabA2]
  all_goals repeat' split
  all_goals first | (exfalso; omega) | rfl
  all_goals rfl
/-- Lanes of a table. -/
theorem tabH0_13 (x : FVec Ideal S4096x32 .f32) (s : Fin 4096) (u : Fin 2) (l : Fin 32) :
    tabH0 x (ix2 s (⟨64 * u.val + l.val, by omega⟩ : Fin 128)) = x (ix2 s l) := by
  pointwise [tabH0]
  all_goals repeat' split
  all_goals first | (exfalso; omega) | exact congrArg (fun z => x (ix2 s z)) (Fin.ext (by first | omega | (simp only []; omega)))
/-- Lanes of a table. -/
theorem tabH0_14 (x : FVec Ideal S4096x32 .f32) (s : Fin 4096) (u : Fin 2) (l : Fin 32) :
    tabH0 x (ix2 s (⟨64 * u.val + (32 + l.val), by omega⟩ : Fin 128)) = x (ix2 s l) := by
  pointwise [tabH0]
  all_goals repeat' split
  all_goals first | (exfalso; omega) | exact congrArg (fun z => x (ix2 s z)) (Fin.ext (by first | omega | (simp only []; omega)))
/-- Lanes of a table. -/
theorem tabH1_15 (x : FVec Ideal S4096x32 .f32) (s : Fin 4096) (u : Fin 2) (l : Fin 32) :
    tabH1 x (ix2 s (⟨64 * u.val + l.val, by omega⟩ : Fin 128)) = -x (ix2 s l) := by
  pointwise [tabH1]
  all_goals repeat' split
  all_goals first | (exfalso; omega) | exact congrArg (fun z => -x (ix2 s z)) (Fin.ext (by first | omega | (simp only []; omega)))
/-- Lanes of a table. -/
theorem tabH1_16 (x : FVec Ideal S4096x32 .f32) (s : Fin 4096) (u : Fin 2) (l : Fin 32) :
    tabH1 x (ix2 s (⟨64 * u.val + (32 + l.val), by omega⟩ : Fin 128)) = 0 := by
  pointwise [tabH1]
  all_goals repeat' split
  all_goals first | (exfalso; omega) | rfl
  all_goals rfl
/-- Lanes of a table. -/
theorem tabH2_17 (x : FVec Ideal S4096x32 .f32) (s : Fin 4096) (u : Fin 2) (l : Fin 32) :
    tabH2 x (ix2 s (⟨64 * u.val + l.val, by omega⟩ : Fin 128)) = 0 := by
  pointwise [tabH2]
  all_goals repeat' split
  all_goals first | (exfalso; omega) | rfl
  all_goals rfl
/-- Lanes of a table. -/
theorem tabH2_18 (x : FVec Ideal S4096x32 .f32) (s : Fin 4096) (u : Fin 2) (l : Fin 32) :
    tabH2 x (ix2 s (⟨64 * u.val + (32 + l.val), by omega⟩ : Fin 128)) = x (ix2 s l) := by
  pointwise [tabH2]
  all_goals repeat' split
  all_goals first | (exfalso; omega) | exact congrArg (fun z => x (ix2 s z)) (Fin.ext (by first | omega | (simp only []; omega)))
/-- A table among the six. -/
theorem tabL_0 (a0 a1 a2 a3 a4 a5 : FVec Ideal S4096x128 .f32) (s : Fin 4096) (l : Fin 128) :
    tabL a0 a1 a2 a3 a4 a5 (ix2 s (⟨0 + l.val, by omega⟩ : Fin 768)) = a0 (ix2 s l) := by
  pointwise [tabL]
  all_goals repeat' split
  all_goals first | (exfalso; omega) | exact congrArg (fun z => a0 (ix2 s z)) (Fin.ext (by first | omega | (simp only []; omega)))
/-- A table among the six. -/
theorem tabL_1 (a0 a1 a2 a3 a4 a5 : FVec Ideal S4096x128 .f32) (s : Fin 4096) (l : Fin 128) :
    tabL a0 a1 a2 a3 a4 a5 (ix2 s (⟨128 + l.val, by omega⟩ : Fin 768)) = a1 (ix2 s l) := by
  pointwise [tabL]
  all_goals repeat' split
  all_goals first | (exfalso; omega) | exact congrArg (fun z => a1 (ix2 s z)) (Fin.ext (by first | omega | (simp only []; omega)))
/-- A table among the six. -/
theorem tabL_2 (a0 a1 a2 a3 a4 a5 : FVec Ideal S4096x128 .f32) (s : Fin 4096) (l : Fin 128) :
    tabL a0 a1 a2 a3 a4 a5 (ix2 s (⟨256 + l.val, by omega⟩ : Fin 768)) = a2 (ix2 s l) := by
  pointwise [tabL]
  all_goals repeat' split
  all_goals first | (exfalso; omega) | exact congrArg (fun z => a2 (ix2 s z)) (Fin.ext (by first | omega | (simp only []; omega)))
/-- A table among the six. -/
theorem tabL_3 (a0 a1 a2 a3 a4 a5 : FVec Ideal S4096x128 .f32) (s : Fin 4096) (l : Fin 128) :
    tabL a0 a1 a2 a3 a4 a5 (ix2 s (⟨384 + l.val, by omega⟩ : Fin 768)) = a3 (ix2 s l) := by
  pointwise [tabL]
  all_goals repeat' split
  all_goals first | (exfalso; omega) | exact congrArg (fun z => a3 (ix2 s z)) (Fin.ext (by first | omega | (simp only []; omega)))
/-- A table among the six. -/
theorem tabL_4 (a0 a1 a2 a3 a4 a5 : FVec Ideal S4096x128 .f32) (s : Fin 4096) (l : Fin 128) :
    tabL a0 a1 a2 a3 a4 a5 (ix2 s (⟨512 + l.val, by omega⟩ : Fin 768)) = a4 (ix2 s l) := by
  pointwise [tabL]
  all_goals repeat' split
  all_goals first | (exfalso; omega) | exact congrArg (fun z => a4 (ix2 s z)) (Fin.ext (by first | omega | (simp only []; omega)))
/-- A table among the six. -/
theorem tabL_5 (a0 a1 a2 a3 a4 a5 : FVec Ideal S4096x128 .f32) (s : Fin 4096) (l : Fin 128) :
    tabL a0 a1 a2 a3 a4 a5 (ix2 s (⟨640 + l.val, by omega⟩ : Fin 768)) = a5 (ix2 s l) := by
  pointwise [tabL]
  all_goals repeat' split
  all_goals first | (exfalso; omega) | exact congrArg (fun z => a5 (ix2 s z)) (Fin.ext (by first | omega | (simp only []; omega)))
/-- A table's context row. -/
theorem tabC_0 (s : Fin 512) (l : Fin 128) :
    tabC (ix2 s (⟨0 + l.val, by omega⟩ : Fin 768)) = 1 := by
  pointwise [tabC]
  all_goals repeat' split
  all_goals first | (exfalso; omega) | rfl

/-- A table's context row. -/
theorem tabC_1 (s : Fin 512) (l : Fin 128) :
    tabC (ix2 s (⟨128 + l.val, by omega⟩ : Fin 768)) = 0 := by
  pointwise [tabC]
  all_goals repeat' split
  all_goals first | (exfalso; omega) | rfl

/-- A table's context row. -/
theorem tabC_2 (s : Fin 512) (l : Fin 128) :
    tabC (ix2 s (⟨256 + l.val, by omega⟩ : Fin 768)) = 0 := by
  pointwise [tabC]
  all_goals repeat' split
  all_goals first | (exfalso; omega) | rfl

/-- A table's context row. -/
theorem tabC_3 (s : Fin 512) (l : Fin 128) :
    tabC (ix2 s (⟨384 + l.val, by omega⟩ : Fin 768)) = 1 := by
  pointwise [tabC]
  all_goals repeat' split
  all_goals first | (exfalso; omega) | rfl

/-- A table's context row. -/
theorem tabC_4 (s : Fin 512) (l : Fin 128) :
    tabC (ix2 s (⟨512 + l.val, by omega⟩ : Fin 768)) = 0 := by
  pointwise [tabC]
  all_goals repeat' split
  all_goals first | (exfalso; omega) | rfl

/-- A table's context row. -/
theorem tabC_5 (s : Fin 512) (l : Fin 128) :
    tabC (ix2 s (⟨640 + l.val, by omega⟩ : Fin 768)) = 0 := by
  pointwise [tabC]
  all_goals repeat' split
  all_goals first | (exfalso; omega) | rfl

/-- A latent row of the tables. -/
theorem packTab_latent (s : Fin 4096) (l : Fin 768) :
    packTab (ix2 (⟨s.val, by omega⟩ : Fin 4608) l) = tabL (tabA0 cosA) (tabA1 sinA) (tabA2 sinA) (tabH0 cosH) (tabH1 sinH) (tabH2 sinH) (ix2 s l) := by
  pointwise [packTab]
  all_goals repeat' split
  all_goals first | (exfalso; omega) | rfl

/-- A context row of the tables. -/
theorem packTab_context (s : Fin 512) (l : Fin 768) :
    packTab (ix2 (⟨4096 + s.val, by omega⟩ : Fin 4608) l) = tabC (ix2 s l) := by
  pointwise [packTab]
  all_goals repeat' split
  all_goals first | (exfalso; omega) | exact congrArg (fun z => tabC (ix2 z l)) (Fin.ext (by first | omega | (simp only []; omega)))
end Cert.Project

end
-- ==== Proof.Project.Block.lean ====
module

public import proofs.«01_k».proof.Proof.Project.Pays
public import Idealize.ShloMosaic.Lib.Pipeline.ValueKit

/-! One grid point of the input projections: the rows the body leaves in its ten output blocks are the row functions of
the blocks it reads. -/

@[expose] public section

set_option maxRecDepth 16384

noncomputable section

namespace Cert.Project

open Cert.Kernel4Ideal Cert.Kernel4Ideal.Gen Idealize.ShloMosaic Idealize.ShloMosaic.TcCoe Idealize.SL.Sem

variable (x0 : Vec Ideal S512x1024 .f32) (x1 : Vec Ideal S1x1x6144 .f32) (x2 : Vec Ideal S1x1024 .f32) (x3 : Vec Ideal S1x1024x5888 .bf16) (x4 : Vec Ideal S1x384 .f32) (x5 : Vec Ideal S1x256 .f32) (x6 : Vec Ideal S384x1024 .bf16) (x7 : Vec Ideal S256x1536 .bf16) (x8 : Vec Ideal S1x512 .f32) (x9 : Vec Ideal S1x256 .f32) (x10 : Vec Ideal S512x768 .f32) (x11 : Vec Ideal S128x128 .bf16)

/-- What row `r` of a point's blocks holds. -/
def blockGiven (r : Fin 512) : Given where
  row := ⟨fun n => x0 (ix2 r n), fun n => x1 (ix3 0 0 (⟨n.val, by omega⟩ : Fin 6144)), fun n => x1 (ix3 0 0 (⟨1024 + n.val, by omega⟩ : Fin 6144))⟩
  gain n := x2 (ix2 0 n)
  w j n := x3 (ix3 0 n j)
  gq j := x4 (ix2 0 j)
  gk j := x5 (ix2 0 j)
  uq c j := x6 (ix2 j c)
  uk c j := x7 (ix2 j c)
  nq j := x8 (ix2 0 j)
  nk j := x9 (ix2 0 j)
  tab k l := x10 (ix2 r (⟨128 * k.val + l.val, by omega⟩ : Fin 768))
  bd j l := x11 (ix2 j l)

/-- The normed row, as the body computes it of its blocks. -/
theorem row_pay (r : Fin 512) (n : Fin 1024) :
    k0_pay52 x0 x1 x2 x3 x4 x5 x6 x7 x8 x9 x10 x11 (ix2 r n) = normed (blockGiven x0 x1 x2 x3 x4 x5 x6 x7 x8 x9 x10 x11 r).row (blockGiven x0 x1 x2 x3 x4 x5 x6 x7 x8 x9 x10 x11 r).gain n := by
  unfold k0_pay52
  rw [pay_normed]
  refine congrArg₂ (fun T g => normed T g n) (Row.ext (funext fun n => ?_) (funext fun n => ?_) (funext fun n => ?_)) (funext fun n => ?_)
  · unfold blockGiven; pointwise
  · unfold blockGiven; pointwise
  · unfold blockGiven; pointwise
  · unfold blockGiven; pointwise

/-- A column of the projection, as the body computes it of its blocks. -/
theorem col_pay (r : Fin 512) (j : Fin 5888) (w : Fin 1024 → EReal) (hw : ∀ n, w n = x3 (ix3 0 n j)) :
    lin (fun n => k0_pay52 x0 x1 x2 x3 x4 x5 x6 x7 x8 x9 x10 x11 (ix2 r n)) w = (blockGiven x0 x1 x2 x3 x4 x5 x6 x7 x8 x9 x10 x11 r).col j := by
  unfold Given.col
  exact congrArg₂ lin (funext fun n => row_pay x0 x1 x2 x3 x4 x5 x6 x7 x8 x9 x10 x11 r n) (funext fun n => hw n)

/-- Table 0 of the rotations, as the body reads it. -/
theorem tab0_pay (r : Fin 512) (l : Fin 128) : k0_pay53 x0 x1 x2 x3 x4 x5 x6 x7 x8 x9 x10 x11 (ix2 r l) = (blockGiven x0 x1 x2 x3 x4 x5 x6 x7 x8 x9 x10 x11 r).tab 0 l := by
  unfold k0_pay53 blockGiven
  pointwise [k0_pay4]

/-- Table 1 of the rotations, as the body reads it. -/
theorem tab1_pay (r : Fin 512) (l : Fin 128) : k0_pay54 x0 x1 x2 x3 x4 x5 x6 x7 x8 x9 x10 x11 (ix2 r l) = (blockGiven x0 x1 x2 x3 x4 x5 x6 x7 x8 x9 x10 x11 r).tab 1 l := by
  unfold k0_pay54 blockGiven
  pointwise [k0_pay5]

/-- Table 2 of the rotations, as the body reads it. -/
theorem tab2_pay (r : Fin 512) (l : Fin 128) : k0_pay55 x0 x1 x2 x3 x4 x5 x6 x7 x8 x9 x10 x11 (ix2 r l) = (blockGiven x0 x1 x2 x3 x4 x5 x6 x7 x8 x9 x10 x11 r).tab 2 l := by
  unfold k0_pay55 blockGiven
  pointwise [k0_pay6]

/-- Table 3 of the rotations, as the body reads it. -/
theorem tab3_pay (r : Fin 512) (l : Fin 128) : k0_pay56 x0 x1 x2 x3 x4 x5 x6 x7 x8 x9 x10 x11 (ix2 r l) = (blockGiven x0 x1 x2 x3 x4 x5 x6 x7 x8 x9 x10 x11 r).tab 3 l := by
  unfold k0_pay56 blockGiven
  pointwise [k0_pay7]

/-- Table 4 of the rotations, as the body reads it. -/
theorem tab4_pay (r : Fin 512) (l : Fin 128) : k0_pay57 x0 x1 x2 x3 x4 x5 x6 x7 x8 x9 x10 x11 (ix2 r l) = (blockGiven x0 x1 x2 x3 x4 x5 x6 x7 x8 x9 x10 x11 r).tab 4 l := by
  unfold k0_pay57 blockGiven
  pointwise [k0_pay8]

/-- Table 5 of the rotations, as the body reads it. -/
theorem tab5_pay (r : Fin 512) (l : Fin 128) : k0_pay58 x0 x1 x2 x3 x4 x5 x6 x7 x8 x9 x10 x11 (ix2 r l) = (blockGiven x0 x1 x2 x3 x4 x5 x6 x7 x8 x9 x10 x11 r).tab 5 l := by
  unfold k0_pay58 blockGiven
  pointwise [k0_pay9]

/-- The second attention's values. -/
theorem block_vb (r : Fin 512) (c : Fin 256) :
    out0_17 x0 x1 x2 x3 x4 x5 x6 x7 x8 x9 x10 x11 (ix2 r c) = (blockGiven x0 x1 x2 x3 x4 x5 x6 x7 x8 x9 x10 x11 r).outVb c := by
  unfold out0_17
  rw [View.canon_unit_zero (by decide), pay_vb]
  exact col_pay x0 x1 x2 x3 x4 x5 x6 x7 x8 x9 x10 x11 r _ _ fun n => by pointwise

/-- The third attention's values. -/
theorem block_vw (r : Fin 512) (c : Fin 256) :
    out0_20 x0 x1 x2 x3 x4 x5 x6 x7 x8 x9 x10 x11 (ix2 r c) = (blockGiven x0 x1 x2 x3 x4 x5 x6 x7 x8 x9 x10 x11 r).outVw c := by
  unfold out0_20
  rw [View.canon_unit_zero (by decide), pay_vw]
  exact col_pay x0 x1 x2 x3 x4 x5 x6 x7 x8 x9 x10 x11 r _ _ fun n => by pointwise

/-- The expanded keys and values of the first attention. -/
theorem kv_pay (r : Fin 512) (c : Fin 1536) :
    k0_pay25 (k0_pay52 x0 x1 x2 x3 x4 x5 x6 x7 x8 x9 x10 x11) (View.ld x3 r0_14) (View.ld x5 r0_15) (View.ld x7 r0_16) (ix2 r c) = (blockGiven x0 x1 x2 x3 x4 x5 x6 x7 x8 x9 x10 x11 r).kv c := by
  rw [pay_kv]
  unfold Given.kv
  refine congrArg₂ lin (congrArg₂ (rms _) (funext fun j => col_pay x0 x1 x2 x3 x4 x5 x6 x7 x8 x9 x10 x11 r _ _ fun n => by pointwise) (funext fun j => ?_)) (funext fun j => ?_)
  · unfold blockGiven; pointwise
  · unfold blockGiven; pointwise

/-- The expanded queries of the first attention. -/
theorem qa_pay (r : Fin 512) (c : Fin 1024) :
    k0_pay10 (k0_pay52 x0 x1 x2 x3 x4 x5 x6 x7 x8 x9 x10 x11) (View.ld x3 r0_11) (View.ld x4 r0_12) (View.ld x6 r0_13) (ix2 r c) = (blockGiven x0 x1 x2 x3 x4 x5 x6 x7 x8 x9 x10 x11 r).qa c := by
  rw [pay_qa]
  unfold Given.qa
  refine congrArg₂ lin (congrArg₂ (rms _) (funext fun j => col_pay x0 x1 x2 x3 x4 x5 x6 x7 x8 x9 x10 x11 r _ _ fun n => by pointwise) (funext fun j => ?_)) (funext fun j => ?_)
  · unfold blockGiven; pointwise
  · unfold blockGiven; pointwise

/-- The first attention's values. -/
theorem block_va (r : Fin 512) (c : Fin 512) :
    out0_14 x0 x1 x2 x3 x4 x5 x6 x7 x8 x9 x10 x11 (ix2 r c) = (blockGiven x0 x1 x2 x3 x4 x5 x6 x7 x8 x9 x10 x11 r).outVa c := by
  unfold out0_14
  rw [View.canon_unit_zero (by decide), pay_va]
  exact kv_pay x0 x1 x2 x3 x4 x5 x6 x7 x8 x9 x10 x11 r _

/-- The first attention's keys. -/
theorem block_ka (r : Fin 512) (g : Fin 8) (l : Fin 128) :
    out0_13 x0 x1 x2 x3 x4 x5 x6 x7 x8 x9 x10 x11 (ix2 r (⟨128 * g.val + l.val, by omega⟩ : Fin 1024)) = (blockGiven x0 x1 x2 x3 x4 x5 x6 x7 x8 x9 x10 x11 r).outKa g l := by
  unfold out0_13
  rw [View.canon_unit_zero (by decide), pay_ka_turn, kv_pay]
  unfold Given.outKa
  simp only [tab0_pay, tab1_pay, tab2_pay]
  exact congrArg (fun f => _ + turn 112 16 f _ _ _ l) (funext fun j => col_pay x0 x1 x2 x3 x4 x5 x6 x7 x8 x9 x10 x11 r _ _ fun n => by pointwise)

/-- The first attention's queries. -/
theorem block_qa (r : Fin 512) (g : Fin 8) (l : Fin 128) :
    out0_12 x0 x1 x2 x3 x4 x5 x6 x7 x8 x9 x10 x11 (ix2 r (⟨128 * g.val + l.val, by omega⟩ : Fin 1024)) = (blockGiven x0 x1 x2 x3 x4 x5 x6 x7 x8 x9 x10 x11 r).outQa g l := by
  unfold out0_12 k0_pay59
  rw [View.canon_unit_zero (by decide), pay_qa_turn]
  unfold Given.outQa
  simp only [tab0_pay, tab1_pay, tab2_pay, qa_pay]

/-- The third attention's queries. -/
theorem block_qw (r : Fin 512) (g : Fin 4) (l : Fin 128) :
    out0_18 x0 x1 x2 x3 x4 x5 x6 x7 x8 x9 x10 x11 (ix2 r (⟨128 * g.val + l.val, by omega⟩ : Fin 512)) = (blockGiven x0 x1 x2 x3 x4 x5 x6 x7 x8 x9 x10 x11 r).outQw g l := by
  unfold out0_18
  rw [View.canon_unit_zero (by decide), pay_qw_turn]
  unfold Given.outQw
  simp only [tab3_pay, tab4_pay, tab5_pay]
  exact congrArg (fun f => turn 96 32 f _ _ _ l * _) (funext fun j => col_pay x0 x1 x2 x3 x4 x5 x6 x7 x8 x9 x10 x11 r _ _ fun n => by pointwise)

/-- The third attention's keys. -/
theorem block_kw (r : Fin 512) (g : Fin 2) (l : Fin 128) :
    out0_19 x0 x1 x2 x3 x4 x5 x6 x7 x8 x9 x10 x11 (ix2 r (⟨128 * g.val + l.val, by omega⟩ : Fin 256)) = (blockGiven x0 x1 x2 x3 x4 x5 x6 x7 x8 x9 x10 x11 r).outKw g l := by
  unfold out0_19
  rw [View.canon_unit_zero (by decide), pay_kw_turn]
  unfold Given.outKw
  simp only [tab3_pay, tab4_pay, tab5_pay, pay_kw]
  exact congrArg (fun f => turn 96 32 f _ _ _ l) (funext fun j => col_pay x0 x1 x2 x3 x4 x5 x6 x7 x8 x9 x10 x11 r _ _ fun n => by pointwise)

/-- The second attention's queries. -/
theorem block_qb (r : Fin 512) (g : Fin 4) (l : Fin 128) :
    out0_15 x0 x1 x2 x3 x4 x5 x6 x7 x8 x9 x10 x11 (ix2 r (⟨128 * g.val + l.val, by omega⟩ : Fin 512)) = (blockGiven x0 x1 x2 x3 x4 x5 x6 x7 x8 x9 x10 x11 r).outQb g l := by
  unfold out0_15 k0_pay60 k0_pay61 k0_pay62 k0_pay63
  rw [View.canon_unit_zero (by decide), pay_qb_turn]
  unfold Given.outQb
  simp only [tab3_pay, tab4_pay, tab5_pay, pay_qb_level, pay_qb]
  refine congrArg (fun f => turn 96 32 f _ _ _ l) (funext fun j => congrArg₂ (· * ·)
    (congrArg₂ (fun x b => leveled x b j) (funext fun i => col_pay x0 x1 x2 x3 x4 x5 x6 x7 x8 x9 x10 x11 r _ _ fun n => by pointwise) (funext fun a => funext fun b => ?_)) ?_)
  · unfold blockGiven; pointwise
  · unfold blockGiven; pointwise

/-- The second attention's keys. -/
theorem block_kb (r : Fin 512) (g : Fin 2) (l : Fin 128) :
    out0_16 x0 x1 x2 x3 x4 x5 x6 x7 x8 x9 x10 x11 (ix2 r (⟨128 * g.val + l.val, by omega⟩ : Fin 256)) = (blockGiven x0 x1 x2 x3 x4 x5 x6 x7 x8 x9 x10 x11 r).outKb g l := by
  unfold out0_16
  rw [View.canon_unit_zero (by decide), pay_kb_turn]
  unfold Given.outKb
  simp only [tab3_pay, tab4_pay, tab5_pay, pay_kb]
  refine congrArg (fun f => turn 96 32 f _ _ _ l) (funext fun j => congrArg₂ (· * ·)
    (congrArg₂ (fun x b => leveled x b j) (funext fun i => col_pay x0 x1 x2 x3 x4 x5 x6 x7 x8 x9 x10 x11 r _ _ fun n => by pointwise) (funext fun a => funext fun b => ?_)) ?_)
  · unfold blockGiven; pointwise
  · unfold blockGiven; pointwise

/-- The gates. -/
theorem block_gate (y : S512x3072.Idx) :
    out0_21 x0 x1 x2 x3 x4 x5 x6 x7 x8 x9 x10 x11 y = (blockGiven x0 x1 x2 x3 x4 x5 x6 x7 x8 x9 x10 x11 (y 0)).outGate (y 1) := by
  unfold out0_21
  refine View.canon_apply_of_pieces (Val := Elt Ideal) (e := .bf16) (fun y : S512x3072.Idx => (blockGiven x0 x1 x2 x3 x4 x5 x6 x7 x8 x9 x10 x11 (y 0)).outGate (y 1)) _ ?_ y (cover0_21 _ _ _ y)
  simp only [List.forall_mem_cons, List.not_mem_nil, IsEmpty.forall_iff, implies_true, and_true]
  refine ⟨fun z => ?_, fun z => ?_, fun z => ?_⟩
  · idx_vars z
    have h : r0_32.emb (ix2 z0 z1) = ix2 z0 (⟨2048 + z1.val, by omega⟩ : Fin 3072) := by
      blk_ext
    refine (pay_gate2 _ z0 _ z1).trans ?_
    refine Eq.trans ?_ (congrArg (fun y : S512x3072.Idx => (blockGiven x0 x1 x2 x3 x4 x5 x6 x7 x8 x9 x10 x11 (y 0)).outGate (y 1)) h.symm)
    exact congrArg gate (col_pay x0 x1 x2 x3 x4 x5 x6 x7 x8 x9 x10 x11 z0 _ _ fun n => by
      pointwise
      exact congrArg (fun z => x3 (ix3 0 n z)) (Fin.ext (by simp only []; omega)))
  · idx_vars z
    have h : r0_30.emb (ix2 z0 z1) = ix2 z0 (⟨1024 + z1.val, by omega⟩ : Fin 3072) := by
      blk_ext
    refine (pay_gate1 _ z0 _ z1).trans ?_
    refine Eq.trans ?_ (congrArg (fun y : S512x3072.Idx => (blockGiven x0 x1 x2 x3 x4 x5 x6 x7 x8 x9 x10 x11 (y 0)).outGate (y 1)) h.symm)
    exact congrArg gate (col_pay x0 x1 x2 x3 x4 x5 x6 x7 x8 x9 x10 x11 z0 _ _ fun n => by
      pointwise
      exact congrArg (fun z => x3 (ix3 0 n z)) (Fin.ext (by simp only []; omega)))
  · idx_vars z
    have h : r0_28.emb (ix2 z0 z1) = ix2 z0 (⟨z1.val, by omega⟩ : Fin 3072) := by
      blk_ext
    refine (pay_gate0 _ z0 _ z1).trans ?_
    refine Eq.trans ?_ (congrArg (fun y : S512x3072.Idx => (blockGiven x0 x1 x2 x3 x4 x5 x6 x7 x8 x9 x10 x11 (y 0)).outGate (y 1)) h.symm)
    exact congrArg gate (col_pay x0 x1 x2 x3 x4 x5 x6 x7 x8 x9 x10 x11 z0 _ _ fun n => by pointwise)

end Cert.Project

end
-- ==== Proof.Project.Array.lean ====
module

public import proofs.«01_k».proof.Proof.Project.Block

/-! The input projections' ten output arrays after the run: the row functions of the arrays that the call reads. -/

@[expose] public section

set_option maxRecDepth 16384

noncomputable section

namespace Cert.Project

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The rows: the latent rows, then the context rows. -/
def inX : S17408x1024.Idx → EReal := V m c main_v2
/-- The modulation: one row per sequence, then the context's, then rows of zeros. -/
def inM : S8x1x6144.Idx → EReal := V m c main_v6
/-- The norm's gain. -/
def inGain : S1x1024.Idx → EReal := V m c main_v124
/-- The packed weights. -/
def inW : S1x1024x5888.Idx → EReal := V m c main_v99
/-- The gain of the compressed queries. -/
def inGq : S1x384.Idx → EReal := V m c main_v125
/-- The gain of the compressed keys and values. -/
def inGk : S1x256.Idx → EReal := V m c main_v126
/-- The expansion of the queries. -/
def inUq : S384x1024.Idx → EReal := V m c main_v127
/-- The expansion of the keys and values. -/
def inUk : S256x1536.Idx → EReal := V m c main_v128
/-- The gain of the second attention's queries. -/
def inNq : S1x512.Idx → EReal := V m c main_v129
/-- The gain of the second attention's keys. -/
def inNk : S1x256.Idx → EReal := V m c main_v130
/-- The tables of rotations. -/
def inTab : S4608x768.Idx → EReal := V m c main_v71
/-- The matrix that sums over heads. -/
def inBd : S128x128.Idx → EReal := V m c main_cst

/-- Where each window's block lies at grid point `t`. -/
theorem idx : ∀ t : Fin cfg0.N,
    win0_0.index t = ![t.val, 0] ∧ win0_1.index t = ![if t.val < 32 then t.val / 8 else 4, 0, 0] ∧ win0_2.index t = ![0, 0] ∧
    win0_3.index t = ![0, 0, 0] ∧ win0_4.index t = ![0, 0] ∧ win0_5.index t = ![0, 0] ∧ win0_6.index t = ![0, 0] ∧
    win0_7.index t = ![0, 0] ∧ win0_8.index t = ![0, 0] ∧ win0_9.index t = ![0, 0] ∧
    win0_10.index t = ![if t.val < 32 then t.val % 8 else 8, 0] ∧ win0_11.index t = ![0, 0] ∧
    win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] := by
  decide +kernel

/-- The grid has 34 points. -/
theorem tN (t : Fin cfg0.N) : t.val < 34 := t.isLt

/-- Row `r` of point `t`. -/
def rowOf (t : Fin cfg0.N) (r : Fin 512) : Fin 17408 := ⟨512 * t.val + r.val, by have := tN t; omega⟩

/-- The row of the modulation that belongs to row `R`: its sequence's, or the context's. -/
def modRow (R : Fin 17408) : Fin 8 := ⟨if R.val < 16384 then R.val / 4096 else 4, by split <;> omega⟩

/-- The row of the tables that belongs to row `R`: its place in the sequence, or one of the last rows. -/
def tabRow (R : Fin 17408) : Fin 4608 := ⟨if R.val < 16384 then R.val % 4096 else 4096 + R.val % 512, by split <;> omega⟩

/-- The rows of point `t`. -/
theorem x_block (t : Fin cfg0.N) (r : Fin 512) (n : Fin 1024) : iblk m c 0 t (ix2 r n) = inX m c (ix2 (rowOf t r) n) := by
  blk_ext [iblk, inX, rowOf, idx t]

/-- The modulation of point `t`. -/
theorem mod_block (t : Fin cfg0.N) (n : Fin 6144) :
    iblk m c 1 t (ix3 0 0 n) = inM m c (ix3 (⟨if t.val < 32 then t.val / 8 else 4, by have := tN t; split <;> omega⟩ : Fin 8) 0 n) := by
  blk_ext [iblk, inM, idx t]

/-- The tables of point `t`. -/
theorem tab_block (t : Fin cfg0.N) (r : Fin 512) (n : Fin 768) :
    iblk m c 10 t (ix2 r n) = inTab m c (ix2 (⟨512 * (if t.val < 32 then t.val % 8 else 8) + r.val, by have := tN t; split <;> omega⟩ : Fin 4608) n) := by
  blk_ext [iblk, inTab, idx t]

/-- Window 2, the same at every point. -/
theorem gain_block (t : Fin cfg0.N) (n : Fin 1024) : iblk m c 2 t (ix2 0 n) = inGain m c (ix2 0 n) := by
  blk_ext [iblk, inGain, idx t]

/-- Window 4, the same at every point. -/
theorem gq_block (t : Fin cfg0.N) (n : Fin 384) : iblk m c 4 t (ix2 0 n) = inGq m c (ix2 0 n) := by
  blk_ext [iblk, inGq, idx t]

/-- Window 5, the same at every point. -/
theorem gk_block (t : Fin cfg0.N) (n : Fin 256) : iblk m c 5 t (ix2 0 n) = inGk m c (ix2 0 n) := by
  blk_ext [iblk, inGk, idx t]

/-- Window 6, the same at every point. -/
theorem uq_block (t : Fin cfg0.N) (j : Fin 384) (n : Fin 1024) : iblk m c 6 t (ix2 j n) = inUq m c (ix2 j n) := by
  blk_ext [iblk, inUq, idx t]

/-- Window 7, the same at every point. -/
theorem uk_block (t : Fin cfg0.N) (j : Fin 256) (n : Fin 1536) : iblk m c 7 t (ix2 j n) = inUk m c (ix2 j n) := by
  blk_ext [iblk, inUk, idx t]

/-- Window 8, the same at every point. -/
theorem nq_block (t : Fin cfg0.N) (n : Fin 512) : iblk m c 8 t (ix2 0 n) = inNq m c (ix2 0 n) := by
  blk_ext [iblk, inNq, idx t]

/-- Window 9, the same at every point. -/
theorem nk_block (t : Fin cfg0.N) (n : Fin 256) : iblk m c 9 t (ix2 0 n) = inNk m c (ix2 0 n) := by
  blk_ext [iblk, inNk, idx t]

/-- Window 11, the same at every point. -/
theorem bd_block (t : Fin cfg0.N) (j : Fin 128) (n : Fin 128) : iblk m c 11 t (ix2 j n) = inBd m c (ix2 j n) := by
  blk_ext [iblk, inBd, idx t]

/-- Window 3, the same at every point. -/
theorem w_block (t : Fin cfg0.N) (n : Fin 1024) (j : Fin 5888) : iblk m c 3 t (ix3 0 n j) = inW m c (ix3 0 n j) := by
  blk_ext [iblk, inW, idx t]

/-- What the call's arrays hold for row `R`. -/
def arrayGiven (R : Fin 17408) : Given where
  row := ⟨fun n => inX m c (ix2 R n), fun n => inM m c (ix3 (modRow R) 0 (⟨n.val, by omega⟩ : Fin 6144)),
    fun n => inM m c (ix3 (modRow R) 0 (⟨1024 + n.val, by omega⟩ : Fin 6144))⟩
  gain n := inGain m c (ix2 0 n)
  w j n := inW m c (ix3 0 n j)
  gq j := inGq m c (ix2 0 j)
  gk j := inGk m c (ix2 0 j)
  uq c' j := inUq m c (ix2 j c')
  uk c' j := inUk m c (ix2 j c')
  nq j := inNq m c (ix2 0 j)
  nk j := inNk m c (ix2 0 j)
  tab k l := inTab m c (ix2 (tabRow R) (⟨128 * k.val + l.val, by omega⟩ : Fin 768))
  bd j l := inBd m c (ix2 j l)

/-- Blocks that are point `t`'s hold the numbers of row `512 * t + r`. -/
theorem given_of (t : Fin cfg0.N) (r : Fin 512) (x0 : Vec Ideal S512x1024 .f32) (x1 : Vec Ideal S1x1x6144 .f32) (x2 : Vec Ideal S1x1024 .f32) (x3 : Vec Ideal S1x1024x5888 .bf16) (x4 : Vec Ideal S1x384 .f32) (x5 : Vec Ideal S1x256 .f32) (x6 : Vec Ideal S384x1024 .bf16) (x7 : Vec Ideal S256x1536 .bf16) (x8 : Vec Ideal S1x512 .f32) (x9 : Vec Ideal S1x256 .f32) (x10 : Vec Ideal S512x768 .f32) (x11 : Vec Ideal S128x128 .bf16)
    (h0 : x0 = iblk m c 0 t) (h1 : x1 = iblk m c 1 t) (h2 : x2 = iblk m c 2 t) (h3 : x3 = iblk m c 3 t) (h4 : x4 = iblk m c 4 t) (h5 : x5 = iblk m c 5 t) (h6 : x6 = iblk m c 6 t) (h7 : x7 = iblk m c 7 t) (h8 : x8 = iblk m c 8 t) (h9 : x9 = iblk m c 9 t) (h10 : x10 = iblk m c 10 t) (h11 : x11 = iblk m c 11 t) :
    blockGiven x0 x1 x2 x3 x4 x5 x6 x7 x8 x9 x10 x11 r = arrayGiven m c (rowOf t r) := by
  have ht := tN t
  have eM : (⟨if t.val < 32 then t.val / 8 else 4, by split <;> omega⟩ : Fin 8) = modRow (rowOf t r) := by
    refine Fin.ext ?_
    change (if t.val < 32 then t.val / 8 else 4) = if 512 * t.val + r.val < 16384 then (512 * t.val + r.val) / 4096 else 4
    by_cases hs : t.val < 32
    · rw [if_pos hs, if_pos (by omega)]; all_goals omega
    · rw [if_neg hs, if_neg (by omega)]
  have eT : (⟨512 * (if t.val < 32 then t.val % 8 else 8) + r.val, by split <;> omega⟩ : Fin 4608) = tabRow (rowOf t r) := by
    refine Fin.ext ?_
    change 512 * (if t.val < 32 then t.val % 8 else 8) + r.val
      = if 512 * t.val + r.val < 16384 then (512 * t.val + r.val) % 4096 else 4096 + (512 * t.val + r.val) % 512
    by_cases hs : t.val < 32
    · rw [if_pos hs, if_pos (by omega)]; all_goals omega
    · rw [if_neg hs, if_neg (by omega)]; all_goals omega
  have e0 : ∀ n : Fin 1024, x0 (ix2 r n) = inX m c (ix2 (rowOf t r) n) := fun n => by rw [h0]; exact x_block m c t r n
  have e1 : ∀ n : Fin 6144, x1 (ix3 0 0 n) = inM m c (ix3 (modRow (rowOf t r)) 0 n) := fun n => by
    rw [h1, ← eM]; exact mod_block m c t n
  have e2 : ∀ n : Fin 1024, x2 (ix2 0 n) = inGain m c (ix2 0 n) := fun n => by rw [h2]; exact gain_block m c t n
  have e3 : ∀ (n : Fin 1024) (j : Fin 5888), x3 (ix3 0 n j) = inW m c (ix3 0 n j) := fun n j => by rw [h3]; exact w_block m c t n j
  have e4 : ∀ n : Fin 384, x4 (ix2 0 n) = inGq m c (ix2 0 n) := fun n => by rw [h4]; exact gq_block m c t n
  have e5 : ∀ n : Fin 256, x5 (ix2 0 n) = inGk m c (ix2 0 n) := fun n => by rw [h5]; exact gk_block m c t n
  have e6 : ∀ (j : Fin 384) (n : Fin 1024), x6 (ix2 j n) = inUq m c (ix2 j n) := fun j n => by rw [h6]; exact uq_block m c t j n
  have e7 : ∀ (j : Fin 256) (n : Fin 1536), x7 (ix2 j n) = inUk m c (ix2 j n) := fun j n => by rw [h7]; exact uk_block m c t j n
  have e8 : ∀ n : Fin 512, x8 (ix2 0 n) = inNq m c (ix2 0 n) := fun n => by rw [h8]; exact nq_block m c t n
  have e9 : ∀ n : Fin 256, x9 (ix2 0 n) = inNk m c (ix2 0 n) := fun n => by rw [h9]; exact nk_block m c t n
  have e10 : ∀ n : Fin 768, x10 (ix2 r n) = inTab m c (ix2 (tabRow (rowOf t r)) n) := fun n => by
    rw [h10, ← eT]; exact tab_block m c t r n
  have e11 : ∀ (j : Fin 128) (n : Fin 128), x11 (ix2 j n) = inBd m c (ix2 j n) := fun j n => by rw [h11]; exact bd_block m c t j n
  unfold blockGiven arrayGiven
  simp only [e0, e1, e2, e3, e4, e5, e6, e7, e8, e9, e10, e11]

/-- The first attention's queries, after the run. -/
def arrQa (i : S17408x1024.Idx) : EReal := (arrayGiven m c (i 0)).outQa ⟨(i 1).val / 128, by have : (i 1).val < 1024 := (i 1).isLt; omega⟩ ⟨(i 1).val % 128, Nat.mod_lt _ (by norm_num)⟩

/-- The first attention's queries, at slice `g` and lane `l`. -/
theorem arrQa_at (R : Fin 17408) (g : Fin 8) (l : Fin 128) :
    arrQa m c (ix2 R (⟨128 * g.val + l.val, by omega⟩ : Fin 1024)) = (arrayGiven m c R).outQa g l :=
  congrArg₂ (arrayGiven m c R).outQa (Fin.ext (show (128 * g.val + l.val) / 128 = g.val by omega))
    (Fin.ext (show (128 * g.val + l.val) % 128 = l.val by omega))

/-- Where row `r` and column `n` of point `t`'s block of output 0 lie. -/
theorem placeQa (t : Fin cfg0.N) (r : Fin 512) (n : Fin 1024) :
    ((View.whole main_v131_0).slice (win0_12.rect t)).emb (ix2 r n) = ix2 (rowOf t r) n := by
  blk_ext [rowOf, idx t]

/-- Output 0 after the run. -/
theorem arrayQa : (dats m 0 c).arrAt 12 cfg0.N = arrQa m c := by
  refine (dats m 0 c).arrAt_eq_of_covers 12 _ (by decide +kernel) fun t hf y => ?_
  blk_simp
  rw [after0_12]
  idx_vars y
  obtain ⟨g, l, rfl⟩ : ∃ (g : Fin 8) (l : Fin 128), y1 = (⟨128 * g.val + l.val, by omega⟩ : Fin 1024) :=
    ⟨⟨y1.val / 128, by omega⟩, ⟨y1.val % 128, Nat.mod_lt _ (by norm_num)⟩, Fin.ext (by simp only []; omega)⟩
  rw [block_qa, placeQa]
  exact (congrArg (fun G => Given.outQa G g l) (given_of m c t y0 _ _ _ _ _ _ _ _ _ _ _ _ rfl rfl rfl rfl rfl rfl rfl rfl rfl rfl rfl rfl)).trans (arrQa_at m c _ g l).symm

/-- The first attention's keys, after the run. -/
def arrKa (i : S17408x1024.Idx) : EReal := (arrayGiven m c (i 0)).outKa ⟨(i 1).val / 128, by have : (i 1).val < 1024 := (i 1).isLt; omega⟩ ⟨(i 1).val % 128, Nat.mod_lt _ (by norm_num)⟩

/-- The first attention's keys, at slice `g` and lane `l`. -/
theorem arrKa_at (R : Fin 17408) (g : Fin 8) (l : Fin 128) :
    arrKa m c (ix2 R (⟨128 * g.val + l.val, by omega⟩ : Fin 1024)) = (arrayGiven m c R).outKa g l :=
  congrArg₂ (arrayGiven m c R).outKa (Fin.ext (show (128 * g.val + l.val) / 128 = g.val by omega))
    (Fin.ext (show (128 * g.val + l.val) % 128 = l.val by omega))

/-- Where row `r` and column `n` of point `t`'s block of output 1 lie. -/
theorem placeKa (t : Fin cfg0.N) (r : Fin 512) (n : Fin 1024) :
    ((View.whole main_v131_1).slice (win0_13.rect t)).emb (ix2 r n) = ix2 (rowOf t r) n := by
  blk_ext [rowOf, idx t]

/-- Output 1 after the run. -/
theorem arrayKa : (dats m 0 c).arrAt 13 cfg0.N = arrKa m c := by
  refine (dats m 0 c).arrAt_eq_of_covers 13 _ (by decide +kernel) fun t hf y => ?_
  blk_simp
  rw [after0_13]
  idx_vars y
  obtain ⟨g, l, rfl⟩ : ∃ (g : Fin 8) (l : Fin 128), y1 = (⟨128 * g.val + l.val, by omega⟩ : Fin 1024) :=
    ⟨⟨y1.val / 128, by omega⟩, ⟨y1.val % 128, Nat.mod_lt _ (by norm_num)⟩, Fin.ext (by simp only []; omega)⟩
  rw [block_ka, placeKa]
  exact (congrArg (fun G => Given.outKa G g l) (given_of m c t y0 _ _ _ _ _ _ _ _ _ _ _ _ rfl rfl rfl rfl rfl rfl rfl rfl rfl rfl rfl rfl)).trans (arrKa_at m c _ g l).symm

/-- The first attention's values, after the run. -/
def arrVa (i : S17408x512.Idx) : EReal := (arrayGiven m c (i 0)).outVa (i 1)

/-- Where row `r` and column `n` of point `t`'s block of output 2 lie. -/
theorem placeVa (t : Fin cfg0.N) (r : Fin 512) (n : Fin 512) :
    ((View.whole main_v131_2).slice (win0_14.rect t)).emb (ix2 r n) = ix2 (rowOf t r) n := by
  blk_ext [rowOf, idx t]

/-- Output 2 after the run. -/
theorem arrayVa : (dats m 0 c).arrAt 14 cfg0.N = arrVa m c := by
  refine (dats m 0 c).arrAt_eq_of_covers 14 _ (by decide +kernel) fun t hf y => ?_
  blk_simp
  rw [after0_14]
  idx_vars y
  rw [block_va, placeVa]
  exact congrArg (fun G => Given.outVa G y1) (given_of m c t y0 _ _ _ _ _ _ _ _ _ _ _ _ rfl rfl rfl rfl rfl rfl rfl rfl rfl rfl rfl rfl)

/-- The second attention's queries, after the run. -/
def arrQb (i : S17408x512.Idx) : EReal := (arrayGiven m c (i 0)).outQb ⟨(i 1).val / 128, by have : (i 1).val < 512 := (i 1).isLt; omega⟩ ⟨(i 1).val % 128, Nat.mod_lt _ (by norm_num)⟩

/-- The second attention's queries, at slice `g` and lane `l`. -/
theorem arrQb_at (R : Fin 17408) (g : Fin 4) (l : Fin 128) :
    arrQb m c (ix2 R (⟨128 * g.val + l.val, by omega⟩ : Fin 512)) = (arrayGiven m c R).outQb g l :=
  congrArg₂ (arrayGiven m c R).outQb (Fin.ext (show (128 * g.val + l.val) / 128 = g.val by omega))
    (Fin.ext (show (128 * g.val + l.val) % 128 = l.val by omega))

/-- Where row `r` and column `n` of point `t`'s block of output 3 lie. -/
theorem placeQb (t : Fin cfg0.N) (r : Fin 512) (n : Fin 512) :
    ((View.whole main_v131_3).slice (win0_15.rect t)).emb (ix2 r n) = ix2 (rowOf t r) n := by
  blk_ext [rowOf, idx t]

/-- Output 3 after the run. -/
theorem arrayQb : (dats m 0 c).arrAt 15 cfg0.N = arrQb m c := by
  refine (dats m 0 c).arrAt_eq_of_covers 15 _ (by decide +kernel) fun t hf y => ?_
  blk_simp
  rw [after0_15]
  idx_vars y
  obtain ⟨g, l, rfl⟩ : ∃ (g : Fin 4) (l : Fin 128), y1 = (⟨128 * g.val + l.val, by omega⟩ : Fin 512) :=
    ⟨⟨y1.val / 128, by omega⟩, ⟨y1.val % 128, Nat.mod_lt _ (by norm_num)⟩, Fin.ext (by simp only []; omega)⟩
  rw [block_qb, placeQb]
  exact (congrArg (fun G => Given.outQb G g l) (given_of m c t y0 _ _ _ _ _ _ _ _ _ _ _ _ rfl rfl rfl rfl rfl rfl rfl rfl rfl rfl rfl rfl)).trans (arrQb_at m c _ g l).symm

/-- The second attention's keys, after the run. -/
def arrKb (i : S17408x256.Idx) : EReal := (arrayGiven m c (i 0)).outKb ⟨(i 1).val / 128, by have : (i 1).val < 256 := (i 1).isLt; omega⟩ ⟨(i 1).val % 128, Nat.mod_lt _ (by norm_num)⟩

/-- The second attention's keys, at slice `g` and lane `l`. -/
theorem arrKb_at (R : Fin 17408) (g : Fin 2) (l : Fin 128) :
    arrKb m c (ix2 R (⟨128 * g.val + l.val, by omega⟩ : Fin 256)) = (arrayGiven m c R).outKb g l :=
  congrArg₂ (arrayGiven m c R).outKb (Fin.ext (show (128 * g.val + l.val) / 128 = g.val by omega))
    (Fin.ext (show (128 * g.val + l.val) % 128 = l.val by omega))

/-- Where row `r` and column `n` of point `t`'s block of output 4 lie. -/
theorem placeKb (t : Fin cfg0.N) (r : Fin 512) (n : Fin 256) :
    ((View.whole main_v131_4).slice (win0_16.rect t)).emb (ix2 r n) = ix2 (rowOf t r) n := by
  blk_ext [rowOf, idx t]

/-- Output 4 after the run. -/
theorem arrayKb : (dats m 0 c).arrAt 16 cfg0.N = arrKb m c := by
  refine (dats m 0 c).arrAt_eq_of_covers 16 _ (by decide +kernel) fun t hf y => ?_
  blk_simp
  rw [after0_16]
  idx_vars y
  obtain ⟨g, l, rfl⟩ : ∃ (g : Fin 2) (l : Fin 128), y1 = (⟨128 * g.val + l.val, by omega⟩ : Fin 256) :=
    ⟨⟨y1.val / 128, by omega⟩, ⟨y1.val % 128, Nat.mod_lt _ (by norm_num)⟩, Fin.ext (by simp only []; omega)⟩
  rw [block_kb, placeKb]
  exact (congrArg (fun G => Given.outKb G g l) (given_of m c t y0 _ _ _ _ _ _ _ _ _ _ _ _ rfl rfl rfl rfl rfl rfl rfl rfl rfl rfl rfl rfl)).trans (arrKb_at m c _ g l).symm

/-- The second attention's values, after the run. -/
def arrVb (i : S17408x256.Idx) : EReal := (arrayGiven m c (i 0)).outVb (i 1)

/-- Where row `r` and column `n` of point `t`'s block of output 5 lie. -/
theorem placeVb (t : Fin cfg0.N) (r : Fin 512) (n : Fin 256) :
    ((View.whole main_v131_5).slice (win0_17.rect t)).emb (ix2 r n) = ix2 (rowOf t r) n := by
  blk_ext [rowOf, idx t]

/-- Output 5 after the run. -/
theorem arrayVb : (dats m 0 c).arrAt 17 cfg0.N = arrVb m c := by
  refine (dats m 0 c).arrAt_eq_of_covers 17 _ (by decide +kernel) fun t hf y => ?_
  blk_simp
  rw [after0_17]
  idx_vars y
  rw [block_vb, placeVb]
  exact congrArg (fun G => Given.outVb G y1) (given_of m c t y0 _ _ _ _ _ _ _ _ _ _ _ _ rfl rfl rfl rfl rfl rfl rfl rfl rfl rfl rfl rfl)

/-- The third attention's queries, after the run. -/
def arrQw (i : S17408x512.Idx) : EReal := (arrayGiven m c (i 0)).outQw ⟨(i 1).val / 128, by have : (i 1).val < 512 := (i 1).isLt; omega⟩ ⟨(i 1).val % 128, Nat.mod_lt _ (by norm_num)⟩

/-- The third attention's queries, at slice `g` and lane `l`. -/
theorem arrQw_at (R : Fin 17408) (g : Fin 4) (l : Fin 128) :
    arrQw m c (ix2 R (⟨128 * g.val + l.val, by omega⟩ : Fin 512)) = (arrayGiven m c R).outQw g l :=
  congrArg₂ (arrayGiven m c R).outQw (Fin.ext (show (128 * g.val + l.val) / 128 = g.val by omega))
    (Fin.ext (show (128 * g.val + l.val) % 128 = l.val by omega))

/-- Where row `r` and column `n` of point `t`'s block of output 6 lie. -/
theorem placeQw (t : Fin cfg0.N) (r : Fin 512) (n : Fin 512) :
    ((View.whole main_v131_6).slice (win0_18.rect t)).emb (ix2 r n) = ix2 (rowOf t r) n := by
  blk_ext [rowOf, idx t]

/-- Output 6 after the run. -/
theorem arrayQw : (dats m 0 c).arrAt 18 cfg0.N = arrQw m c := by
  refine (dats m 0 c).arrAt_eq_of_covers 18 _ (by decide +kernel) fun t hf y => ?_
  blk_simp
  rw [after0_18]
  idx_vars y
  obtain ⟨g, l, rfl⟩ : ∃ (g : Fin 4) (l : Fin 128), y1 = (⟨128 * g.val + l.val, by omega⟩ : Fin 512) :=
    ⟨⟨y1.val / 128, by omega⟩, ⟨y1.val % 128, Nat.mod_lt _ (by norm_num)⟩, Fin.ext (by simp only []; omega)⟩
  rw [block_qw, placeQw]
  exact (congrArg (fun G => Given.outQw G g l) (given_of m c t y0 _ _ _ _ _ _ _ _ _ _ _ _ rfl rfl rfl rfl rfl rfl rfl rfl rfl rfl rfl rfl)).trans (arrQw_at m c _ g l).symm

/-- The third attention's keys, after the run. -/
def arrKw (i : S17408x256.Idx) : EReal := (arrayGiven m c (i 0)).outKw ⟨(i 1).val / 128, by have : (i 1).val < 256 := (i 1).isLt; omega⟩ ⟨(i 1).val % 128, Nat.mod_lt _ (by norm_num)⟩

/-- The third attention's keys, at slice `g` and lane `l`. -/
theorem arrKw_at (R : Fin 17408) (g : Fin 2) (l : Fin 128) :
    arrKw m c (ix2 R (⟨128 * g.val + l.val, by omega⟩ : Fin 256)) = (arrayGiven m c R).outKw g l :=
  congrArg₂ (arrayGiven m c R).outKw (Fin.ext (show (128 * g.val + l.val) / 128 = g.val by omega))
    (Fin.ext (show (128 * g.val + l.val) % 128 = l.val by omega))

/-- Where row `r` and column `n` of point `t`'s block of output 7 lie. -/
theorem placeKw (t : Fin cfg0.N) (r : Fin 512) (n : Fin 256) :
    ((View.whole main_v131_7).slice (win0_19.rect t)).emb (ix2 r n) = ix2 (rowOf t r) n := by
  blk_ext [rowOf, idx t]

/-- Output 7 after the run. -/
theorem arrayKw : (dats m 0 c).arrAt 19 cfg0.N = arrKw m c := by
  refine (dats m 0 c).arrAt_eq_of_covers 19 _ (by decide +kernel) fun t hf y => ?_
  blk_simp
  rw [after0_19]
  idx_vars y
  obtain ⟨g, l, rfl⟩ : ∃ (g : Fin 2) (l : Fin 128), y1 = (⟨128 * g.val + l.val, by omega⟩ : Fin 256) :=
    ⟨⟨y1.val / 128, by omega⟩, ⟨y1.val % 128, Nat.mod_lt _ (by norm_num)⟩, Fin.ext (by simp only []; omega)⟩
  rw [block_kw, placeKw]
  exact (congrArg (fun G => Given.outKw G g l) (given_of m c t y0 _ _ _ _ _ _ _ _ _ _ _ _ rfl rfl rfl rfl rfl rfl rfl rfl rfl rfl rfl rfl)).trans (arrKw_at m c _ g l).symm

/-- The third attention's values, after the run. -/
def arrVw (i : S17408x256.Idx) : EReal := (arrayGiven m c (i 0)).outVw (i 1)

/-- Where row `r` and column `n` of point `t`'s block of output 8 lie. -/
theorem placeVw (t : Fin cfg0.N) (r : Fin 512) (n : Fin 256) :
    ((View.whole main_v131_8).slice (win0_20.rect t)).emb (ix2 r n) = ix2 (rowOf t r) n := by
  blk_ext [rowOf, idx t]

/-- Output 8 after the run. -/
theorem arrayVw : (dats m 0 c).arrAt 20 cfg0.N = arrVw m c := by
  refine (dats m 0 c).arrAt_eq_of_covers 20 _ (by decide +kernel) fun t hf y => ?_
  blk_simp
  rw [after0_20]
  idx_vars y
  rw [block_vw, placeVw]
  exact congrArg (fun G => Given.outVw G y1) (given_of m c t y0 _ _ _ _ _ _ _ _ _ _ _ _ rfl rfl rfl rfl rfl rfl rfl rfl rfl rfl rfl rfl)

/-- The gates, after the run. -/
def arrGate (i : S17408x3072.Idx) : EReal := (arrayGiven m c (i 0)).outGate (i 1)

/-- Where row `r` and column `n` of point `t`'s block of output 9 lie. -/
theorem placeGate (t : Fin cfg0.N) (r : Fin 512) (n : Fin 3072) :
    ((View.whole main_v131_9).slice (win0_21.rect t)).emb (ix2 r n) = ix2 (rowOf t r) n := by
  blk_ext [rowOf, idx t]

/-- Output 9 after the run. -/
theorem arrayGate : (dats m 0 c).arrAt 21 cfg0.N = arrGate m c := by
  refine (dats m 0 c).arrAt_eq_of_covers 21 _ (by decide +kernel) fun t hf y => ?_
  blk_simp
  rw [after0_21]
  idx_vars y
  rw [block_gate, placeGate]
  exact congrArg (fun G => Given.outGate G y1) (given_of m c t y0 _ _ _ _ _ _ _ _ _ _ _ _ rfl rfl rfl rfl rfl rfl rfl rfl rfl rfl rfl rfl)

end Cert.Project

end
-- ==== Proof.Project.Terms.lean ====
module

public import proofs.«01_k».proof.Proof.Project.Rows
public import proofs.«01_k».proof.Proof.Gen.Reference4Ideal.Run
public import Idealize.ShloMosaic.Lib.Pointwise

/-! The reference's terms: what its run leaves, of its arguments. -/

@[expose] public section

set_option maxRecDepth 16384

noncomputable section

namespace Cert.Project.Reference

open Cert.Reference4Ideal Cert.Reference4Ideal.Gen Idealize.ShloMosaic Idealize.ShloMosaic.TcCoe Idealize.SL.Sem

/-- The latent rows, normed and modulated. -/
def normL (x : FVec Ideal S4x4096x1024 .f32) (md : FVec Ideal S4x6144 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] md slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] md slices_S4x6144_S4x1024_0_0)))

/-- The context rows, normed and modulated. -/
def normC (y : FVec Ideal S4x256x1024 .f32) (mc : FVec Ideal S6144 .f32) (g : FVec Ideal S1024 .f32) : FVec Ideal S4x256x1024 .f32 :=
  addf (mulf (mulf (mulf y (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf y y) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![1024] mc slices_S6144_S1024_1024))))) (broadcastInDim S4x256x1024 ![0, 1, 2] bcast_S1x1x1024_S4x256x1024_0_1_2 (broadcastInDim S1x1x1024 ![2] bcast_S1024_S1x1x1024_2 (extractStridedSlice S1024 ![0] mc slices_S6144_S1024_0)))

/-- The latent rows, then the context rows. -/
def rows (a : FVec Ideal S4x4096x1024 .f32) (b : FVec Ideal S4x256x1024 .f32) : FVec Ideal S17408x1024 .f32 :=
  concatenate S17408x1024 0 [⟨S16384x1024, (shapeCast S16384x1024 a shapeCasts_S4x4096x1024_S16384x1024)⟩, ⟨S1024x1024, (shapeCast S1024x1024 b shapeCasts_S4x256x1024_S1024x1024)⟩] concatenates_S16384x1024_S1024x1024_S17408x1024_d0

/-- The projection. -/
def proj (h : FVec Ideal S17408x1024 .f32) (w : FVec Ideal S1024x5280 .f32) : FVec Ideal S17408x5280 .f32 :=
  Host.dotGeneral dot_S17408x1024_S1024x5280_S17408x5280_1_0_0_1_n_n none h w

/-- The cosines of the first attention's rotation. -/
def cosA : FVec Ideal S4096x16 .f32 :=
  Host.cos (concatenate S4096x16 1 [⟨S4096x8, (mulf (broadcastInDim S4096x8 ![0, 1] bcast_S4096x1_S4096x8_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩, ⟨S4096x8, (mulf (broadcastInDim S4096x8 ![0, 1] bcast_S4096x1_S4096x8_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩] concatenates_S4096x8_S4096x8_S4096x16_d1)

/-- The sines of the first attention's rotation. -/
def sinA : FVec Ideal S4096x16 .f32 :=
  Host.sin (concatenate S4096x16 1 [⟨S4096x8, (mulf (broadcastInDim S4096x8 ![0, 1] bcast_S4096x1_S4096x8_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩, ⟨S4096x8, (mulf (broadcastInDim S4096x8 ![0, 1] bcast_S4096x1_S4096x8_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x8 ![0, 1] bcast_S1x8_S4096x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))))))⟩] concatenates_S4096x8_S4096x8_S4096x16_d1)

/-- The cosines of the other attentions' rotation. -/
def cosH : FVec Ideal S4096x32 .f32 :=
  Host.cos (concatenate S4096x32 1 [⟨S4096x16, (mulf (broadcastInDim S4096x16 ![0, 1] bcast_S4096x1_S4096x16_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S4096x16, (mulf (broadcastInDim S4096x16 ![0, 1] bcast_S4096x1_S4096x16_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S4096x16_S4096x16_S4096x32_d1)

/-- The sines of the other attentions' rotation. -/
def sinH : FVec Ideal S4096x32 .f32 :=
  Host.sin (concatenate S4096x32 1 [⟨S4096x16, (mulf (broadcastInDim S4096x16 ![0, 1] bcast_S4096x1_S4096x16_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S4096x16, (mulf (broadcastInDim S4096x16 ![0, 1] bcast_S4096x1_S4096x16_0_1 (broadcastInDim S4096x1 ![0] bcast_S4096_S4096x1_0 (shapeCast S4096 (broadcastInDim S64x64 ![0, 1] bcast_S1x64_S64x64_0_1 (shapeCast S1x64 (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S4096x16_S4096x16_S4096x32_d1)

/-- The compressed queries, normed. -/
def cq (p : FVec Ideal S17408x5280 .f32) (g : FVec Ideal S384 .f32) : FVec Ideal S17408x384 .f32 :=
  mulf (mulf (extractStridedSlice S17408x384 ![0, 0] p slices_S17408x5280_S17408x384_0_0) (broadcastInDim S17408x384 ![0, 1] bcast_S17408x1_S17408x384_0_1 (Host.rsqrt (addf (Host.divf (broadcastInDim S17408x1 ![0] bcast_S17408_S17408x1_0 (Host.reduceAdd (mulf (extractStridedSlice S17408x384 ![0, 0] p slices_S17408x5280_S17408x384_0_0) (extractStridedSlice S17408x384 ![0, 0] p slices_S17408x5280_S17408x384_0_0)) (constant S_ .f32 0x00000000#32) reducesTo_S17408x384_S17408_d1 h_S_)) (broadcastInDim S17408x1 ![] bcast_S_S17408x1 (constant S_ .f32 0x43C00000#32))) (broadcastInDim S17408x1 ![] bcast_S_S17408x1 (constant S_ .f32 0x358637BD#32)))))) (broadcastInDim S17408x384 ![0, 1] bcast_S1x384_S17408x384_0_1 (broadcastInDim S1x384 ![1] bcast_S384_S1x384_1 g))

/-- The first attention's queries. -/
def qa (q : FVec Ideal S17408x384 .f32) (w : FVec Ideal S384x768 .f32) : FVec Ideal S17408x8x96 .f32 :=
  shapeCast S17408x8x96 (Host.dotGeneral dot_S17408x384_S384x768_S17408x768_1_0_0_1_n_n none q w) shapeCasts_S17408x768_S17408x8x96

/-- Their lanes that are rotated. -/
def lanesQa (q : FVec Ideal S17408x8x96 .f32) : FVec Ideal S17408x8x32 .f32 :=
  extractStridedSlice S17408x8x32 ![0, 0, 64] q slices_S17408x8x96_S17408x8x32_0_0_64

/-- Their rotation. -/
def rotQa (r : FVec Ideal S17408x8x32 .f32) (c : FVec Ideal S4096x16 .f32) (s : FVec Ideal S4096x16 .f32) : FVec Ideal S17408x8x32 .f32 :=
  concatenate S17408x8x32 0 [⟨S16384x8x32, (shapeCast S16384x8x32 (concatenate S4x4096x8x32 3 [⟨S4x4096x8x16, (subf (mulf (extractStridedSlice S4x4096x8x16 ![0, 0, 0, 0] (shapeCast S4x4096x8x32 (extractStridedSlice S16384x8x32 ![0, 0, 0] r slices_S17408x8x32_S16384x8x32_0_0_0) shapeCasts_S16384x8x32_S4x4096x8x32) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 c))) (mulf (extractStridedSlice S4x4096x8x16 ![0, 0, 0, 16] (shapeCast S4x4096x8x32 (extractStridedSlice S16384x8x32 ![0, 0, 0] r slices_S17408x8x32_S16384x8x32_0_0_0) shapeCasts_S16384x8x32_S4x4096x8x32) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 s))))⟩, ⟨S4x4096x8x16, (addf (mulf (extractStridedSlice S4x4096x8x16 ![0, 0, 0, 16] (shapeCast S4x4096x8x32 (extractStridedSlice S16384x8x32 ![0, 0, 0] r slices_S17408x8x32_S16384x8x32_0_0_0) shapeCasts_S16384x8x32_S4x4096x8x32) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 c))) (mulf (extractStridedSlice S4x4096x8x16 ![0, 0, 0, 0] (shapeCast S4x4096x8x32 (extractStridedSlice S16384x8x32 ![0, 0, 0] r slices_S17408x8x32_S16384x8x32_0_0_0) shapeCasts_S16384x8x32_S4x4096x8x32) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 s))))⟩] concatenates_S4x4096x8x16_S4x4096x8x16_S4x4096x8x32_d3) shapeCasts_S4x4096x8x32_S16384x8x32)⟩, ⟨S1024x8x32, (extractStridedSlice S1024x8x32 ![16384, 0, 0] r slices_S17408x8x32_S1024x8x32_16384_0_0)⟩] concatenates_S16384x8x32_S1024x8x32_S17408x8x32_d0

/-- The first attention's queries as the run leaves them. -/
def outQa (q : FVec Ideal S17408x8x96 .f32) (r : FVec Ideal S17408x8x32 .f32) : FVec Ideal S17408x1024 .bf16 :=
  truncf .bf16 (shapeCast S17408x1024 (broadcastInDim S17408x8x1x128 ![0, 1, 3] bcast_S17408x8x128_S17408x8x1x128_0_1_3 (pad S17408x8x128 ![0, 0, 0] ![0, 0, 32] ![0, 0, 0] (concatenate S17408x8x96 2 [⟨S17408x8x64, (extractStridedSlice S17408x8x64 ![0, 0, 0] q slices_S17408x8x96_S17408x8x64_0_0_0)⟩, ⟨S17408x8x32, r⟩] concatenates_S17408x8x64_S17408x8x32_S17408x8x96_d2) (sitofp .f32 (constantI S_ 32 0#32)) pads_S17408x8x96_S17408x8x128_000_000_0320 h_S_)) shapeCasts_S17408x8x1x128_S17408x1024) bitsLt_bf16_f32

/-- The compressed keys and values, normed. -/
def ckv (p : FVec Ideal S17408x5280 .f32) (g : FVec Ideal S256 .f32) : FVec Ideal S17408x256 .f32 :=
  mulf (mulf (extractStridedSlice S17408x256 ![0, 384] p slices_S17408x5280_S17408x256_0_384) (broadcastInDim S17408x256 ![0, 1] bcast_S17408x1_S17408x256_0_1 (Host.rsqrt (addf (Host.divf (broadcastInDim S17408x1 ![0] bcast_S17408_S17408x1_0 (Host.reduceAdd (mulf (extractStridedSlice S17408x256 ![0, 384] p slices_S17408x5280_S17408x256_0_384) (extractStridedSlice S17408x256 ![0, 384] p slices_S17408x5280_S17408x256_0_384)) (constant S_ .f32 0x00000000#32) reducesTo_S17408x256_S17408_d1 h_S_)) (broadcastInDim S17408x1 ![] bcast_S_S17408x1 (constant S_ .f32 0x43800000#32))) (broadcastInDim S17408x1 ![] bcast_S_S17408x1 (constant S_ .f32 0x358637BD#32)))))) (broadcastInDim S17408x256 ![0, 1] bcast_S1x256_S17408x256_0_1 (broadcastInDim S1x256 ![1] bcast_S256_S1x256_1 g))

/-- The first attention's keys and values. -/
def kv (q : FVec Ideal S17408x256 .f32) (w : FVec Ideal S256x1024 .f32) : FVec Ideal S17408x8x128 .f32 :=
  shapeCast S17408x8x128 (Host.dotGeneral dot_S17408x256_S256x1024_S17408x1024_1_0_0_1_n_n none q w) shapeCasts_S17408x1024_S17408x8x128

/-- The lanes of the keys that are rotated. -/
def lanesKr (p : FVec Ideal S17408x5280 .f32) : FVec Ideal S17408x1x32 .f32 :=
  broadcastInDim S17408x1x32 ![0, 2] bcast_S17408x32_S17408x1x32_0_2 (extractStridedSlice S17408x32 ![0, 640] p slices_S17408x5280_S17408x32_0_640)

/-- Their rotation. -/
def rotKr (r : FVec Ideal S17408x1x32 .f32) (c : FVec Ideal S4096x16 .f32) (s : FVec Ideal S4096x16 .f32) : FVec Ideal S17408x1x32 .f32 :=
  concatenate S17408x1x32 0 [⟨S16384x1x32, (shapeCast S16384x1x32 (concatenate S4x4096x1x32 3 [⟨S4x4096x1x16, (subf (mulf (extractStridedSlice S4x4096x1x16 ![0, 0, 0, 0] (shapeCast S4x4096x1x32 (extractStridedSlice S16384x1x32 ![0, 0, 0] r slices_S17408x1x32_S16384x1x32_0_0_0) shapeCasts_S16384x1x32_S4x4096x1x32) slices_S4x4096x1x32_S4x4096x1x16_0_0_0_0) (broadcastInDim S4x4096x1x16 ![0, 1, 2, 3] bcast_S1x4096x1x16_S4x4096x1x16_0_1_2_3 (broadcastInDim S1x4096x1x16 ![1, 3] bcast_S4096x16_S1x4096x1x16_1_3 c))) (mulf (extractStridedSlice S4x4096x1x16 ![0, 0, 0, 16] (shapeCast S4x4096x1x32 (extractStridedSlice S16384x1x32 ![0, 0, 0] r slices_S17408x1x32_S16384x1x32_0_0_0) shapeCasts_S16384x1x32_S4x4096x1x32) slices_S4x4096x1x32_S4x4096x1x16_0_0_0_16) (broadcastInDim S4x4096x1x16 ![0, 1, 2, 3] bcast_S1x4096x1x16_S4x4096x1x16_0_1_2_3 (broadcastInDim S1x4096x1x16 ![1, 3] bcast_S4096x16_S1x4096x1x16_1_3 s))))⟩, ⟨S4x4096x1x16, (addf (mulf (extractStridedSlice S4x4096x1x16 ![0, 0, 0, 16] (shapeCast S4x4096x1x32 (extractStridedSlice S16384x1x32 ![0, 0, 0] r slices_S17408x1x32_S16384x1x32_0_0_0) shapeCasts_S16384x1x32_S4x4096x1x32) slices_S4x4096x1x32_S4x4096x1x16_0_0_0_16) (broadcastInDim S4x4096x1x16 ![0, 1, 2, 3] bcast_S1x4096x1x16_S4x4096x1x16_0_1_2_3 (broadcastInDim S1x4096x1x16 ![1, 3] bcast_S4096x16_S1x4096x1x16_1_3 c))) (mulf (extractStridedSlice S4x4096x1x16 ![0, 0, 0, 0] (shapeCast S4x4096x1x32 (extractStridedSlice S16384x1x32 ![0, 0, 0] r slices_S17408x1x32_S16384x1x32_0_0_0) shapeCasts_S16384x1x32_S4x4096x1x32) slices_S4x4096x1x32_S4x4096x1x16_0_0_0_0) (broadcastInDim S4x4096x1x16 ![0, 1, 2, 3] bcast_S1x4096x1x16_S4x4096x1x16_0_1_2_3 (broadcastInDim S1x4096x1x16 ![1, 3] bcast_S4096x16_S1x4096x1x16_1_3 s))))⟩] concatenates_S4x4096x1x16_S4x4096x1x16_S4x4096x1x32_d3) shapeCasts_S4x4096x1x32_S16384x1x32)⟩, ⟨S1024x1x32, (extractStridedSlice S1024x1x32 ![16384, 0, 0] r slices_S17408x1x32_S1024x1x32_16384_0_0)⟩] concatenates_S16384x1x32_S1024x1x32_S17408x1x32_d0

/-- The first attention's keys as the run leaves them. -/
def outKa (q : FVec Ideal S17408x8x128 .f32) (r : FVec Ideal S17408x1x32 .f32) : FVec Ideal S17408x1024 .bf16 :=
  truncf .bf16 (shapeCast S17408x1024 (broadcastInDim S17408x8x1x128 ![0, 1, 3] bcast_S17408x8x128_S17408x8x1x128_0_1_3 (pad S17408x8x128 ![0, 0, 0] ![0, 0, 32] ![0, 0, 0] (concatenate S17408x8x96 2 [⟨S17408x8x64, (extractStridedSlice S17408x8x64 ![0, 0, 0] q slices_S17408x8x128_S17408x8x64_0_0_0)⟩, ⟨S17408x8x32, (broadcastInDim S17408x8x32 ![0, 1, 2] bcast_S17408x1x32_S17408x8x32_0_1_2 r)⟩] concatenates_S17408x8x64_S17408x8x32_S17408x8x96_d2) (sitofp .f32 (constantI S_ 32 0#32)) pads_S17408x8x96_S17408x8x128_000_000_0320 h_S_)) shapeCasts_S17408x8x1x128_S17408x1024) bitsLt_bf16_f32

/-- The first attention's values as the run leaves them. -/
def outVa (q : FVec Ideal S17408x8x128 .f32) : FVec Ideal S17408x512 .bf16 :=
  truncf .bf16 (shapeCast S17408x512 (broadcastInDim S17408x8x1x64 ![0, 1, 3] bcast_S17408x8x64_S17408x8x1x64_0_1_3 (pad S17408x8x64 ![0, 0, 0] ![0, 0, 0] ![0, 0, 0] (extractStridedSlice S17408x8x64 ![0, 0, 64] q slices_S17408x8x128_S17408x8x64_0_0_64) (sitofp .f32 (constantI S_ 32 0#32)) pads_S17408x8x64_S17408x8x64_000_000_000 h_S_)) shapeCasts_S17408x8x1x64_S17408x512) bitsLt_bf16_f32

/-- The second attention's queries by heads. -/
def headsQb (p : FVec Ideal S17408x5280 .f32) : FVec Ideal S17408x8x64 .f32 :=
  shapeCast S17408x8x64 (extractStridedSlice S17408x512 ![0, 672] p slices_S17408x5280_S17408x512_0_672) shapeCasts_S17408x512_S17408x8x64

/-- Their norm. -/
def normQb (q : FVec Ideal S17408x8x64 .f32) (g : FVec Ideal S64 .f32) : FVec Ideal S17408x8x64 .f32 :=
  mulf (mulf q (broadcastInDim S17408x8x64 ![0, 1, 2] bcast_S17408x8x1_S17408x8x64_0_1_2 (Host.rsqrt (addf (Host.divf (broadcastInDim S17408x8x1 ![0, 1] bcast_S17408x8_S17408x8x1_0_1 (Host.reduceAdd (mulf q q) (constant S_ .f32 0x00000000#32) reducesTo_S17408x8x64_S17408x8_d2 h_S_)) (broadcastInDim S17408x8x1 ![] bcast_S_S17408x8x1 (constant S_ .f32 0x42800000#32))) (broadcastInDim S17408x8x1 ![] bcast_S_S17408x8x1 (constant S_ .f32 0x358637BD#32)))))) (broadcastInDim S17408x8x64 ![0, 1, 2] bcast_S1x1x64_S17408x8x64_0_1_2 (broadcastInDim S1x1x64 ![2] bcast_S64_S1x1x64_2 g))

/-- Their rotation. -/
def rotQb (r : FVec Ideal S17408x8x64 .f32) (c : FVec Ideal S4096x32 .f32) (s : FVec Ideal S4096x32 .f32) : FVec Ideal S17408x8x64 .f32 :=
  concatenate S17408x8x64 0 [⟨S16384x8x64, (shapeCast S16384x8x64 (concatenate S4x4096x8x64 3 [⟨S4x4096x8x32, (subf (mulf (extractStridedSlice S4x4096x8x32 ![0, 0, 0, 0] (shapeCast S4x4096x8x64 (extractStridedSlice S16384x8x64 ![0, 0, 0] r slices_S17408x8x64_S16384x8x64_0_0_0) shapeCasts_S16384x8x64_S4x4096x8x64) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 c))) (mulf (extractStridedSlice S4x4096x8x32 ![0, 0, 0, 32] (shapeCast S4x4096x8x64 (extractStridedSlice S16384x8x64 ![0, 0, 0] r slices_S17408x8x64_S16384x8x64_0_0_0) shapeCasts_S16384x8x64_S4x4096x8x64) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 s))))⟩, ⟨S4x4096x8x32, (addf (mulf (extractStridedSlice S4x4096x8x32 ![0, 0, 0, 32] (shapeCast S4x4096x8x64 (extractStridedSlice S16384x8x64 ![0, 0, 0] r slices_S17408x8x64_S16384x8x64_0_0_0) shapeCasts_S16384x8x64_S4x4096x8x64) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 c))) (mulf (extractStridedSlice S4x4096x8x32 ![0, 0, 0, 0] (shapeCast S4x4096x8x64 (extractStridedSlice S16384x8x64 ![0, 0, 0] r slices_S17408x8x64_S16384x8x64_0_0_0) shapeCasts_S16384x8x64_S4x4096x8x64) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 s))))⟩] concatenates_S4x4096x8x32_S4x4096x8x32_S4x4096x8x64_d3) shapeCasts_S4x4096x8x64_S16384x8x64)⟩, ⟨S1024x8x64, (extractStridedSlice S1024x8x64 ![16384, 0, 0] r slices_S17408x8x64_S1024x8x64_16384_0_0)⟩] concatenates_S16384x8x64_S1024x8x64_S17408x8x64_d0

/-- The second attention's queries as the run leaves them. -/
def outQb (r : FVec Ideal S17408x8x64 .f32) : FVec Ideal S17408x512 .bf16 :=
  truncf .bf16 (shapeCast S17408x512 (broadcastInDim S17408x8x1x64 ![0, 1, 3] bcast_S17408x8x64_S17408x8x1x64_0_1_3 (pad S17408x8x64 ![0, 0, 0] ![0, 0, 0] ![0, 0, 0] r (sitofp .f32 (constantI S_ 32 0#32)) pads_S17408x8x64_S17408x8x64_000_000_000 h_S_)) shapeCasts_S17408x8x1x64_S17408x512) bitsLt_bf16_f32

/-- The second attention's keys by heads. -/
def headsKb (p : FVec Ideal S17408x5280 .f32) : FVec Ideal S17408x2x64 .f32 :=
  shapeCast S17408x2x64 (extractStridedSlice S17408x128 ![0, 1184] p slices_S17408x5280_S17408x128_0_1184) shapeCasts_S17408x128_S17408x2x64

/-- Their norm. -/
def normKb (q : FVec Ideal S17408x2x64 .f32) (g : FVec Ideal S64 .f32) : FVec Ideal S17408x2x64 .f32 :=
  mulf (mulf q (broadcastInDim S17408x2x64 ![0, 1, 2] bcast_S17408x2x1_S17408x2x64_0_1_2 (Host.rsqrt (addf (Host.divf (broadcastInDim S17408x2x1 ![0, 1] bcast_S17408x2_S17408x2x1_0_1 (Host.reduceAdd (mulf q q) (constant S_ .f32 0x00000000#32) reducesTo_S17408x2x64_S17408x2_d2 h_S_)) (broadcastInDim S17408x2x1 ![] bcast_S_S17408x2x1 (constant S_ .f32 0x42800000#32))) (broadcastInDim S17408x2x1 ![] bcast_S_S17408x2x1 (constant S_ .f32 0x358637BD#32)))))) (broadcastInDim S17408x2x64 ![0, 1, 2] bcast_S1x1x64_S17408x2x64_0_1_2 (broadcastInDim S1x1x64 ![2] bcast_S64_S1x1x64_2 g))

/-- Their rotation. -/
def rotKb (r : FVec Ideal S17408x2x64 .f32) (c : FVec Ideal S4096x32 .f32) (s : FVec Ideal S4096x32 .f32) : FVec Ideal S17408x2x64 .f32 :=
  concatenate S17408x2x64 0 [⟨S16384x2x64, (shapeCast S16384x2x64 (concatenate S4x4096x2x64 3 [⟨S4x4096x2x32, (subf (mulf (extractStridedSlice S4x4096x2x32 ![0, 0, 0, 0] (shapeCast S4x4096x2x64 (extractStridedSlice S16384x2x64 ![0, 0, 0] r slices_S17408x2x64_S16384x2x64_0_0_0) shapeCasts_S16384x2x64_S4x4096x2x64) slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 c))) (mulf (extractStridedSlice S4x4096x2x32 ![0, 0, 0, 32] (shapeCast S4x4096x2x64 (extractStridedSlice S16384x2x64 ![0, 0, 0] r slices_S17408x2x64_S16384x2x64_0_0_0) shapeCasts_S16384x2x64_S4x4096x2x64) slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 s))))⟩, ⟨S4x4096x2x32, (addf (mulf (extractStridedSlice S4x4096x2x32 ![0, 0, 0, 32] (shapeCast S4x4096x2x64 (extractStridedSlice S16384x2x64 ![0, 0, 0] r slices_S17408x2x64_S16384x2x64_0_0_0) shapeCasts_S16384x2x64_S4x4096x2x64) slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 c))) (mulf (extractStridedSlice S4x4096x2x32 ![0, 0, 0, 0] (shapeCast S4x4096x2x64 (extractStridedSlice S16384x2x64 ![0, 0, 0] r slices_S17408x2x64_S16384x2x64_0_0_0) shapeCasts_S16384x2x64_S4x4096x2x64) slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 s))))⟩] concatenates_S4x4096x2x32_S4x4096x2x32_S4x4096x2x64_d3) shapeCasts_S4x4096x2x64_S16384x2x64)⟩, ⟨S1024x2x64, (extractStridedSlice S1024x2x64 ![16384, 0, 0] r slices_S17408x2x64_S1024x2x64_16384_0_0)⟩] concatenates_S16384x2x64_S1024x2x64_S17408x2x64_d0

/-- The second attention's keys as the run leaves them. -/
def outKb (r : FVec Ideal S17408x2x64 .f32) : FVec Ideal S17408x256 .bf16 :=
  truncf .bf16 (shapeCast S17408x256 (broadcastInDim S17408x2x2x64 ![0, 1, 2, 3] bcast_S17408x2x1x64_S17408x2x2x64_0_1_2_3 (broadcastInDim S17408x2x1x64 ![0, 1, 3] bcast_S17408x2x64_S17408x2x1x64_0_1_3 (pad S17408x2x64 ![0, 0, 0] ![0, 0, 0] ![0, 0, 0] r (sitofp .f32 (constantI S_ 32 0#32)) pads_S17408x2x64_S17408x2x64_000_000_000 h_S_))) shapeCasts_S17408x2x2x64_S17408x256) bitsLt_bf16_f32

/-- The second attention's values as the run leaves them. -/
def outVb (p : FVec Ideal S17408x5280 .f32) : FVec Ideal S17408x256 .bf16 :=
  truncf .bf16 (shapeCast S17408x256 (broadcastInDim S17408x2x2x64 ![0, 1, 2, 3] bcast_S17408x2x1x64_S17408x2x2x64_0_1_2_3 (broadcastInDim S17408x2x1x64 ![0, 1, 3] bcast_S17408x2x64_S17408x2x1x64_0_1_3 (pad S17408x2x64 ![0, 0, 0] ![0, 0, 0] ![0, 0, 0] (shapeCast S17408x2x64 (extractStridedSlice S17408x128 ![0, 1312] p slices_S17408x5280_S17408x128_0_1312) shapeCasts_S17408x128_S17408x2x64) (sitofp .f32 (constantI S_ 32 0#32)) pads_S17408x2x64_S17408x2x64_000_000_000 h_S_))) shapeCasts_S17408x2x2x64_S17408x256) bitsLt_bf16_f32

/-- The third attention's queries by heads. -/
def headsQw (p : FVec Ideal S17408x5280 .f32) : FVec Ideal S17408x8x64 .f32 :=
  shapeCast S17408x8x64 (extractStridedSlice S17408x512 ![0, 1440] p slices_S17408x5280_S17408x512_0_1440) shapeCasts_S17408x512_S17408x8x64

/-- Their rotation. -/
def rotQw (r : FVec Ideal S17408x8x64 .f32) (c : FVec Ideal S4096x32 .f32) (s : FVec Ideal S4096x32 .f32) : FVec Ideal S17408x8x64 .f32 :=
  concatenate S17408x8x64 0 [⟨S16384x8x64, (shapeCast S16384x8x64 (concatenate S4x4096x8x64 3 [⟨S4x4096x8x32, (subf (mulf (extractStridedSlice S4x4096x8x32 ![0, 0, 0, 0] (shapeCast S4x4096x8x64 (extractStridedSlice S16384x8x64 ![0, 0, 0] r slices_S17408x8x64_S16384x8x64_0_0_0) shapeCasts_S16384x8x64_S4x4096x8x64) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 c))) (mulf (extractStridedSlice S4x4096x8x32 ![0, 0, 0, 32] (shapeCast S4x4096x8x64 (extractStridedSlice S16384x8x64 ![0, 0, 0] r slices_S17408x8x64_S16384x8x64_0_0_0) shapeCasts_S16384x8x64_S4x4096x8x64) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 s))))⟩, ⟨S4x4096x8x32, (addf (mulf (extractStridedSlice S4x4096x8x32 ![0, 0, 0, 32] (shapeCast S4x4096x8x64 (extractStridedSlice S16384x8x64 ![0, 0, 0] r slices_S17408x8x64_S16384x8x64_0_0_0) shapeCasts_S16384x8x64_S4x4096x8x64) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 c))) (mulf (extractStridedSlice S4x4096x8x32 ![0, 0, 0, 0] (shapeCast S4x4096x8x64 (extractStridedSlice S16384x8x64 ![0, 0, 0] r slices_S17408x8x64_S16384x8x64_0_0_0) shapeCasts_S16384x8x64_S4x4096x8x64) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 s))))⟩] concatenates_S4x4096x8x32_S4x4096x8x32_S4x4096x8x64_d3) shapeCasts_S4x4096x8x64_S16384x8x64)⟩, ⟨S1024x8x64, (extractStridedSlice S1024x8x64 ![16384, 0, 0] r slices_S17408x8x64_S1024x8x64_16384_0_0)⟩] concatenates_S16384x8x64_S1024x8x64_S17408x8x64_d0

/-- The third attention's queries as the run leaves them. -/
def outQw (r : FVec Ideal S17408x8x64 .f32) : FVec Ideal S17408x512 .bf16 :=
  truncf .bf16 (shapeCast S17408x512 (broadcastInDim S17408x8x1x64 ![0, 1, 3] bcast_S17408x8x64_S17408x8x1x64_0_1_3 (pad S17408x8x64 ![0, 0, 0] ![0, 0, 0] ![0, 0, 0] (mulf r (broadcastInDim S17408x8x64 ![] bcast_S_S17408x8x64 (constant S_ .f32 0x3E000000#32))) (sitofp .f32 (constantI S_ 32 0#32)) pads_S17408x8x64_S17408x8x64_000_000_000 h_S_)) shapeCasts_S17408x8x1x64_S17408x512) bitsLt_bf16_f32

/-- The third attention's keys by heads. -/
def headsKw (p : FVec Ideal S17408x5280 .f32) : FVec Ideal S17408x2x64 .f32 :=
  shapeCast S17408x2x64 (extractStridedSlice S17408x128 ![0, 1952] p slices_S17408x5280_S17408x128_0_1952) shapeCasts_S17408x128_S17408x2x64

/-- Their rotation. -/
def rotKw (r : FVec Ideal S17408x2x64 .f32) (c : FVec Ideal S4096x32 .f32) (s : FVec Ideal S4096x32 .f32) : FVec Ideal S17408x2x64 .f32 :=
  concatenate S17408x2x64 0 [⟨S16384x2x64, (shapeCast S16384x2x64 (concatenate S4x4096x2x64 3 [⟨S4x4096x2x32, (subf (mulf (extractStridedSlice S4x4096x2x32 ![0, 0, 0, 0] (shapeCast S4x4096x2x64 (extractStridedSlice S16384x2x64 ![0, 0, 0] r slices_S17408x2x64_S16384x2x64_0_0_0) shapeCasts_S16384x2x64_S4x4096x2x64) slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 c))) (mulf (extractStridedSlice S4x4096x2x32 ![0, 0, 0, 32] (shapeCast S4x4096x2x64 (extractStridedSlice S16384x2x64 ![0, 0, 0] r slices_S17408x2x64_S16384x2x64_0_0_0) shapeCasts_S16384x2x64_S4x4096x2x64) slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 s))))⟩, ⟨S4x4096x2x32, (addf (mulf (extractStridedSlice S4x4096x2x32 ![0, 0, 0, 32] (shapeCast S4x4096x2x64 (extractStridedSlice S16384x2x64 ![0, 0, 0] r slices_S17408x2x64_S16384x2x64_0_0_0) shapeCasts_S16384x2x64_S4x4096x2x64) slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 c))) (mulf (extractStridedSlice S4x4096x2x32 ![0, 0, 0, 0] (shapeCast S4x4096x2x64 (extractStridedSlice S16384x2x64 ![0, 0, 0] r slices_S17408x2x64_S16384x2x64_0_0_0) shapeCasts_S16384x2x64_S4x4096x2x64) slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 s))))⟩] concatenates_S4x4096x2x32_S4x4096x2x32_S4x4096x2x64_d3) shapeCasts_S4x4096x2x64_S16384x2x64)⟩, ⟨S1024x2x64, (extractStridedSlice S1024x2x64 ![16384, 0, 0] r slices_S17408x2x64_S1024x2x64_16384_0_0)⟩] concatenates_S16384x2x64_S1024x2x64_S17408x2x64_d0

/-- The third attention's keys as the run leaves them. -/
def outKw (r : FVec Ideal S17408x2x64 .f32) : FVec Ideal S17408x256 .bf16 :=
  truncf .bf16 (shapeCast S17408x256 (broadcastInDim S17408x2x2x64 ![0, 1, 2, 3] bcast_S17408x2x1x64_S17408x2x2x64_0_1_2_3 (broadcastInDim S17408x2x1x64 ![0, 1, 3] bcast_S17408x2x64_S17408x2x1x64_0_1_3 (pad S17408x2x64 ![0, 0, 0] ![0, 0, 0] ![0, 0, 0] r (sitofp .f32 (constantI S_ 32 0#32)) pads_S17408x2x64_S17408x2x64_000_000_000 h_S_))) shapeCasts_S17408x2x2x64_S17408x256) bitsLt_bf16_f32

/-- The third attention's values as the run leaves them. -/
def outVw (p : FVec Ideal S17408x5280 .f32) : FVec Ideal S17408x256 .bf16 :=
  truncf .bf16 (shapeCast S17408x256 (broadcastInDim S17408x2x2x64 ![0, 1, 2, 3] bcast_S17408x2x1x64_S17408x2x2x64_0_1_2_3 (broadcastInDim S17408x2x1x64 ![0, 1, 3] bcast_S17408x2x64_S17408x2x1x64_0_1_3 (pad S17408x2x64 ![0, 0, 0] ![0, 0, 0] ![0, 0, 0] (shapeCast S17408x2x64 (extractStridedSlice S17408x128 ![0, 2080] p slices_S17408x5280_S17408x128_0_2080) shapeCasts_S17408x128_S17408x2x64) (sitofp .f32 (constantI S_ 32 0#32)) pads_S17408x2x64_S17408x2x64_000_000_000 h_S_))) shapeCasts_S17408x2x2x64_S17408x256) bitsLt_bf16_f32

/-- The gates as the run leaves them. -/
def outGate (p : FVec Ideal S17408x5280 .f32) : FVec Ideal S17408x3072 .bf16 :=
  truncf .bf16 (Host.divf (broadcastInDim S17408x3072 ![] bcast_S_S17408x3072 (constant S_ .f32 0x3F800000#32)) (addf (broadcastInDim S17408x3072 ![] bcast_S_S17408x3072 (constant S_ .f32 0x3F800000#32)) (Host.exp (Host.negf (extractStridedSlice S17408x3072 ![0, 2208] p slices_S17408x5280_S17408x3072_0_2208))))) bitsLt_bf16_f32

variable (m : (ℓ : Loc nD τ sig) → Buf (Elt Ideal) ℓ) (c : Dev nD)

/-- The projection of the arguments. -/
def argP : FVec Ideal S17408x5280 .f32 :=
  proj (rows (normL (m ((c.tc : Thread nD τ).loc main_arg0)) (m ((c.tc : Thread nD τ).loc main_arg2)) (m ((c.tc : Thread nD τ).loc main_arg4))) (normC (m ((c.tc : Thread nD τ).loc main_arg1)) (m ((c.tc : Thread nD τ).loc main_arg3)) (m ((c.tc : Thread nD τ).loc main_arg4)))) (m ((c.tc : Thread nD τ).loc main_arg5))

/-- The first attention's queries of the arguments. -/
def argQa : FVec Ideal S17408x8x96 .f32 := qa (cq (argP m c) (m ((c.tc : Thread nD τ).loc main_arg6))) (m ((c.tc : Thread nD τ).loc main_arg8))

/-- The first attention's keys and values of the arguments. -/
def argKv : FVec Ideal S17408x8x128 .f32 := kv (ckv (argP m c) (m ((c.tc : Thread nD τ).loc main_arg7))) (m ((c.tc : Thread nD τ).loc main_arg9))

/-- The reference's run: its ten results are the projections of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v305) = outQa (argQa m c) (rotQa (lanesQa (argQa m c)) cosA sinA)
      ∧ r.2.mem ((c.tc : Thread nD τ).loc main_v309) = outKa (argKv m c) (rotKr (lanesKr (argP m c)) cosA sinA)
      ∧ r.2.mem ((c.tc : Thread nD τ).loc main_v313) = outVa (argKv m c)
      ∧ r.2.mem ((c.tc : Thread nD τ).loc main_v317) = outQb (rotQb (normQb (headsQb (argP m c)) (m ((c.tc : Thread nD τ).loc main_arg10))) cosH sinH)
      ∧ r.2.mem ((c.tc : Thread nD τ).loc main_v322) = outKb (rotKb (normKb (headsKb (argP m c)) (m ((c.tc : Thread nD τ).loc main_arg11))) cosH sinH)
      ∧ r.2.mem ((c.tc : Thread nD τ).loc main_v328) = outVb (argP m c)
      ∧ r.2.mem ((c.tc : Thread nD τ).loc main_v332) = outQw (rotQw (headsQw (argP m c)) cosH sinH)
      ∧ r.2.mem ((c.tc : Thread nD τ).loc main_v337) = outKw (rotKw (headsKw (argP m c)) cosH sinH)
      ∧ r.2.mem ((c.tc : Thread nD τ).loc main_v343) = outVw (argP m c)
      ∧ r.2.mem ((c.tc : Thread nD τ).loc main_v350) = outGate (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl, (h c).2.2.2.2.2.2.2.2.1.trans rfl, (h c).2.2.2.2.2.2.2.2.2.1.trans rfl, (h c).2.2.2.2.2.2.2.2.2.2⟩)
    (Cert.Reference4Ideal.Value.run m ρ)

end Cert.Project.Reference

end
-- ==== Proof.Project.Reference.lean ====
module

public import proofs.«01_k».proof.Proof.Project.Terms
public import Idealize.ShloMosaic.Lib.KernelVsHost

/-! The reference's terms, entry by entry. -/

@[expose] public section

set_option maxRecDepth 16384

noncomputable section

namespace Cert.Project.Reference

open Cert.Reference4Ideal Cert.Reference4Ideal.Gen Idealize.ShloMosaic Idealize.ShloMosaic.TcCoe Idealize.SL.Sem

/-- The integer zero as a number. -/
theorem sitofp_zero : (Scalar.sitofp FTy.f32 0#32 : Ideal FTy.f32) = 0 := Idealize.ShloMosaic.sitofp_zero

/-- At an entry. -/
theorem normL_at (x : FVec Ideal S4x4096x1024 .f32) (md : FVec Ideal S4x6144 .f32) (g : FVec Ideal S1024 .f32) (b : Fin 4) (s : Fin 4096) (n : Fin 1024) :
    normL x md g (ix3 b s n) = normed ⟨fun n => x (ix3 b s n), fun n => md (ix2 b (⟨n.val, by omega⟩ : Fin 6144)), fun n => md (ix2 b (⟨1024 + n.val, by omega⟩ : Fin 6144))⟩ (fun n => g (ix1 n)) n := by
  pointwise [normL, normed, rms]

/-- At an entry. -/
theorem normC_at (y : FVec Ideal S4x256x1024 .f32) (mc : FVec Ideal S6144 .f32) (g : FVec Ideal S1024 .f32) (b : Fin 4) (s : Fin 256) (n : Fin 1024) :
    normC y mc g (ix3 b s n) = normed ⟨fun n => y (ix3 b s n), fun n => mc (ix1 (⟨n.val, by omega⟩ : Fin 6144)), fun n => mc (ix1 (⟨1024 + n.val, by omega⟩ : Fin 6144))⟩ (fun n => g (ix1 n)) n := by
  pointwise [normC, normed, rms]

/-- At an entry. -/
theorem rows_latent (a : FVec Ideal S4x4096x1024 .f32) (b : FVec Ideal S4x256x1024 .f32) (s : Fin 4096) (k : Fin 4) (n : Fin 1024) :
    rows a b (ix2 (⟨4096 * k.val + s.val, by omega⟩ : Fin 17408) n) = a (ix3 k s n) := by
  pointwise [rows]
  all_goals repeat' split
  all_goals first | (exfalso; omega) | rfl

/-- At an entry. -/
theorem rows_context (a : FVec Ideal S4x4096x1024 .f32) (b : FVec Ideal S4x256x1024 .f32) (s : Fin 256) (k : Fin 4) (R : Fin 17408) (hR : R.val = 16384 + (256 * k.val + s.val)) (n : Fin 1024) :
    rows a b (ix2 R n) = b (ix3 k s n) := by
  pointwise [rows]
  all_goals repeat' split
  all_goals first | (exfalso; omega) | exact congrArg₂ (fun z v => b (ix3 z v n)) (Fin.ext (by simp only []; omega)) (Fin.ext (by simp only []; omega))

/-- At an entry. -/
theorem proj_at (h : FVec Ideal S17408x1024 .f32) (w : FVec Ideal S1024x5280 .f32) (R : Fin 17408) (j : Fin 5280) :
    proj h w (ix2 R j) = lin (fun n => h (ix2 R n)) fun n => w (ix2 n j) := by
  pointwise [proj, lin]

/-- At an entry. -/
theorem cq_at (p : FVec Ideal S17408x5280 .f32) (g : FVec Ideal S384 .f32) (R : Fin 17408) (j : Fin 384) :
    cq p g (ix2 R j) = rms 0x43C00000#32 (fun i : Fin 384 => p (ix2 R (⟨i.val, by omega⟩ : Fin 5280))) (fun i => g (ix1 i)) j := by
  pointwise [cq, rms]

/-- At an entry. -/
theorem ckv_at (p : FVec Ideal S17408x5280 .f32) (g : FVec Ideal S256 .f32) (R : Fin 17408) (j : Fin 256) :
    ckv p g (ix2 R j) = rms 0x43800000#32 (fun i : Fin 256 => p (ix2 R (⟨384 + i.val, by omega⟩ : Fin 5280))) (fun i => g (ix1 i)) j := by
  pointwise [ckv, rms]

/-- At an entry. -/
theorem qa_at (q : FVec Ideal S17408x384 .f32) (w : FVec Ideal S384x768 .f32) (R : Fin 17408) (k : Fin 8) (l : Fin 96) :
    qa q w (ix3 R k l) = lin (fun n => q (ix2 R n)) fun n => w (ix2 n (⟨96 * k.val + l.val, by omega⟩ : Fin 768)) := by
  pointwise [qa, lin]
  all_goals simp only [Nat.mul_comm]

/-- At an entry. -/
theorem kv_at (q : FVec Ideal S17408x256 .f32) (w : FVec Ideal S256x1024 .f32) (R : Fin 17408) (k : Fin 8) (l : Fin 128) :
    kv q w (ix3 R k l) = lin (fun n => q (ix2 R n)) fun n => w (ix2 n (⟨128 * k.val + l.val, by omega⟩ : Fin 1024)) := by
  pointwise [kv, lin]
  all_goals simp only [Nat.mul_comm]

/-- At an entry. -/
theorem lanesQa_at (q : FVec Ideal S17408x8x96 .f32) (R : Fin 17408) (k : Fin 8) (l : Fin 32) :
    lanesQa q (ix3 R k l) = q (ix3 R k (⟨64 + l.val, by omega⟩ : Fin 96)) := by
  pointwise [lanesQa]

/-- At an entry. -/
theorem lanesKr_at (p : FVec Ideal S17408x5280 .f32) (R : Fin 17408) (l : Fin 32) :
    lanesKr p (ix3 R 0 l) = p (ix2 R (⟨640 + l.val, by omega⟩ : Fin 5280)) := by
  pointwise [lanesKr]

/-- At an entry. -/
theorem headsQb_at (p : FVec Ideal S17408x5280 .f32) (R : Fin 17408) (k : Fin 8) (l : Fin 64) :
    headsQb p (ix3 R k l) = p (ix2 R (⟨672 + (64 * k.val + l.val), by omega⟩ : Fin 5280)) := by
  pointwise [headsQb]
  all_goals repeat' split
  all_goals first | (exfalso; omega) | exact congrArg (fun z => p (ix2 R z)) (Fin.ext (by first | omega | (simp only []; omega))) | rfl

/-- At an entry. -/
theorem headsKb_at (p : FVec Ideal S17408x5280 .f32) (R : Fin 17408) (k : Fin 2) (l : Fin 64) :
    headsKb p (ix3 R k l) = p (ix2 R (⟨1184 + (64 * k.val + l.val), by omega⟩ : Fin 5280)) := by
  pointwise [headsKb]
  all_goals repeat' split
  all_goals first | (exfalso; omega) | exact congrArg (fun z => p (ix2 R z)) (Fin.ext (by first | omega | (simp only []; omega))) | rfl

/-- At an entry. -/
theorem headsQw_at (p : FVec Ideal S17408x5280 .f32) (R : Fin 17408) (k : Fin 8) (l : Fin 64) :
    headsQw p (ix3 R k l) = p (ix2 R (⟨1440 + (64 * k.val + l.val), by omega⟩ : Fin 5280)) := by
  pointwise [headsQw]
  all_goals repeat' split
  all_goals first | (exfalso; omega) | exact congrArg (fun z => p (ix2 R z)) (Fin.ext (by first | omega | (simp only []; omega))) | rfl

/-- At an entry. -/
theorem headsKw_at (p : FVec Ideal S17408x5280 .f32) (R : Fin 17408) (k : Fin 2) (l : Fin 64) :
    headsKw p (ix3 R k l) = p (ix2 R (⟨1952 + (64 * k.val + l.val), by omega⟩ : Fin 5280)) := by
  pointwise [headsKw]
  all_goals repeat' split
  all_goals first | (exfalso; omega) | exact congrArg (fun z => p (ix2 R z)) (Fin.ext (by first | omega | (simp only []; omega))) | rfl

/-- At an entry. -/
theorem normQb_at (q : FVec Ideal S17408x8x64 .f32) (g : FVec Ideal S64 .f32) (R : Fin 17408) (k : Fin 8) (l : Fin 64) :
    normQb q g (ix3 R k l) = rms 0x42800000#32 (fun i => q (ix3 R k i)) (fun i => g (ix1 i)) l := by
  pointwise [normQb, rms]

/-- At an entry. -/
theorem normKb_at (q : FVec Ideal S17408x2x64 .f32) (g : FVec Ideal S64 .f32) (R : Fin 17408) (k : Fin 2) (l : Fin 64) :
    normKb q g (ix3 R k l) = rms 0x42800000#32 (fun i => q (ix3 R k i)) (fun i => g (ix1 i)) l := by
  pointwise [normKb, rms]

/-- A row is a latent row or a context row. -/
theorem row_cases (R : Fin 17408) :
    (∃ (k : Fin 4) (s : Fin 4096), R = (⟨4096 * k.val + s.val, by omega⟩ : Fin 17408)) ∨
      ∃ (k : Fin 4) (s : Fin 256), R.val = 16384 + (256 * k.val + s.val) := by
  by_cases h : R.val < 16384
  · exact .inl ⟨⟨R.val / 4096, by omega⟩, ⟨R.val % 4096, by omega⟩, Fin.ext (by simp only []; omega)⟩
  · exact .inr ⟨⟨(R.val - 16384) / 256, by omega⟩, ⟨(R.val - 16384) % 256, by omega⟩, by simp only []; omega⟩

/-- At an entry. -/
theorem rotQa_Lo (r : FVec Ideal S17408x8x32 .f32) (c : FVec Ideal S4096x16 .f32) (s : FVec Ideal S4096x16 .f32) (b : Fin 4) (i : Fin 4096) (k : Fin 8) (l : Fin 16) :
    rotQa r c s (ix3 (⟨4096 * b.val + i.val, by omega⟩ : Fin 17408) k (⟨l.val, by omega⟩ : Fin 32)) = spinLo (fun l : Fin 16 => r (ix3 (⟨4096 * b.val + i.val, by omega⟩ : Fin 17408) k (⟨l.val, by omega⟩ : Fin 32))) (fun l : Fin 16 => r (ix3 (⟨4096 * b.val + i.val, by omega⟩ : Fin 17408) k (⟨16 + l.val, by omega⟩ : Fin 32))) (fun l => c (ix2 i l)) (fun l => s (ix2 i l)) l := by
  pointwise [rotQa, spinLo]
  rw [dif_pos (by omega)]
  simp only [Nat.mul_comm]

/-- At an entry. -/
theorem rotQa_Hi (r : FVec Ideal S17408x8x32 .f32) (c : FVec Ideal S4096x16 .f32) (s : FVec Ideal S4096x16 .f32) (b : Fin 4) (i : Fin 4096) (k : Fin 8) (l : Fin 16) :
    rotQa r c s (ix3 (⟨4096 * b.val + i.val, by omega⟩ : Fin 17408) k (⟨16 + l.val, by omega⟩ : Fin 32)) = spinHi (fun l : Fin 16 => r (ix3 (⟨4096 * b.val + i.val, by omega⟩ : Fin 17408) k (⟨l.val, by omega⟩ : Fin 32))) (fun l : Fin 16 => r (ix3 (⟨4096 * b.val + i.val, by omega⟩ : Fin 17408) k (⟨16 + l.val, by omega⟩ : Fin 32))) (fun l => c (ix2 i l)) (fun l => s (ix2 i l)) l := by
  pointwise [rotQa, spinHi]
  rw [dif_pos (by omega)]
  simp only [Nat.mul_comm]

/-- At an entry. -/
theorem rotQa_context (r : FVec Ideal S17408x8x32 .f32) (c : FVec Ideal S4096x16 .f32) (s : FVec Ideal S4096x16 .f32) (R : Fin 17408) (hR : 16384 ≤ R.val) (k : Fin 8) (l : Fin 32) :
    rotQa r c s (ix3 R k l) = r (ix3 R k l) := by
  pointwise [rotQa]
  rw [dif_neg (by omega)]
  exact congrArg (fun z => r (ix3 z _ l)) (Fin.ext (by simp only []; omega))

/-- At an entry. -/
theorem rotKr_Lo (r : FVec Ideal S17408x1x32 .f32) (c : FVec Ideal S4096x16 .f32) (s : FVec Ideal S4096x16 .f32) (b : Fin 4) (i : Fin 4096) (l : Fin 16) :
    rotKr r c s (ix3 (⟨4096 * b.val + i.val, by omega⟩ : Fin 17408) 0 (⟨l.val, by omega⟩ : Fin 32)) = spinLo (fun l : Fin 16 => r (ix3 (⟨4096 * b.val + i.val, by omega⟩ : Fin 17408) 0 (⟨l.val, by omega⟩ : Fin 32))) (fun l : Fin 16 => r (ix3 (⟨4096 * b.val + i.val, by omega⟩ : Fin 17408) 0 (⟨16 + l.val, by omega⟩ : Fin 32))) (fun l => c (ix2 i l)) (fun l => s (ix2 i l)) l := by
  pointwise [rotKr, spinLo]
  rw [dif_pos (by omega)]
  simp only [Nat.mul_comm]

/-- At an entry. -/
theorem rotKr_Hi (r : FVec Ideal S17408x1x32 .f32) (c : FVec Ideal S4096x16 .f32) (s : FVec Ideal S4096x16 .f32) (b : Fin 4) (i : Fin 4096) (l : Fin 16) :
    rotKr r c s (ix3 (⟨4096 * b.val + i.val, by omega⟩ : Fin 17408) 0 (⟨16 + l.val, by omega⟩ : Fin 32)) = spinHi (fun l : Fin 16 => r (ix3 (⟨4096 * b.val + i.val, by omega⟩ : Fin 17408) 0 (⟨l.val, by omega⟩ : Fin 32))) (fun l : Fin 16 => r (ix3 (⟨4096 * b.val + i.val, by omega⟩ : Fin 17408) 0 (⟨16 + l.val, by omega⟩ : Fin 32))) (fun l => c (ix2 i l)) (fun l => s (ix2 i l)) l := by
  pointwise [rotKr, spinHi]
  rw [dif_pos (by omega)]
  simp only [Nat.mul_comm]

/-- At an entry. -/
theorem rotKr_context (r : FVec Ideal S17408x1x32 .f32) (c : FVec Ideal S4096x16 .f32) (s : FVec Ideal S4096x16 .f32) (R : Fin 17408) (hR : 16384 ≤ R.val) (l : Fin 32) :
    rotKr r c s (ix3 R 0 l) = r (ix3 R 0 l) := by
  pointwise [rotKr]
  rw [dif_neg (by omega)]
  exact congrArg (fun z => r (ix3 z _ l)) (Fin.ext (by simp only []; omega))

/-- At an entry. -/
theorem rotQb_Lo (r : FVec Ideal S17408x8x64 .f32) (c : FVec Ideal S4096x32 .f32) (s : FVec Ideal S4096x32 .f32) (b : Fin 4) (i : Fin 4096) (k : Fin 8) (l : Fin 32) :
    rotQb r c s (ix3 (⟨4096 * b.val + i.val, by omega⟩ : Fin 17408) k (⟨l.val, by omega⟩ : Fin 64)) = spinLo (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotQb, spinLo]
  rw [dif_pos (by omega)]
  simp only [Nat.mul_comm]

/-- At an entry. -/
theorem rotQb_Hi (r : FVec Ideal S17408x8x64 .f32) (c : FVec Ideal S4096x32 .f32) (s : FVec Ideal S4096x32 .f32) (b : Fin 4) (i : Fin 4096) (k : Fin 8) (l : Fin 32) :
    rotQb r c s (ix3 (⟨4096 * b.val + i.val, by omega⟩ : Fin 17408) k (⟨32 + l.val, by omega⟩ : Fin 64)) = spinHi (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotQb, spinHi]
  rw [dif_pos (by omega)]
  simp only [Nat.mul_comm]

/-- At an entry. -/
theorem rotQb_context (r : FVec Ideal S17408x8x64 .f32) (c : FVec Ideal S4096x32 .f32) (s : FVec Ideal S4096x32 .f32) (R : Fin 17408) (hR : 16384 ≤ R.val) (k : Fin 8) (l : Fin 64) :
    rotQb r c s (ix3 R k l) = r (ix3 R k l) := by
  pointwise [rotQb]
  rw [dif_neg (by omega)]
  exact congrArg (fun z => r (ix3 z _ l)) (Fin.ext (by simp only []; omega))

/-- At an entry. -/
theorem rotKb_Lo (r : FVec Ideal S17408x2x64 .f32) (c : FVec Ideal S4096x32 .f32) (s : FVec Ideal S4096x32 .f32) (b : Fin 4) (i : Fin 4096) (k : Fin 2) (l : Fin 32) :
    rotKb r c s (ix3 (⟨4096 * b.val + i.val, by omega⟩ : Fin 17408) k (⟨l.val, by omega⟩ : Fin 64)) = spinLo (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotKb, spinLo]
  rw [dif_pos (by omega)]
  simp only [Nat.mul_comm]

/-- At an entry. -/
theorem rotKb_Hi (r : FVec Ideal S17408x2x64 .f32) (c : FVec Ideal S4096x32 .f32) (s : FVec Ideal S4096x32 .f32) (b : Fin 4) (i : Fin 4096) (k : Fin 2) (l : Fin 32) :
    rotKb r c s (ix3 (⟨4096 * b.val + i.val, by omega⟩ : Fin 17408) k (⟨32 + l.val, by omega⟩ : Fin 64)) = spinHi (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotKb, spinHi]
  rw [dif_pos (by omega)]
  simp only [Nat.mul_comm]

/-- At an entry. -/
theorem rotKb_context (r : FVec Ideal S17408x2x64 .f32) (c : FVec Ideal S4096x32 .f32) (s : FVec Ideal S4096x32 .f32) (R : Fin 17408) (hR : 16384 ≤ R.val) (k : Fin 2) (l : Fin 64) :
    rotKb r c s (ix3 R k l) = r (ix3 R k l) := by
  pointwise [rotKb]
  rw [dif_neg (by omega)]
  exact congrArg (fun z => r (ix3 z _ l)) (Fin.ext (by simp only []; omega))

/-- At an entry. -/
theorem rotQw_Lo (r : FVec Ideal S17408x8x64 .f32) (c : FVec Ideal S4096x32 .f32) (s : FVec Ideal S4096x32 .f32) (b : Fin 4) (i : Fin 4096) (k : Fin 8) (l : Fin 32) :
    rotQw r c s (ix3 (⟨4096 * b.val + i.val, by omega⟩ : Fin 17408) k (⟨l.val, by omega⟩ : Fin 64)) = spinLo (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotQw, spinLo]
  rw [dif_pos (by omega)]
  simp only [Nat.mul_comm]

/-- At an entry. -/
theorem rotQw_Hi (r : FVec Ideal S17408x8x64 .f32) (c : FVec Ideal S4096x32 .f32) (s : FVec Ideal S4096x32 .f32) (b : Fin 4) (i : Fin 4096) (k : Fin 8) (l : Fin 32) :
    rotQw r c s (ix3 (⟨4096 * b.val + i.val, by omega⟩ : Fin 17408) k (⟨32 + l.val, by omega⟩ : Fin 64)) = spinHi (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotQw, spinHi]
  rw [dif_pos (by omega)]
  simp only [Nat.mul_comm]

/-- At an entry. -/
theorem rotQw_context (r : FVec Ideal S17408x8x64 .f32) (c : FVec Ideal S4096x32 .f32) (s : FVec Ideal S4096x32 .f32) (R : Fin 17408) (hR : 16384 ≤ R.val) (k : Fin 8) (l : Fin 64) :
    rotQw r c s (ix3 R k l) = r (ix3 R k l) := by
  pointwise [rotQw]
  rw [dif_neg (by omega)]
  exact congrArg (fun z => r (ix3 z _ l)) (Fin.ext (by simp only []; omega))

/-- At an entry. -/
theorem rotKw_Lo (r : FVec Ideal S17408x2x64 .f32) (c : FVec Ideal S4096x32 .f32) (s : FVec Ideal S4096x32 .f32) (b : Fin 4) (i : Fin 4096) (k : Fin 2) (l : Fin 32) :
    rotKw r c s (ix3 (⟨4096 * b.val + i.val, by omega⟩ : Fin 17408) k (⟨l.val, by omega⟩ : Fin 64)) = spinLo (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotKw, spinLo]
  rw [dif_pos (by omega)]
  simp only [Nat.mul_comm]

/-- At an entry. -/
theorem rotKw_Hi (r : FVec Ideal S17408x2x64 .f32) (c : FVec Ideal S4096x32 .f32) (s : FVec Ideal S4096x32 .f32) (b : Fin 4) (i : Fin 4096) (k : Fin 2) (l : Fin 32) :
    rotKw r c s (ix3 (⟨4096 * b.val + i.val, by omega⟩ : Fin 17408) k (⟨32 + l.val, by omega⟩ : Fin 64)) = spinHi (fun l : Fin 32 => r (ix3 (⟨4096 * b.val + i.val, by omega⟩ : Fin 17408) k (⟨l.val, by omega⟩ : Fin 64))) (fun l : Fin 32 => r (ix3 (⟨4096 * b.val + i.val, by omega⟩ : Fin 17408) k (⟨32 + l.val, by omega⟩ : Fin 64))) (fun l => c (ix2 i l)) (fun l => s (ix2 i l)) l := by
  pointwise [rotKw, spinHi]
  rw [dif_pos (by omega)]
  simp only [Nat.mul_comm]

/-- At an entry. -/
theorem rotKw_context (r : FVec Ideal S17408x2x64 .f32) (c : FVec Ideal S4096x32 .f32) (s : FVec Ideal S4096x32 .f32) (R : Fin 17408) (hR : 16384 ≤ R.val) (k : Fin 2) (l : Fin 64) :
    rotKw r c s (ix3 R k l) = r (ix3 R k l) := by
  pointwise [rotKw]
  rw [dif_neg (by omega)]
  exact congrArg (fun z => r (ix3 z _ l)) (Fin.ext (by simp only []; omega))

/-- At an entry. -/
theorem outQa_lo (q : FVec Ideal S17408x8x96 .f32) (r : FVec Ideal S17408x8x32 .f32) (R : Fin 17408) (k : Fin 8) (l : Fin 64) :
    outQa q r (ix2 R (⟨128 * k.val + l.val, by omega⟩ : Fin 1024)) = q (ix3 R k (⟨l.val, by omega⟩ : Fin 96)) := by
  pointwise [outQa]
  all_goals repeat' split
  all_goals first | (exfalso; omega) | exact congrArg (fun z => q (ix3 R k z)) (Fin.ext (by first | omega | (simp only []; omega))) | rfl

/-- At an entry. -/
theorem outQa_mid (q : FVec Ideal S17408x8x96 .f32) (r : FVec Ideal S17408x8x32 .f32) (R : Fin 17408) (k : Fin 8) (l : Fin 32) :
    outQa q r (ix2 R (⟨128 * k.val + (64 + l.val), by omega⟩ : Fin 1024)) = r (ix3 R k l) := by
  pointwise [outQa]
  all_goals repeat' split
  all_goals first | (exfalso; omega) | exact congrArg (fun z => r (ix3 R k z)) (Fin.ext (by first | omega | (simp only []; omega))) | rfl

/-- At an entry. -/
theorem outQa_hi (q : FVec Ideal S17408x8x96 .f32) (r : FVec Ideal S17408x8x32 .f32) (R : Fin 17408) (k : Fin 8) (l : Fin 32) :
    outQa q r (ix2 R (⟨128 * k.val + (96 + l.val), by omega⟩ : Fin 1024)) = 0 := by
  pointwise [outQa]
  all_goals repeat' split
  all_goals first | (exfalso; omega) | exact sitofp_zero

/-- At an entry. -/
theorem outKa_lo (q : FVec Ideal S17408x8x128 .f32) (r : FVec Ideal S17408x1x32 .f32) (R : Fin 17408) (k : Fin 8) (l : Fin 64) :
    outKa q r (ix2 R (⟨128 * k.val + l.val, by omega⟩ : Fin 1024)) = q (ix3 R k (⟨l.val, by omega⟩ : Fin 128)) := by
  pointwise [outKa]
  all_goals repeat' split
  all_goals first | (exfalso; omega) | exact congrArg (fun z => q (ix3 R k z)) (Fin.ext (by first | omega | (simp only []; omega))) | rfl

/-- At an entry. -/
theorem outKa_mid (q : FVec Ideal S17408x8x128 .f32) (r : FVec Ideal S17408x1x32 .f32) (R : Fin 17408) (k : Fin 8) (l : Fin 32) :
    outKa q r (ix2 R (⟨128 * k.val + (64 + l.val), by omega⟩ : Fin 1024)) = r (ix3 R 0 l) := by
  pointwise [outKa]
  all_goals repeat' split
  all_goals first | (exfalso; omega) | exact congrArg (fun z => r (ix3 R 0 z)) (Fin.ext (by first | omega | (simp only []; omega))) | rfl

/-- At an entry. -/
theorem outKa_hi (q : FVec Ideal S17408x8x128 .f32) (r : FVec Ideal S17408x1x32 .f32) (R : Fin 17408) (k : Fin 8) (l : Fin 32) :
    outKa q r (ix2 R (⟨128 * k.val + (96 + l.val), by omega⟩ : Fin 1024)) = 0 := by
  pointwise [outKa]
  all_goals repeat' split
  all_goals first | (exfalso; omega) | exact sitofp_zero

/-- At an entry. -/
theorem outVa_at (q : FVec Ideal S17408x8x128 .f32) (R : Fin 17408) (k : Fin 8) (l : Fin 64) :
    outVa q (ix2 R (⟨64 * k.val + l.val, by omega⟩ : Fin 512)) = q (ix3 R k (⟨64 + l.val, by omega⟩ : Fin 128)) := by
  pointwise [outVa]
  all_goals repeat' split
  all_goals first | (exfalso; omega) | exact congrArg (fun z => q (ix3 R k z)) (Fin.ext (by first | omega | (simp only []; omega))) | rfl

/-- At an entry. -/
theorem outQb_at (r : FVec Ideal S17408x8x64 .f32) (R : Fin 17408) (k : Fin 8) (l : Fin 64) :
    outQb r (ix2 R (⟨64 * k.val + l.val, by omega⟩ : Fin 512)) = r (ix3 R k l) := by
  pointwise [outQb]
  all_goals repeat' split
  all_goals first | (exfalso; omega) | rfl | exact congrArg₂ (fun z v => r (ix3 R z v)) (Fin.ext (by simp only []; omega)) (Fin.ext (by simp only []; omega))

/-- At an entry. -/
theorem outQw_at (r : FVec Ideal S17408x8x64 .f32) (R : Fin 17408) (k : Fin 8) (l : Fin 64) :
    outQw r (ix2 R (⟨64 * k.val + l.val, by omega⟩ : Fin 512)) = r (ix3 R k l) * Ideal.ofBits .f32 0x3E000000#32 := by
  pointwise [outQw]

/-- At an entry. -/
theorem outKb_at (r : FVec Ideal S17408x2x64 .f32) (R : Fin 17408) (k u : Fin 2) (l : Fin 64) :
    outKb r (ix2 R (⟨128 * k.val + (64 * u.val + l.val), by omega⟩ : Fin 256)) = r (ix3 R k l) := by
  pointwise [outKb]
  all_goals repeat' split
  all_goals first | (exfalso; omega) | rfl | exact congrArg₂ (fun z v => r (ix3 R z v)) (Fin.ext (by simp only []; omega)) (Fin.ext (by simp only []; omega))

/-- At an entry. -/
theorem outKw_at (r : FVec Ideal S17408x2x64 .f32) (R : Fin 17408) (k u : Fin 2) (l : Fin 64) :
    outKw r (ix2 R (⟨128 * k.val + (64 * u.val + l.val), by omega⟩ : Fin 256)) = r (ix3 R k l) := by
  pointwise [outKw]
  all_goals repeat' split
  all_goals first | (exfalso; omega) | rfl | exact congrArg₂ (fun z v => r (ix3 R z v)) (Fin.ext (by simp only []; omega)) (Fin.ext (by simp only []; omega))

/-- At an entry. -/
theorem outVb_at (p : FVec Ideal S17408x5280 .f32) (R : Fin 17408) (k u : Fin 2) (l : Fin 64) :
    outVb p (ix2 R (⟨128 * k.val + (64 * u.val + l.val), by omega⟩ : Fin 256)) = p (ix2 R (⟨1312 + (64 * k.val + l.val), by omega⟩ : Fin 5280)) := by
  pointwise [outVb]
  all_goals repeat' split
  all_goals first | (exfalso; omega) | exact congrArg (fun z => p (ix2 R z)) (Fin.ext (by first | omega | (simp only []; omega))) | rfl

/-- At an entry. -/
theorem outVw_at (p : FVec Ideal S17408x5280 .f32) (R : Fin 17408) (k u : Fin 2) (l : Fin 64) :
    outVw p (ix2 R (⟨128 * k.val + (64 * u.val + l.val), by omega⟩ : Fin 256)) = p (ix2 R (⟨2080 + (64 * k.val + l.val), by omega⟩ : Fin 5280)) := by
  pointwise [outVw]
  all_goals repeat' split
  all_goals first | (exfalso; omega) | exact congrArg (fun z => p (ix2 R z)) (Fin.ext (by first | omega | (simp only []; omega))) | rfl

/-- At an entry. -/
theorem outGate_at (p : FVec Ideal S17408x5280 .f32) (R : Fin 17408) (k : Fin 3072) :
    outGate p (ix2 R k) = gate (p (ix2 R (⟨2208 + k.val, by omega⟩ : Fin 5280))) := by
  pointwise [outGate, gate]

end Cert.Project.Reference

end
-- ==== Proof.Project.Args.lean ====
module

public import proofs.«01_k».proof.Proof.Project.Tables
public import proofs.«01_k».proof.Proof.Project.Array
public import proofs.«01_k».proof.Proof.Project.Reference

/-! What the call reads for a row, of the arguments, next to the reference's terms of the same arguments. -/

@[expose] public section

set_option maxRecDepth 16384

noncomputable section

namespace Cert.Project

open Cert.Kernel4Ideal Cert.Kernel4Ideal.Gen Idealize.ShloMosaic Idealize.ShloMosaic.TcCoe Idealize.SL.Sem

/-- The twelve arguments. -/
structure Args where
  /-- The latent rows. -/
  x : FVec Ideal S4x4096x1024 .f32
  /-- The context rows. -/
  y : FVec Ideal S4x256x1024 .f32
  /-- The modulation of the sequences. -/
  md : FVec Ideal S4x6144 .f32
  /-- The context's modulation. -/
  mc : FVec Ideal S6144 .f32
  /-- The norm's gain. -/
  g : FVec Ideal S1024 .f32
  /-- The weights. -/
  w : FVec Ideal S1024x5280 .f32
  /-- The gain of the compressed queries. -/
  gq : FVec Ideal S384 .f32
  /-- The gain of the compressed keys and values. -/
  gk : FVec Ideal S256 .f32
  /-- The expansion of the queries. -/
  uq : FVec Ideal S384x768 .f32
  /-- The expansion of the keys and values. -/
  uk : FVec Ideal S256x1024 .f32
  /-- The gain of the second attention's queries. -/
  nq : FVec Ideal S64 .f32
  /-- The gain of the second attention's keys. -/
  nk : FVec Ideal S64 .f32

variable (A : Args) (R : Fin 17408)

/-- What the call reads for row `R`. -/
def Args.given : Given where
  row := ⟨fun n => packX A.x A.y (ix2 R n), fun n => packM A.md A.mc (ix3 (modRow R) 0 (⟨n.val, by omega⟩ : Fin 6144)),
    fun n => packM A.md A.mc (ix3 (modRow R) 0 (⟨1024 + n.val, by omega⟩ : Fin 6144))⟩
  gain n := packGain A.g (ix2 0 n)
  w j n := packW A.w (ix3 0 n j)
  gq j := packGq A.gq (ix2 0 j)
  gk j := packGk A.gk (ix2 0 j)
  uq c' j := packUq A.uq (ix2 j c')
  uk c' j := packUk A.uk (ix2 j c')
  nq j := packNq A.nq (ix2 0 j)
  nk j := packNk A.nk (ix2 0 j)
  tab k l := packTab (ix2 (tabRow R) (⟨128 * k.val + l.val, by omega⟩ : Fin 768))
  bd j l := packBd (ix2 j l)

/-- The reference's normed rows. -/
def Args.H : FVec Ideal S17408x1024 .f32 := Reference.rows (Reference.normL A.x A.md A.g) (Reference.normC A.y A.mc A.g)

/-- The reference's projection. -/
def Args.P : FVec Ideal Cert.Reference4Ideal.S17408x5280 .f32 := Reference.proj A.H A.w

/-- The reference's queries of the first attention. -/
def Args.Qa : FVec Ideal Cert.Reference4Ideal.S17408x8x96 .f32 := Reference.qa (Reference.cq A.P A.gq) A.uq

/-- The reference's keys and values of the first attention. -/
def Args.Kv : FVec Ideal Cert.Reference4Ideal.S17408x8x128 .f32 := Reference.kv (Reference.ckv A.P A.gk) A.uk

/-- A latent row's modulation is its sequence's. -/
theorem modRow_latent (k : Fin 4) (s : Fin 4096) : modRow (⟨4096 * k.val + s.val, by omega⟩ : Fin 17408) = (⟨k.val, by omega⟩ : Fin 8) :=
  Fin.ext (by
    change (if 4096 * k.val + s.val < 16384 then (4096 * k.val + s.val) / 4096 else 4) = k.val
    rw [if_pos (by omega)]; omega)

/-- A context row's modulation is the context's. -/
theorem modRow_context (h : 16384 ≤ R.val) : modRow R = (4 : Fin 8) :=
  Fin.ext (by
    change (if R.val < 16384 then R.val / 4096 else 4) = 4
    rw [if_neg (by omega)])

/-- The normed row is the reference's. -/
theorem given_normed (n : Fin 1024) : normed (A.given R).row (A.given R).gain n = A.H (ix2 R n) := by
  have eg : (A.given R).gain = fun n => A.g (ix1 n) := funext fun n => packGain_at A.g n
  rw [eg]
  rcases Reference.row_cases R with ⟨k, s, rfl⟩ | ⟨k, s, hR⟩
  · have er : (A.given (⟨4096 * k.val + s.val, by omega⟩ : Fin 17408)).row = ⟨fun n => A.x (ix3 k s n),
        fun n => A.md (ix2 k (⟨n.val, by omega⟩ : Fin 6144)), fun n => A.md (ix2 k (⟨1024 + n.val, by omega⟩ : Fin 6144))⟩ := by
      simp only [Args.given, modRow_latent, packX_latent, packM_latent]
    rw [er]
    exact ((Reference.rows_latent _ _ s k n).trans (Reference.normL_at A.x A.md A.g k s n)).symm
  · have er : (A.given R).row = ⟨fun n => A.y (ix3 k s n),
        fun n => A.mc (ix1 (⟨n.val, by omega⟩ : Fin 6144)), fun n => A.mc (ix1 (⟨1024 + n.val, by omega⟩ : Fin 6144))⟩ := by
      simp only [Args.given, modRow_context R (by omega), packX_context A.x A.y k s R hR, packM_context]
    rw [er]
    exact ((Reference.rows_context _ _ s k R hR n).trans (Reference.normC_at A.y A.mc A.g k s n)).symm

/-- A column taken from the weights is the reference's. -/
theorem col_of (j : Fin 5888) (i : Fin 5280) (h : ∀ n, packW A.w (ix3 0 n j) = A.w (ix2 n i)) : (A.given R).col j = A.P (ix2 R i) := by
  unfold Args.P
  rw [Reference.proj_at]
  unfold Given.col lin
  exact Finset.sum_congr rfl fun n _ => congrArg₂ (fun a b : EReal => a * b) (given_normed A R n) (h n)

/-- A column of zeros projects to zero. -/
theorem col_zero (j : Fin 5888) (h : ∀ n, packW A.w (ix3 0 n j) = 0) : (A.given R).col j = 0 := by
  unfold Given.col lin
  refine Finset.sum_eq_zero fun n _ => ?_
  rw [show (A.given R).w j n = 0 from h n, mul_zero]

/-- Columns taken as they are. -/
theorem colCq (c : Fin 384) : (A.given R).col (⟨c.val, by omega⟩ : Fin 5888) = A.P (ix2 R (⟨c.val, by omega⟩ : Fin 5280)) :=
  col_of A R _ _ fun n => packW_Cq A.w n c

/-- Columns taken as they are. -/
theorem colCkv (c : Fin 256) : (A.given R).col (⟨384 + c.val, by omega⟩ : Fin 5888) = A.P (ix2 R (⟨384 + c.val, by omega⟩ : Fin 5280)) :=
  col_of A R _ _ fun n => packW_Ckv A.w n c

/-- Columns taken as they are. -/
theorem colQb (c : Fin 512) : (A.given R).col (⟨768 + c.val, by omega⟩ : Fin 5888) = A.P (ix2 R (⟨672 + c.val, by omega⟩ : Fin 5280)) :=
  col_of A R _ _ fun n => packW_Qb A.w n c

/-- Columns taken as they are. -/
theorem colQw (c : Fin 512) : (A.given R).col (⟨1792 + c.val, by omega⟩ : Fin 5888) = A.P (ix2 R (⟨1440 + c.val, by omega⟩ : Fin 5280)) :=
  col_of A R _ _ fun n => packW_Qw A.w n c

/-- Columns taken as they are. -/
theorem colGate (c : Fin 3072) : (A.given R).col (⟨2816 + c.val, by omega⟩ : Fin 5888) = A.P (ix2 R (⟨2208 + c.val, by omega⟩ : Fin 5280)) :=
  col_of A R _ _ fun n => packW_Gate A.w n c

/-- Columns taken twice. -/
theorem colKb (k u : Fin 2) (d : Fin 64) : (A.given R).col (⟨1280 + (128 * k.val + (64 * u.val + d.val)), by omega⟩ : Fin 5888) =
    A.P (ix2 R (⟨1184 + (64 * k.val + d.val), by omega⟩ : Fin 5280)) :=
  col_of A R _ _ fun n => (packW_Kb A.w n ⟨128 * k.val + (64 * u.val + d.val), by omega⟩).trans (packKb_at A.w n k u d)

/-- Columns taken twice. -/
theorem colVb (k u : Fin 2) (d : Fin 64) : (A.given R).col (⟨1536 + (128 * k.val + (64 * u.val + d.val)), by omega⟩ : Fin 5888) =
    A.P (ix2 R (⟨1312 + (64 * k.val + d.val), by omega⟩ : Fin 5280)) :=
  col_of A R _ _ fun n => (packW_Vb A.w n ⟨128 * k.val + (64 * u.val + d.val), by omega⟩).trans (packVb_at A.w n k u d)

/-- Columns taken twice. -/
theorem colKw (k u : Fin 2) (d : Fin 64) : (A.given R).col (⟨2304 + (128 * k.val + (64 * u.val + d.val)), by omega⟩ : Fin 5888) =
    A.P (ix2 R (⟨1952 + (64 * k.val + d.val), by omega⟩ : Fin 5280)) :=
  col_of A R _ _ fun n => (packW_Kw A.w n ⟨128 * k.val + (64 * u.val + d.val), by omega⟩).trans (packKw_at A.w n k u d)

/-- Columns taken twice. -/
theorem colVw (k u : Fin 2) (d : Fin 64) : (A.given R).col (⟨2560 + (128 * k.val + (64 * u.val + d.val)), by omega⟩ : Fin 5888) =
    A.P (ix2 R (⟨2080 + (64 * k.val + d.val), by omega⟩ : Fin 5280)) :=
  col_of A R _ _ fun n => (packW_Vw A.w n ⟨128 * k.val + (64 * u.val + d.val), by omega⟩).trans (packVw_at A.w n k u d)

/-- The rotated lanes of the keys. -/
theorem colKr (l : Fin 32) : (A.given R).col (⟨640 + (64 + l.val), by omega⟩ : Fin 5888) = A.P (ix2 R (⟨640 + l.val, by omega⟩ : Fin 5280)) :=
  col_of A R _ _ fun n => (packW_Kr A.w n ⟨64 + l.val, by omega⟩).trans (packKr_at A.w n l)

/-- Zeros before them. -/
theorem colKr_lo (l : Fin 64) : (A.given R).col (⟨640 + l.val, by omega⟩ : Fin 5888) = 0 :=
  col_zero A R _ fun n => (packW_Kr A.w n ⟨l.val, by omega⟩).trans (packKr_lo A.w n l)

/-- Zeros after them. -/
theorem colKr_hi (l : Fin 32) : (A.given R).col (⟨640 + (96 + l.val), by omega⟩ : Fin 5888) = 0 :=
  col_zero A R _ fun n => (packW_Kr A.w n ⟨96 + l.val, by omega⟩).trans (packKr_hi A.w n l)

/-- The place of a latent row in its sequence. -/
def tokenOf : Fin 4096 := ⟨R.val % 4096, Nat.mod_lt _ (by norm_num)⟩

/-- A cosine of a row's rotation; a context row isn't rotated. -/
def cA (l : Fin 16) : EReal := if R.val < 16384 then Reference.cosA (ix2 (tokenOf R) l) else 1

/-- At a latent row. -/
theorem cA_latent (b : Fin 4) (i : Fin 4096) (l : Fin 16) : cA (⟨4096 * b.val + i.val, by omega⟩ : Fin 17408) l = Reference.cosA (ix2 i l) := by
  have e : tokenOf (⟨4096 * b.val + i.val, by omega⟩ : Fin 17408) = i := Fin.ext (by
    change (4096 * b.val + i.val) % 4096 = i.val
    omega)
  unfold cA
  rw [e, if_pos (show 4096 * b.val + i.val < 16384 by omega)]

/-- At a context row. -/
theorem cA_context (h : 16384 ≤ R.val) (l : Fin 16) : cA R l = 1 := if_neg (by omega)

/-- A sine of a row's rotation; a context row isn't rotated. -/
def sA (l : Fin 16) : EReal := if R.val < 16384 then Reference.sinA (ix2 (tokenOf R) l) else 0

/-- At a latent row. -/
theorem sA_latent (b : Fin 4) (i : Fin 4096) (l : Fin 16) : sA (⟨4096 * b.val + i.val, by omega⟩ : Fin 17408) l = Reference.sinA (ix2 i l) := by
  have e : tokenOf (⟨4096 * b.val + i.val, by omega⟩ : Fin 17408) = i := Fin.ext (by
    change (4096 * b.val + i.val) % 4096 = i.val
    omega)
  unfold sA
  rw [e, if_pos (show 4096 * b.val + i.val < 16384 by omega)]

/-- At a context row. -/
theorem sA_context (h : 16384 ≤ R.val) (l : Fin 16) : sA R l = 0 := if_neg (by omega)

/-- A cosine of a row's rotation; a context row isn't rotated. -/
def cH (l : Fin 32) : EReal := if R.val < 16384 then Reference.cosH (ix2 (tokenOf R) l) else 1

/-- At a latent row. -/
theorem cH_latent (b : Fin 4) (i : Fin 4096) (l : Fin 32) : cH (⟨4096 * b.val + i.val, by omega⟩ : Fin 17408) l = Reference.cosH (ix2 i l) := by
  have e : tokenOf (⟨4096 * b.val + i.val, by omega⟩ : Fin 17408) = i := Fin.ext (by
    change (4096 * b.val + i.val) % 4096 = i.val
    omega)
  unfold cH
  rw [e, if_pos (show 4096 * b.val + i.val < 16384 by omega)]

/-- At a context row. -/
theorem cH_context (h : 16384 ≤ R.val) (l : Fin 32) : cH R l = 1 := if_neg (by omega)

/-- A sine of a row's rotation; a context row isn't rotated. -/
def sH (l : Fin 32) : EReal := if R.val < 16384 then Reference.sinH (ix2 (tokenOf R) l) else 0

/-- At a latent row. -/
theorem sH_latent (b : Fin 4) (i : Fin 4096) (l : Fin 32) : sH (⟨4096 * b.val + i.val, by omega⟩ : Fin 17408) l = Reference.sinH (ix2 i l) := by
  have e : tokenOf (⟨4096 * b.val + i.val, by omega⟩ : Fin 17408) = i := Fin.ext (by
    change (4096 * b.val + i.val) % 4096 = i.val
    omega)
  unfold sH
  rw [e, if_pos (show 4096 * b.val + i.val < 16384 by omega)]

/-- At a context row. -/
theorem sH_context (h : 16384 ≤ R.val) (l : Fin 32) : sH R l = 0 := if_neg (by omega)

/-- A latent row's row of the tables. -/
theorem tabRow_latent (h : R.val < 16384) : tabRow R = (⟨(tokenOf R).val, by omega⟩ : Fin 4608) :=
  Fin.ext (by
    change (if R.val < 16384 then R.val % 4096 else 4096 + R.val % 512) = R.val % 4096
    rw [if_pos h])

/-- A context row's row of the tables. -/
theorem tabRow_context (h : ¬R.val < 16384) : tabRow R = (⟨4096 + (⟨R.val % 512, Nat.mod_lt _ (by norm_num)⟩ : Fin 512).val, by omega⟩ : Fin 4608) :=
  Fin.ext (by
    change (if R.val < 16384 then R.val % 4096 else 4096 + R.val % 512) = 4096 + R.val % 512
    rw [if_neg h])

/-- A table at a row. -/
theorem tab0_at (l : Fin 128) : (A.given R).tab 0 l = if R.val < 16384 then tabA0 cosA (ix2 (tokenOf R) l) else 1 := by
  by_cases h : R.val < 16384
  · rw [if_pos h]
    exact (congrArg (fun z => packTab (ix2 z (⟨0 + l.val, by omega⟩ : Fin 768))) (tabRow_latent R h)).trans
      ((packTab_latent _ _).trans (tabL_0 _ _ _ _ _ _ _ l))
  · rw [if_neg h]
    exact (congrArg (fun z => packTab (ix2 z (⟨0 + l.val, by omega⟩ : Fin 768))) (tabRow_context R h)).trans
      ((packTab_context _ _).trans (tabC_0 _ l))

/-- A table at a row. -/
theorem tab1_at (l : Fin 128) : (A.given R).tab 1 l = if R.val < 16384 then tabA1 sinA (ix2 (tokenOf R) l) else 0 := by
  by_cases h : R.val < 16384
  · rw [if_pos h]
    exact (congrArg (fun z => packTab (ix2 z (⟨128 + l.val, by omega⟩ : Fin 768))) (tabRow_latent R h)).trans
      ((packTab_latent _ _).trans (tabL_1 _ _ _ _ _ _ _ l))
  · rw [if_neg h]
    exact (congrArg (fun z => packTab (ix2 z (⟨128 + l.val, by omega⟩ : Fin 768))) (tabRow_context R h)).trans
      ((packTab_context _ _).trans (tabC_1 _ l))

/-- A table at a row. -/
theorem tab2_at (l : Fin 128) : (A.given R).tab 2 l = if R.val < 16384 then tabA2 sinA (ix2 (tokenOf R) l) else 0 := by
  by_cases h : R.val < 16384
  · rw [if_pos h]
    exact (congrArg (fun z => packTab (ix2 z (⟨256 + l.val, by omega⟩ : Fin 768))) (tabRow_latent R h)).trans
      ((packTab_latent _ _).trans (tabL_2 _ _ _ _ _ _ _ l))
  · rw [if_neg h]
    exact (congrArg (fun z => packTab (ix2 z (⟨256 + l.val, by omega⟩ : Fin 768))) (tabRow_context R h)).trans
      ((packTab_context _ _).trans (tabC_2 _ l))

/-- A table at a row. -/
theorem tab3_at (l : Fin 128) : (A.given R).tab 3 l = if R.val < 16384 then tabH0 cosH (ix2 (tokenOf R) l) else 1 := by
  by_cases h : R.val < 16384
  · rw [if_pos h]
    exact (congrArg (fun z => packTab (ix2 z (⟨384 + l.val, by omega⟩ : Fin 768))) (tabRow_latent R h)).trans
      ((packTab_latent _ _).trans (tabL_3 _ _ _ _ _ _ _ l))
  · rw [if_neg h]
    exact (congrArg (fun z => packTab (ix2 z (⟨384 + l.val, by omega⟩ : Fin 768))) (tabRow_context R h)).trans
      ((packTab_context _ _).trans (tabC_3 _ l))

/-- A table at a row. -/
theorem tab4_at (l : Fin 128) : (A.given R).tab 4 l = if R.val < 16384 then tabH1 sinH (ix2 (tokenOf R) l) else 0 := by
  by_cases h : R.val < 16384
  · rw [if_pos h]
    exact (congrArg (fun z => packTab (ix2 z (⟨512 + l.val, by omega⟩ : Fin 768))) (tabRow_latent R h)).trans
      ((packTab_latent _ _).trans (tabL_4 _ _ _ _ _ _ _ l))
  · rw [if_neg h]
    exact (congrArg (fun z => packTab (ix2 z (⟨512 + l.val, by omega⟩ : Fin 768))) (tabRow_context R h)).trans
      ((packTab_context _ _).trans (tabC_4 _ l))

/-- A table at a row. -/
theorem tab5_at (l : Fin 128) : (A.given R).tab 5 l = if R.val < 16384 then tabH2 sinH (ix2 (tokenOf R) l) else 0 := by
  by_cases h : R.val < 16384
  · rw [if_pos h]
    exact (congrArg (fun z => packTab (ix2 z (⟨640 + l.val, by omega⟩ : Fin 768))) (tabRow_latent R h)).trans
      ((packTab_latent _ _).trans (tabL_5 _ _ _ _ _ _ _ l))
  · rw [if_neg h]
    exact (congrArg (fun z => packTab (ix2 z (⟨640 + l.val, by omega⟩ : Fin 768))) (tabRow_context R h)).trans
      ((packTab_context _ _).trans (tabC_5 _ l))

/-- Lanes of a table at a row. -/
theorem lane1 (l : Fin 64) : (A.given R).tab 0 (⟨l.val, by omega⟩ : Fin 128) = 1 := by
  rw [tab0_at]
  by_cases h : R.val < 16384
  · rw [if_pos h]
    exact tabA0_1 _ _ l
  · rw [if_neg h]

/-- Lanes of a table at a row. -/
theorem lane2 (l : Fin 16) : (A.given R).tab 0 (⟨64 + l.val, by omega⟩ : Fin 128) = cA R l := by
  rw [tab0_at]
  unfold cA
  by_cases h : R.val < 16384
  · rw [if_pos h, if_pos h]
    exact tabA0_2 _ _ l
  · rw [if_neg h, if_neg h]

/-- Lanes of a table at a row. -/
theorem lane3 (l : Fin 16) : (A.given R).tab 0 (⟨64 + (16 + l.val), by omega⟩ : Fin 128) = cA R l := by
  rw [tab0_at]
  unfold cA
  by_cases h : R.val < 16384
  · rw [if_pos h, if_pos h]
    exact tabA0_3 _ _ l
  · rw [if_neg h, if_neg h]

/-- Lanes of a table at a row. -/
theorem lane4 (l : Fin 32) : (A.given R).tab 0 (⟨96 + l.val, by omega⟩ : Fin 128) = 1 := by
  rw [tab0_at]
  by_cases h : R.val < 16384
  · rw [if_pos h]
    exact tabA0_4 _ _ l
  · rw [if_neg h]

/-- Lanes of a table at a row. -/
theorem lane5 (l : Fin 64) : (A.given R).tab 1 (⟨l.val, by omega⟩ : Fin 128) = 0 := by
  rw [tab1_at]
  by_cases h : R.val < 16384
  · rw [if_pos h]
    exact tabA1_5 _ _ l
  · rw [if_neg h]

/-- Lanes of a table at a row. -/
theorem lane6 (l : Fin 16) : (A.given R).tab 1 (⟨64 + l.val, by omega⟩ : Fin 128) = -sA R l := by
  rw [tab1_at]
  unfold sA
  by_cases h : R.val < 16384
  · rw [if_pos h, if_pos h]
    exact tabA1_6 _ _ l
  · rw [if_neg h, if_neg h, neg_zero]

/-- Lanes of a table at a row. -/
theorem lane7 (l : Fin 16) : (A.given R).tab 1 (⟨64 + (16 + l.val), by omega⟩ : Fin 128) = 0 := by
  rw [tab1_at]
  by_cases h : R.val < 16384
  · rw [if_pos h]
    exact tabA1_7 _ _ l
  · rw [if_neg h]

/-- Lanes of a table at a row. -/
theorem lane8 (l : Fin 32) : (A.given R).tab 1 (⟨96 + l.val, by omega⟩ : Fin 128) = 0 := by
  rw [tab1_at]
  by_cases h : R.val < 16384
  · rw [if_pos h]
    exact tabA1_8 _ _ l
  · rw [if_neg h]

/-- Lanes of a table at a row. -/
theorem lane9 (l : Fin 64) : (A.given R).tab 2 (⟨l.val, by omega⟩ : Fin 128) = 0 := by
  rw [tab2_at]
  by_cases h : R.val < 16384
  · rw [if_pos h]
    exact tabA2_9 _ _ l
  · rw [if_neg h]

/-- Lanes of a table at a row. -/
theorem lane10 (l : Fin 16) : (A.given R).tab 2 (⟨64 + l.val, by omega⟩ : Fin 128) = 0 := by
  rw [tab2_at]
  by_cases h : R.val < 16384
  · rw [if_pos h]
    exact tabA2_10 _ _ l
  · rw [if_neg h]

/-- Lanes of a table at a row. -/
theorem lane11 (l : Fin 16) : (A.given R).tab 2 (⟨64 + (16 + l.val), by omega⟩ : Fin 128) = sA R l := by
  rw [tab2_at]
  unfold sA
  by_cases h : R.val < 16384
  · rw [if_pos h, if_pos h]
    exact tabA2_11 _ _ l
  · rw [if_neg h, if_neg h]

/-- Lanes of a table at a row. -/
theorem lane12 (l : Fin 32) : (A.given R).tab 2 (⟨96 + l.val, by omega⟩ : Fin 128) = 0 := by
  rw [tab2_at]
  by_cases h : R.val < 16384
  · rw [if_pos h]
    exact tabA2_12 _ _ l
  · rw [if_neg h]

/-- Lanes of a table at a row. -/
theorem lane13 (u : Fin 2) (l : Fin 32) : (A.given R).tab 3 (⟨64 * u.val + l.val, by omega⟩ : Fin 128) = cH R l := by
  rw [tab3_at]
  unfold cH
  by_cases h : R.val < 16384
  · rw [if_pos h, if_pos h]
    exact tabH0_13 _ _ u l
  · rw [if_neg h, if_neg h]

/-- Lanes of a table at a row. -/
theorem lane14 (u : Fin 2) (l : Fin 32) : (A.given R).tab 3 (⟨64 * u.val + (32 + l.val), by omega⟩ : Fin 128) = cH R l := by
  rw [tab3_at]
  unfold cH
  by_cases h : R.val < 16384
  · rw [if_pos h, if_pos h]
    exact tabH0_14 _ _ u l
  · rw [if_neg h, if_neg h]

/-- Lanes of a table at a row. -/
theorem lane15 (u : Fin 2) (l : Fin 32) : (A.given R).tab 4 (⟨64 * u.val + l.val, by omega⟩ : Fin 128) = -sH R l := by
  rw [tab4_at]
  unfold sH
  by_cases h : R.val < 16384
  · rw [if_pos h, if_pos h]
    exact tabH1_15 _ _ u l
  · rw [if_neg h, if_neg h, neg_zero]

/-- Lanes of a table at a row. -/
theorem lane16 (u : Fin 2) (l : Fin 32) : (A.given R).tab 4 (⟨64 * u.val + (32 + l.val), by omega⟩ : Fin 128) = 0 := by
  rw [tab4_at]
  by_cases h : R.val < 16384
  · rw [if_pos h]
    exact tabH1_16 _ _ u l
  · rw [if_neg h]

/-- Lanes of a table at a row. -/
theorem lane17 (u : Fin 2) (l : Fin 32) : (A.given R).tab 5 (⟨64 * u.val + l.val, by omega⟩ : Fin 128) = 0 := by
  rw [tab5_at]
  by_cases h : R.val < 16384
  · rw [if_pos h]
    exact tabH2_17 _ _ u l
  · rw [if_neg h]

/-- Lanes of a table at a row. -/
theorem lane18 (u : Fin 2) (l : Fin 32) : (A.given R).tab 5 (⟨64 * u.val + (32 + l.val), by omega⟩ : Fin 128) = sH R l := by
  rw [tab5_at]
  unfold sH
  by_cases h : R.val < 16384
  · rw [if_pos h, if_pos h]
    exact tabH2_18 _ _ u l
  · rw [if_neg h, if_neg h]

end Cert.Project

end
-- ==== Proof.Project.Turns.lean ====
module

public import proofs.«01_k».proof.Proof.Project.Args

/-! Rotations: the turned slices of the call and the rotated halves of the reference. -/

@[expose] public section

set_option maxRecDepth 16384

noncomputable section

namespace Cert.Project

open Cert.Kernel4Ideal Cert.Kernel4Ideal.Gen Idealize.ShloMosaic Idealize.ShloMosaic.TcCoe Idealize.SL.Sem

/-- A lane that isn't rotated. -/
theorem turn_still (up dn : Nat) (x T0 T1 T2 : Fin 128 → EReal) (l : Fin 128) (h0 : T0 l = 1) (h1 : T1 l = 0) (h2 : T2 l = 0) :
    turn up dn x T0 T1 T2 l = x l := by
  unfold turn
  rw [h0, h1, h2, mul_one, mul_zero, mul_zero, add_zero, add_zero]

/-- A lane of a first half. -/
theorem turn_lo (up dn : Nat) (x T0 T1 T2 : Fin 128 → EReal) (l l' : Fin 128) (c s : EReal) (e : (l.val + 128 - up) % 128 = l'.val)
    (h0 : T0 l = c) (h1 : T1 l = -s) (h2 : T2 l = 0) : turn up dn x T0 T1 T2 l = x l * c - x l' * s := by
  have e' : (⟨(l.val + 128 - up) % 128, Nat.mod_lt _ (by norm_num)⟩ : Fin 128) = l' := Fin.ext e
  unfold turn
  rw [h0, h1, h2, mul_zero, add_zero, e', mul_neg, sub_eq_add_neg]

/-- A lane of a second half. -/
theorem turn_hi (up dn : Nat) (x T0 T1 T2 : Fin 128 → EReal) (l l' : Fin 128) (c s : EReal) (e : (l.val + 128 - dn) % 128 = l'.val)
    (h0 : T0 l = c) (h1 : T1 l = 0) (h2 : T2 l = s) : turn up dn x T0 T1 T2 l = x l * c + x l' * s := by
  have e' : (⟨(l.val + 128 - dn) % 128, Nat.mod_lt _ (by norm_num)⟩ : Fin 128) = l' := Fin.ext e
  unfold turn
  rw [h0, h1, h2, mul_zero, add_zero, e']

variable (A : Args) (R : Fin 17408)

/-- The first attention's turn at a lane that isn't rotated: the first 64. -/
theorem turnA_first (x : Fin 128 → EReal) (l : Fin 64) :
    turn 112 16 x ((A.given R).tab 0) ((A.given R).tab 1) ((A.given R).tab 2) (⟨l.val, by omega⟩ : Fin 128) = x (⟨l.val, by omega⟩ : Fin 128) :=
  turn_still _ _ _ _ _ _ _ (lane1 A R l) (lane5 A R l) (lane9 A R l)

/-- The first attention's turn at a lane that isn't rotated: the last 32. -/
theorem turnA_last (x : Fin 128 → EReal) (l : Fin 32) :
    turn 112 16 x ((A.given R).tab 0) ((A.given R).tab 1) ((A.given R).tab 2) (⟨96 + l.val, by omega⟩ : Fin 128) = x (⟨96 + l.val, by omega⟩ : Fin 128) :=
  turn_still _ _ _ _ _ _ _ (lane4 A R l) (lane8 A R l) (lane12 A R l)

/-- The first attention's turn at a first half. -/
theorem turnA_lo (x : Fin 128 → EReal) (f : Fin 32 → EReal) (hf : ∀ d : Fin 32, x (⟨64 + d.val, by omega⟩ : Fin 128) = f d) (l : Fin 16) :
    turn 112 16 x ((A.given R).tab 0) ((A.given R).tab 1) ((A.given R).tab 2) (⟨64 + l.val, by omega⟩ : Fin 128) =
      f (⟨l.val, by omega⟩ : Fin 32) * cA R l - f (⟨16 + l.val, by omega⟩ : Fin 32) * sA R l := by
  rw [← hf, ← hf]
  exact turn_lo _ _ _ _ _ _ _ _ _ _ (by simp only []; omega) (lane2 A R l) (lane6 A R l) (lane10 A R l)

/-- The first attention's turn at a second half. -/
theorem turnA_hi (x : Fin 128 → EReal) (f : Fin 32 → EReal) (hf : ∀ d : Fin 32, x (⟨64 + d.val, by omega⟩ : Fin 128) = f d) (l : Fin 16) :
    turn 112 16 x ((A.given R).tab 0) ((A.given R).tab 1) ((A.given R).tab 2) (⟨64 + (16 + l.val), by omega⟩ : Fin 128) =
      f (⟨16 + l.val, by omega⟩ : Fin 32) * cA R l + f (⟨l.val, by omega⟩ : Fin 32) * sA R l := by
  rw [← hf, ← hf]
  exact turn_hi _ _ _ _ _ _ _ _ _ _ (by simp only []; omega) (lane3 A R l) (lane7 A R l) (lane11 A R l)

/-- The other attentions' turn at a first half. -/
theorem turnH_lo (x : Fin 128 → EReal) (u : Fin 2) (f : Fin 64 → EReal) (hf : ∀ d : Fin 64, x (⟨64 * u.val + d.val, by omega⟩ : Fin 128) = f d) (l : Fin 32) :
    turn 96 32 x ((A.given R).tab 3) ((A.given R).tab 4) ((A.given R).tab 5) (⟨64 * u.val + l.val, by omega⟩ : Fin 128) =
      f (⟨l.val, by omega⟩ : Fin 64) * cH R l - f (⟨32 + l.val, by omega⟩ : Fin 64) * sH R l := by
  rw [← hf, ← hf]
  exact turn_lo _ _ _ _ _ _ _ _ _ _ (by simp only []; omega) (lane13 A R u l) (lane15 A R u l) (lane17 A R u l)

/-- The other attentions' turn at a second half. -/
theorem turnH_hi (x : Fin 128 → EReal) (u : Fin 2) (f : Fin 64 → EReal) (hf : ∀ d : Fin 64, x (⟨64 * u.val + d.val, by omega⟩ : Fin 128) = f d) (l : Fin 32) :
    turn 96 32 x ((A.given R).tab 3) ((A.given R).tab 4) ((A.given R).tab 5) (⟨64 * u.val + (32 + l.val), by omega⟩ : Fin 128) =
      f (⟨32 + l.val, by omega⟩ : Fin 64) * cH R l + f (⟨l.val, by omega⟩ : Fin 64) * sH R l := by
  rw [← hf, ← hf]
  exact turn_hi _ _ _ _ _ _ _ _ _ _ (by simp only []; omega) (lane14 A R u l) (lane16 A R u l) (lane18 A R u l)

/-- The reference's rotation at any row: a first half. -/
theorem rotQa_Lo (r : FVec Ideal Cert.Reference4Ideal.S17408x8x32 .f32) (k : Fin 8) (l : Fin 16) :
    Reference.rotQa r Reference.cosA Reference.sinA (ix3 R k (⟨l.val, by omega⟩ : Fin 32)) = r (ix3 R k (⟨l.val, by omega⟩ : Fin 32)) * cA R l - r (ix3 R k (⟨16 + l.val, by omega⟩ : Fin 32)) * sA R l := by
  rcases Reference.row_cases R with ⟨b, i, rfl⟩ | ⟨b, i, hR⟩
  · rw [Reference.rotQa_Lo, cA_latent, sA_latent]
    rfl
  · rw [cA_context R (by omega), sA_context R (by omega), Reference.rotQa_context _ _ _ R (by omega) k _, mul_one, mul_zero, sub_eq_add_neg, neg_zero, add_zero]

/-- The reference's rotation at any row: a second half. -/
theorem rotQa_Hi (r : FVec Ideal Cert.Reference4Ideal.S17408x8x32 .f32) (k : Fin 8) (l : Fin 16) :
    Reference.rotQa r Reference.cosA Reference.sinA (ix3 R k (⟨16 + l.val, by omega⟩ : Fin 32)) = r (ix3 R k (⟨16 + l.val, by omega⟩ : Fin 32)) * cA R l + r (ix3 R k (⟨l.val, by omega⟩ : Fin 32)) * sA R l := by
  rcases Reference.row_cases R with ⟨b, i, rfl⟩ | ⟨b, i, hR⟩
  · rw [Reference.rotQa_Hi, cA_latent, sA_latent]
    rfl
  · rw [cA_context R (by omega), sA_context R (by omega), Reference.rotQa_context _ _ _ R (by omega) k _, mul_one, mul_zero, add_zero]

/-- The reference's rotation at any row: a first half. -/
theorem rotKr_Lo (r : FVec Ideal Cert.Reference4Ideal.S17408x1x32 .f32) (l : Fin 16) :
    Reference.rotKr r Reference.cosA Reference.sinA (ix3 R 0 (⟨l.val, by omega⟩ : Fin 32)) = r (ix3 R 0 (⟨l.val, by omega⟩ : Fin 32)) * cA R l - r (ix3 R 0 (⟨16 + l.val, by omega⟩ : Fin 32)) * sA R l := by
  rcases Reference.row_cases R with ⟨b, i, rfl⟩ | ⟨b, i, hR⟩
  · rw [Reference.rotKr_Lo, cA_latent, sA_latent]
    rfl
  · rw [cA_context R (by omega), sA_context R (by omega), Reference.rotKr_context _ _ _ R (by omega) _, mul_one, mul_zero, sub_eq_add_neg, neg_zero, add_zero]

/-- The reference's rotation at any row: a second half. -/
theorem rotKr_Hi (r : FVec Ideal Cert.Reference4Ideal.S17408x1x32 .f32) (l : Fin 16) :
    Reference.rotKr r Reference.cosA Reference.sinA (ix3 R 0 (⟨16 + l.val, by omega⟩ : Fin 32)) = r (ix3 R 0 (⟨16 + l.val, by omega⟩ : Fin 32)) * cA R l + r (ix3 R 0 (⟨l.val, by omega⟩ : Fin 32)) * sA R l := by
  rcases Reference.row_cases R with ⟨b, i, rfl⟩ | ⟨b, i, hR⟩
  · rw [Reference.rotKr_Hi, cA_latent, sA_latent]
    rfl
  · rw [cA_context R (by omega), sA_context R (by omega), Reference.rotKr_context _ _ _ R (by omega) _, mul_one, mul_zero, add_zero]

/-- The reference's rotation at any row: a first half. -/
theorem rotQb_Lo (r : FVec Ideal Cert.Reference4Ideal.S17408x8x64 .f32) (k : Fin 8) (l : Fin 32) :
    Reference.rotQb r Reference.cosH Reference.sinH (ix3 R k (⟨l.val, by omega⟩ : Fin 64)) = r (ix3 R k (⟨l.val, by omega⟩ : Fin 64)) * cH R l - r (ix3 R k (⟨32 + l.val, by omega⟩ : Fin 64)) * sH R l := by
  rcases Reference.row_cases R with ⟨b, i, rfl⟩ | ⟨b, i, hR⟩
  · rw [Reference.rotQb_Lo, cH_latent, sH_latent]
    rfl
  · rw [cH_context R (by omega), sH_context R (by omega), Reference.rotQb_context _ _ _ R (by omega) k _, mul_one, mul_zero, sub_eq_add_neg, neg_zero, add_zero]

/-- The reference's rotation at any row: a second half. -/
theorem rotQb_Hi (r : FVec Ideal Cert.Reference4Ideal.S17408x8x64 .f32) (k : Fin 8) (l : Fin 32) :
    Reference.rotQb r Reference.cosH Reference.sinH (ix3 R k (⟨32 + l.val, by omega⟩ : Fin 64)) = r (ix3 R k (⟨32 + l.val, by omega⟩ : Fin 64)) * cH R l + r (ix3 R k (⟨l.val, by omega⟩ : Fin 64)) * sH R l := by
  rcases Reference.row_cases R with ⟨b, i, rfl⟩ | ⟨b, i, hR⟩
  · rw [Reference.rotQb_Hi, cH_latent, sH_latent]
    rfl
  · rw [cH_context R (by omega), sH_context R (by omega), Reference.rotQb_context _ _ _ R (by omega) k _, mul_one, mul_zero, add_zero]

/-- The reference's rotation at any row: a first half. -/
theorem rotKb_Lo (r : FVec Ideal Cert.Reference4Ideal.S17408x2x64 .f32) (k : Fin 2) (l : Fin 32) :
    Reference.rotKb r Reference.cosH Reference.sinH (ix3 R k (⟨l.val, by omega⟩ : Fin 64)) = r (ix3 R k (⟨l.val, by omega⟩ : Fin 64)) * cH R l - r (ix3 R k (⟨32 + l.val, by omega⟩ : Fin 64)) * sH R l := by
  rcases Reference.row_cases R with ⟨b, i, rfl⟩ | ⟨b, i, hR⟩
  · rw [Reference.rotKb_Lo, cH_latent, sH_latent]
    rfl
  · rw [cH_context R (by omega), sH_context R (by omega), Reference.rotKb_context _ _ _ R (by omega) k _, mul_one, mul_zero, sub_eq_add_neg, neg_zero, add_zero]

/-- The reference's rotation at any row: a second half. -/
theorem rotKb_Hi (r : FVec Ideal Cert.Reference4Ideal.S17408x2x64 .f32) (k : Fin 2) (l : Fin 32) :
    Reference.rotKb r Reference.cosH Reference.sinH (ix3 R k (⟨32 + l.val, by omega⟩ : Fin 64)) = r (ix3 R k (⟨32 + l.val, by omega⟩ : Fin 64)) * cH R l + r (ix3 R k (⟨l.val, by omega⟩ : Fin 64)) * sH R l := by
  rcases Reference.row_cases R with ⟨b, i, rfl⟩ | ⟨b, i, hR⟩
  · rw [Reference.rotKb_Hi, cH_latent, sH_latent]
    rfl
  · rw [cH_context R (by omega), sH_context R (by omega), Reference.rotKb_context _ _ _ R (by omega) k _, mul_one, mul_zero, add_zero]

/-- The reference's rotation at any row: a first half. -/
theorem rotQw_Lo (r : FVec Ideal Cert.Reference4Ideal.S17408x8x64 .f32) (k : Fin 8) (l : Fin 32) :
    Reference.rotQw r Reference.cosH Reference.sinH (ix3 R k (⟨l.val, by omega⟩ : Fin 64)) = r (ix3 R k (⟨l.val, by omega⟩ : Fin 64)) * cH R l - r (ix3 R k (⟨32 + l.val, by omega⟩ : Fin 64)) * sH R l := by
  rcases Reference.row_cases R with ⟨b, i, rfl⟩ | ⟨b, i, hR⟩
  · rw [Reference.rotQw_Lo, cH_latent, sH_latent]
    rfl
  · rw [cH_context R (by omega), sH_context R (by omega), Reference.rotQw_context _ _ _ R (by omega) k _, mul_one, mul_zero, sub_eq_add_neg, neg_zero, add_zero]

/-- The reference's rotation at any row: a second half. -/
theorem rotQw_Hi (r : FVec Ideal Cert.Reference4Ideal.S17408x8x64 .f32) (k : Fin 8) (l : Fin 32) :
    Reference.rotQw r Reference.cosH Reference.sinH (ix3 R k (⟨32 + l.val, by omega⟩ : Fin 64)) = r (ix3 R k (⟨32 + l.val, by omega⟩ : Fin 64)) * cH R l + r (ix3 R k (⟨l.val, by omega⟩ : Fin 64)) * sH R l := by
  rcases Reference.row_cases R with ⟨b, i, rfl⟩ | ⟨b, i, hR⟩
  · rw [Reference.rotQw_Hi, cH_latent, sH_latent]
    rfl
  · rw [cH_context R (by omega), sH_context R (by omega), Reference.rotQw_context _ _ _ R (by omega) k _, mul_one, mul_zero, add_zero]

/-- The reference's rotation at any row: a first half. -/
theorem rotKw_Lo (r : FVec Ideal Cert.Reference4Ideal.S17408x2x64 .f32) (k : Fin 2) (l : Fin 32) :
    Reference.rotKw r Reference.cosH Reference.sinH (ix3 R k (⟨l.val, by omega⟩ : Fin 64)) = r (ix3 R k (⟨l.val, by omega⟩ : Fin 64)) * cH R l - r (ix3 R k (⟨32 + l.val, by omega⟩ : Fin 64)) * sH R l := by
  rcases Reference.row_cases R with ⟨b, i, rfl⟩ | ⟨b, i, hR⟩
  · rw [Reference.rotKw_Lo, cH_latent, sH_latent]
    rfl
  · rw [cH_context R (by omega), sH_context R (by omega), Reference.rotKw_context _ _ _ R (by omega) k _, mul_one, mul_zero, sub_eq_add_neg, neg_zero, add_zero]

/-- The reference's rotation at any row: a second half. -/
theorem rotKw_Hi (r : FVec Ideal Cert.Reference4Ideal.S17408x2x64 .f32) (k : Fin 2) (l : Fin 32) :
    Reference.rotKw r Reference.cosH Reference.sinH (ix3 R k (⟨32 + l.val, by omega⟩ : Fin 64)) = r (ix3 R k (⟨32 + l.val, by omega⟩ : Fin 64)) * cH R l + r (ix3 R k (⟨l.val, by omega⟩ : Fin 64)) * sH R l := by
  rcases Reference.row_cases R with ⟨b, i, rfl⟩ | ⟨b, i, hR⟩
  · rw [Reference.rotKw_Hi, cH_latent, sH_latent]
    rfl
  · rw [cH_context R (by omega), sH_context R (by omega), Reference.rotKw_context _ _ _ R (by omega) k _, mul_one, mul_zero, add_zero]

end Cert.Project

end
-- ==== Proof.Project.Agree.lean ====
module

public import proofs.«01_k».proof.Proof.Project.Turns

/-! What the call leaves agrees with what the reference leaves: all results but the second attention's queries and keys. -/

@[expose] public section

set_option maxRecDepth 16384

noncomputable section

namespace Cert.Project

open Cert.Kernel4Ideal Cert.Kernel4Ideal.Gen Idealize.ShloMosaic Idealize.ShloMosaic.TcCoe Idealize.SL.Sem

variable (A : Args) (R : Fin 17408)

/-- The gain of the compressed queries. -/
theorem given_gq : (A.given R).gq = fun i => A.gq (ix1 i) := funext fun i => packGq_at A.gq i

/-- The gain of the compressed keys and values. -/
theorem given_gk : (A.given R).gk = fun i => A.gk (ix1 i) := funext fun i => packGk_at A.gk i

/-- The expanded queries. -/
theorem qa_eq (p : Fin 8) (l : Fin 96) : (A.given R).qa (⟨128 * p.val + l.val, by omega⟩ : Fin 1024) = A.Qa (ix3 R p l) := by
  have e : (fun j : Fin 384 => (A.given R).col ⟨j.val, by omega⟩) = fun j => A.P (ix2 R (⟨j.val, by omega⟩ : Fin 5280)) := funext fun c => colCq A R c
  unfold Args.Qa
  rw [Reference.qa_at]
  unfold Given.qa
  rw [e, given_gq]
  exact congrArg₂ (fun a b => lin a b) (funext fun j => (Reference.cq_at A.P A.gq R j).symm) (funext fun j => packUq_at A.uq j p l)

/-- Zeros after a head's queries. -/
theorem qa_pad (p : Fin 8) (l : Fin 32) : (A.given R).qa (⟨128 * p.val + (96 + l.val), by omega⟩ : Fin 1024) = 0 := by
  unfold Given.qa lin
  refine Finset.sum_eq_zero fun j _ => ?_
  rw [show (A.given R).uq _ j = 0 from packUq_pad A.uq j p l, mul_zero]

/-- The compressed keys and values. -/
theorem ckv_eq : (fun j : Fin 256 => (A.given R).col ⟨384 + j.val, by omega⟩) = fun j => A.P (ix2 R (⟨384 + j.val, by omega⟩ : Fin 5280)) :=
  funext fun c => colCkv A R c

/-- The expanded keys. -/
theorem k_eq (p : Fin 8) (l : Fin 64) : (A.given R).kv (⟨128 * p.val + l.val, by omega⟩ : Fin 1536) = A.Kv (ix3 R p (⟨l.val, by omega⟩ : Fin 128)) := by
  unfold Args.Kv
  rw [Reference.kv_at]
  unfold Given.kv
  rw [ckv_eq, given_gk]
  exact congrArg₂ (fun a b => lin a b) (funext fun j => (Reference.ckv_at A.P A.gk R j).symm)
    (funext fun j => (packUk_K A.uk j ⟨128 * p.val + l.val, by omega⟩).trans (packUkK_at A.uk j p l))

/-- Zeros after a head's keys. -/
theorem k_pad (p : Fin 8) (l : Fin 64) : (A.given R).kv (⟨128 * p.val + (64 + l.val), by omega⟩ : Fin 1536) = 0 := by
  unfold Given.kv lin
  refine Finset.sum_eq_zero fun j _ => ?_
  rw [show (A.given R).uk _ j = 0 from (packUk_K A.uk j ⟨128 * p.val + (64 + l.val), by omega⟩).trans (packUkK_pad A.uk j p l), mul_zero]

/-- The expanded values. -/
theorem v_eq (p : Fin 8) (l : Fin 64) :
    (A.given R).kv (⟨1024 + (64 * p.val + l.val), by omega⟩ : Fin 1536) = A.Kv (ix3 R p (⟨64 + l.val, by omega⟩ : Fin 128)) := by
  unfold Args.Kv
  rw [Reference.kv_at]
  unfold Given.kv
  rw [ckv_eq, given_gk]
  exact congrArg₂ (fun a b => lin a b) (funext fun j => (Reference.ckv_at A.P A.gk R j).symm)
    (funext fun j => (packUk_V A.uk j ⟨64 * p.val + l.val, by omega⟩).trans (packUkV_at A.uk j p l))

/-- The reference's queries of the first attention, as left. -/
def Args.outQa : FVec Ideal S17408x1024 .bf16 := Reference.outQa A.Qa (Reference.rotQa (Reference.lanesQa A.Qa) Reference.cosA Reference.sinA)

/-- The reference's keys of the first attention, as left. -/
def Args.outKa : FVec Ideal S17408x1024 .bf16 := Reference.outKa A.Kv (Reference.rotKr (Reference.lanesKr A.P) Reference.cosA Reference.sinA)

/-- The lanes of a slice: the first 64, two halves of 16, the last 32. -/
theorem lanesA (Q : Fin 128 → Prop) (h1 : ∀ l : Fin 64, Q ⟨l.val, by omega⟩) (h2 : ∀ l : Fin 16, Q ⟨64 + l.val, by omega⟩)
    (h3 : ∀ l : Fin 16, Q ⟨64 + (16 + l.val), by omega⟩) (h4 : ∀ l : Fin 32, Q ⟨96 + l.val, by omega⟩) (l : Fin 128) : Q l := by
  by_cases a : l.val < 64
  · exact h1 ⟨l.val, a⟩
  by_cases b : l.val < 80
  · have := h2 ⟨l.val - 64, by omega⟩
    rwa [show (⟨64 + (l.val - 64), by omega⟩ : Fin 128) = l from Fin.ext (by simp only []; omega)] at this
  by_cases d : l.val < 96
  · have := h3 ⟨l.val - 80, by omega⟩
    rwa [show (⟨64 + (16 + (l.val - 80)), by omega⟩ : Fin 128) = l from Fin.ext (by simp only []; omega)] at this
  · have := h4 ⟨l.val - 96, by omega⟩
    rwa [show (⟨96 + (l.val - 96), by omega⟩ : Fin 128) = l from Fin.ext (by simp only []; omega)] at this

/-- The lanes of a slice of two heads: two halves of 32 each. -/
theorem lanesH (Q : Fin 128 → Prop) (h1 : ∀ (u : Fin 2) (l : Fin 32), Q ⟨64 * u.val + l.val, by omega⟩)
    (h2 : ∀ (u : Fin 2) (l : Fin 32), Q ⟨64 * u.val + (32 + l.val), by omega⟩) (l : Fin 128) : Q l := by
  by_cases a : l.val % 64 < 32
  · have := h1 ⟨l.val / 64, by omega⟩ ⟨l.val % 64, a⟩
    rwa [show (⟨64 * (l.val / 64) + l.val % 64, by omega⟩ : Fin 128) = l from Fin.ext (by simp only []; omega)] at this
  · have := h2 ⟨l.val / 64, by omega⟩ ⟨l.val % 64 - 32, by omega⟩
    rwa [show (⟨64 * (l.val / 64) + (32 + (l.val % 64 - 32)), by omega⟩ : Fin 128) = l from Fin.ext (by simp only []; omega)] at this

/-- The rotated lanes of a head's queries. -/
theorem qa_lanes (p : Fin 8) (d : Fin 32) :
    (A.given R).qa (⟨128 * p.val + (64 + d.val), by omega⟩ : Fin 1024) = Reference.lanesQa A.Qa (ix3 R p d) :=
  (qa_eq A R p ⟨64 + d.val, by omega⟩).trans (Reference.lanesQa_at A.Qa R p d).symm

/-- The first attention's queries agree. -/
theorem outQa_eq (p : Fin 8) (l : Fin 128) : (A.given R).outQa p l = A.outQa (ix2 R (⟨128 * p.val + l.val, by omega⟩ : Fin 1024)) := by
  unfold Given.outQa Args.outQa
  refine lanesA (fun l => turn 112 16 (fun j : Fin 128 => (A.given R).qa ⟨128 * p.val + j.val, by omega⟩) ((A.given R).tab 0) ((A.given R).tab 1) ((A.given R).tab 2) l =
    Reference.outQa A.Qa (Reference.rotQa (Reference.lanesQa A.Qa) Reference.cosA Reference.sinA) (ix2 R (⟨128 * p.val + l.val, by omega⟩ : Fin 1024))) ?_ ?_ ?_ ?_ l
  · intro l
    exact ((turnA_first A R _ l).trans (qa_eq A R p ⟨l.val, by omega⟩)).trans (Reference.outQa_lo _ _ R p l).symm
  · intro l
    exact ((turnA_lo A R _ _ (qa_lanes A R p) l).trans (rotQa_Lo R _ p l).symm).trans (Reference.outQa_mid _ _ R p ⟨l.val, by omega⟩).symm
  · intro l
    exact ((turnA_hi A R _ _ (qa_lanes A R p) l).trans (rotQa_Hi R _ p l).symm).trans (Reference.outQa_mid _ _ R p ⟨16 + l.val, by omega⟩).symm
  · intro l
    exact ((turnA_last A R _ l).trans (qa_pad A R p l)).trans (Reference.outQa_hi _ _ R p l).symm

/-- The rotated lanes of the keys. -/
theorem kr_lanes (d : Fin 32) : (A.given R).col (⟨640 + (64 + d.val), by omega⟩ : Fin 5888) = Reference.lanesKr A.P (ix3 R 0 d) :=
  (colKr A R d).trans (Reference.lanesKr_at A.P R d).symm

/-- The first attention's keys agree. -/
theorem outKa_eq (p : Fin 8) (l : Fin 128) : (A.given R).outKa p l = A.outKa (ix2 R (⟨128 * p.val + l.val, by omega⟩ : Fin 1024)) := by
  unfold Given.outKa Args.outKa
  refine lanesA (fun l => (A.given R).kv (⟨128 * p.val + l.val, by omega⟩ : Fin 1536)
      + turn 112 16 (fun j : Fin 128 => (A.given R).col ⟨640 + j.val, by omega⟩) ((A.given R).tab 0) ((A.given R).tab 1) ((A.given R).tab 2) l =
    Reference.outKa A.Kv (Reference.rotKr (Reference.lanesKr A.P) Reference.cosA Reference.sinA) (ix2 R (⟨128 * p.val + l.val, by omega⟩ : Fin 1024))) ?_ ?_ ?_ ?_ l
  · intro l
    exact ((congrArg₂ (fun a b : EReal => a + b) (k_eq A R p l) ((turnA_first A R _ l).trans (colKr_lo A R l))).trans (add_zero _)).trans (Reference.outKa_lo _ _ R p l).symm
  · intro l
    exact ((congrArg₂ (fun a b : EReal => a + b) (k_pad A R p ⟨l.val, by omega⟩) ((turnA_lo A R _ _ (kr_lanes A R) l).trans (rotKr_Lo R _ l).symm)).trans (zero_add _)).trans
      (Reference.outKa_mid _ _ R p ⟨l.val, by omega⟩).symm
  · intro l
    exact ((congrArg₂ (fun a b : EReal => a + b) (k_pad A R p ⟨16 + l.val, by omega⟩) ((turnA_hi A R _ _ (kr_lanes A R) l).trans (rotKr_Hi R _ l).symm)).trans (zero_add _)).trans
      (Reference.outKa_mid _ _ R p ⟨16 + l.val, by omega⟩).symm
  · intro l
    have e : (⟨128 * p.val + (96 + l.val), by omega⟩ : Fin 1536) = ⟨128 * p.val + (64 + (⟨32 + l.val, by omega⟩ : Fin 64).val), by omega⟩ :=
      Fin.ext (by simp only []; omega)
    exact ((congrArg₂ (fun a b : EReal => a + b) ((congrArg (A.given R).kv e).trans (k_pad A R p ⟨32 + l.val, by omega⟩)) ((turnA_last A R _ l).trans (colKr_hi A R l))).trans (add_zero _)).trans
      (Reference.outKa_hi _ _ R p l).symm

/-- The first attention's values agree. -/
theorem outVa_eq (p : Fin 8) (l : Fin 64) :
    (A.given R).outVa (⟨64 * p.val + l.val, by omega⟩ : Fin 512) = Reference.outVa A.Kv (ix2 R (⟨64 * p.val + l.val, by omega⟩ : Fin 512)) :=
  (v_eq A R p l).trans (Reference.outVa_at _ R p l).symm

/-- The gates agree. -/
theorem outGate_eq (k : Fin 3072) : (A.given R).outGate k = Reference.outGate A.P (ix2 R k) :=
  (congrArg gate (colGate A R k)).trans (Reference.outGate_at A.P R k).symm

/-- Values agree. -/
theorem outVb_eq (k u : Fin 2) (d : Fin 64) : (A.given R).outVb (⟨128 * k.val + (64 * u.val + d.val), by omega⟩ : Fin 256) =
    Reference.outVb A.P (ix2 R (⟨128 * k.val + (64 * u.val + d.val), by omega⟩ : Fin 256)) :=
  (colVb A R k u d).trans (Reference.outVb_at A.P R k u d).symm

/-- Values agree. -/
theorem outVw_eq (k u : Fin 2) (d : Fin 64) : (A.given R).outVw (⟨128 * k.val + (64 * u.val + d.val), by omega⟩ : Fin 256) =
    Reference.outVw A.P (ix2 R (⟨128 * k.val + (64 * u.val + d.val), by omega⟩ : Fin 256)) :=
  (colVw A R k u d).trans (Reference.outVw_at A.P R k u d).symm

/-- A head's queries. -/
theorem headsQw_eq (g : Fin 4) (u : Fin 2) (d : Fin 64) : (A.given R).col (⟨1792 + (128 * g.val + (64 * u.val + d.val)), by omega⟩ : Fin 5888) =
    Reference.headsQw A.P (ix3 R (⟨2 * g.val + u.val, by omega⟩ : Fin 8) d) :=
  ((colQw A R ⟨128 * g.val + (64 * u.val + d.val), by omega⟩).trans
    (congrArg (fun z : Fin 5280 => A.P (ix2 R z)) (Fin.ext (by simp only []; omega)))).trans (Reference.headsQw_at A.P R _ d).symm

/-- A head's keys. -/
theorem headsKw_eq (g u : Fin 2) (d : Fin 64) : (A.given R).col (⟨2304 + (128 * g.val + (64 * u.val + d.val)), by omega⟩ : Fin 5888) =
    Reference.headsKw A.P (ix3 R g d) :=
  (colKw A R g u d).trans (Reference.headsKw_at A.P R g d).symm

/-- The reference's queries of the third attention, as left. -/
def Args.outQw : FVec Ideal S17408x512 .bf16 := Reference.outQw (Reference.rotQw (Reference.headsQw A.P) Reference.cosH Reference.sinH)

/-- The reference's keys of the third attention, as left. -/
def Args.outKw : FVec Ideal S17408x256 .bf16 := Reference.outKw (Reference.rotKw (Reference.headsKw A.P) Reference.cosH Reference.sinH)

/-- The third attention's queries agree. -/
theorem outQw_eq (g : Fin 4) (l : Fin 128) : (A.given R).outQw g l = A.outQw (ix2 R (⟨128 * g.val + l.val, by omega⟩ : Fin 512)) := by
  unfold Given.outQw Args.outQw
  refine lanesH (fun l => turn 96 32 (fun j : Fin 128 => (A.given R).col ⟨1792 + (128 * g.val + j.val), by omega⟩) ((A.given R).tab 3) ((A.given R).tab 4) ((A.given R).tab 5) l
      * Ideal.ofBits .f32 0x3E000000#32 =
    Reference.outQw (Reference.rotQw (Reference.headsQw A.P) Reference.cosH Reference.sinH) (ix2 R (⟨128 * g.val + l.val, by omega⟩ : Fin 512))) ?_ ?_ l
  · intro u l
    have e : (⟨128 * g.val + (64 * u.val + l.val), by omega⟩ : Fin 512) = ⟨64 * (⟨2 * g.val + u.val, by omega⟩ : Fin 8).val + (⟨l.val, by omega⟩ : Fin 64).val, by simp only []; omega⟩ :=
      Fin.ext (by simp only []; omega)
    refine Eq.trans ?_ ((congrArg (fun z => Reference.outQw _ (ix2 R z)) e).trans (Reference.outQw_at _ R _ _)).symm
    exact congrArg (fun z : EReal => z * Ideal.ofBits .f32 0x3E000000#32) ((turnH_lo A R _ u _ (headsQw_eq A R g u) l).trans (rotQw_Lo R _ _ l).symm)
  · intro u l
    have e : (⟨128 * g.val + (64 * u.val + (32 + l.val)), by omega⟩ : Fin 512) = ⟨64 * (⟨2 * g.val + u.val, by omega⟩ : Fin 8).val + (⟨32 + l.val, by omega⟩ : Fin 64).val, by simp only []; omega⟩ :=
      Fin.ext (by simp only []; omega)
    refine Eq.trans ?_ ((congrArg (fun z => Reference.outQw _ (ix2 R z)) e).trans (Reference.outQw_at _ R _ _)).symm
    exact congrArg (fun z : EReal => z * Ideal.ofBits .f32 0x3E000000#32) ((turnH_hi A R _ u _ (headsQw_eq A R g u) l).trans (rotQw_Hi R _ _ l).symm)

/-- The third attention's keys agree. -/
theorem outKw_eq (g : Fin 2) (l : Fin 128) : (A.given R).outKw g l = A.outKw (ix2 R (⟨128 * g.val + l.val, by omega⟩ : Fin 256)) := by
  unfold Given.outKw Args.outKw
  refine lanesH (fun l => turn 96 32 (fun j : Fin 128 => (A.given R).col ⟨2304 + (128 * g.val + j.val), by omega⟩) ((A.given R).tab 3) ((A.given R).tab 4) ((A.given R).tab 5) l =
    Reference.outKw (Reference.rotKw (Reference.headsKw A.P) Reference.cosH Reference.sinH) (ix2 R (⟨128 * g.val + l.val, by omega⟩ : Fin 256))) ?_ ?_ l
  · intro u l
    exact ((turnH_lo A R _ u _ (headsKw_eq A R g u) l).trans (rotKw_Lo R _ g l).symm).trans (Reference.outKw_at _ R g u ⟨l.val, by omega⟩).symm
  · intro u l
    exact ((turnH_hi A R _ u _ (headsKw_eq A R g u) l).trans (rotKw_Hi R _ g l).symm).trans (Reference.outKw_at _ R g u ⟨32 + l.val, by omega⟩).symm

end Cert.Project

end
-- ==== Proof.Project.Real.lean ====
module

public import proofs.«01_k».proof.Proof.Project.Rows
public import Idealize.ShloMosaic.Lib.Pointwise

/-! Numbers that are real, and the two-part sum over heads, which for real numbers is the mean square of a head. -/

@[expose] public section

set_option maxRecDepth 16384

noncomputable section

namespace Cert.Project

open Idealize.ShloMosaic Idealize.ShloMosaic.TcCoe Idealize.SL.Sem

/-- A number is real: neither infinity. -/
def IsReal (x : EReal) : Prop := ∃ r : ℝ, x = (r : EReal)

/-- Zero is real. -/
theorem IsReal.zero : IsReal 0 := ⟨0, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals is real. -/
theorem IsReal.sum {ι : Type} (s : Finset ι) (f : ι → EReal) (h : ∀ i, IsReal (f i)) : IsReal (∑ i ∈ s, f i) := by
  classical
  induction s using Finset.induction_on with
  | empty => exact IsReal.zero
  | insert a s ha ih =>
    rw [Finset.sum_insert ha]
    exact (h a).add ih

/-- A sum of squares of reals is a real that isn't negative. -/
theorem squares_real {k : Nat} (f : Fin k → EReal) (h : ∀ i, IsReal (f i)) : ∃ r : ℝ, 0 ≤ r ∧ ∑ i, f i * f i = (r : EReal) := by
  choose g hg using h
  refine ⟨∑ i, g i * g i, Finset.sum_nonneg fun i _ => mul_self_nonneg _, ?_⟩
  have e : ∀ s : Finset (Fin k), ∑ i ∈ s, f i * f i = ((∑ i ∈ s, g i * g i : ℝ) : EReal) := fun s => by
    classical
    induction s using Finset.induction_on with
    | empty => rfl
    | insert a s ha ih => rw [Finset.sum_insert ha, Finset.sum_insert ha, ih, hg a, EReal.coe_add, EReal.coe_mul]
  exact e _

/-- One, as bits. -/
theorem oneBits : Ideal.ofBits .f32 0x3F800000#32 = ((1 : ℝ) : EReal) := by
  simp [Ideal.ofBits, Ideal.ieee, -EReal.coe_mul]; norm_num

/-- The number added under the root, as bits: real and positive. -/
theorem epsBits : ∃ r : ℝ, 0 < r ∧ Ideal.ofBits .f32 0x358637BD#32 = (r : EReal) := by
  simp [Ideal.ofBits, Ideal.ieee, -EReal.coe_mul]

/-- 1024, as bits. -/
theorem rowBits : Ideal.ofBits .f32 0x44800000#32 = ((1024 : ℝ) : EReal) := by
  simp [Ideal.ofBits, Ideal.ieee, -EReal.coe_mul]; norm_num

/-- 64, as bits. -/
theorem headBits : Ideal.ofBits .f32 0x42800000#32 = ((64 : ℝ) : EReal) := by
  simp [Ideal.ofBits, Ideal.ieee, -EReal.coe_mul]; norm_num

/-- One over 64, as bits. -/
theorem overBits : Ideal.ofBits .f32 0x3C800000#32 = ((1 / 64 : ℝ) : EReal) := by
  simp [Ideal.ofBits, Ideal.ieee, -EReal.coe_mul]; norm_num

/-- A real row's root-mean-square norm is real. -/
theorem rms_real (v gain : Fin 1024 → EReal) (hv : ∀ i, IsReal (v i)) (hg : ∀ i, IsReal (gain i)) (j : Fin 1024) :
    IsReal (rms 0x44800000#32 v gain j) := by
  obtain ⟨q, hq, eq⟩ := squares_real v hv
  obtain ⟨z, hz, ez⟩ := epsBits
  unfold rms
  refine ((hv j).mul ?_).mul (hg j)
  rw [eq, rowBits, Ideal.div_coe (by norm_num), ez, ← EReal.coe_mul, ← EReal.coe_add, Ideal.rsqrt_coe,
    if_neg (by have : 0 ≤ q * (1 / 1024) := by positivity
               linarith),
    if_neg (by have : 0 ≤ q * (1 / 1024) := by positivity
               exact (by linarith : (0 : ℝ) < q * (1 / 1024) + z).ne')]
  exact ⟨_, rfl⟩

/-- A real row's normed and modulated row is real. -/
theorem normed_real (T : Row) (gain : Fin 1024 → EReal) (hx : ∀ i, IsReal (T.x i)) (hs : ∀ i, IsReal (T.shift i)) (hc : ∀ i, IsReal (T.scale i))
    (hg : ∀ i, IsReal (gain i)) (n : Fin 1024) : IsReal (normed T gain n) := by
  unfold normed
  exact ((rms_real T.x gain hx hg n).mul (IsReal.add ⟨1, oneBits⟩ (hc n))).add (hs n)

/-- A real row times a real column is real. -/
theorem lin_real {k : Nat} (h w : Fin k → EReal) (hh : ∀ i, IsReal (h i)) (hw : ∀ i, IsReal (w i)) : IsReal (lin h w) :=
  IsReal.sum _ _ fun i => (hh i).mul (hw i)

/-- A real number minus itself is zero. -/
theorem IsReal.sub_self {x : EReal} (h : IsReal x) : x - x = 0 := by
  obtain ⟨a, rfl⟩ := h
  rw [← EReal.coe_sub, _root_.sub_self]
  rfl

/-- A sum over 128 lanes of numbers kept in one head only is the sum over that head's lanes. -/
theorem sum_head (F : Fin 128 → EReal) (u : Fin 2) :
    ∑ j : Fin 128, F j * (if j.val / 64 = u.val then 1 else 0) = ∑ i : Fin 64, F (⟨64 * u.val + i.val, by omega⟩ : Fin 128) := by
  have e := Fin.sum_univ_add (fun j : Fin (64 + 64) => F j * (if j.val / 64 = u.val then (1 : EReal) else 0))
  refine Eq.trans e ?_
  match u with
  | 0 =>
    rw [Finset.sum_eq_zero (s := Finset.univ) (f := fun i : Fin 64 => F (Fin.natAdd 64 i) * (if (Fin.natAdd 64 i).val / 64 = (0 : Fin 2).val then (1 : EReal) else 0)) (fun i _ => by
      rw [if_neg (by have := i.isLt; simp only [Fin.val_natAdd]; first | (simp; done) | (simp; omega)), mul_zero]), add_zero]
    refine Finset.sum_congr rfl fun i _ => ?_
    rw [if_pos (by have := i.isLt; simp only [Fin.val_castAdd]; first | (simp; done) | (simp; omega)), mul_one]
    exact congrArg F (Fin.ext (by first | (simp; done) | (simp; omega)))
  | 1 =>
    rw [Finset.sum_eq_zero (s := Finset.univ) (f := fun i : Fin 64 => F (Fin.castAdd 64 i) * (if (Fin.castAdd 64 i).val / 64 = (1 : Fin 2).val then (1 : EReal) else 0)) (fun i _ => by
      rw [if_neg (by have := i.isLt; simp only [Fin.val_castAdd]; first | (simp; done) | (simp; omega)), mul_zero]), zero_add]
    refine Finset.sum_congr rfl fun i _ => ?_
    rw [if_pos (by have := i.isLt; simp only [Fin.val_natAdd]; first | (simp; done) | (simp; omega)), mul_one]
    exact congrArg F (Fin.ext (by first | (simp; done) | (simp; omega)))

/-- For real numbers, a slice divided by the roots of its two-part sums is each head divided by its root mean square. -/
theorem leveled_eq (x : Fin 128 → EReal) (bd : Fin 128 → Fin 128 → EReal) (hx : ∀ j, IsReal (x j))
    (hb : ∀ j l, bd j l = if j.val / 64 = l.val / 64 then 1 else 0) (u : Fin 2) (f gain : Fin 64 → EReal)
    (hf : ∀ d : Fin 64, x (⟨64 * u.val + d.val, by omega⟩ : Fin 128) = f d) (d : Fin 64) :
    leveled x bd (⟨64 * u.val + d.val, by omega⟩ : Fin 128) * gain d = rms 0x42800000#32 f gain d := by
  have z : ∑ j, (x j * x j - x j * x j) * bd j (⟨64 * u.val + d.val, by omega⟩ : Fin 128) = 0 :=
    Finset.sum_eq_zero fun j _ => by rw [((hx j).mul (hx j)).sub_self, zero_mul]
  have e : ∑ j, x j * x j * bd j (⟨64 * u.val + d.val, by omega⟩ : Fin 128) = ∑ i, f i * f i := by
    refine Eq.trans (Finset.sum_congr rfl fun j _ => ?_) ((sum_head (fun j => x j * x j) u).trans
      (Finset.sum_congr rfl fun i _ => by rw [hf i]))
    rw [hb, show (⟨64 * u.val + d.val, by omega⟩ : Fin 128).val / 64 = u.val by simp only []; omega]
  unfold leveled rms
  rw [z, e, add_zero, overBits, headBits, Ideal.div_coe (by norm_num), hf]

end Cert.Project

end
-- ==== Proof.Project.Sums.lean ====
module

public import proofs.«01_k».proof.Proof.Project.Host
public import Idealize.ShloMosaic.Lib.StableHlo.RunRead

/-! The matrix that sums over heads, entry by entry. -/

@[expose] public section

set_option maxRecDepth 16384

noncomputable section

namespace Cert.Project

open Cert.Kernel4Ideal Cert.Kernel4Ideal.Gen Idealize.ShloMosaic Idealize.ShloMosaic.TcCoe Idealize.SL.Sem

/-- The entries of the matrix that sums over heads, as bits. -/
theorem bdBits : ∀ k : Fin 16384, lit0 k = if k.val / 128 / 64 = k.val % 128 / 64 then 0x3F80#16 else 0#16 := by
  decide +kernel

/-- The matrix that sums over heads: one where both lanes are of one head. -/
theorem packBd_at (j l : Fin 128) : packBd (ix2 j l) = if j.val / 64 = l.val / 64 then 1 else 0 := by
  have e : (S128x128.rowMajor (ix2 j l)).val = 128 * j.val + l.val :=
    (Shape.rowMajor_val_two (ix2 j l)).trans (by simp only [ix2]; first | rfl | (simp; omega))
  have h := bdBits (S128x128.rowMajor (ix2 j l))
  rw [e, show (128 * j.val + l.val) / 128 = j.val by omega, show (128 * j.val + l.val) % 128 = l.val by omega] at h
  unfold packBd
  rw [h]
  by_cases q : j.val / 64 = l.val / 64
  · rw [if_pos q, if_pos q]
    pointwise []
  · rw [if_neg q, if_neg q]
    pointwise []

end Cert.Project

end
-- ==== Proof.Project.Level.lean ====
module

public import proofs.«01_k».proof.Proof.Project.Agree
public import proofs.«01_k».proof.Proof.Project.Real
public import proofs.«01_k».proof.Proof.Project.Sums

/-! The second attention's queries and keys agree, the inputs being finite. -/

@[expose] public section

set_option maxRecDepth 16384

noncomputable section

namespace Cert.Project

open Cert.Kernel4Ideal Cert.Kernel4Ideal.Gen Idealize.ShloMosaic Idealize.ShloMosaic.TcCoe Idealize.SL.Sem

/-- The arguments that the projection is made of are real: the rows, the modulations, the norm's gain and the weights. -/
structure Args.Finite (A : Args) : Prop where
  /-- The latent rows. -/
  x : ∀ i, IsReal (A.x i)
  /-- The context rows. -/
  y : ∀ i, IsReal (A.y i)
  /-- The modulation of the sequences. -/
  md : ∀ i, IsReal (A.md i)
  /-- The context's modulation. -/
  mc : ∀ i, IsReal (A.mc i)
  /-- The norm's gain. -/
  g : ∀ i, IsReal (A.g i)
  /-- The weights. -/
  w : ∀ i, IsReal (A.w i)

variable (A : Args) (hA : A.Finite) (R : Fin 17408)

include hA in
/-- The normed rows are real. -/
theorem H_real (n : Fin 1024) : IsReal (A.H (ix2 R n)) := by
  unfold Args.H
  rcases Reference.row_cases R with ⟨k, s, rfl⟩ | ⟨k, s, hR⟩
  · rw [Reference.rows_latent, Reference.normL_at]
    exact normed_real _ _ (fun _ => hA.x _) (fun _ => hA.md _) (fun _ => hA.md _) (fun _ => hA.g _) n
  · rw [Reference.rows_context _ _ s k R hR, Reference.normC_at]
    exact normed_real _ _ (fun _ => hA.y _) (fun _ => hA.mc _) (fun _ => hA.mc _) (fun _ => hA.g _) n

include hA in
/-- The projection is real. -/
theorem P_real (j : Fin 5280) : IsReal (A.P (ix2 R j)) := by
  unfold Args.P
  rw [Reference.proj_at]
  exact lin_real _ _ (fun n => H_real A hA R n) fun _ => hA.w _

/-- The matrix that sums over heads. -/
theorem given_bd (j l : Fin 128) : (A.given R).bd j l = if j.val / 64 = l.val / 64 then 1 else 0 := packBd_at j l

/-- A head's queries. -/
theorem headsQb_eq (g : Fin 4) (u : Fin 2) (d : Fin 64) : (A.given R).col (⟨768 + (128 * g.val + (64 * u.val + d.val)), by omega⟩ : Fin 5888) =
    Reference.headsQb A.P (ix3 R (⟨2 * g.val + u.val, by omega⟩ : Fin 8) d) :=
  ((colQb A R ⟨128 * g.val + (64 * u.val + d.val), by omega⟩).trans
    (congrArg (fun z : Fin 5280 => A.P (ix2 R z)) (Fin.ext (by simp only []; omega)))).trans (Reference.headsQb_at A.P R _ d).symm

/-- A head's keys. -/
theorem headsKb_eq (g u : Fin 2) (d : Fin 64) : (A.given R).col (⟨1280 + (128 * g.val + (64 * u.val + d.val)), by omega⟩ : Fin 5888) =
    Reference.headsKb A.P (ix3 R g d) :=
  (colKb A R g u d).trans (Reference.headsKb_at A.P R g d).symm

include hA in
/-- The slices of the queries are real. -/
theorem qb_real (g : Fin 4) (i : Fin 128) : IsReal ((A.given R).col (⟨768 + (128 * g.val + i.val), by omega⟩ : Fin 5888)) := by
  rw [show (A.given R).col (⟨768 + (128 * g.val + i.val), by omega⟩ : Fin 5888) = _ from colQb A R ⟨128 * g.val + i.val, by omega⟩]
  exact P_real A hA R _

include hA in
/-- The slices of the keys are real. -/
theorem kb_real (g : Fin 2) (i : Fin 128) : IsReal ((A.given R).col (⟨1280 + (128 * g.val + i.val), by omega⟩ : Fin 5888)) := by
  have e : (⟨1280 + (128 * g.val + i.val), by omega⟩ : Fin 5888) =
      ⟨1280 + (128 * g.val + (64 * (⟨i.val / 64, by omega⟩ : Fin 2).val + (⟨i.val % 64, Nat.mod_lt _ (by norm_num)⟩ : Fin 64).val)), by simp only []; omega⟩ :=
    Fin.ext (by simp only []; omega)
  rw [e, colKb A R g ⟨i.val / 64, by omega⟩ ⟨i.val % 64, Nat.mod_lt _ (by norm_num)⟩]
  exact P_real A hA R _

/-- The gain of a head's queries. -/
theorem given_nq (g : Fin 4) (u : Fin 2) (d : Fin 64) : (A.given R).nq (⟨128 * g.val + (64 * u.val + d.val), by omega⟩ : Fin 512) = A.nq (ix1 d) :=
  (congrArg (fun z : Fin 512 => packNq A.nq (ix2 0 z)) (Fin.ext (by simp only []; omega))).trans (packNq_at A.nq (⟨2 * g.val + u.val, by omega⟩ : Fin 8) d)

/-- The gain of a head's keys. -/
theorem given_nk (g u : Fin 2) (d : Fin 64) : (A.given R).nk (⟨128 * g.val + (64 * u.val + d.val), by omega⟩ : Fin 256) = A.nk (ix1 d) :=
  (congrArg (fun z : Fin 256 => packNk A.nk (ix2 0 z)) (Fin.ext (by simp only []; omega))).trans (packNk_at A.nk (⟨2 * g.val + u.val, by omega⟩ : Fin 4) d)

include hA in
/-- A head's queries, normed. -/
theorem normQb_eq (g : Fin 4) (u : Fin 2) (d : Fin 64) :
    leveled (fun i => (A.given R).col (⟨768 + (128 * g.val + i.val), by omega⟩ : Fin 5888)) (A.given R).bd (⟨64 * u.val + d.val, by omega⟩ : Fin 128)
        * (A.given R).nq (⟨128 * g.val + (64 * u.val + d.val), by omega⟩ : Fin 512) =
      Reference.normQb (Reference.headsQb A.P) A.nq (ix3 R (⟨2 * g.val + u.val, by omega⟩ : Fin 8) d) := by
  rw [given_nq, Reference.normQb_at]
  exact leveled_eq _ _ (qb_real A hA R g) (given_bd A R) u _ (fun d => A.nq (ix1 d)) (headsQb_eq A R g u) d

include hA in
/-- A head's keys, normed. -/
theorem normKb_eq (g u : Fin 2) (d : Fin 64) :
    leveled (fun i => (A.given R).col (⟨1280 + (128 * g.val + i.val), by omega⟩ : Fin 5888)) (A.given R).bd (⟨64 * u.val + d.val, by omega⟩ : Fin 128)
        * (A.given R).nk (⟨128 * g.val + (64 * u.val + d.val), by omega⟩ : Fin 256) =
      Reference.normKb (Reference.headsKb A.P) A.nk (ix3 R g d) := by
  rw [given_nk, Reference.normKb_at]
  exact leveled_eq _ _ (kb_real A hA R g) (given_bd A R) u _ (fun d => A.nk (ix1 d)) (headsKb_eq A R g u) d

/-- The reference's queries of the second attention, as left. -/
def Args.outQb : FVec Ideal S17408x512 .bf16 := Reference.outQb (Reference.rotQb (Reference.normQb (Reference.headsQb A.P) A.nq) Reference.cosH Reference.sinH)

/-- The reference's keys of the second attention, as left. -/
def Args.outKb : FVec Ideal S17408x256 .bf16 := Reference.outKb (Reference.rotKb (Reference.normKb (Reference.headsKb A.P) A.nk) Reference.cosH Reference.sinH)

include hA in
/-- The second attention's queries agree. -/
theorem outQb_eq (g : Fin 4) (l : Fin 128) : (A.given R).outQb g l = A.outQb (ix2 R (⟨128 * g.val + l.val, by omega⟩ : Fin 512)) := by
  unfold Given.outQb Args.outQb
  refine lanesH (fun l => turn 96 32 (fun j : Fin 128 => leveled (fun i => (A.given R).col ⟨768 + (128 * g.val + i.val), by omega⟩) (A.given R).bd j
      * (A.given R).nq ⟨128 * g.val + j.val, by omega⟩) ((A.given R).tab 3) ((A.given R).tab 4) ((A.given R).tab 5) l =
    Reference.outQb (Reference.rotQb (Reference.normQb (Reference.headsQb A.P) A.nq) Reference.cosH Reference.sinH) (ix2 R (⟨128 * g.val + l.val, by omega⟩ : Fin 512))) ?_ ?_ l
  · intro u l
    have e : (⟨128 * g.val + (64 * u.val + l.val), by omega⟩ : Fin 512) = ⟨64 * (⟨2 * g.val + u.val, by omega⟩ : Fin 8).val + (⟨l.val, by omega⟩ : Fin 64).val, by simp only []; omega⟩ :=
      Fin.ext (by simp only []; omega)
    refine Eq.trans ?_ ((congrArg (fun z => Reference.outQb _ (ix2 R z)) e).trans (Reference.outQb_at _ R _ _)).symm
    exact (turnH_lo A R _ u _ (normQb_eq A hA R g u) l).trans (rotQb_Lo R _ _ l).symm
  · intro u l
    have e : (⟨128 * g.val + (64 * u.val + (32 + l.val)), by omega⟩ : Fin 512) = ⟨64 * (⟨2 * g.val + u.val, by omega⟩ : Fin 8).val + (⟨32 + l.val, by omega⟩ : Fin 64).val, by simp only []; omega⟩ :=
      Fin.ext (by simp only []; omega)
    refine Eq.trans ?_ ((congrArg (fun z => Reference.outQb _ (ix2 R z)) e).trans (Reference.outQb_at _ R _ _)).symm
    exact (turnH_hi A R _ u _ (normQb_eq A hA R g u) l).trans (rotQb_Hi R _ _ l).symm

include hA in
/-- The second attention's keys agree. -/
theorem outKb_eq (g : Fin 2) (l : Fin 128) : (A.given R).outKb g l = A.outKb (ix2 R (⟨128 * g.val + l.val, by omega⟩ : Fin 256)) := by
  unfold Given.outKb Args.outKb
  refine lanesH (fun l => turn 96 32 (fun j : Fin 128 => leveled (fun i => (A.given R).col ⟨1280 + (128 * g.val + i.val), by omega⟩) (A.given R).bd j
      * (A.given R).nk ⟨128 * g.val + j.val, by omega⟩) ((A.given R).tab 3) ((A.given R).tab 4) ((A.given R).tab 5) l =
    Reference.outKb (Reference.rotKb (Reference.normKb (Reference.headsKb A.P) A.nk) Reference.cosH Reference.sinH) (ix2 R (⟨128 * g.val + l.val, by omega⟩ : Fin 256))) ?_ ?_ l
  · intro u l
    exact ((turnH_lo A R _ u _ (normKb_eq A hA R g u) l).trans (rotKb_Lo R _ g l).symm).trans (Reference.outKb_at _ R g u ⟨l.val, by omega⟩).symm
  · intro u l
    exact ((turnH_hi A R _ u _ (normKb_eq A hA R g u) l).trans (rotKb_Hi R _ g l).symm).trans (Reference.outKb_at _ R g u ⟨32 + l.val, by omega⟩).symm

end Cert.Project

end
-- ==== Proof.Project.Inputs.lean ====
module

public import proofs.«01_k».proof.Proof.Project.Host

public import proofs.«01_k».proof.Proof.Project.Array
public import Idealize.ShloMosaic.Lib.StableHlo.RunRead

/-! That the arrays the input projections' call reads, are those the host makes of the arguments. -/

@[expose] public section

set_option maxRecDepth 16384

noncomputable section

namespace Cert.Project

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The call's rows: as the host packs the arguments. -/
theorem inX_eq : inX m c = packX (m ((c.tc : Thread nD τ).loc main_arg0)) (m ((c.tc : Thread nD τ).loc main_arg1)) := by
  unfold inX
  unfold_abbrev_sides
  after_reads_simp
  rfl

/-- The call's modulations: as the host packs the arguments. -/
theorem inM_eq : inM m c = packM (m ((c.tc : Thread nD τ).loc main_arg2)) (m ((c.tc : Thread nD τ).loc main_arg3)) := by
  unfold inM
  unfold_abbrev_sides
  after_reads_simp
  rfl

/-- The call's norm's gain: as the host packs the arguments. -/
theorem inGain_eq : inGain m c = packGain (m ((c.tc : Thread nD τ).loc main_arg4)) := by
  unfold inGain
  unfold_abbrev_sides
  after_reads_simp
  rfl

/-- The call's packed input weights: as the host packs the arguments. -/
theorem inW_eq : inW m c = packW (m ((c.tc : Thread nD τ).loc main_arg5)) := by
  unfold inW
  unfold_abbrev_sides
  after_reads_simp
  rfl

/-- The call's compressed queries' gain: as the host packs the arguments. -/
theorem inGq_eq : inGq m c = packGq (m ((c.tc : Thread nD τ).loc main_arg6)) := by
  unfold inGq
  unfold_abbrev_sides
  after_reads_simp
  rfl

/-- The call's compressed keys' and values' gain: as the host packs the arguments. -/
theorem inGk_eq : inGk m c = packGk (m ((c.tc : Thread nD τ).loc main_arg7)) := by
  unfold inGk
  unfold_abbrev_sides
  after_reads_simp
  rfl

/-- The call's first attention's query weights: as the host packs the arguments. -/
theorem inUq_eq : inUq m c = packUq (m ((c.tc : Thread nD τ).loc main_arg8)) := by
  unfold inUq
  unfold_abbrev_sides
  after_reads_simp
  rfl

/-- The call's first attention's key and value weights: as the host packs the arguments. -/
theorem inUk_eq : inUk m c = packUk (m ((c.tc : Thread nD τ).loc main_arg9)) := by
  unfold inUk
  unfold_abbrev_sides
  after_reads_simp
  rfl

/-- The call's queries' head gain: as the host packs the arguments. -/
theorem inNq_eq : inNq m c = packNq (m ((c.tc : Thread nD τ).loc main_arg10)) := by
  unfold inNq
  unfold_abbrev_sides
  after_reads_simp
  rfl

/-- The call's keys' head gain: as the host packs the arguments. -/
theorem inNk_eq : inNk m c = packNk (m ((c.tc : Thread nD τ).loc main_arg11)) := by
  unfold inNk
  unfold_abbrev_sides
  after_reads_simp
  rfl

/-- Six tables side by side, of equal tables. -/
theorem six_congr (a b c d e f a' b' c' d' e' f' : FVec Ideal S4096x128 .f32) (h0 : a = a') (h1 : b = b') (h2 : c = c') (h3 : d = d') (h4 : e = e') (h5 : f = f') :
    concatenate S4096x768 1 [⟨S4096x128, a⟩, ⟨S4096x128, b⟩, ⟨S4096x128, c⟩, ⟨S4096x128, d⟩, ⟨S4096x128, e⟩, ⟨S4096x128, f⟩] concatenates_S4096x128_S4096x128_S4096x128_S4096x128_S4096x128_S4096x128_S4096x768_d1 =
    concatenate S4096x768 1 [⟨S4096x128, a'⟩, ⟨S4096x128, b'⟩, ⟨S4096x128, c'⟩, ⟨S4096x128, d'⟩, ⟨S4096x128, e'⟩, ⟨S4096x128, f'⟩] concatenates_S4096x128_S4096x128_S4096x128_S4096x128_S4096x128_S4096x128_S4096x768_d1 := by
  rw [h0, h1, h2, h3, h4, h5]

/-- Four pieces side by side, of equal pieces. -/
theorem fourA_congr (a0 b0 : FVec Ideal S4096x64 .f32) (a1 b1 : FVec Ideal S4096x16 .f32) (a2 b2 : FVec Ideal S4096x16 .f32) (a3 b3 : FVec Ideal S4096x32 .f32) (h0 : a0 = b0) (h1 : a1 = b1) (h2 : a2 = b2) (h3 : a3 = b3) :
    concatenate S4096x128 1 [⟨S4096x64, a0⟩, ⟨S4096x16, a1⟩, ⟨S4096x16, a2⟩, ⟨S4096x32, a3⟩] concatenates_S4096x64_S4096x16_S4096x16_S4096x32_S4096x128_d1 =
    concatenate S4096x128 1 [⟨S4096x64, b0⟩, ⟨S4096x16, b1⟩, ⟨S4096x16, b2⟩, ⟨S4096x32, b3⟩] concatenates_S4096x64_S4096x16_S4096x16_S4096x32_S4096x128_d1 := by
  rw [h0, h1, h2, h3]

/-- Four pieces side by side, of equal pieces. -/
theorem fourH_congr (a0 b0 : FVec Ideal S4096x32 .f32) (a1 b1 : FVec Ideal S4096x32 .f32) (a2 b2 : FVec Ideal S4096x32 .f32) (a3 b3 : FVec Ideal S4096x32 .f32) (h0 : a0 = b0) (h1 : a1 = b1) (h2 : a2 = b2) (h3 : a3 = b3) :
    concatenate S4096x128 1 [⟨S4096x32, a0⟩, ⟨S4096x32, a1⟩, ⟨S4096x32, a2⟩, ⟨S4096x32, a3⟩] concatenates_S4096x32_S4096x32_S4096x32_S4096x32_S4096x128_d1 =
    concatenate S4096x128 1 [⟨S4096x32, b0⟩, ⟨S4096x32, b1⟩, ⟨S4096x32, b2⟩, ⟨S4096x32, b3⟩] concatenates_S4096x32_S4096x32_S4096x32_S4096x32_S4096x128_d1 := by
  rw [h0, h1, h2, h3]

/-- Two halves side by side, of equal halves. -/
theorem twoA_congr (a b a' b' : FVec Ideal S4096x8 .f32) (h : a = a') (h' : b = b') :
    concatenate S4096x16 1 [⟨S4096x8, a⟩, ⟨S4096x8, b⟩] concatenates_S4096x8_S4096x8_S4096x16_d1 =
    concatenate S4096x16 1 [⟨S4096x8, a'⟩, ⟨S4096x8, b'⟩] concatenates_S4096x8_S4096x8_S4096x16_d1 := by
  rw [h, h']

/-- Two halves side by side, of equal halves. -/
theorem twoH_congr (a b a' b' : FVec Ideal S4096x16 .f32) (h : a = a') (h' : b = b') :
    concatenate S4096x32 1 [⟨S4096x16, a⟩, ⟨S4096x16, b⟩] concatenates_S4096x16_S4096x16_S4096x32_d1 =
    concatenate S4096x32 1 [⟨S4096x16, a'⟩, ⟨S4096x16, b'⟩] concatenates_S4096x16_S4096x16_S4096x32_d1 := by
  rw [h, h']

/-- The host's table of the cosines of the first attention. -/
theorem readA0 : StableHlo.upto [hostOps0, hostOps0_1, hostOps0_2, hostOps0_3, hostOps0_4].flatten (fun b => m (c, b)) 79 (Proc.tc.devRef main_v38) = tabA0 cosA := by
  after_reads_simp
  unfold tabA0
  refine fourA_congr _ _ _ _ _ _ _ _ ?_ ?_ ?_ ?_
  · show StableHlo.upto _ _ _ (Proc.tc.devRef main_v33) = _
    after_reads_simp
  · show StableHlo.upto _ _ _ (Proc.tc.devRef main_v31) = _
    after_reads_simp
    unfold cosA
    refine congrArg Host.cos ?_
    refine twoA_congr _ _ _ _ ?_ ?_ <;> (after_reads_simp; rfl)
  · show StableHlo.upto _ _ _ (Proc.tc.devRef main_v31) = _
    after_reads_simp
    unfold cosA
    refine congrArg Host.cos ?_
    refine twoA_congr _ _ _ _ ?_ ?_ <;> (after_reads_simp; rfl)
  · show StableHlo.upto _ _ _ (Proc.tc.devRef main_v36) = _
    after_reads_simp

/-- The host's table of the sines of the first attention, for the lower half. -/
theorem readA1 : StableHlo.upto [hostOps0, hostOps0_1, hostOps0_2, hostOps0_3, hostOps0_4].flatten (fun b => m (c, b)) 79 (Proc.tc.devRef main_v40) = tabA1 sinA := by
  after_reads_simp
  unfold tabA1
  refine fourA_congr _ _ _ _ _ _ _ _ ?_ ?_ ?_ ?_
  · show StableHlo.upto _ _ _ (Proc.tc.devRef main_v34) = _
    after_reads_simp
  · show StableHlo.upto _ _ _ (Proc.tc.devRef main_v39) = _
    after_reads_simp
    unfold sinA
    refine congrArg (fun z => Host.negf (Host.sin z)) ?_
    refine twoA_congr _ _ _ _ ?_ ?_ <;> (after_reads_simp; rfl)
  · show StableHlo.upto _ _ _ (Proc.tc.devRef main_v35) = _
    after_reads_simp
  · show StableHlo.upto _ _ _ (Proc.tc.devRef main_v37) = _
    after_reads_simp

/-- The host's table of the sines of the first attention, for the upper half. -/
theorem readA2 : StableHlo.upto [hostOps0, hostOps0_1, hostOps0_2, hostOps0_3, hostOps0_4].flatten (fun b => m (c, b)) 79 (Proc.tc.devRef main_v41) = tabA2 sinA := by
  after_reads_simp
  unfold tabA2
  refine fourA_congr _ _ _ _ _ _ _ _ ?_ ?_ ?_ ?_
  · show StableHlo.upto _ _ _ (Proc.tc.devRef main_v34) = _
    after_reads_simp
  · show StableHlo.upto _ _ _ (Proc.tc.devRef main_v35) = _
    after_reads_simp
  · show StableHlo.upto _ _ _ (Proc.tc.devRef main_v32) = _
    after_reads_simp
    unfold sinA
    refine congrArg Host.sin ?_
    refine twoA_congr _ _ _ _ ?_ ?_ <;> (after_reads_simp; rfl)
  · show StableHlo.upto _ _ _ (Proc.tc.devRef main_v37) = _
    after_reads_simp

/-- The host's table of the cosines of the other attentions. -/
theorem readH0 : StableHlo.upto [hostOps0, hostOps0_1, hostOps0_2, hostOps0_3, hostOps0_4].flatten (fun b => m (c, b)) 79 (Proc.tc.devRef main_v62) = tabH0 cosH := by
  after_reads_simp
  unfold tabH0
  refine fourH_congr _ _ _ _ _ _ _ _ ?_ ?_ ?_ ?_
  · show StableHlo.upto _ _ _ (Proc.tc.devRef main_v59) = _
    after_reads_simp
    unfold cosH
    refine congrArg Host.cos ?_
    refine twoH_congr _ _ _ _ ?_ ?_ <;> (after_reads_simp; rfl)
  · show StableHlo.upto _ _ _ (Proc.tc.devRef main_v59) = _
    after_reads_simp
    unfold cosH
    refine congrArg Host.cos ?_
    refine twoH_congr _ _ _ _ ?_ ?_ <;> (after_reads_simp; rfl)
  · show StableHlo.upto _ _ _ (Proc.tc.devRef main_v59) = _
    after_reads_simp
    unfold cosH
    refine congrArg Host.cos ?_
    refine twoH_congr _ _ _ _ ?_ ?_ <;> (after_reads_simp; rfl)
  · show StableHlo.upto _ _ _ (Proc.tc.devRef main_v59) = _
    after_reads_simp
    unfold cosH
    refine congrArg Host.cos ?_
    refine twoH_congr _ _ _ _ ?_ ?_ <;> (after_reads_simp; rfl)

/-- The host's table of the sines of the other attentions, for the lower halves. -/
theorem readH1 : StableHlo.upto [hostOps0, hostOps0_1, hostOps0_2, hostOps0_3, hostOps0_4].flatten (fun b => m (c, b)) 79 (Proc.tc.devRef main_v65) = tabH1 sinH := by
  after_reads_simp
  unfold tabH1
  refine fourH_congr _ _ _ _ _ _ _ _ ?_ ?_ ?_ ?_
  · show StableHlo.upto _ _ _ (Proc.tc.devRef main_v63) = _
    after_reads_simp
    unfold sinH
    refine congrArg (fun z => Host.negf (Host.sin z)) ?_
    refine twoH_congr _ _ _ _ ?_ ?_ <;> (after_reads_simp; rfl)
  · show StableHlo.upto _ _ _ (Proc.tc.devRef main_v61) = _
    after_reads_simp
  · show StableHlo.upto _ _ _ (Proc.tc.devRef main_v64) = _
    after_reads_simp
    unfold sinH
    refine congrArg (fun z => Host.negf (Host.sin z)) ?_
    refine twoH_congr _ _ _ _ ?_ ?_ <;> (after_reads_simp; rfl)
  · show StableHlo.upto _ _ _ (Proc.tc.devRef main_v61) = _
    after_reads_simp

/-- The host's table of the sines of the other attentions, for the upper halves. -/
theorem readH2 : StableHlo.upto [hostOps0, hostOps0_1, hostOps0_2, hostOps0_3, hostOps0_4].flatten (fun b => m (c, b)) 79 (Proc.tc.devRef main_v66) = tabH2 sinH := by
  after_reads_simp
  unfold tabH2
  refine fourH_congr _ _ _ _ _ _ _ _ ?_ ?_ ?_ ?_
  · show StableHlo.upto _ _ _ (Proc.tc.devRef main_v61) = _
    after_reads_simp
  · show StableHlo.upto _ _ _ (Proc.tc.devRef main_v60) = _
    after_reads_simp
    unfold sinH
    refine congrArg Host.sin ?_
    refine twoH_congr _ _ _ _ ?_ ?_ <;> (after_reads_simp; rfl)
  · show StableHlo.upto _ _ _ (Proc.tc.devRef main_v61) = _
    after_reads_simp
  · show StableHlo.upto _ _ _ (Proc.tc.devRef main_v60) = _
    after_reads_simp
    unfold sinH
    refine congrArg Host.sin ?_
    refine twoH_congr _ _ _ _ ?_ ?_ <;> (after_reads_simp; rfl)

/-- The host's context rows of the tables. -/
theorem readC : StableHlo.upto [hostOps0, hostOps0_1, hostOps0_2, hostOps0_3, hostOps0_4].flatten (fun b => m (c, b)) 85 (Proc.tc.devRef main_v70) = tabC := by
  after_reads_simp
  rfl

/-- The call's tables of rotations: as the host makes them. -/
theorem inTab_eq : inTab m c = packTab := by
  unfold inTab
  unfold_abbrev_sides
  after_reads_simp
  unfold packTab
  refine congrArg₂ (fun (a : FVec Ideal S4096x768 .f32) (b : FVec Ideal S512x768 .f32) =>
    concatenate S4608x768 0 [⟨S4096x768, a⟩, ⟨S512x768, b⟩] concatenates_S4096x768_S512x768_S4608x768_d0) ?_ ?_
  · after_reads_simp
    unfold tabL
    exact six_congr _ _ _ _ _ _ _ _ _ _ _ _ (readA0 m c) (readA1 m c) (readA2 m c) (readH0 m c) (readH1 m c) (readH2 m c)
  · exact readC m c

/-- The call's matrix that sums over heads: as the host packs the arguments. -/
theorem inBd_eq : inBd m c = packBd := by
  unfold inBd
  unfold_abbrev_sides
  after_reads_simp
  rfl

end Cert.Project

end
-- ==== Proof.Project.Claim.lean ====
module

public import proofs.«01_k».proof.Defs
public import proofs.«01_k».proof.Proof.Project.Level
public import proofs.«01_k».proof.Proof.Project.Inputs
public import proofs.«01_k».proof.Proof.Attn.Rows
public import proofs.«01_k».proof.Proof.Gen.Pre_finite_in

/-! The claim: the input projections' call and the reference end in the same ten results. -/

@[expose] public section

set_option maxRecDepth 16384

noncomputable section

namespace Cert.Project

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The run's arguments. -/
def argsOf : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩

/-- What the call's arrays hold for a row is what the arguments give. -/
theorem arrayGiven_eq (R : Fin 17408) : arrayGiven m c R = (argsOf m c).given R := by
  unfold arrayGiven Args.given
  rw [inX_eq, inM_eq, inGain_eq, inW_eq, inGq_eq, inGk_eq, inUq_eq, inUk_eq, inNq_eq, inNk_eq, inTab_eq, inBd_eq]
  rfl

/-- The finite inputs are real. -/
theorem finite_args (h : Cert.Pre_Kernel4Ideal_finite_in m) : (argsOf m c).Finite where
  x i := Cert.Attn.entry_real _ _ Cert.Pre_finite_in.Gen.bcast_S_S4x4096x1024 i (congrFun (h c).1 i)
  y i := Cert.Attn.entry_real _ _ Cert.Pre_finite_in.Gen.bcast_S_S4x256x1024 i (congrFun (h c).2.1 i)
  md i := Cert.Attn.entry_real _ _ Cert.Pre_finite_in.Gen.bcast_S_S4x6144 i (congrFun (h c).2.2.1 i)
  mc i := Cert.Attn.entry_real _ _ Cert.Pre_finite_in.Gen.bcast_S_S6144 i (congrFun (h c).2.2.2.1 i)
  g i := Cert.Attn.entry_real _ _ Cert.Pre_finite_in.Gen.bcast_S_S1024 i (congrFun (h c).2.2.2.2.1 i)
  w i := Cert.Attn.entry_real _ _ Cert.Pre_finite_in.Gen.bcast_S_S1024x5280 i (congrFun (h c).2.2.2.2.2 i)

/-- The call's array of the first attention's queries is the reference's. -/
theorem agreeQa : arrQa m c = (argsOf m c).outQa := by
  funext i
  idx_vars i
  obtain ⟨g, l, rfl⟩ : ∃ (g : Fin 8) (l : Fin 128), i1 = (⟨128 * g.val + l.val, by omega⟩ : Fin 1024) :=
    ⟨⟨i1.val / 128, by omega⟩, ⟨i1.val % 128, Nat.mod_lt _ (by norm_num)⟩, Fin.ext (by simp only []; omega)⟩
  rw [arrQa_at, arrayGiven_eq]
  exact outQa_eq (argsOf m c) i0 g l

/-- The call's array of the first attention's keys is the reference's. -/
theorem agreeKa : arrKa m c = (argsOf m c).outKa := by
  funext i
  idx_vars i
  obtain ⟨g, l, rfl⟩ : ∃ (g : Fin 8) (l : Fin 128), i1 = (⟨128 * g.val + l.val, by omega⟩ : Fin 1024) :=
    ⟨⟨i1.val / 128, by omega⟩, ⟨i1.val % 128, Nat.mod_lt _ (by norm_num)⟩, Fin.ext (by simp only []; omega)⟩
  rw [arrKa_at, arrayGiven_eq]
  exact outKa_eq (argsOf m c) i0 g l

/-- The call's array of the first attention's values is the reference's. -/
theorem agreeVa : arrVa m c = Reference.outVa (argsOf m c).Kv := by
  funext i
  idx_vars i
  obtain ⟨g, l, rfl⟩ : ∃ (g : Fin 8) (l : Fin 64), i1 = (⟨64 * g.val + l.val, by omega⟩ : Fin 512) :=
    ⟨⟨i1.val / 64, by omega⟩, ⟨i1.val % 64, Nat.mod_lt _ (by norm_num)⟩, Fin.ext (by simp only []; omega)⟩
  refine Eq.trans ?_ (outVa_eq (argsOf m c) i0 g l)
  exact congrArg (fun G => Given.outVa G _) (arrayGiven_eq m c i0)

/-- The call's array of the second attention's queries, the inputs being finite, is the reference's. -/
theorem agreeQb (h : Cert.Pre_Kernel4Ideal_finite_in m) : arrQb m c = (argsOf m c).outQb := by
  funext i
  idx_vars i
  obtain ⟨g, l, rfl⟩ : ∃ (g : Fin 4) (l : Fin 128), i1 = (⟨128 * g.val + l.val, by omega⟩ : Fin 512) :=
    ⟨⟨i1.val / 128, by omega⟩, ⟨i1.val % 128, Nat.mod_lt _ (by norm_num)⟩, Fin.ext (by simp only []; omega)⟩
  rw [arrQb_at, arrayGiven_eq]
  exact outQb_eq (argsOf m c) (finite_args m c h) i0 g l

/-- The call's array of the second attention's keys, the inputs being finite, is the reference's. -/
theorem agreeKb (h : Cert.Pre_Kernel4Ideal_finite_in m) : arrKb m c = (argsOf m c).outKb := by
  funext i
  idx_vars i
  obtain ⟨g, l, rfl⟩ : ∃ (g : Fin 2) (l : Fin 128), i1 = (⟨128 * g.val + l.val, by omega⟩ : Fin 256) :=
    ⟨⟨i1.val / 128, by omega⟩, ⟨i1.val % 128, Nat.mod_lt _ (by norm_num)⟩, Fin.ext (by simp only []; omega)⟩
  rw [arrKb_at, arrayGiven_eq]
  exact outKb_eq (argsOf m c) (finite_args m c h) i0 g l

/-- The call's array of the second attention's values is the reference's. -/
theorem agreeVb : arrVb m c = Reference.outVb (argsOf m c).P := by
  funext i
  idx_vars i
  obtain ⟨g, u, l, rfl⟩ : ∃ (g u : Fin 2) (l : Fin 64), i1 = (⟨128 * g.val + (64 * u.val + l.val), by omega⟩ : Fin 256) :=
    ⟨⟨i1.val / 128, by omega⟩, ⟨i1.val % 128 / 64, by omega⟩, ⟨i1.val % 64, Nat.mod_lt _ (by norm_num)⟩, Fin.ext (by simp only []; omega)⟩
  refine Eq.trans ?_ (outVb_eq (argsOf m c) i0 g u l)
  exact congrArg (fun G => Given.outVb G _) (arrayGiven_eq m c i0)

/-- The call's array of the windowed attention's queries is the reference's. -/
theorem agreeQw : arrQw m c = (argsOf m c).outQw := by
  funext i
  idx_vars i
  obtain ⟨g, l, rfl⟩ : ∃ (g : Fin 4) (l : Fin 128), i1 = (⟨128 * g.val + l.val, by omega⟩ : Fin 512) :=
    ⟨⟨i1.val / 128, by omega⟩, ⟨i1.val % 128, Nat.mod_lt _ (by norm_num)⟩, Fin.ext (by simp only []; omega)⟩
  rw [arrQw_at, arrayGiven_eq]
  exact outQw_eq (argsOf m c) i0 g l

/-- The call's array of the windowed attention's keys is the reference's. -/
theorem agreeKw : arrKw m c = (argsOf m c).outKw := by
  funext i
  idx_vars i
  obtain ⟨g, l, rfl⟩ : ∃ (g : Fin 2) (l : Fin 128), i1 = (⟨128 * g.val + l.val, by omega⟩ : Fin 256) :=
    ⟨⟨i1.val / 128, by omega⟩, ⟨i1.val % 128, Nat.mod_lt _ (by norm_num)⟩, Fin.ext (by simp only []; omega)⟩
  rw [arrKw_at, arrayGiven_eq]
  exact outKw_eq (argsOf m c) i0 g l

/-- The call's array of the windowed attention's values is the reference's. -/
theorem agreeVw : arrVw m c = Reference.outVw (argsOf m c).P := by
  funext i
  idx_vars i
  obtain ⟨g, u, l, rfl⟩ : ∃ (g u : Fin 2) (l : Fin 64), i1 = (⟨128 * g.val + (64 * u.val + l.val), by omega⟩ : Fin 256) :=
    ⟨⟨i1.val / 128, by omega⟩, ⟨i1.val % 128 / 64, by omega⟩, ⟨i1.val % 64, Nat.mod_lt _ (by norm_num)⟩, Fin.ext (by simp only []; omega)⟩
  refine Eq.trans ?_ (outVw_eq (argsOf m c) i0 g u l)
  exact congrArg (fun G => Given.outVw G _) (arrayGiven_eq m c i0)

/-- The call's array of the gates is the reference's. -/
theorem agreeGate : arrGate m c = Reference.outGate (argsOf m c).P := by
  funext i
  idx_vars i
  refine Eq.trans ?_ (outGate_eq (argsOf m c) i0 i1)
  exact congrArg (fun G => Given.outGate G _) (arrayGiven_eq m c i0)

/-- From the same arguments, the reference's projection, queries, and keys and values are those of the call's arguments. -/
theorem ref_terms (m' : (ℓ : Loc Cert.Reference4Ideal.nD Cert.Reference4Ideal.τ Cert.Reference4Ideal.sig) → Buf (Elt Ideal) ℓ)
    (c : Dev nD)
    (h0 : m' ((c.tc : Thread Cert.Reference4Ideal.nD Cert.Reference4Ideal.τ).loc Cert.Reference4Ideal.main_arg0) = m ((c.tc : Thread nD τ).loc main_arg0))
    (h1 : m' ((c.tc : Thread Cert.Reference4Ideal.nD Cert.Reference4Ideal.τ).loc Cert.Reference4Ideal.main_arg1) = m ((c.tc : Thread nD τ).loc main_arg1))
    (h2 : m' ((c.tc : Thread Cert.Reference4Ideal.nD Cert.Reference4Ideal.τ).loc Cert.Reference4Ideal.main_arg2) = m ((c.tc : Thread nD τ).loc main_arg2))
    (h3 : m' ((c.tc : Thread Cert.Reference4Ideal.nD Cert.Reference4Ideal.τ).loc Cert.Reference4Ideal.main_arg3) = m ((c.tc : Thread nD τ).loc main_arg3))
    (h4 : m' ((c.tc : Thread Cert.Reference4Ideal.nD Cert.Reference4Ideal.τ).loc Cert.Reference4Ideal.main_arg4) = m ((c.tc : Thread nD τ).loc main_arg4))
    (h5 : m' ((c.tc : Thread Cert.Reference4Ideal.nD Cert.Reference4Ideal.τ).loc Cert.Reference4Ideal.main_arg5) = m ((c.tc : Thread nD τ).loc main_arg5))
    (h6 : m' ((c.tc : Thread Cert.Reference4Ideal.nD Cert.Reference4Ideal.τ).loc Cert.Reference4Ideal.main_arg6) = m ((c.tc : Thread nD τ).loc main_arg6))
    (h7 : m' ((c.tc : Thread Cert.Reference4Ideal.nD Cert.Reference4Ideal.τ).loc Cert.Reference4Ideal.main_arg7) = m ((c.tc : Thread nD τ).loc main_arg7))
    (h8 : m' ((c.tc : Thread Cert.Reference4Ideal.nD Cert.Reference4Ideal.τ).loc Cert.Reference4Ideal.main_arg8) = m ((c.tc : Thread nD τ).loc main_arg8))
    (h9 : m' ((c.tc : Thread Cert.Reference4Ideal.nD Cert.Reference4Ideal.τ).loc Cert.Reference4Ideal.main_arg9) = m ((c.tc : Thread nD τ).loc main_arg9)) :
    Reference.argP m' c = (argsOf m c).P ∧ Reference.argQa m' c = (argsOf m c).Qa ∧ Reference.argKv m' c = (argsOf m c).Kv := by
  have e : Reference.argP m' c = (argsOf m c).P := by
    unfold Reference.argP
    rw [h0, h1, h2, h3, h4, h5]
    rfl
  refine ⟨e, ?_, ?_⟩
  · unfold Reference.argQa
    rw [e, h6, h8]
    rfl
  · unfold Reference.argKv
    rw [e, h7, h9]
    rfl

/-- THE CLAIM: the inputs being finite, the call's run and the reference's run end in the same ten results, their arguments kept. -/
theorem claim : Cert.algebraic_Kernel4Ideal_Reference4Ideal_pre_finite_in := fun m g m' g' hp ha =>
  ⟨fun c => arrQa m c, fun c => arrKa m c, fun c => arrVa m c, fun c => arrQb m c, fun c => arrKb m c, fun c => arrVb m c, fun c => arrQw m c, fun c => arrKw m c, fun c => arrVw m c, fun c => arrGate m c,
   (θ_run defs _ _).mono (fun _ h c => ⟨(h c).1.trans (arrayQa m c),
      (h c).2.1.trans (arrayKa m c),
      (h c).2.2.1.trans (arrayVa m c),
      (h c).2.2.2.1.trans (arrayQb m c),
      (h c).2.2.2.2.1.trans (arrayKb m c),
      (h c).2.2.2.2.2.1.trans (arrayVb m c),
      (h c).2.2.2.2.2.2.1.trans (arrayQw m c),
      (h c).2.2.2.2.2.2.2.1.trans (arrayKw m c),
      (h c).2.2.2.2.2.2.2.2.1.trans (arrayVw m c),
      (h c).2.2.2.2.2.2.2.2.2.1.trans (arrayGate m c),
      (h c).2.2.2.2.2.2.2.2.2.2⟩) (Cert.Kernel4Ideal.Value.run_blocks m g),
   (θ_run Cert.Reference4Ideal.defs _ _).mono (fun _ h c => by
      obtain ⟨h0, h1, h2, h3, h4, h5, h6, h7, h8, h9, h10, h11⟩ := ha c
      obtain ⟨eP, eQ, eK⟩ := ref_terms m m' c h0 h1 h2 h3 h4 h5 h6 h7 h8 h9
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
      · rw [eQ]; exact (agreeQa m c).symm
      · rw [eK, eP]; exact (agreeKa m c).symm
      · rw [eK]; exact (agreeVa m c).symm
      · rw [eP, h10]; exact (agreeQb m c hp).symm
      · rw [eP, h11]; exact (agreeKb m c hp).symm
      · rw [eP]; exact (agreeVb m c).symm
      · rw [eP]; exact (agreeQw m c).symm
      · rw [eP]; exact (agreeKw m c).symm
      · rw [eP]; exact (agreeVw m c).symm
      · rw [eP]; exact (agreeGate m c).symm) (Reference.run m' g')⟩

end Cert.Project

end
-- ==== Proof.lean ====
/-
  The certificate: every claim about the wide and the narrow flash attention calls, the merge call and the projection call, put together
  from the modules that prove them.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Pre_finite_qk
public import proofs.«01_k».proof.Proof.Gen.Reference2Ideal.Run
public import proofs.«01_k».proof.Proof.Gen.ReferenceIdeal.Run
public import proofs.«01_k».proof.Proof.Gen.KernelIdeal.Value
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Pre_finite_qk2
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite_in
public import proofs.«01_k».proof.Proof.Attn.WideClaim
public import proofs.«01_k».proof.Proof.Attn.NarrowClaim
public import proofs.«01_k».proof.Proof.Merge.Claim
public import proofs.«01_k».proof.Proof.Project.Claim
public import Idealize.ShloMosaic.Adequacy

@[expose] public section

noncomputable section

namespace Cert.Proof

open Idealize.ShloMosaic Idealize.SL.Sem

/-- The wide call's named constant is one over the root of 96, one over the logarithm of 2. -/
theorem preserves_wide : Cert.preserves_Kernel_KernelIdeal :=
  IdealRules.named_const.statement Cert.KernelIdeal.κ "scale_log2e" .f32 0x3E16C740#32
    (((Real.sqrt 96)⁻¹ * (Real.log 2)⁻¹ : ℝ) : EReal) rfl

/-- The narrow call's named constant is one eighth, one over the logarithm of 2. -/
theorem preserves_narrow : Cert.preserves_Kernel2_Kernel2Ideal :=
  IdealRules.named_const.statement Cert.Kernel2Ideal.κ "eighth_log2e" .f32 0x3E38AA3B#32
    ((8⁻¹ * (Real.log 2)⁻¹ : ℝ) : EReal) rfl

/-- The wide reference's frame: its run keeps its arguments, and it declares no semaphore. -/
theorem frame_wide_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The narrow reference's frame: its run keeps its arguments, and it declares no semaphore. -/
theorem frame_narrow_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The merge reference's frame: its run keeps its arguments, and it declares no semaphore. -/
theorem frame_merge_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The projection reference's frame: its run keeps its arguments, and it declares no semaphore. -/
theorem frame_projection_reference : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts, Cert.Kernel4.Gen.facts, Cert.Kernel4Ideal.Gen.facts, Cert.Reference4Ideal.Gen.facts,
   Cert.Pre_finite_qk.Gen.facts, Cert.Pre_finite_qk2.Gen.facts, Cert.Pre_finite_in.Gen.facts,
   fun m ρ _ => Cert.Kernel.Gen.frame m ρ,
   fun m ρ _ => Cert.KernelIdeal.Gen.frame m ρ,
   fun m ρ _ => Cert.KernelIdeal.Gen.frame m ρ,
   frame_wide_reference,
   fun m ρ _ => frame_wide_reference m ρ trivial,
   fun m ρ _ => Cert.Kernel2.Gen.frame m ρ,
   fun m ρ _ => Cert.Kernel2Ideal.Gen.frame m ρ,
   fun m ρ _ => Cert.Kernel2Ideal.Gen.frame m ρ,
   frame_narrow_reference,
   fun m ρ _ => frame_narrow_reference m ρ trivial,
   fun m ρ _ => Cert.Kernel3.Gen.frame m ρ,
   fun m ρ _ => Cert.Kernel3Ideal.Gen.frame m ρ,
   frame_merge_reference,
   fun m ρ _ => Cert.Kernel4.Gen.frame m ρ,
   fun m ρ _ => Cert.Kernel4Ideal.Gen.frame m ρ,
   fun m ρ _ => Cert.Kernel4Ideal.Gen.frame m ρ,
   frame_projection_reference,
   fun m ρ _ => frame_projection_reference m ρ trivial,
   preserves_wide,
   Cert.Attn.Wide.claim,
   preserves_narrow,
   Cert.Attn.Narrow.claim,
   trivial,
   Cert.Merge.claim,
   trivial,
   Cert.Project.claim⟩

end Cert.Proof

end
